-- ==== Defs.lean ====
def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecIdeal_finite [hPre_finite : Cert.Pre_finite.Facts] (m : (ℓ : Loc Cert.DecIdeal.nD Cert.DecIdeal.τ Cert.DecIdeal.sig) → Buf (Elt Ideal) ℓ) : Prop :=
  ∀ c : Dev Cert.DecIdeal.nD,
    (Cert.Pre_finite.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4))).1 = (fun _ => 1#1)
    ∧ (Cert.Pre_finite.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4))).2.1 = (fun _ => 1#1)
    ∧ (Cert.Pre_finite.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4))).2.2.1 = (fun _ => 1#1)
    ∧ (Cert.Pre_finite.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4))).2.2.2.1 = (fun _ => 1#1)
    ∧ (Cert.Pre_finite.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4))).2.2.2.2 = (fun _ => 1#1)

def Pre_DecRefIdeal (m : (ℓ : Loc Cert.DecRefIdeal.nD Cert.DecRefIdeal.τ Cert.DecRefIdeal.sig) → Buf (Elt Ideal) ℓ) : Prop :=
  True

def Pre_DecRefIdeal_finite [hPre_finite : Cert.Pre_finite.Facts] (m : (ℓ : Loc Cert.DecRefIdeal.nD Cert.DecRefIdeal.τ Cert.DecRefIdeal.sig) → Buf (Elt Ideal) ℓ) : Prop :=
  ∀ c : Dev Cert.DecRefIdeal.nD,
    (Cert.Pre_finite.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4))).1 = (fun _ => 1#1)
    ∧ (Cert.Pre_finite.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4))).2.1 = (fun _ => 1#1)
    ∧ (Cert.Pre_finite.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4))).2.2.1 = (fun _ => 1#1)
    ∧ (Cert.Pre_finite.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4))).2.2.2.1 = (fun _ => 1#1)
    ∧ (Cert.Pre_finite.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4))).2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_MlpFinal (m : (ℓ : Loc Cert.MlpFinal.nD Cert.MlpFinal.τ Cert.MlpFinal.sig) → Buf (Elt Bits) ℓ) : Prop :=
  True

def Pre_MlpFinalIdeal (m : (ℓ : Loc Cert.MlpFinalIdeal.nD Cert.MlpFinalIdeal.τ Cert.MlpFinalIdeal.sig) → Buf (Elt Ideal) ℓ) : Prop :=
  True

def Pre_MlpFinalRefIdeal (m : (ℓ : Loc Cert.MlpFinalRefIdeal.nD Cert.MlpFinalRefIdeal.τ Cert.MlpFinalRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3)
      ∧ r.2.mem ((c.tc : Thread Cert.Dec.nD Cert.Dec.τ).loc Cert.Dec.main_arg4) = m ((c.tc : Thread Cert.Dec.nD Cert.Dec.τ).loc Cert.Dec.main_arg4))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4))
      ∧ r.2.sem = fun _ => 0)

def quiescent_DecIdeal_pre_finite [hDecIdeal : Cert.DecIdeal.Facts] [hPre_finite : Cert.Pre_finite.Facts] : Prop :=
  ∀ (m : (ℓ : Loc Cert.DecIdeal.nD Cert.DecIdeal.τ Cert.DecIdeal.sig) → Buf (Elt Ideal) ℓ) (g : Dev Cert.DecIdeal.nD → PrngReg), Pre_DecIdeal_finite m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4))
      ∧ r.2.sem = fun _ => 0)

def quiescent_DecRefIdeal_pre_finite [hDecRefIdeal : Cert.DecRefIdeal.Facts] [hPre_finite : Cert.Pre_finite.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal_finite m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2)
      ∧ r.2.mem ((c.tc : Thread Cert.ProjBRefIdeal.nD Cert.ProjBRefIdeal.τ).loc Cert.ProjBRefIdeal.main_arg3) = m ((c.tc : Thread Cert.ProjBRefIdeal.nD Cert.ProjBRefIdeal.τ).loc Cert.ProjBRefIdeal.main_arg3))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2)
      ∧ r.2.mem ((c.tc : Thread Cert.ProjC.nD Cert.ProjC.τ).loc Cert.ProjC.main_arg3) = m ((c.tc : Thread Cert.ProjC.nD Cert.ProjC.τ).loc Cert.ProjC.main_arg3))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
      ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2)
      ∧ r.2.mem ((c.tc : Thread Cert.ProjCRefIdeal.nD Cert.ProjCRefIdeal.τ).loc Cert.ProjCRefIdeal.main_arg3) = m ((c.tc : Thread Cert.ProjCRefIdeal.nD Cert.ProjCRefIdeal.τ).loc Cert.ProjCRefIdeal.main_arg3))
      ∧ r.2.sem = fun _ => 0)

def quiescent_MlpFinal [hMlpFinal : Cert.MlpFinal.Facts] : Prop :=
  ∀ (m : (ℓ : Loc Cert.MlpFinal.nD Cert.MlpFinal.τ Cert.MlpFinal.sig) → Buf (Elt Bits) ℓ) (g : Dev Cert.MlpFinal.nD → PrngReg), Pre_MlpFinal m →
    θ_run (Cert.MlpFinal.defs (F := Bits)) (onTc (τ := Cert.MlpFinal.τ) (Cert.MlpFinal.main (F := Bits))) ⟨m, fun _ => 0, g⟩ (fun r => (∀ c : Dev Cert.MlpFinal.nD,
      r.2.mem ((c.tc : Thread Cert.MlpFinal.nD Cert.MlpFinal.τ).loc Cert.MlpFinal.main_arg0) = m ((c.tc : Thread Cert.MlpFinal.nD Cert.MlpFinal.τ).loc Cert.MlpFinal.main_arg0)
      ∧ r.2.mem ((c.tc : Thread Cert.MlpFinal.nD Cert.MlpFinal.τ).loc Cert.MlpFinal.main_arg1) = m ((c.tc : Thread Cert.MlpFinal.nD Cert.MlpFinal.τ).loc Cert.MlpFinal.main_arg1)
      ∧ r.2.mem ((c.tc : Thread Cert.MlpFinal.nD Cert.MlpFinal.τ).loc Cert.MlpFinal.main_arg2) = m ((c.tc : Thread Cert.MlpFinal.nD Cert.MlpFinal.τ).loc Cert.MlpFinal.main_arg2)
      ∧ r.2.mem ((c.tc : Thread Cert.MlpFinal.nD Cert.MlpFinal.τ).loc Cert.MlpFinal.main_arg3) = m ((c.tc : Thread Cert.MlpFinal.nD Cert.MlpFinal.τ).loc Cert.MlpFinal.main_arg3)
      ∧ r.2.mem ((c.tc : Thread Cert.MlpFinal.nD Cert.MlpFinal.τ).loc Cert.MlpFinal.main_arg4) = m ((c.tc : Thread Cert.MlpFinal.nD Cert.MlpFinal.τ).loc Cert.MlpFinal.main_arg4)
      ∧ r.2.mem ((c.tc : Thread Cert.MlpFinal.nD Cert.MlpFinal.τ).loc Cert.MlpFinal.main_arg5) = m ((c.tc : Thread Cert.MlpFinal.nD Cert.MlpFinal.τ).loc Cert.MlpFinal.main_arg5))
      ∧ r.2.sem = fun _ => 0)

def quiescent_MlpFinalIdeal [hMlpFinalIdeal : Cert.MlpFinalIdeal.Facts] : Prop :=
  ∀ (m : (ℓ : Loc Cert.MlpFinalIdeal.nD Cert.MlpFinalIdeal.τ Cert.MlpFinalIdeal.sig) → Buf (Elt Ideal) ℓ) (g : Dev Cert.MlpFinalIdeal.nD → PrngReg), Pre_MlpFinalIdeal m →
    θ_run (Cert.MlpFinalIdeal.defs (F := Ideal)) (onTc (τ := Cert.MlpFinalIdeal.τ) (Cert.MlpFinalIdeal.main (F := Ideal))) ⟨m, fun _ => 0, g⟩ (fun r => (∀ c : Dev Cert.MlpFinalIdeal.nD,
      r.2.mem ((c.tc : Thread Cert.MlpFinalIdeal.nD Cert.MlpFinalIdeal.τ).loc Cert.MlpFinalIdeal.main_arg0) = m ((c.tc : Thread Cert.MlpFinalIdeal.nD Cert.MlpFinalIdeal.τ).loc Cert.MlpFinalIdeal.main_arg0)
      ∧ r.2.mem ((c.tc : Thread Cert.MlpFinalIdeal.nD Cert.MlpFinalIdeal.τ).loc Cert.MlpFinalIdeal.main_arg1) = m ((c.tc : Thread Cert.MlpFinalIdeal.nD Cert.MlpFinalIdeal.τ).loc Cert.MlpFinalIdeal.main_arg1)
      ∧ r.2.mem ((c.tc : Thread Cert.MlpFinalIdeal.nD Cert.MlpFinalIdeal.τ).loc Cert.MlpFinalIdeal.main_arg2) = m ((c.tc : Thread Cert.MlpFinalIdeal.nD Cert.MlpFinalIdeal.τ).loc Cert.MlpFinalIdeal.main_arg2)
      ∧ r.2.mem ((c.tc : Thread Cert.MlpFinalIdeal.nD Cert.MlpFinalIdeal.τ).loc Cert.MlpFinalIdeal.main_arg3) = m ((c.tc : Thread Cert.MlpFinalIdeal.nD Cert.MlpFinalIdeal.τ).loc Cert.MlpFinalIdeal.main_arg3)
      ∧ r.2.mem ((c.tc : Thread Cert.MlpFinalIdeal.nD Cert.MlpFinalIdeal.τ).loc Cert.MlpFinalIdeal.main_arg4) = m ((c.tc : Thread Cert.MlpFinalIdeal.nD Cert.MlpFinalIdeal.τ).loc Cert.MlpFinalIdeal.main_arg4)
      ∧ r.2.mem ((c.tc : Thread Cert.MlpFinalIdeal.nD Cert.MlpFinalIdeal.τ).loc Cert.MlpFinalIdeal.main_arg5) = m ((c.tc : Thread Cert.MlpFinalIdeal.nD Cert.MlpFinalIdeal.τ).loc Cert.MlpFinalIdeal.main_arg5))
      ∧ r.2.sem = fun _ => 0)

def quiescent_MlpFinalRefIdeal [hMlpFinalRefIdeal : Cert.MlpFinalRefIdeal.Facts] : Prop :=
  ∀ (m : (ℓ : Loc Cert.MlpFinalRefIdeal.nD Cert.MlpFinalRefIdeal.τ Cert.MlpFinalRefIdeal.sig) → Buf (Elt Ideal) ℓ) (g : Dev Cert.MlpFinalRefIdeal.nD → PrngReg), Pre_MlpFinalRefIdeal m →
    θ_run (Cert.MlpFinalRefIdeal.defs (F := Ideal)) (onTc (τ := Cert.MlpFinalRefIdeal.τ) (Cert.MlpFinalRefIdeal.main (F := Ideal))) ⟨m, fun _ => 0, g⟩ (fun r => (∀ c : Dev Cert.MlpFinalRefIdeal.nD,
      r.2.mem ((c.tc : Thread Cert.MlpFinalRefIdeal.nD Cert.MlpFinalRefIdeal.τ).loc Cert.MlpFinalRefIdeal.main_arg0) = m ((c.tc : Thread Cert.MlpFinalRefIdeal.nD Cert.MlpFinalRefIdeal.τ).loc Cert.MlpFinalRefIdeal.main_arg0)
      ∧ r.2.mem ((c.tc : Thread Cert.MlpFinalRefIdeal.nD Cert.MlpFinalRefIdeal.τ).loc Cert.MlpFinalRefIdeal.main_arg1) = m ((c.tc : Thread Cert.MlpFinalRefIdeal.nD Cert.MlpFinalRefIdeal.τ).loc Cert.MlpFinalRefIdeal.main_arg1)
      ∧ r.2.mem ((c.tc : Thread Cert.MlpFinalRefIdeal.nD Cert.MlpFinalRefIdeal.τ).loc Cert.MlpFinalRefIdeal.main_arg2) = m ((c.tc : Thread Cert.MlpFinalRefIdeal.nD Cert.MlpFinalRefIdeal.τ).loc Cert.MlpFinalRefIdeal.main_arg2)
      ∧ r.2.mem ((c.tc : Thread Cert.MlpFinalRefIdeal.nD Cert.MlpFinalRefIdeal.τ).loc Cert.MlpFinalRefIdeal.main_arg3) = m ((c.tc : Thread Cert.MlpFinalRefIdeal.nD Cert.MlpFinalRefIdeal.τ).loc Cert.MlpFinalRefIdeal.main_arg3)
      ∧ r.2.mem ((c.tc : Thread Cert.MlpFinalRefIdeal.nD Cert.MlpFinalRefIdeal.τ).loc Cert.MlpFinalRefIdeal.main_arg4) = m ((c.tc : Thread Cert.MlpFinalRefIdeal.nD Cert.MlpFinalRefIdeal.τ).loc Cert.MlpFinalRefIdeal.main_arg4)
      ∧ r.2.mem ((c.tc : Thread Cert.MlpFinalRefIdeal.nD Cert.MlpFinalRefIdeal.τ).loc Cert.MlpFinalRefIdeal.main_arg5) = m ((c.tc : Thread Cert.MlpFinalRefIdeal.nD Cert.MlpFinalRefIdeal.τ).loc Cert.MlpFinalRefIdeal.main_arg5))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4)
      ∧ r.2.mem ((c.tc : Thread Cert.OutA.nD Cert.OutA.τ).loc Cert.OutA.main_arg5) = m ((c.tc : Thread Cert.OutA.nD Cert.OutA.τ).loc Cert.OutA.main_arg5)
      ∧ r.2.mem ((c.tc : Thread Cert.OutA.nD Cert.OutA.τ).loc Cert.OutA.main_arg6) = m ((c.tc : Thread Cert.OutA.nD Cert.OutA.τ).loc Cert.OutA.main_arg6)
      ∧ r.2.mem ((c.tc : Thread Cert.OutA.nD Cert.OutA.τ).loc Cert.OutA.main_arg7) = m ((c.tc : Thread Cert.OutA.nD Cert.OutA.τ).loc Cert.OutA.main_arg7))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
      ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5)
      ∧ r.2.mem ((c.tc : Thread Cert.OutAIdeal.nD Cert.OutAIdeal.τ).loc Cert.OutAIdeal.main_arg6) = m ((c.tc : Thread Cert.OutAIdeal.nD Cert.OutAIdeal.τ).loc Cert.OutAIdeal.main_arg6)
      ∧ r.2.mem ((c.tc : Thread Cert.OutAIdeal.nD Cert.OutAIdeal.τ).loc Cert.OutAIdeal.main_arg7) = m ((c.tc : Thread Cert.OutAIdeal.nD Cert.OutAIdeal.τ).loc Cert.OutAIdeal.main_arg7))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2)
      ∧ r.2.mem ((c.tc : Thread Cert.OutARefIdeal.nD Cert.OutARefIdeal.τ).loc Cert.OutARefIdeal.main_arg3) = m ((c.tc : Thread Cert.OutARefIdeal.nD Cert.OutARefIdeal.τ).loc Cert.OutARefIdeal.main_arg3)
      ∧ r.2.mem ((c.tc : Thread Cert.OutARefIdeal.nD Cert.OutARefIdeal.τ).loc Cert.OutARefIdeal.main_arg4) = m ((c.tc : Thread Cert.OutARefIdeal.nD Cert.OutARefIdeal.τ).loc Cert.OutARefIdeal.main_arg4)
      ∧ r.2.mem ((c.tc : Thread Cert.OutARefIdeal.nD Cert.OutARefIdeal.τ).loc Cert.OutARefIdeal.main_arg5) = m ((c.tc : Thread Cert.OutARefIdeal.nD Cert.OutARefIdeal.τ).loc Cert.OutARefIdeal.main_arg5)
      ∧ r.2.mem ((c.tc : Thread Cert.OutARefIdeal.nD Cert.OutARefIdeal.τ).loc Cert.OutARefIdeal.main_arg6) = m ((c.tc : Thread Cert.OutARefIdeal.nD Cert.OutARefIdeal.τ).loc Cert.OutARefIdeal.main_arg6)
      ∧ r.2.mem ((c.tc : Thread Cert.OutARefIdeal.nD Cert.OutARefIdeal.τ).loc Cert.OutARefIdeal.main_arg7) = m ((c.tc : Thread Cert.OutARefIdeal.nD Cert.OutARefIdeal.τ).loc Cert.OutARefIdeal.main_arg7))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3)
      ∧ r.2.mem ((c.tc : Thread Cert.OutC.nD Cert.OutC.τ).loc Cert.OutC.main_arg4) = m ((c.tc : Thread Cert.OutC.nD Cert.OutC.τ).loc Cert.OutC.main_arg4)
      ∧ r.2.mem ((c.tc : Thread Cert.OutC.nD Cert.OutC.τ).loc Cert.OutC.main_arg5) = m ((c.tc : Thread Cert.OutC.nD Cert.OutC.τ).loc Cert.OutC.main_arg5))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4)
      ∧ r.2.mem ((c.tc : Thread Cert.OutCIdeal.nD Cert.OutCIdeal.τ).loc Cert.OutCIdeal.main_arg5) = m ((c.tc : Thread Cert.OutCIdeal.nD Cert.OutCIdeal.τ).loc Cert.OutCIdeal.main_arg5))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2)
      ∧ r.2.mem ((c.tc : Thread Cert.OutCRefIdeal.nD Cert.OutCRefIdeal.τ).loc Cert.OutCRefIdeal.main_arg3) = m ((c.tc : Thread Cert.OutCRefIdeal.nD Cert.OutCRefIdeal.τ).loc Cert.OutCRefIdeal.main_arg3)
      ∧ r.2.mem ((c.tc : Thread Cert.OutCRefIdeal.nD Cert.OutCRefIdeal.τ).loc Cert.OutCRefIdeal.main_arg4) = m ((c.tc : Thread Cert.OutCRefIdeal.nD Cert.OutCRefIdeal.τ).loc Cert.OutCRefIdeal.main_arg4)
      ∧ r.2.mem ((c.tc : Thread Cert.OutCRefIdeal.nD Cert.OutCRefIdeal.τ).loc Cert.OutCRefIdeal.main_arg5) = m ((c.tc : Thread Cert.OutCRefIdeal.nD Cert.OutCRefIdeal.τ).loc Cert.OutCRefIdeal.main_arg5))
      ∧ r.2.sem = fun _ => 0)

def preserves_Dec_DecIdeal : Prop :=
  True

def algebraic_DecIdeal_DecRefIdeal_pre_finite [hDecIdeal : Cert.DecIdeal.Facts] [hDecRefIdeal : Cert.DecRefIdeal.Facts] [hPre_finite : Cert.Pre_finite.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal_finite m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)
      ∧ m' ((c.tc : Thread Cert.DecRefIdeal.nD Cert.DecRefIdeal.τ).loc Cert.DecRefIdeal.main_arg2) = m ((c.tc : Thread Cert.DecIdeal.nD Cert.DecIdeal.τ).loc Cert.DecIdeal.main_arg2)
      ∧ m' ((c.tc : Thread Cert.DecRefIdeal.nD Cert.DecRefIdeal.τ).loc Cert.DecRefIdeal.main_arg3) = m ((c.tc : Thread Cert.DecIdeal.nD Cert.DecIdeal.τ).loc Cert.DecIdeal.main_arg3)
      ∧ m' ((c.tc : Thread Cert.DecRefIdeal.nD Cert.DecRefIdeal.τ).loc Cert.DecRefIdeal.main_arg4) = m ((c.tc : Thread Cert.DecIdeal.nD Cert.DecIdeal.τ).loc Cert.DecIdeal.main_arg4)) →
    ∃ (v0 : (c : Dev Cert.DecIdeal.nD) → Buf (Elt Ideal) ((c.tc : Thread Cert.DecIdeal.nD Cert.DecIdeal.τ).loc Cert.DecIdeal.main_v6)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v6) = v0 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
          ∧ r.2.mem ((c.tc : Thread Cert.DecIdeal.nD Cert.DecIdeal.τ).loc Cert.DecIdeal.main_arg4) = m ((c.tc : Thread Cert.DecIdeal.nD Cert.DecIdeal.τ).loc Cert.DecIdeal.main_arg4))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v136) = v0 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
          ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2)
          ∧ r.2.mem ((c.tc : Thread Cert.DecRefIdeal.nD Cert.DecRefIdeal.τ).loc Cert.DecRefIdeal.main_arg3) = m' ((c.tc : Thread Cert.DecRefIdeal.nD Cert.DecRefIdeal.τ).loc Cert.DecRefIdeal.main_arg3)
          ∧ r.2.mem ((c.tc : Thread Cert.DecRefIdeal.nD Cert.DecRefIdeal.τ).loc Cert.DecRefIdeal.main_arg4) = m' ((c.tc : Thread Cert.DecRefIdeal.nD Cert.DecRefIdeal.τ).loc Cert.DecRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v22) = v0 c
          ∧ r.2.mem ((c.tc : Thread Cert.MlpRefIdeal.nD Cert.MlpRefIdeal.τ).loc Cert.MlpRefIdeal.main_v45) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v35) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)
      ∧ m' ((c.tc : Thread Cert.ProjBRefIdeal.nD Cert.ProjBRefIdeal.τ).loc Cert.ProjBRefIdeal.main_arg3) = m ((c.tc : Thread Cert.ProjBIdeal.nD Cert.ProjBIdeal.τ).loc Cert.ProjBIdeal.main_arg3)) →
    ∃ (v0 : (c : Dev Cert.ProjBIdeal.nD) → Buf (Elt Ideal) ((c.tc : Thread Cert.ProjBIdeal.nD Cert.ProjBIdeal.τ).loc Cert.ProjBIdeal.main_v1_0)) (v1 : (c : Dev Cert.ProjBIdeal.nD) → Buf (Elt Ideal) ((c.tc : Thread Cert.ProjBIdeal.nD Cert.ProjBIdeal.τ).loc Cert.ProjBIdeal.main_v1_1)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v1_0) = v0 c
          ∧ r.2.mem ((c.tc : Thread Cert.ProjBIdeal.nD Cert.ProjBIdeal.τ).loc Cert.ProjBIdeal.main_v1_1) = v1 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v15) = v0 c
          ∧ r.2.mem ((c.tc : Thread Cert.ProjBRefIdeal.nD Cert.ProjBRefIdeal.τ).loc Cert.ProjBRefIdeal.main_v33) = v1 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2)
          ∧ r.2.mem ((c.tc : Thread Cert.ProjBRefIdeal.nD Cert.ProjBRefIdeal.τ).loc Cert.ProjBRefIdeal.main_arg3) = m' ((c.tc : Thread Cert.ProjBRefIdeal.nD Cert.ProjBRefIdeal.τ).loc Cert.ProjBRefIdeal.main_arg3))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)
      ∧ m' ((c.tc : Thread Cert.ProjCRefIdeal.nD Cert.ProjCRefIdeal.τ).loc Cert.ProjCRefIdeal.main_arg3) = m ((c.tc : Thread Cert.ProjCIdeal.nD Cert.ProjCIdeal.τ).loc Cert.ProjCIdeal.main_arg3)) →
    ∃ (v0 : (c : Dev Cert.ProjCIdeal.nD) → Buf (Elt Ideal) ((c.tc : Thread Cert.ProjCIdeal.nD Cert.ProjCIdeal.τ).loc Cert.ProjCIdeal.main_v1_0)) (v1 : (c : Dev Cert.ProjCIdeal.nD) → Buf (Elt Ideal) ((c.tc : Thread Cert.ProjCIdeal.nD Cert.ProjCIdeal.τ).loc Cert.ProjCIdeal.main_v1_1)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v1_0) = v0 c
          ∧ r.2.mem ((c.tc : Thread Cert.ProjCIdeal.nD Cert.ProjCIdeal.τ).loc Cert.ProjCIdeal.main_v1_1) = v1 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
          ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v16) = v0 c
          ∧ r.2.mem ((c.tc : Thread Cert.ProjCRefIdeal.nD Cert.ProjCRefIdeal.τ).loc Cert.ProjCRefIdeal.main_v35) = v1 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2)
          ∧ r.2.mem ((c.tc : Thread Cert.ProjCRefIdeal.nD Cert.ProjCRefIdeal.τ).loc Cert.ProjCRefIdeal.main_arg3) = m' ((c.tc : Thread Cert.ProjCRefIdeal.nD Cert.ProjCRefIdeal.τ).loc Cert.ProjCRefIdeal.main_arg3))

def preserves_MlpFinal_MlpFinalIdeal : Prop :=
  True

def algebraic_MlpFinalIdeal_MlpFinalRefIdeal [hMlpFinalIdeal : Cert.MlpFinalIdeal.Facts] [hMlpFinalRefIdeal : Cert.MlpFinalRefIdeal.Facts] : Prop :=
  ∀ (m : (ℓ : Loc Cert.MlpFinalIdeal.nD Cert.MlpFinalIdeal.τ Cert.MlpFinalIdeal.sig) → Buf (Elt Ideal) ℓ) (g : Dev Cert.MlpFinalIdeal.nD → PrngReg)
    (m' : (ℓ : Loc Cert.MlpFinalRefIdeal.nD Cert.MlpFinalRefIdeal.τ Cert.MlpFinalRefIdeal.sig) → Buf (Elt Ideal) ℓ) (g' : Dev Cert.MlpFinalRefIdeal.nD → PrngReg), Pre_MlpFinalIdeal m →
    (∀ c : Dev Cert.MlpFinalIdeal.nD,
      m' ((c.tc : Thread Cert.MlpFinalRefIdeal.nD Cert.MlpFinalRefIdeal.τ).loc Cert.MlpFinalRefIdeal.main_arg0) = m ((c.tc : Thread Cert.MlpFinalIdeal.nD Cert.MlpFinalIdeal.τ).loc Cert.MlpFinalIdeal.main_arg0)
      ∧ m' ((c.tc : Thread Cert.MlpFinalRefIdeal.nD Cert.MlpFinalRefIdeal.τ).loc Cert.MlpFinalRefIdeal.main_arg1) = m ((c.tc : Thread Cert.MlpFinalIdeal.nD Cert.MlpFinalIdeal.τ).loc Cert.MlpFinalIdeal.main_arg1)
      ∧ m' ((c.tc : Thread Cert.MlpFinalRefIdeal.nD Cert.MlpFinalRefIdeal.τ).loc Cert.MlpFinalRefIdeal.main_arg2) = m ((c.tc : Thread Cert.MlpFinalIdeal.nD Cert.MlpFinalIdeal.τ).loc Cert.MlpFinalIdeal.main_arg2)
      ∧ m' ((c.tc : Thread Cert.MlpFinalRefIdeal.nD Cert.MlpFinalRefIdeal.τ).loc Cert.MlpFinalRefIdeal.main_arg3) = m ((c.tc : Thread Cert.MlpFinalIdeal.nD Cert.MlpFinalIdeal.τ).loc Cert.MlpFinalIdeal.main_arg3)
      ∧ m' ((c.tc : Thread Cert.MlpFinalRefIdeal.nD Cert.MlpFinalRefIdeal.τ).loc Cert.MlpFinalRefIdeal.main_arg4) = m ((c.tc : Thread Cert.MlpFinalIdeal.nD Cert.MlpFinalIdeal.τ).loc Cert.MlpFinalIdeal.main_arg4)
      ∧ m' ((c.tc : Thread Cert.MlpFinalRefIdeal.nD Cert.MlpFinalRefIdeal.τ).loc Cert.MlpFinalRefIdeal.main_arg5) = m ((c.tc : Thread Cert.MlpFinalIdeal.nD Cert.MlpFinalIdeal.τ).loc Cert.MlpFinalIdeal.main_arg5)) →
    ∃ (v0 : (c : Dev Cert.MlpFinalIdeal.nD) → Buf (Elt Ideal) ((c.tc : Thread Cert.MlpFinalIdeal.nD Cert.MlpFinalIdeal.τ).loc Cert.MlpFinalIdeal.main_v0_0)) (v1 : (c : Dev Cert.MlpFinalIdeal.nD) → Buf (Elt Ideal) ((c.tc : Thread Cert.MlpFinalIdeal.nD Cert.MlpFinalIdeal.τ).loc Cert.MlpFinalIdeal.main_v0_1)),
      θ_run (Cert.MlpFinalIdeal.defs (F := Ideal)) (onTc (τ := Cert.MlpFinalIdeal.τ) (Cert.MlpFinalIdeal.main (F := Ideal))) ⟨m, fun _ => 0, g⟩ (fun r => ∀ c : Dev Cert.MlpFinalIdeal.nD,
          r.2.mem ((c.tc : Thread Cert.MlpFinalIdeal.nD Cert.MlpFinalIdeal.τ).loc Cert.MlpFinalIdeal.main_v0_0) = v0 c
          ∧ r.2.mem ((c.tc : Thread Cert.MlpFinalIdeal.nD Cert.MlpFinalIdeal.τ).loc Cert.MlpFinalIdeal.main_v0_1) = v1 c
          ∧ r.2.mem ((c.tc : Thread Cert.MlpFinalIdeal.nD Cert.MlpFinalIdeal.τ).loc Cert.MlpFinalIdeal.main_arg0) = m ((c.tc : Thread Cert.MlpFinalIdeal.nD Cert.MlpFinalIdeal.τ).loc Cert.MlpFinalIdeal.main_arg0)
          ∧ r.2.mem ((c.tc : Thread Cert.MlpFinalIdeal.nD Cert.MlpFinalIdeal.τ).loc Cert.MlpFinalIdeal.main_arg1) = m ((c.tc : Thread Cert.MlpFinalIdeal.nD Cert.MlpFinalIdeal.τ).loc Cert.MlpFinalIdeal.main_arg1)
          ∧ r.2.mem ((c.tc : Thread Cert.MlpFinalIdeal.nD Cert.MlpFinalIdeal.τ).loc Cert.MlpFinalIdeal.main_arg2) = m ((c.tc : Thread Cert.MlpFinalIdeal.nD Cert.MlpFinalIdeal.τ).loc Cert.MlpFinalIdeal.main_arg2)
          ∧ r.2.mem ((c.tc : Thread Cert.MlpFinalIdeal.nD Cert.MlpFinalIdeal.τ).loc Cert.MlpFinalIdeal.main_arg3) = m ((c.tc : Thread Cert.MlpFinalIdeal.nD Cert.MlpFinalIdeal.τ).loc Cert.MlpFinalIdeal.main_arg3)
          ∧ r.2.mem ((c.tc : Thread Cert.MlpFinalIdeal.nD Cert.MlpFinalIdeal.τ).loc Cert.MlpFinalIdeal.main_arg4) = m ((c.tc : Thread Cert.MlpFinalIdeal.nD Cert.MlpFinalIdeal.τ).loc Cert.MlpFinalIdeal.main_arg4)
          ∧ r.2.mem ((c.tc : Thread Cert.MlpFinalIdeal.nD Cert.MlpFinalIdeal.τ).loc Cert.MlpFinalIdeal.main_arg5) = m ((c.tc : Thread Cert.MlpFinalIdeal.nD Cert.MlpFinalIdeal.τ).loc Cert.MlpFinalIdeal.main_arg5))
      ∧ θ_run (Cert.MlpFinalRefIdeal.defs (F := Ideal)) (onTc (τ := Cert.MlpFinalRefIdeal.τ) (Cert.MlpFinalRefIdeal.main (F := Ideal))) ⟨m', fun _ => 0, g'⟩ (fun r => ∀ c : Dev Cert.MlpFinalRefIdeal.nD,
          r.2.mem ((c.tc : Thread Cert.MlpFinalRefIdeal.nD Cert.MlpFinalRefIdeal.τ).loc Cert.MlpFinalRefIdeal.main_v36) = v0 c
          ∧ r.2.mem ((c.tc : Thread Cert.MlpFinalRefIdeal.nD Cert.MlpFinalRefIdeal.τ).loc Cert.MlpFinalRefIdeal.main_v73) = v1 c
          ∧ r.2.mem ((c.tc : Thread Cert.MlpFinalRefIdeal.nD Cert.MlpFinalRefIdeal.τ).loc Cert.MlpFinalRefIdeal.main_arg0) = m' ((c.tc : Thread Cert.MlpFinalRefIdeal.nD Cert.MlpFinalRefIdeal.τ).loc Cert.MlpFinalRefIdeal.main_arg0)
          ∧ r.2.mem ((c.tc : Thread Cert.MlpFinalRefIdeal.nD Cert.MlpFinalRefIdeal.τ).loc Cert.MlpFinalRefIdeal.main_arg1) = m' ((c.tc : Thread Cert.MlpFinalRefIdeal.nD Cert.MlpFinalRefIdeal.τ).loc Cert.MlpFinalRefIdeal.main_arg1)
          ∧ r.2.mem ((c.tc : Thread Cert.MlpFinalRefIdeal.nD Cert.MlpFinalRefIdeal.τ).loc Cert.MlpFinalRefIdeal.main_arg2) = m' ((c.tc : Thread Cert.MlpFinalRefIdeal.nD Cert.MlpFinalRefIdeal.τ).loc Cert.MlpFinalRefIdeal.main_arg2)
          ∧ r.2.mem ((c.tc : Thread Cert.MlpFinalRefIdeal.nD Cert.MlpFinalRefIdeal.τ).loc Cert.MlpFinalRefIdeal.main_arg3) = m' ((c.tc : Thread Cert.MlpFinalRefIdeal.nD Cert.MlpFinalRefIdeal.τ).loc Cert.MlpFinalRefIdeal.main_arg3)
          ∧ r.2.mem ((c.tc : Thread Cert.MlpFinalRefIdeal.nD Cert.MlpFinalRefIdeal.τ).loc Cert.MlpFinalRefIdeal.main_arg4) = m' ((c.tc : Thread Cert.MlpFinalRefIdeal.nD Cert.MlpFinalRefIdeal.τ).loc Cert.MlpFinalRefIdeal.main_arg4)
          ∧ r.2.mem ((c.tc : Thread Cert.MlpFinalRefIdeal.nD Cert.MlpFinalRefIdeal.τ).loc Cert.MlpFinalRefIdeal.main_arg5) = m' ((c.tc : Thread Cert.MlpFinalRefIdeal.nD Cert.MlpFinalRefIdeal.τ).loc Cert.MlpFinalRefIdeal.main_arg5))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)
      ∧ m' ((c.tc : Thread Cert.OutARefIdeal.nD Cert.OutARefIdeal.τ).loc Cert.OutARefIdeal.main_arg3) = m ((c.tc : Thread Cert.OutAIdeal.nD Cert.OutAIdeal.τ).loc Cert.OutAIdeal.main_arg3)
      ∧ m' ((c.tc : Thread Cert.OutARefIdeal.nD Cert.OutARefIdeal.τ).loc Cert.OutARefIdeal.main_arg4) = m ((c.tc : Thread Cert.OutAIdeal.nD Cert.OutAIdeal.τ).loc Cert.OutAIdeal.main_arg4)
      ∧ m' ((c.tc : Thread Cert.OutARefIdeal.nD Cert.OutARefIdeal.τ).loc Cert.OutARefIdeal.main_arg5) = m ((c.tc : Thread Cert.OutAIdeal.nD Cert.OutAIdeal.τ).loc Cert.OutAIdeal.main_arg5)
      ∧ m' ((c.tc : Thread Cert.OutARefIdeal.nD Cert.OutARefIdeal.τ).loc Cert.OutARefIdeal.main_arg6) = m ((c.tc : Thread Cert.OutAIdeal.nD Cert.OutAIdeal.τ).loc Cert.OutAIdeal.main_arg6)
      ∧ m' ((c.tc : Thread Cert.OutARefIdeal.nD Cert.OutARefIdeal.τ).loc Cert.OutARefIdeal.main_arg7) = m ((c.tc : Thread Cert.OutAIdeal.nD Cert.OutAIdeal.τ).loc Cert.OutAIdeal.main_arg7)) →
    ∃ (v0 : (c : Dev Cert.OutAIdeal.nD) → Buf (Elt Ideal) ((c.tc : Thread Cert.OutAIdeal.nD Cert.OutAIdeal.τ).loc Cert.OutAIdeal.main_v0)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
          ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5)
          ∧ r.2.mem ((c.tc : Thread Cert.OutAIdeal.nD Cert.OutAIdeal.τ).loc Cert.OutAIdeal.main_arg6) = m ((c.tc : Thread Cert.OutAIdeal.nD Cert.OutAIdeal.τ).loc Cert.OutAIdeal.main_arg6)
          ∧ r.2.mem ((c.tc : Thread Cert.OutAIdeal.nD Cert.OutAIdeal.τ).loc Cert.OutAIdeal.main_arg7) = m ((c.tc : Thread Cert.OutAIdeal.nD Cert.OutAIdeal.τ).loc Cert.OutAIdeal.main_arg7))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v24) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2)
          ∧ r.2.mem ((c.tc : Thread Cert.OutARefIdeal.nD Cert.OutARefIdeal.τ).loc Cert.OutARefIdeal.main_arg3) = m' ((c.tc : Thread Cert.OutARefIdeal.nD Cert.OutARefIdeal.τ).loc Cert.OutARefIdeal.main_arg3)
          ∧ r.2.mem ((c.tc : Thread Cert.OutARefIdeal.nD Cert.OutARefIdeal.τ).loc Cert.OutARefIdeal.main_arg4) = m' ((c.tc : Thread Cert.OutARefIdeal.nD Cert.OutARefIdeal.τ).loc Cert.OutARefIdeal.main_arg4)
          ∧ r.2.mem ((c.tc : Thread Cert.OutARefIdeal.nD Cert.OutARefIdeal.τ).loc Cert.OutARefIdeal.main_arg5) = m' ((c.tc : Thread Cert.OutARefIdeal.nD Cert.OutARefIdeal.τ).loc Cert.OutARefIdeal.main_arg5)
          ∧ r.2.mem ((c.tc : Thread Cert.OutARefIdeal.nD Cert.OutARefIdeal.τ).loc Cert.OutARefIdeal.main_arg6) = m' ((c.tc : Thread Cert.OutARefIdeal.nD Cert.OutARefIdeal.τ).loc Cert.OutARefIdeal.main_arg6)
          ∧ r.2.mem ((c.tc : Thread Cert.OutARefIdeal.nD Cert.OutARefIdeal.τ).loc Cert.OutARefIdeal.main_arg7) = m' ((c.tc : Thread Cert.OutARefIdeal.nD Cert.OutARefIdeal.τ).loc Cert.OutARefIdeal.main_arg7))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)) →
    ∃ (v0 : (c : Dev Cert.OutBIdeal.nD) → Buf (Elt Ideal) ((c.tc : Thread Cert.OutBIdeal.nD Cert.OutBIdeal.τ).loc Cert.OutBIdeal.main_v0)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v2) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)
      ∧ m' ((c.tc : Thread Cert.OutCRefIdeal.nD Cert.OutCRefIdeal.τ).loc Cert.OutCRefIdeal.main_arg3) = m ((c.tc : Thread Cert.OutCIdeal.nD Cert.OutCIdeal.τ).loc Cert.OutCIdeal.main_arg3)
      ∧ m' ((c.tc : Thread Cert.OutCRefIdeal.nD Cert.OutCRefIdeal.τ).loc Cert.OutCRefIdeal.main_arg4) = m ((c.tc : Thread Cert.OutCIdeal.nD Cert.OutCIdeal.τ).loc Cert.OutCIdeal.main_arg4)
      ∧ m' ((c.tc : Thread Cert.OutCRefIdeal.nD Cert.OutCRefIdeal.τ).loc Cert.OutCRefIdeal.main_arg5) = m ((c.tc : Thread Cert.OutCIdeal.nD Cert.OutCIdeal.τ).loc Cert.OutCIdeal.main_arg5)) →
    ∃ (v0 : (c : Dev Cert.OutCIdeal.nD) → Buf (Elt Ideal) ((c.tc : Thread Cert.OutCIdeal.nD Cert.OutCIdeal.τ).loc Cert.OutCIdeal.main_v0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
          ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4)
          ∧ r.2.mem ((c.tc : Thread Cert.OutCIdeal.nD Cert.OutCIdeal.τ).loc Cert.OutCIdeal.main_arg5) = m ((c.tc : Thread Cert.OutCIdeal.nD Cert.OutCIdeal.τ).loc Cert.OutCIdeal.main_arg5))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v20) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2)
          ∧ r.2.mem ((c.tc : Thread Cert.OutCRefIdeal.nD Cert.OutCRefIdeal.τ).loc Cert.OutCRefIdeal.main_arg3) = m' ((c.tc : Thread Cert.OutCRefIdeal.nD Cert.OutCRefIdeal.τ).loc Cert.OutCRefIdeal.main_arg3)
          ∧ r.2.mem ((c.tc : Thread Cert.OutCRefIdeal.nD Cert.OutCRefIdeal.τ).loc Cert.OutCRefIdeal.main_arg4) = m' ((c.tc : Thread Cert.OutCRefIdeal.nD Cert.OutCRefIdeal.τ).loc Cert.OutCRefIdeal.main_arg4)
          ∧ r.2.mem ((c.tc : Thread Cert.OutCRefIdeal.nD Cert.OutCRefIdeal.τ).loc Cert.OutCRefIdeal.main_arg5) = m' ((c.tc : Thread Cert.OutCRefIdeal.nD Cert.OutCRefIdeal.τ).loc Cert.OutCRefIdeal.main_arg5))

def Claim : Prop :=
  ∃ (hDec : Cert.Dec.Facts) (hDecIdeal : Cert.DecIdeal.Facts) (hDecRefIdeal : Cert.DecRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hProjB : Cert.ProjB.Facts) (hProjBIdeal : Cert.ProjBIdeal.Facts) (hProjBRefIdeal : Cert.ProjBRefIdeal.Facts) (hProjC : Cert.ProjC.Facts) (hProjCIdeal : Cert.ProjCIdeal.Facts) (hProjCRefIdeal : Cert.ProjCRefIdeal.Facts) (hMlpFinal : Cert.MlpFinal.Facts) (hMlpFinalIdeal : Cert.MlpFinalIdeal.Facts) (hMlpFinalRefIdeal : Cert.MlpFinalRefIdeal.Facts) (hOutA : Cert.OutA.Facts) (hOutAIdeal : Cert.OutAIdeal.Facts) (hOutARefIdeal : Cert.OutARefIdeal.Facts) (hOutB : Cert.OutB.Facts) (hOutBIdeal : Cert.OutBIdeal.Facts) (hOutBRefIdeal : Cert.OutBRefIdeal.Facts) (hOutC : Cert.OutC.Facts) (hOutCIdeal : Cert.OutCIdeal.Facts) (hOutCRefIdeal : Cert.OutCRefIdeal.Facts) (hPre_finite : Cert.Pre_finite.Facts),
    quiescent_Dec (hDec := hDec)
    ∧ quiescent_DecIdeal (hDecIdeal := hDecIdeal)
    ∧ quiescent_DecIdeal_pre_finite (hDecIdeal := hDecIdeal) (hPre_finite := hPre_finite)
    ∧ quiescent_DecRefIdeal (hDecRefIdeal := hDecRefIdeal)
    ∧ quiescent_DecRefIdeal_pre_finite (hDecRefIdeal := hDecRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_MlpFinal (hMlpFinal := hMlpFinal)
    ∧ quiescent_MlpFinalIdeal (hMlpFinalIdeal := hMlpFinalIdeal)
    ∧ quiescent_MlpFinalRefIdeal (hMlpFinalRefIdeal := hMlpFinalRefIdeal)
    ∧ quiescent_OutA (hOutA := hOutA)
    ∧ quiescent_OutAIdeal (hOutAIdeal := hOutAIdeal)
    ∧ quiescent_OutARefIdeal (hOutARefIdeal := hOutARefIdeal)
    ∧ quiescent_OutB (hOutB := hOutB)
    ∧ quiescent_OutBIdeal (hOutBIdeal := hOutBIdeal)
    ∧ quiescent_OutBRefIdeal (hOutBRefIdeal := hOutBRefIdeal)
    ∧ quiescent_OutC (hOutC := hOutC)
    ∧ quiescent_OutCIdeal (hOutCIdeal := hOutCIdeal)
    ∧ quiescent_OutCRefIdeal (hOutCRefIdeal := hOutCRefIdeal)
    ∧ preserves_Dec_DecIdeal
    ∧ algebraic_DecIdeal_DecRefIdeal_pre_finite (hDecIdeal := hDecIdeal) (hDecRefIdeal := hDecRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_ProjB_ProjBIdeal
    ∧ algebraic_ProjBIdeal_ProjBRefIdeal (hProjBIdeal := hProjBIdeal) (hProjBRefIdeal := hProjBRefIdeal)
    ∧ preserves_ProjC_ProjCIdeal
    ∧ algebraic_ProjCIdeal_ProjCRefIdeal (hProjCIdeal := hProjCIdeal) (hProjCRefIdeal := hProjCRefIdeal)
    ∧ preserves_MlpFinal_MlpFinalIdeal
    ∧ algebraic_MlpFinalIdeal_MlpFinalRefIdeal (hMlpFinalIdeal := hMlpFinalIdeal) (hMlpFinalRefIdeal := hMlpFinalRefIdeal)
    ∧ preserves_OutA_OutAIdeal
    ∧ algebraic_OutAIdeal_OutARefIdeal (hOutAIdeal := hOutAIdeal) (hOutARefIdeal := hOutARefIdeal)
    ∧ preserves_OutB_OutBIdeal
    ∧ algebraic_OutBIdeal_OutBRefIdeal (hOutBIdeal := hOutBIdeal) (hOutBRefIdeal := hOutBRefIdeal)
    ∧ preserves_OutC_OutCIdeal
    ∧ algebraic_OutCIdeal_OutCRefIdeal (hOutCIdeal := hOutCIdeal) (hOutCRefIdeal := hOutCRefIdeal)
-- ==== Pre_finite.lean ====
abbrev S8x3x3x8x128 : Shape := ⟨5, ![8, 3, 3, 8, 128]⟩
abbrev S2x8x128x2x8x128 : Shape := ⟨6, ![2, 8, 128, 2, 8, 128]⟩
abbrev S2x8x512x2x8x128 : Shape := ⟨6, ![2, 8, 512, 2, 8, 128]⟩
abbrev S2x8x2048x2x8x128 : Shape := ⟨6, ![2, 8, 2048, 2, 8, 128]⟩
abbrev S8x3x129 : Shape := ⟨3, ![8, 3, 129]⟩
abbrev S_ : Shape := ⟨0, ![]⟩

class Facts : Prop where
  bcast_S_S8x3x3x8x128 : S_.BroadcastsInDim S8x3x3x8x128 (![] : Fin 0 → Fin S8x3x3x8x128.rank)
  bcast_S_S2x8x128x2x8x128 : S_.BroadcastsInDim S2x8x128x2x8x128 (![] : Fin 0 → Fin S2x8x128x2x8x128.rank)
  bcast_S_S2x8x512x2x8x128 : S_.BroadcastsInDim S2x8x512x2x8x128 (![] : Fin 0 → Fin S2x8x512x2x8x128.rank)
  bcast_S_S2x8x2048x2x8x128 : S_.BroadcastsInDim S2x8x2048x2x8x128 (![] : Fin 0 → Fin S2x8x2048x2x8x128.rank)
  bcast_S_S8x3x129 : S_.BroadcastsInDim S8x3x129 (![] : Fin 0 → Fin S8x3x129.rank)

variable [Facts]

def fn {F : FTy → Type} [FloatOps F] (main_arg0 : FVec F S8x3x3x8x128 .f32) (main_arg1 : FVec F S2x8x128x2x8x128 .f32) (main_arg2 : FVec F S2x8x512x2x8x128 .f32) (main_arg3 : FVec F S2x8x2048x2x8x128 .f32) (main_arg4 : FVec F S8x3x129 .f32) : IVec S8x3x3x8x128 1 × IVec S2x8x128x2x8x128 1 × IVec S2x8x512x2x8x128 1 × IVec S2x8x2048x2x8x128 1 × IVec S8x3x129 1 :=
  let main_v0 : FVec F S8x3x3x8x128 .f32 := Host.absf main_arg0
  let main_cst : FVec F S_ .f32 := constant S_ .f32 0x7F800000#32
  let main_v1 : FVec F S8x3x3x8x128 .f32 := broadcastInDim S8x3x3x8x128 ![] bcast_S_S8x3x3x8x128 main_cst
  let main_v2 : IVec S8x3x3x8x128 1 := cmpf .olt main_v0 main_v1
  let main_v3 : FVec F S2x8x128x2x8x128 .f32 := Host.absf main_arg1
  let main_cst_0 : FVec F S_ .f32 := constant S_ .f32 0x7F800000#32
  let main_v4 : FVec F S2x8x128x2x8x128 .f32 := broadcastInDim S2x8x128x2x8x128 ![] bcast_S_S2x8x128x2x8x128 main_cst_0
  let main_v5 : IVec S2x8x128x2x8x128 1 := cmpf .olt main_v3 main_v4
  let main_v6 : FVec F S2x8x512x2x8x128 .f32 := Host.absf main_arg2
  let main_cst_1 : FVec F S_ .f32 := constant S_ .f32 0x7F800000#32
  let main_v7 : FVec F S2x8x512x2x8x128 .f32 := broadcastInDim S2x8x512x2x8x128 ![] bcast_S_S2x8x512x2x8x128 main_cst_1
  let main_v8 : IVec S2x8x512x2x8x128 1 := cmpf .olt main_v6 main_v7
  let main_v9 : FVec F S2x8x2048x2x8x128 .f32 := Host.absf main_arg3
  let main_cst_2 : FVec F S_ .f32 := constant S_ .f32 0x7F800000#32
  let main_v10 : FVec F S2x8x2048x2x8x128 .f32 := broadcastInDim S2x8x2048x2x8x128 ![] bcast_S_S2x8x2048x2x8x128 main_cst_2
  let main_v11 : IVec S2x8x2048x2x8x128 1 := cmpf .olt main_v9 main_v10
  let main_v12 : FVec F S8x3x129 .f32 := Host.absf main_arg4
  let main_cst_3 : FVec F S_ .f32 := constant S_ .f32 0x7F800000#32
  let main_v13 : FVec F S8x3x129 .f32 := broadcastInDim S8x3x129 ![] bcast_S_S8x3x129 main_cst_3
  let main_v14 : IVec S8x3x129 1 := cmpf .olt main_v12 main_v13
  (main_v2, main_v5, main_v8, main_v11, main_v14)
-- ==== Dec.lean ====
abbrev S8x3x3x8x128 : Shape := ⟨5, ![8, 3, 3, 8, 128]⟩
abbrev S2x8x128x2x8x128 : Shape := ⟨6, ![2, 8, 128, 2, 8, 128]⟩
abbrev S2x8x512x2x8x128 : Shape := ⟨6, ![2, 8, 512, 2, 8, 128]⟩
abbrev S2x8x2048x2x8x128 : Shape := ⟨6, ![2, 8, 2048, 2, 8, 128]⟩
abbrev S8x3x129 : Shape := ⟨3, ![8, 3, 129]⟩
abbrev S3x129x8 : Shape := ⟨3, ![3, 129, 8]⟩
abbrev S3x129x8x1 : Shape := ⟨4, ![3, 129, 8, 1]⟩
abbrev S3x129x8x128 : Shape := ⟨4, ![3, 129, 8, 128]⟩
abbrev S2x8x128x1x2x8x128 : Shape := ⟨7, ![2, 8, 128, 1, 2, 8, 128]⟩
abbrev S2x8x128x4x2x8x128 : Shape := ⟨7, ![2, 8, 128, 4, 2, 8, 128]⟩
abbrev S2x8x128x16x2x8x128 : Shape := ⟨7, ![2, 8, 128, 16, 2, 8, 128]⟩
abbrev S8x8x128 : Shape := ⟨3, ![8, 8, 128]⟩
abbrev S1x3x3x8x128 : Shape := ⟨5, ![1, 3, 3, 8, 128]⟩
abbrev S1x1x128x1x2x8x128 : Shape := ⟨7, ![1, 1, 128, 1, 2, 8, 128]⟩
abbrev S1x8x128 : Shape := ⟨3, ![1, 8, 128]⟩
abbrev S1x1x1x8x128 : Shape := ⟨5, ![1, 1, 1, 8, 128]⟩
abbrev S8x128 : Shape := ⟨2, ![8, 128]⟩
abbrev S1x1x128x1x1x8x128 : Shape := ⟨7, ![1, 1, 128, 1, 1, 8, 128]⟩
abbrev S128x8x128 : Shape := ⟨3, ![128, 8, 128]⟩
abbrev S128x8 : Shape := ⟨2, ![128, 8]⟩
abbrev S128x8x1 : Shape := ⟨3, ![128, 8, 1]⟩
abbrev S1x128x8x128 : Shape := ⟨4, ![1, 128, 8, 128]⟩
abbrev S8 : Shape := ⟨1, ![8]⟩
abbrev S8x1 : Shape := ⟨2, ![8, 1]⟩
abbrev S1x1x8x128 : Shape := ⟨4, ![1, 1, 8, 128]⟩

abbrev nBuf : Space → Nat
  | .hbm => 12
  | .vmem => 11
  | .smem => 0
  | _ => 0

abbrev bufTy : (tb : Table) → Fin (tcTables nBuf tb) → BufTy
  | .hbm, ⟨0, _⟩ => ⟨S8x3x3x8x128, .f32⟩
  | .hbm, ⟨1, _⟩ => ⟨S2x8x128x2x8x128, .f32⟩
  | .hbm, ⟨2, _⟩ => ⟨S2x8x512x2x8x128, .f32⟩
  | .hbm, ⟨3, _⟩ => ⟨S2x8x2048x2x8x128, .f32⟩
  | .hbm, ⟨4, _⟩ => ⟨S8x3x129, .f32⟩
  | .hbm, ⟨5, _⟩ => ⟨S3x129x8, .f32⟩
  | .hbm, ⟨6, _⟩ => ⟨S3x129x8x1, .f32⟩
  | .hbm, ⟨7, _⟩ => ⟨S3x129x8x128, .f32⟩
  | .hbm, ⟨8, _⟩ => ⟨S2x8x128x1x2x8x128, .f32⟩
  | .hbm, ⟨9, _⟩ => ⟨S2x8x128x4x2x8x128, .f32⟩
  | .hbm, ⟨10, _⟩ => ⟨S2x8x128x16x2x8x128, .f32⟩
  | .hbm, ⟨11, _⟩ => ⟨S8x8x128, .f32⟩
  | .local _ .vmem, ⟨0, _⟩ => ⟨S1x3x3x8x128, .f32⟩
  | .local _ .vmem, ⟨1, _⟩ => ⟨S1x3x3x8x128, .f32⟩
  | .local _ .vmem, ⟨2, _⟩ => ⟨S1x1x128x1x2x8x128, .f32⟩
  | .local _ .vmem, ⟨3, _⟩ => ⟨S1x1x128x1x2x8x128, .f32⟩
  | .local _ .vmem, ⟨4, _⟩ => ⟨S1x1x128x1x2x8x128, .f32⟩
  | .local _ .vmem, ⟨5, _⟩ => ⟨S1x1x128x1x2x8x128, .f32⟩
  | .local _ .vmem, ⟨6, _⟩ => ⟨S1x1x128x1x2x8x128, .f32⟩
  | .local _ .vmem, ⟨7, _⟩ => ⟨S1x1x128x1x2x8x128, .f32⟩
  | .local _ .vmem, ⟨8, _⟩ => ⟨S3x129x8x128, .f32⟩
  | .local _ .vmem, ⟨9, _⟩ => ⟨S1x8x128, .f32⟩
  | .local _ .vmem, ⟨10, _⟩ => ⟨S1x8x128, .f32⟩
  | _, _ => ⟨S8x3x3x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, arg0.toNat, c0_i32_0.toNat, c0_i32_1.toNat, c0_i32_2.toNat, c0_i32_3.toNat, c0_i32_4.toNat]

def cc0_transform_2 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, arg0.toNat, c0_i32_0.toNat, c0_i32_1.toNat, c0_i32_2.toNat, c0_i32_3.toNat, c0_i32_4.toNat]

def cc0_transform_3 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, arg0.toNat, c0_i32_0.toNat, c0_i32_1.toNat, c0_i32_2.toNat, c0_i32_3.toNat, c0_i32_4.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x3x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x1x2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x1x2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x1x2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x129x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DecRefIdeal.lean ====
abbrev S8x3x3x8x128 : Shape := ⟨5, ![8, 3, 3, 8, 128]⟩
abbrev S2x8x128x2x8x128 : Shape := ⟨6, ![2, 8, 128, 2, 8, 128]⟩
abbrev S2x8x512x2x8x128 : Shape := ⟨6, ![2, 8, 512, 2, 8, 128]⟩
abbrev S2x8x2048x2x8x128 : Shape := ⟨6, ![2, 8, 2048, 2, 8, 128]⟩
abbrev S8x3x129 : Shape := ⟨3, ![8, 3, 129]⟩
abbrev S8x1x1x8x128 : Shape := ⟨5, ![8, 1, 1, 8, 128]⟩
abbrev S8x8x128 : Shape := ⟨3, ![8, 8, 128]⟩
abbrev S1x8x128x2x8x128 : Shape := ⟨6, ![1, 8, 128, 2, 8, 128]⟩
abbrev S8x128x2x8x128 : Shape := ⟨5, ![8, 128, 2, 8, 128]⟩
abbrev S8x128x1x8x128 : Shape := ⟨5, ![8, 128, 1, 8, 128]⟩
abbrev S8x128x8x128 : Shape := ⟨4, ![8, 128, 8, 128]⟩
abbrev S8x1x8x128 : Shape := ⟨4, ![8, 1, 8, 128]⟩
abbrev S8x129x8x128 : Shape := ⟨4, ![8, 129, 8, 128]⟩
abbrev S8x8x129 : Shape := ⟨3, ![8, 8, 129]⟩
abbrev S_ : Shape := ⟨0, ![]⟩
abbrev S8x1x129 : Shape := ⟨3, ![8, 1, 129]⟩
abbrev S8x129 : Shape := ⟨2, ![8, 129]⟩
abbrev S1x8x129 : Shape := ⟨3, ![1, 8, 129]⟩
abbrev S8x8 : Shape := ⟨2, ![8, 8]⟩
abbrev S8x8x1 : Shape := ⟨3, ![8, 8, 1]⟩
abbrev S1x8x512x2x8x128 : Shape := ⟨6, ![1, 8, 512, 2, 8, 128]⟩
abbrev S8x512x2x8x128 : Shape := ⟨5, ![8, 512, 2, 8, 128]⟩
abbrev S1x8x2048x2x8x128 : Shape := ⟨6, ![1, 8, 2048, 2, 8, 128]⟩
abbrev S8x2048x2x8x128 : Shape := ⟨5, ![8, 2048, 2, 8, 128]⟩
abbrev S1x8x8 : Shape := ⟨3, ![1, 8, 8]⟩
abbrev S3x8x8 : Shape := ⟨3, ![3, 8, 8]⟩
abbrev S1x8x8x128 : Shape := ⟨4, ![1, 8, 8, 128]⟩
abbrev S3x8x8x128 : Shape := ⟨4, ![3, 8, 8, 128]⟩

abbrev nBuf : Space → Nat
  | .hbm => 157
  | .vmem => 0
  | .smem => 0
  | _ => 0

abbrev hbmTy0_0 (i : Nat) : BufTy := match i % 128 with
  | 0 => ⟨S8x3x3x8x128, .f32⟩
  | 1 => ⟨S2x8x128x2x8x128, .f32⟩
  | 2 => ⟨S2x8x512x2x8x128, .f32⟩
  | 3 => ⟨S2x8x2048x2x8x128, .f32⟩
  | 4 => ⟨S8x3x129, .f32⟩
  | 5 => ⟨S8x1x1x8x128, .f32⟩
  | 6 => ⟨S8x8x128, .f32⟩
  | 7 => ⟨S8x1x1x8x128, .f32⟩
  | 8 => ⟨S8x8x128, .f32⟩
  | 9 => ⟨S8x1x1x8x128, .f32⟩
  | 10 => ⟨S8x8x128, .f32⟩
  | 11 => ⟨S1x8x128x2x8x128, .f32⟩
  | 12 => ⟨S8x128x2x8x128, .f32⟩
  | 13 => ⟨S8x128x1x8x128, .f32⟩
  | 14 => ⟨S8x128x8x128, .f32⟩
  | 15 => ⟨S8x1x8x128, .f32⟩
  | 16 => ⟨S8x129x8x128, .f32⟩
  | 17 => ⟨S8x128x1x8x128, .f32⟩
  | 18 => ⟨S8x128x8x128, .f32⟩
  | 19 => ⟨S8x1x8x128, .f32⟩
  | 20 => ⟨S8x129x8x128, .f32⟩
  | 21 => ⟨S8x8x129, .f32⟩
  | 22 => ⟨S_, .f32⟩
  | 23 => ⟨S8x8x129, .f32⟩
  | 24 => ⟨S8x8x129, .f32⟩
  | 25 => ⟨S8x1x129, .f32⟩
  | 26 => ⟨S8x129, .f32⟩
  | 27 => ⟨S1x8x129, .f32⟩
  | 28 => ⟨S8x8x129, .f32⟩
  | 29 => ⟨S8x8x129, .f32⟩
  | 30 => ⟨S_, .f32⟩
  | 31 => ⟨S8x8, .f32⟩
  | 32 => ⟨S8x8x1, .f32⟩
  | 33 => ⟨S8x8x129, .f32⟩
  | 34 => ⟨S8x8x129, .f32⟩
  | 35 => ⟨S8x8x129, .f32⟩
  | 36 => ⟨S_, .f32⟩
  | 37 => ⟨S8x8, .f32⟩
  | 38 => ⟨S8x8x1, .f32⟩
  | 39 => ⟨S_, .f32⟩
  | 40 => ⟨S8x8x1, .f32⟩
  | 41 => ⟨S8x8x1, .f32⟩
  | 42 => ⟨S8x8x129, .f32⟩
  | 43 => ⟨S8x8x129, .f32⟩
  | 44 => ⟨S8x8x128, .f32⟩
  | 45 => ⟨S8x8x1, .f32⟩
  | 46 => ⟨S8x8x1, .f32⟩
  | 47 => ⟨S8x8, .f32⟩
  | 48 => ⟨S8x1x1x8x128, .f32⟩
  | 49 => ⟨S8x8x128, .f32⟩
  | 50 => ⟨S8x1x1x8x128, .f32⟩
  | 51 => ⟨S8x8x128, .f32⟩
  | 52 => ⟨S8x1x1x8x128, .f32⟩
  | 53 => ⟨S8x8x128, .f32⟩
  | 54 => ⟨S1x8x512x2x8x128, .f32⟩
  | 55 => ⟨S8x512x2x8x128, .f32⟩
  | 56 => ⟨S8x128x1x8x128, .f32⟩
  | 57 => ⟨S8x128x8x128, .f32⟩
  | 58 => ⟨S8x1x8x128, .f32⟩
  | 59 => ⟨S8x129x8x128, .f32⟩
  | 60 => ⟨S8x128x1x8x128, .f32⟩
  | 61 => ⟨S8x128x8x128, .f32⟩
  | 62 => ⟨S8x1x8x128, .f32⟩
  | 63 => ⟨S8x129x8x128, .f32⟩
  | 64 => ⟨S8x8x129, .f32⟩
  | 65 => ⟨S_, .f32⟩
  | 66 => ⟨S8x8x129, .f32⟩
  | 67 => ⟨S8x8x129, .f32⟩
  | 68 => ⟨S8x1x129, .f32⟩
  | 69 => ⟨S8x129, .f32⟩
  | 70 => ⟨S1x8x129, .f32⟩
  | 71 => ⟨S8x8x129, .f32⟩
  | 72 => ⟨S8x8x129, .f32⟩
  | 73 => ⟨S_, .f32⟩
  | 74 => ⟨S8x8, .f32⟩
  | 75 => ⟨S8x8x1, .f32⟩
  | 76 => ⟨S8x8x129, .f32⟩
  | 77 => ⟨S8x8x129, .f32⟩
  | 78 => ⟨S8x8x129, .f32⟩
  | 79 => ⟨S_, .f32⟩
  | 80 => ⟨S8x8, .f32⟩
  | 81 => ⟨S8x8x1, .f32⟩
  | 82 => ⟨S_, .f32⟩
  | 83 => ⟨S8x8x1, .f32⟩
  | 84 => ⟨S8x8x1, .f32⟩
  | 85 => ⟨S8x8x129, .f32⟩
  | 86 => ⟨S8x8x129, .f32⟩
  | 87 => ⟨S8x8x128, .f32⟩
  | 88 => ⟨S8x8x1, .f32⟩
  | 89 => ⟨S8x8x1, .f32⟩
  | 90 => ⟨S8x8, .f32⟩
  | 91 => ⟨S8x1x1x8x128, .f32⟩
  | 92 => ⟨S8x8x128, .f32⟩
  | 93 => ⟨S8x1x1x8x128, .f32⟩
  | 94 => ⟨S8x8x128, .f32⟩
  | 95 => ⟨S8x1x1x8x128, .f32⟩
  | 96 => ⟨S8x8x128, .f32⟩
  | 97 => ⟨S1x8x2048x2x8x128, .f32⟩
  | 98 => ⟨S8x2048x2x8x128, .f32⟩
  | 99 => ⟨S8x128x1x8x128, .f32⟩
  | 100 => ⟨S8x128x8x128, .f32⟩
  | 101 => ⟨S8x1x8x128, .f32⟩
  | 102 => ⟨S8x129x8x128, .f32⟩
  | 103 => ⟨S8x128x1x8x128, .f32⟩
  | 104 => ⟨S8x128x8x128, .f32⟩
  | 105 => ⟨S8x1x8x128, .f32⟩
  | 106 => ⟨S8x129x8x128, .f32⟩
  | 107 => ⟨S8x8x129, .f32⟩
  | 108 => ⟨S_, .f32⟩
  | 109 => ⟨S8x8x129, .f32⟩
  | 110 => ⟨S8x8x129, .f32⟩
  | 111 => ⟨S8x1x129, .f32⟩
  | 112 => ⟨S8x129, .f32⟩
  | 113 => ⟨S1x8x129, .f32⟩
  | 114 => ⟨S8x8x129, .f32⟩
  | 115 => ⟨S8x8x129, .f32⟩
  | 116 => ⟨S_, .f32⟩
  | 117 => ⟨S8x8, .f32⟩
  | 118 => ⟨S8x8x1, .f32⟩
  | 119 => ⟨S8x8x129, .f32⟩
  | 120 => ⟨S8x8x129, .f32⟩
  | 121 => ⟨S8x8x129, .f32⟩
  | 122 => ⟨S_, .f32⟩
  | 123 => ⟨S8x8, .f32⟩
  | 124 => ⟨S8x8x1, .f32⟩
  | 125 => ⟨S_, .f32⟩
  | 126 => ⟨S8x8x1, .f32⟩
  | 127 => ⟨S8x8x1, .f32⟩
  | _ => ⟨S8x3x3x8x128, .f32⟩

abbrev hbmTy0_1 (i : Nat) : BufTy := match i % 128 with
  | 0 => ⟨S8x8x129, .f32⟩
  | 1 => ⟨S8x8x129, .f32⟩
  | 2 => ⟨S8x8x128, .f32⟩
  | 3 => ⟨S8x8x1, .f32⟩
  | 4 => ⟨S8x8x1, .f32⟩
  | 5 => ⟨S8x8, .f32⟩
  | 6 => ⟨S1x8x8, .f32⟩
  | 7 => ⟨S1x8x8, .f32⟩
  | 8 => ⟨S1x8x8, .f32⟩
  | 9 => ⟨S3x8x8, .f32⟩
  | 10 => ⟨S_, .f32⟩
  | 11 => ⟨S8x8, .f32⟩
  | 12 => ⟨S_, .f32⟩
  | 13 => ⟨S8x8, .f32⟩
  | 14 => ⟨S8x8, .f32⟩
  | 15 => ⟨S1x8x8, .f32⟩
  | 16 => ⟨S3x8x8, .f32⟩
  | 17 => ⟨S3x8x8, .f32⟩
  | 18 => ⟨S3x8x8, .f32⟩
  | 19 => ⟨S_, .f32⟩
  | 20 => ⟨S8x8, .f32⟩
  | 21 => ⟨S1x8x8, .f32⟩
  | 22 => ⟨S3x8x8, .f32⟩
  | 23 => ⟨S3x8x8, .f32⟩
  | 24 => ⟨S1x8x8x128, .f32⟩
  | 25 => ⟨S1x8x8x128, .f32⟩
  | 26 => ⟨S1x8x8x128, .f32⟩
  | 27 => ⟨S3x8x8x128, .f32⟩
  | 28 => ⟨S8x8x128, .f32⟩
  | _ => ⟨S8x3x3x8x128, .f32⟩

abbrev hbmTy (i : Nat) : BufTy := match i / 128 with
  | 0 => hbmTy0_0 i
  | 1 => hbmTy0_1 i
  | _ => ⟨S8x3x3x8x128, .f32⟩

abbrev bufTy : (tb : Table) → Fin (tcTables nBuf tb) → BufTy
  | .hbm, ⟨i, _⟩ => hbmTy i
  | _, _ => ⟨S8x3x3x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_3 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_5 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_7 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_8 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_9 : Ref sig .tc := ⟨.hbm, 122, rfl⟩
abbrev main_v107 : Ref sig .tc := ⟨.hbm, 123, rfl⟩
abbrev main_v108 : Ref sig .tc := ⟨.hbm, 124, rfl⟩
abbrev main_cst_10 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_11 : Ref sig .tc := ⟨.hbm, 138, rfl⟩
abbrev main_v121 : Ref sig .tc := ⟨.hbm, 139, rfl⟩
abbrev main_cst_12 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_cst_13 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩

abbrev nD : Nat := 1
abbrev τ : Topo := Topo.v7x

variable {F : FTy → Type} [FloatOps F]
-- ==== Mlp.lean ====
abbrev S8192x2048 : Shape := ⟨2, ![8192, 2048]⟩
abbrev S8x2048 : Shape := ⟨2, ![8, 2048]⟩
abbrev S4x1x2048 : Shape := ⟨3, ![4, 1, 2048]⟩
abbrev S4x2048x8192 : Shape := ⟨3, ![4, 2048, 8192]⟩
abbrev S4x8192x2048 : Shape := ⟨3, ![4, 8192, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S2048x512 : Shape := ⟨2, ![2048, 512]⟩
abbrev S512x2048 : Shape := ⟨2, ![512, 2048]⟩
abbrev S1024x512 : Shape := ⟨2, ![1024, 512]⟩
abbrev S8x512 : Shape := ⟨2, ![8, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S4x2048x8192, .f32⟩
  | .hbm, ⟨4, _⟩ => ⟨S4x8192x2048, .f32⟩
  | .hbm, ⟨5, _⟩ => ⟨S8192x2048, .f32⟩
  | .hbm, ⟨6, _⟩ => ⟨S8x2048, .f32⟩
  | .local _ .vmem, ⟨0, _⟩ => ⟨S1024x2048, .f32⟩
  | .local _ .vmem, ⟨1, _⟩ => ⟨S8x2048, .f32⟩
  | .local _ .vmem, ⟨2, _⟩ => ⟨S1x1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1024x2048, .f32⟩
  | .local _ .vmem, ⟨8, _⟩ => ⟨S1024x2048, .f32⟩
  | .local _ .vmem, ⟨9, _⟩ => ⟨S8x2048, .f32⟩
  | .local _ .vmem, ⟨10, _⟩ => ⟨S1024x2048, .bf16⟩
  | .local _ .vmem, ⟨11, _⟩ => ⟨S8x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c0_i32_17 : BitVec 32 := 0#32
  let v25 : BitVec 1 := Scalar.cmpi .eq arg0 c0_i32_17
  let v26 : BitVec 32 := Scalar.extui v25
  let c0_i32_18 : BitVec 32 := 0#32
  let v27 : BitVec 1 := Scalar.cmpi .ne v26 c0_i32_18
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MlpRefIdeal.lean ====
abbrev S8192x2048 : Shape := ⟨2, ![8192, 2048]⟩
abbrev S8x2048 : Shape := ⟨2, ![8, 2048]⟩
abbrev S4x1x2048 : Shape := ⟨3, ![4, 1, 2048]⟩
abbrev S4x2048x8192 : Shape := ⟨3, ![4, 2048, 8192]⟩
abbrev S4x8192x2048 : Shape := ⟨3, ![4, 8192, 2048]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩
abbrev S8 : Shape := ⟨1, ![8]⟩
abbrev S8x1 : Shape := ⟨2, ![8, 1]⟩
abbrev S8x8192 : Shape := ⟨2, ![8, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S4x2048x8192, .f32⟩
  | .hbm, ⟨4, _⟩ => ⟨S4x8192x2048, .f32⟩
  | .hbm, ⟨5, _⟩ => ⟨S1x1x2048, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S1x2048x8192, .f32⟩
  | .hbm, ⟨23, _⟩ => ⟨S2048x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S1x8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S1x1x2048, .f32⟩
  | .hbm, ⟨34, _⟩ => ⟨S1x2048, .f32⟩
  | .hbm, ⟨35, _⟩ => ⟨S8x2048, .f32⟩
  | .hbm, ⟨36, _⟩ => ⟨S_, .f32⟩
  | .hbm, ⟨37, _⟩ => ⟨S8, .f32⟩
  | .hbm, ⟨38, _⟩ => ⟨S8x1, .f32⟩
  | .hbm, ⟨39, _⟩ => ⟨S_, .f32⟩
  | .hbm, ⟨40, _⟩ => ⟨S8x1, .f32⟩
  | .hbm, ⟨41, _⟩ => ⟨S8x1, .f32⟩
  | .hbm, ⟨42, _⟩ => ⟨S_, .f32⟩
  | .hbm, ⟨43, _⟩ => ⟨S8x1, .f32⟩
  | .hbm, ⟨44, _⟩ => ⟨S8x1, .f32⟩
  | .hbm, ⟨45, _⟩ => ⟨S8x1, .f32⟩
  | .hbm, ⟨46, _⟩ => ⟨S8x2048, .f32⟩
  | .hbm, ⟨47, _⟩ => ⟨S8x2048, .f32⟩
  | .hbm, ⟨48, _⟩ => ⟨S8x2048, .f32⟩
  | .hbm, ⟨49, _⟩ => ⟨S8x2048, .f32⟩
  | .hbm, ⟨50, _⟩ => ⟨S1x2048x8192, .f32⟩
  | .hbm, ⟨51, _⟩ => ⟨S2048x8192, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S8x8192, .f32⟩
  | .hbm, ⟨56, _⟩ => ⟨S8x8192, .f32⟩
  | .hbm, ⟨57, _⟩ => ⟨S1x8192x2048, .f32⟩
  | .hbm, ⟨58, _⟩ => ⟨S8192x2048, .f32⟩
  | .hbm, ⟨59, _⟩ => ⟨S8x2048, .f32⟩
  | .hbm, ⟨60, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call1_cst : Ref sig .tc := ⟨.hbm, 53, rfl⟩
abbrev main_call1_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proj.lean ====
abbrev S8192x2048 : Shape := ⟨2, ![8192, 2048]⟩
abbrev S8x2048 : Shape := ⟨2, ![8, 2048]⟩
abbrev S4x1x2048 : Shape := ⟨3, ![4, 1, 2048]⟩
abbrev S2x2048x9216 : Shape := ⟨3, ![2, 2048, 9216]⟩
abbrev S8192x9216 : Shape := ⟨2, ![8192, 9216]⟩
abbrev S18x8x512 : Shape := ⟨3, ![18, 8, 512]⟩
abbrev S1024x2048 : Shape := ⟨2, ![1024, 2048]⟩
abbrev S1x1x2048 : Shape := ⟨3, ![1, 1, 2048]⟩
abbrev S1x2048x512 : Shape := ⟨3, ![1, 2048, 512]⟩
abbrev S1024x512 : Shape := ⟨2, ![1024, 512]⟩
abbrev S1x2048 : Shape := ⟨2, ![1, 2048]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S2048x512 : Shape := ⟨2, ![2048, 512]⟩
abbrev S8x512 : Shape := ⟨2, ![8, 512]⟩
abbrev S1x8x512 : Shape := ⟨3, ![1, 8, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S2x2048x9216, .f32⟩
  | .hbm, ⟨4, _⟩ => ⟨S2x2048x9216, .bf16⟩
  | .hbm, ⟨5, _⟩ => ⟨S8192x9216, .f32⟩
  | .hbm, ⟨6, _⟩ => ⟨S18x8x512, .f32⟩
  | .local _ .vmem, ⟨0, _⟩ => ⟨S1024x2048, .f32⟩
  | .local _ .vmem, ⟨1, _⟩ => ⟨S8x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .f32⟩
  | .local _ .vmem, ⟨6, _⟩ => ⟨S1024x512, .f32⟩
  | .local _ .vmem, ⟨7, _⟩ => ⟨S18x8x512, .f32⟩
  | .local _ .vmem, ⟨8, _⟩ => ⟨S1024x2048, .bf16⟩
  | .local _ .vmem, ⟨9, _⟩ => ⟨S8x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![8, 18], ![false, false]⟩

def k0_cond3 (i : grid0.Coords) : BitVec 1 :=
  let arg0 : BitVec 32 := BitVec.ofNat 32 (i 0).val
  let c0_i32_10 : BitVec 32 := 0#32
  let v13 : BitVec 1 := Scalar.cmpi .eq arg0 c0_i32_10
  let v14 : BitVec 32 := Scalar.extui v13
  let c0_i32_11 : BitVec 32 := 0#32
  let v15 : BitVec 1 := Scalar.cmpi .ne v14 c0_i32_11
  v15

def k0_off1 (i : grid0.Coords) : Fin 3 → Nat :=
  let arg1 : BitVec 32 := BitVec.ofNat 32 (i 1).val
  let v18 : Index := Scalar.indexCast arg1
  let c0_15 : Index := 0#32
  let c0_16 : Index := 0#32
  ![v18.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S18x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ProjRefIdeal.lean ====
abbrev S8192x2048 : Shape := ⟨2, ![8192, 2048]⟩
abbrev S8x2048 : Shape := ⟨2, ![8, 2048]⟩
abbrev S4x1x2048 : Shape := ⟨3, ![4, 1, 2048]⟩
abbrev S2x2048x9216 : Shape := ⟨3, ![2, 2048, 9216]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x9216 : Shape := ⟨3, ![1, 2048, 9216]⟩
abbrev S2048x9216 : Shape := ⟨2, ![2048, 9216]⟩
abbrev S8192x9216 : Shape := ⟨2, ![8192, 9216]⟩
abbrev S8 : Shape := ⟨1, ![8]⟩
abbrev S8x1 : Shape := ⟨2, ![8, 1]⟩
abbrev S8x9216 : Shape := ⟨2, ![8, 9216]⟩
abbrev S8x18x512 : Shape := ⟨3, ![8, 18, 512]⟩
abbrev S18x8x512 : Shape := ⟨3, ![18, 8, 512]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S2x2048x9216, .f32⟩
  | .hbm, ⟨4, _⟩ => ⟨S1x1x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S1x2048x9216, .f32⟩
  | .hbm, ⟨22, _⟩ => ⟨S2048x9216, .f32⟩
  | .hbm, ⟨23, _⟩ => ⟨S8192x9216, .f32⟩
  | .hbm, ⟨24, _⟩ => ⟨S1x1x2048, .f32⟩
  | .hbm, ⟨25, _⟩ => ⟨S1x2048, .f32⟩
  | .hbm, ⟨26, _⟩ => ⟨S8x2048, .f32⟩
  | .hbm, ⟨27, _⟩ => ⟨S_, .f32⟩
  | .hbm, ⟨28, _⟩ => ⟨S8, .f32⟩
  | .hbm, ⟨29, _⟩ => ⟨S8x1, .f32⟩
  | .hbm, ⟨30, _⟩ => ⟨S_, .f32⟩
  | .hbm, ⟨31, _⟩ => ⟨S8x1, .f32⟩
  | .hbm, ⟨32, _⟩ => ⟨S8x1, .f32⟩
  | .hbm, ⟨33, _⟩ => ⟨S_, .f32⟩
  | .hbm, ⟨34, _⟩ => ⟨S8x1, .f32⟩
  | .hbm, ⟨35, _⟩ => ⟨S8x1, .f32⟩
  | .hbm, ⟨36, _⟩ => ⟨S8x1, .f32⟩
  | .hbm, ⟨37, _⟩ => ⟨S8x2048, .f32⟩
  | .hbm, ⟨38, _⟩ => ⟨S8x2048, .f32⟩
  | .hbm, ⟨39, _⟩ => ⟨S8x2048, .f32⟩
  | .hbm, ⟨40, _⟩ => ⟨S8x2048, .f32⟩
  | .hbm, ⟨41, _⟩ => ⟨S1x2048x9216, .f32⟩
  | .hbm, ⟨42, _⟩ => ⟨S2048x9216, .f32⟩
  | .hbm, ⟨43, _⟩ => ⟨S8x9216, .f32⟩
  | .hbm, ⟨44, _⟩ => ⟨S8x18x512, .f32⟩
  | .hbm, ⟨45, _⟩ => ⟨S18x8x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== ProjB.lean ====
abbrev S8192x2048 : Shape := ⟨2, ![8192, 2048]⟩
abbrev S8x2048 : Shape := ⟨2, ![8, 2048]⟩
abbrev S4x1x2048 : Shape := ⟨3, ![4, 1, 2048]⟩
abbrev S1x2048x3072 : Shape := ⟨3, ![1, 2048, 3072]⟩
abbrev S8192x3072 : Shape := ⟨2, ![8192, 3072]⟩
abbrev S6x8x512 : Shape := ⟨3, ![6, 8, 512]⟩
abbrev S1024x2048 : Shape := ⟨2, ![1024, 2048]⟩
abbrev S1x1x2048 : Shape := ⟨3, ![1, 1, 2048]⟩
abbrev S1x2048x512 : Shape := ⟨3, ![1, 2048, 512]⟩
abbrev S1024x512 : Shape := ⟨2, ![1024, 512]⟩
abbrev S1x2048 : Shape := ⟨2, ![1, 2048]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S2048x512 : Shape := ⟨2, ![2048, 512]⟩
abbrev S8x512 : Shape := ⟨2, ![8, 512]⟩
abbrev S1x8x512 : Shape := ⟨3, ![1, 8, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S1x2048x3072, .f32⟩
  | .hbm, ⟨4, _⟩ => ⟨S1x2048x3072, .bf16⟩
  | .hbm, ⟨5, _⟩ => ⟨S8192x3072, .f32⟩
  | .hbm, ⟨6, _⟩ => ⟨S6x8x512, .f32⟩
  | .local _ .vmem, ⟨0, _⟩ => ⟨S1024x2048, .f32⟩
  | .local _ .vmem, ⟨1, _⟩ => ⟨S8x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .f32⟩
  | .local _ .vmem, ⟨6, _⟩ => ⟨S1024x512, .f32⟩
  | .local _ .vmem, ⟨7, _⟩ => ⟨S6x8x512, .f32⟩
  | .local _ .vmem, ⟨8, _⟩ => ⟨S1024x2048, .bf16⟩
  | .local _ .vmem, ⟨9, _⟩ => ⟨S8x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![8, 6], ![false, false]⟩

def k0_cond3 (i : grid0.Coords) : BitVec 1 :=
  let arg0 : BitVec 32 := BitVec.ofNat 32 (i 0).val
  let c0_i32_10 : BitVec 32 := 0#32
  let v13 : BitVec 1 := Scalar.cmpi .eq arg0 c0_i32_10
  let v14 : BitVec 32 := Scalar.extui v13
  let c0_i32_11 : BitVec 32 := 0#32
  let v15 : BitVec 1 := Scalar.cmpi .ne v14 c0_i32_11
  v15

def k0_off1 (i : grid0.Coords) : Fin 3 → Nat :=
  let arg1 : BitVec 32 := BitVec.ofNat 32 (i 1).val
  let v18 : Index := Scalar.indexCast arg1
  let c0_15 : Index := 0#32
  let c0_16 : Index := 0#32
  ![v18.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S6x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ProjBRefIdeal.lean ====
abbrev S8192x2048 : Shape := ⟨2, ![8192, 2048]⟩
abbrev S8x2048 : Shape := ⟨2, ![8, 2048]⟩
abbrev S4x1x2048 : Shape := ⟨3, ![4, 1, 2048]⟩
abbrev S1x2048x3072 : Shape := ⟨3, ![1, 2048, 3072]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x3072 : Shape := ⟨2, ![2048, 3072]⟩
abbrev S8192x3072 : Shape := ⟨2, ![8192, 3072]⟩
abbrev S8 : Shape := ⟨1, ![8]⟩
abbrev S8x1 : Shape := ⟨2, ![8, 1]⟩
abbrev S8x3072 : Shape := ⟨2, ![8, 3072]⟩
abbrev S8x6x512 : Shape := ⟨3, ![8, 6, 512]⟩
abbrev S6x8x512 : Shape := ⟨3, ![6, 8, 512]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S1x2048x3072, .f32⟩
  | .hbm, ⟨4, _⟩ => ⟨S1x1x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S2048x3072, .f32⟩
  | .hbm, ⟨22, _⟩ => ⟨S8192x3072, .f32⟩
  | .hbm, ⟨23, _⟩ => ⟨S1x1x2048, .f32⟩
  | .hbm, ⟨24, _⟩ => ⟨S1x2048, .f32⟩
  | .hbm, ⟨25, _⟩ => ⟨S8x2048, .f32⟩
  | .hbm, ⟨26, _⟩ => ⟨S_, .f32⟩
  | .hbm, ⟨27, _⟩ => ⟨S8, .f32⟩
  | .hbm, ⟨28, _⟩ => ⟨S8x1, .f32⟩
  | .hbm, ⟨29, _⟩ => ⟨S_, .f32⟩
  | .hbm, ⟨30, _⟩ => ⟨S8x1, .f32⟩
  | .hbm, ⟨31, _⟩ => ⟨S8x1, .f32⟩
  | .hbm, ⟨32, _⟩ => ⟨S_, .f32⟩
  | .hbm, ⟨33, _⟩ => ⟨S8x1, .f32⟩
  | .hbm, ⟨34, _⟩ => ⟨S8x1, .f32⟩
  | .hbm, ⟨35, _⟩ => ⟨S8x1, .f32⟩
  | .hbm, ⟨36, _⟩ => ⟨S8x2048, .f32⟩
  | .hbm, ⟨37, _⟩ => ⟨S8x2048, .f32⟩
  | .hbm, ⟨38, _⟩ => ⟨S8x2048, .f32⟩
  | .hbm, ⟨39, _⟩ => ⟨S8x2048, .f32⟩
  | .hbm, ⟨40, _⟩ => ⟨S2048x3072, .f32⟩
  | .hbm, ⟨41, _⟩ => ⟨S8x3072, .f32⟩
  | .hbm, ⟨42, _⟩ => ⟨S8x6x512, .f32⟩
  | .hbm, ⟨43, _⟩ => ⟨S6x8x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== ProjC.lean ====
abbrev S8192x2048 : Shape := ⟨2, ![8192, 2048]⟩
abbrev S8x2048 : Shape := ⟨2, ![8, 2048]⟩
abbrev S4x1x2048 : Shape := ⟨3, ![4, 1, 2048]⟩
abbrev S1x2048x5168 : Shape := ⟨3, ![1, 2048, 5168]⟩
abbrev S8192x5120 : Shape := ⟨2, ![8192, 5120]⟩
abbrev S10x8x512 : Shape := ⟨3, ![10, 8, 512]⟩
abbrev S1024x2048 : Shape := ⟨2, ![1024, 2048]⟩
abbrev S1x1x2048 : Shape := ⟨3, ![1, 1, 2048]⟩
abbrev S1x2048x512 : Shape := ⟨3, ![1, 2048, 512]⟩
abbrev S1024x512 : Shape := ⟨2, ![1024, 512]⟩
abbrev S1x2048 : Shape := ⟨2, ![1, 2048]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S2048x512 : Shape := ⟨2, ![2048, 512]⟩
abbrev S8x512 : Shape := ⟨2, ![8, 512]⟩
abbrev S1x8x512 : Shape := ⟨3, ![1, 8, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S1x2048x5168, .f32⟩
  | .hbm, ⟨4, _⟩ => ⟨S1x2048x5168, .bf16⟩
  | .hbm, ⟨5, _⟩ => ⟨S8192x5120, .f32⟩
  | .hbm, ⟨6, _⟩ => ⟨S10x8x512, .f32⟩
  | .local _ .vmem, ⟨0, _⟩ => ⟨S1024x2048, .f32⟩
  | .local _ .vmem, ⟨1, _⟩ => ⟨S8x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .f32⟩
  | .local _ .vmem, ⟨6, _⟩ => ⟨S1024x512, .f32⟩
  | .local _ .vmem, ⟨7, _⟩ => ⟨S10x8x512, .f32⟩
  | .local _ .vmem, ⟨8, _⟩ => ⟨S1024x2048, .bf16⟩
  | .local _ .vmem, ⟨9, _⟩ => ⟨S8x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![8, 10], ![false, false]⟩

def k0_cond3 (i : grid0.Coords) : BitVec 1 :=
  let arg0 : BitVec 32 := BitVec.ofNat 32 (i 0).val
  let c0_i32_10 : BitVec 32 := 0#32
  let v13 : BitVec 1 := Scalar.cmpi .eq arg0 c0_i32_10
  let v14 : BitVec 32 := Scalar.extui v13
  let c0_i32_11 : BitVec 32 := 0#32
  let v15 : BitVec 1 := Scalar.cmpi .ne v14 c0_i32_11
  v15

def k0_off1 (i : grid0.Coords) : Fin 3 → Nat :=
  let arg1 : BitVec 32 := BitVec.ofNat 32 (i 1).val
  let v18 : Index := Scalar.indexCast arg1
  let c0_15 : Index := 0#32
  let c0_16 : Index := 0#32
  ![v18.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S10x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ProjCRefIdeal.lean ====
abbrev S8192x2048 : Shape := ⟨2, ![8192, 2048]⟩
abbrev S8x2048 : Shape := ⟨2, ![8, 2048]⟩
abbrev S4x1x2048 : Shape := ⟨3, ![4, 1, 2048]⟩
abbrev S1x2048x5168 : Shape := ⟨3, ![1, 2048, 5168]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x5168 : Shape := ⟨2, ![2048, 5168]⟩
abbrev S8192x5168 : Shape := ⟨2, ![8192, 5168]⟩
abbrev S8192x5120 : Shape := ⟨2, ![8192, 5120]⟩
abbrev S8 : Shape := ⟨1, ![8]⟩
abbrev S8x1 : Shape := ⟨2, ![8, 1]⟩
abbrev S8x5168 : Shape := ⟨2, ![8, 5168]⟩
abbrev S8x5120 : Shape := ⟨2, ![8, 5120]⟩
abbrev S8x10x512 : Shape := ⟨3, ![8, 10, 512]⟩
abbrev S10x8x512 : Shape := ⟨3, ![10, 8, 512]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S1x2048x5168, .f32⟩
  | .hbm, ⟨4, _⟩ => ⟨S1x1x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S2048x5168, .f32⟩
  | .hbm, ⟨22, _⟩ => ⟨S8192x5168, .f32⟩
  | .hbm, ⟨23, _⟩ => ⟨S8192x5120, .f32⟩
  | .hbm, ⟨24, _⟩ => ⟨S1x1x2048, .f32⟩
  | .hbm, ⟨25, _⟩ => ⟨S1x2048, .f32⟩
  | .hbm, ⟨26, _⟩ => ⟨S8x2048, .f32⟩
  | .hbm, ⟨27, _⟩ => ⟨S_, .f32⟩
  | .hbm, ⟨28, _⟩ => ⟨S8, .f32⟩
  | .hbm, ⟨29, _⟩ => ⟨S8x1, .f32⟩
  | .hbm, ⟨30, _⟩ => ⟨S_, .f32⟩
  | .hbm, ⟨31, _⟩ => ⟨S8x1, .f32⟩
  | .hbm, ⟨32, _⟩ => ⟨S8x1, .f32⟩
  | .hbm, ⟨33, _⟩ => ⟨S_, .f32⟩
  | .hbm, ⟨34, _⟩ => ⟨S8x1, .f32⟩
  | .hbm, ⟨35, _⟩ => ⟨S8x1, .f32⟩
  | .hbm, ⟨36, _⟩ => ⟨S8x1, .f32⟩
  | .hbm, ⟨37, _⟩ => ⟨S8x2048, .f32⟩
  | .hbm, ⟨38, _⟩ => ⟨S8x2048, .f32⟩
  | .hbm, ⟨39, _⟩ => ⟨S8x2048, .f32⟩
  | .hbm, ⟨40, _⟩ => ⟨S8x2048, .f32⟩
  | .hbm, ⟨41, _⟩ => ⟨S2048x5168, .f32⟩
  | .hbm, ⟨42, _⟩ => ⟨S8x5168, .f32⟩
  | .hbm, ⟨43, _⟩ => ⟨S8x5120, .f32⟩
  | .hbm, ⟨44, _⟩ => ⟨S8x10x512, .f32⟩
  | .hbm, ⟨45, _⟩ => ⟨S10x8x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== MlpFinal.lean ====
abbrev S8192x2048 : Shape := ⟨2, ![8192, 2048]⟩
abbrev S8x2048 : Shape := ⟨2, ![8, 2048]⟩
abbrev S4x1x2048 : Shape := ⟨3, ![4, 1, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S2048x512 : Shape := ⟨2, ![2048, 512]⟩
abbrev S512x2048 : Shape := ⟨2, ![512, 2048]⟩
abbrev S1024x512 : Shape := ⟨2, ![1024, 512]⟩
abbrev S8x512 : Shape := ⟨2, ![8, 512]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S4x2048x8192, .f32⟩
  | .hbm, ⟨4, _⟩ => ⟨S4x8192x2048, .f32⟩
  | .hbm, ⟨5, _⟩ => ⟨S1x2048, .f32⟩
  | .hbm, ⟨6, _⟩ => ⟨S8192x2048, .f32⟩
  | .hbm, ⟨7, _⟩ => ⟨S8x2048, .f32⟩
  | .local _ .vmem, ⟨0, _⟩ => ⟨S1024x2048, .f32⟩
  | .local _ .vmem, ⟨1, _⟩ => ⟨S8x2048, .f32⟩
  | .local _ .vmem, ⟨2, _⟩ => ⟨S1x1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S8x2048, .f32⟩
  | .local _ .vmem, ⟨11, _⟩ => ⟨S1024x2048, .bf16⟩
  | .local _ .vmem, ⟨12, _⟩ => ⟨S8x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c0_i32_17 : BitVec 32 := 0#32
  let v25 : BitVec 1 := Scalar.cmpi .eq arg0 c0_i32_17
  let v26 : BitVec 32 := Scalar.extui v25
  let c0_i32_18 : BitVec 32 := 0#32
  let v27 : BitVec 1 := Scalar.cmpi .ne v26 c0_i32_18
  v27

def k0_cond5 (i : grid0.Coords) : BitVec 1 :=
  let arg0 : BitVec 32 := BitVec.ofNat 32 (i 0).val
  let c0_i32_20 : BitVec 32 := 0#32
  let v31 : BitVec 1 := Scalar.cmpi .eq arg0 c0_i32_20
  let arg1 : BitVec 32 := BitVec.ofNat 32 (i 1).val
  let c15_i32_21 : BitVec 32 := 15#32
  let v32 : BitVec 1 := Scalar.cmpi .eq arg1 c15_i32_21
  let v33 : BitVec 1 := Scalar.andi v31 v32
  let v34 : BitVec 32 := Scalar.extui v33
  let c0_i32_22 : BitVec 32 := 0#32
  let v35 : BitVec 1 := Scalar.cmpi .ne v34 c0_i32_22
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MlpFinalRefIdeal.lean ====
abbrev S8192x2048 : Shape := ⟨2, ![8192, 2048]⟩
abbrev S8x2048 : Shape := ⟨2, ![8, 2048]⟩
abbrev S4x1x2048 : Shape := ⟨3, ![4, 1, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1x1x2048 : Shape := ⟨3, ![1, 1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩
abbrev S2048 : Shape := ⟨1, ![2048]⟩
abbrev S8 : Shape := ⟨1, ![8]⟩
abbrev S8x1 : Shape := ⟨2, ![8, 1]⟩
abbrev S8x8192 : Shape := ⟨2, ![8, 8192]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S4x1x2048, .f32⟩
  | .hbm, ⟨3, _⟩ => ⟨S4x2048x8192, .f32⟩
  | .hbm, ⟨4, _⟩ => ⟨S4x8192x2048, .f32⟩
  | .hbm, ⟨5, _⟩ => ⟨S1x2048, .f32⟩
  | .hbm, ⟨6, _⟩ => ⟨S1x1x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S1x8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S1x1x2048, .f32⟩
  | .hbm, ⟨52, _⟩ => ⟨S1x2048, .f32⟩
  | .hbm, ⟨53, _⟩ => ⟨S8x2048, .f32⟩
  | .hbm, ⟨54, _⟩ => ⟨S_, .f32⟩
  | .hbm, ⟨55, _⟩ => ⟨S8, .f32⟩
  | .hbm, ⟨56, _⟩ => ⟨S8x1, .f32⟩
  | .hbm, ⟨57, _⟩ => ⟨S_, .f32⟩
  | .hbm, ⟨58, _⟩ => ⟨S8x1, .f32⟩
  | .hbm, ⟨59, _⟩ => ⟨S8x1, .f32⟩
  | .hbm, ⟨60, _⟩ => ⟨S_, .f32⟩
  | .hbm, ⟨61, _⟩ => ⟨S8x1, .f32⟩
  | .hbm, ⟨62, _⟩ => ⟨S8x1, .f32⟩
  | .hbm, ⟨63, _⟩ => ⟨S8x1, .f32⟩
  | .hbm, ⟨64, _⟩ => ⟨S8x2048, .f32⟩
  | .hbm, ⟨65, _⟩ => ⟨S8x2048, .f32⟩
  | .hbm, ⟨66, _⟩ => ⟨S8x2048, .f32⟩
  | .hbm, ⟨67, _⟩ => ⟨S8x2048, .f32⟩
  | .hbm, ⟨68, _⟩ => ⟨S1x2048x8192, .f32⟩
  | .hbm, ⟨69, _⟩ => ⟨S2048x8192, .f32⟩
  | .hbm, ⟨70, _⟩ => ⟨S8x8192, .f32⟩
  | .hbm, ⟨71, _⟩ => ⟨S_, .f32⟩
  | .hbm, ⟨72, _⟩ => ⟨S8x8192, .f32⟩
  | .hbm, ⟨73, _⟩ => ⟨S8x8192, .f32⟩
  | .hbm, ⟨74, _⟩ => ⟨S8x8192, .f32⟩
  | .hbm, ⟨75, _⟩ => ⟨S1x8192x2048, .f32⟩
  | .hbm, ⟨76, _⟩ => ⟨S8192x2048, .f32⟩
  | .hbm, ⟨77, _⟩ => ⟨S8x2048, .f32⟩
  | .hbm, ⟨78, _⟩ => ⟨S8x2048, .f32⟩
  | .hbm, ⟨79, _⟩ => ⟨S2048, .f32⟩
  | .hbm, ⟨80, _⟩ => ⟨S8x2048, .f32⟩
  | .hbm, ⟨81, _⟩ => ⟨S_, .f32⟩
  | .hbm, ⟨82, _⟩ => ⟨S8, .f32⟩
  | .hbm, ⟨83, _⟩ => ⟨S8x1, .f32⟩
  | .hbm, ⟨84, _⟩ => ⟨S_, .f32⟩
  | .hbm, ⟨85, _⟩ => ⟨S8x1, .f32⟩
  | .hbm, ⟨86, _⟩ => ⟨S8x1, .f32⟩
  | .hbm, ⟨87, _⟩ => ⟨S_, .f32⟩
  | .hbm, ⟨88, _⟩ => ⟨S8x1, .f32⟩
  | .hbm, ⟨89, _⟩ => ⟨S8x1, .f32⟩
  | .hbm, ⟨90, _⟩ => ⟨S8x1, .f32⟩
  | .hbm, ⟨91, _⟩ => ⟨S8x2048, .f32⟩
  | .hbm, ⟨92, _⟩ => ⟨S8x2048, .f32⟩
  | .hbm, ⟨93, _⟩ => ⟨S1x2048, .f32⟩
  | .hbm, ⟨94, _⟩ => ⟨S8x2048, .f32⟩
  | .hbm, ⟨95, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call1_cst : Ref sig .tc := ⟨.hbm, 71, rfl⟩
abbrev main_call1_v0 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== OutA.lean ====
abbrev S8192x1024 : Shape := ⟨2, ![8192, 1024]⟩
abbrev S2x1024x2048 : Shape := ⟨3, ![2, 1024, 2048]⟩
abbrev S8192x2048 : Shape := ⟨2, ![8192, 2048]⟩
abbrev S512x1024 : Shape := ⟨2, ![512, 1024]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 9
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S2x1024x2048, .f32⟩
  | .hbm, ⟨7, _⟩ => ⟨S8192x2048, .f32⟩
  | .hbm, ⟨8, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024x512, .f32⟩
  | .local _ .vmem, ⟨13, _⟩ => ⟨S1x1024x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutARefIdeal.lean ====
abbrev S8192x1024 : Shape := ⟨2, ![8192, 1024]⟩
abbrev S2x1024x2048 : Shape := ⟨3, ![2, 1024, 2048]⟩
abbrev S8192x2048 : Shape := ⟨2, ![8192, 2048]⟩
abbrev S1x8192x1024 : Shape := ⟨3, ![1, 8192, 1024]⟩
abbrev S3x8192x1024 : Shape := ⟨3, ![3, 8192, 1024]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S2x1024x2048, .f32⟩
  | .hbm, ⟨7, _⟩ => ⟨S8192x2048, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S3x8192x1024, .f32⟩
  | .hbm, ⟨12, _⟩ => ⟨S_, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S1x8192x1024, .f32⟩
  | .hbm, ⟨18, _⟩ => ⟨S3x8192x1024, .f32⟩
  | .hbm, ⟨19, _⟩ => ⟨S3x8192x1024, .f32⟩
  | .hbm, ⟨20, _⟩ => ⟨S3x8192x1024, .f32⟩
  | .hbm, ⟨21, _⟩ => ⟨S_, .f32⟩
  | .hbm, ⟨22, _⟩ => ⟨S8192x1024, .f32⟩
  | .hbm, ⟨23, _⟩ => ⟨S1x8192x1024, .f32⟩
  | .hbm, ⟨24, _⟩ => ⟨S3x8192x1024, .f32⟩
  | .hbm, ⟨25, _⟩ => ⟨S3x8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S3x8192x1024, .f32⟩
  | .hbm, ⟨30, _⟩ => ⟨S3x8192x1024, .f32⟩
  | .hbm, ⟨31, _⟩ => ⟨S_, .f32⟩
  | .hbm, ⟨32, _⟩ => ⟨S8192x1024, .f32⟩
  | .hbm, ⟨33, _⟩ => ⟨S1x1024x2048, .f32⟩
  | .hbm, ⟨34, _⟩ => ⟨S1024x2048, .f32⟩
  | .hbm, ⟨35, _⟩ => ⟨S8192x2048, .f32⟩
  | .hbm, ⟨36, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== OutB.lean ====
abbrev S8192x2048 : Shape := ⟨2, ![8192, 2048]⟩
abbrev S1x2048x2048 : Shape := ⟨3, ![1, 2048, 2048]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutBRefIdeal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutC.lean ====
abbrev S8192x2048 : Shape := ⟨2, ![8192, 2048]⟩
abbrev S8192x128 : Shape := ⟨2, ![8192, 128]⟩
abbrev S1x2048x2048 : Shape := ⟨3, ![1, 2048, 2048]⟩
abbrev S512x2048 : Shape := ⟨2, ![512, 2048]⟩
abbrev S512x128 : Shape := ⟨2, ![512, 128]⟩
abbrev S1x2048x512 : Shape := ⟨3, ![1, 2048, 512]⟩
abbrev S512x512 : Shape := ⟨2, ![512, 512]⟩
abbrev S512x1 : Shape := ⟨2, ![512, 1]⟩
abbrev S2048x512 : Shape := ⟨2, ![2048, 512]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x128, .f32⟩
  | .hbm, ⟨4, _⟩ => ⟨S1x2048x2048, .f32⟩
  | .hbm, ⟨5, _⟩ => ⟨S8192x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | .local _ .vmem, ⟨8, _⟩ => ⟨S1x2048x512, .f32⟩
  | .local _ .vmem, ⟨9, _⟩ => ⟨S1x2048x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutCRefIdeal.lean ====
abbrev S8192x2048 : Shape := ⟨2, ![8192, 2048]⟩
abbrev S8192x128 : Shape := ⟨2, ![8192, 128]⟩
abbrev S1x2048x2048 : Shape := ⟨3, ![1, 2048, 2048]⟩
abbrev S8192x48 : Shape := ⟨2, ![8192, 48]⟩
abbrev S_ : Shape := ⟨0, ![]⟩
abbrev S8192x16x3 : Shape := ⟨3, ![8192, 16, 3]⟩
abbrev S8192x2048x1 : Shape := ⟨3, ![8192, 2048, 1]⟩
abbrev S8192x2048x3 : Shape := ⟨3, ![8192, 2048, 3]⟩
abbrev S8192x16x128x3 : Shape := ⟨4, ![8192, 16, 128, 3]⟩
abbrev S8192x16x1x3 : Shape := ⟨4, ![8192, 16, 1, 3]⟩
abbrev S8192x16x128 : Shape := ⟨3, ![8192, 16, 128]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x128, .f32⟩
  | .hbm, ⟨4, _⟩ => ⟨S1x2048x2048, .f32⟩
  | .hbm, ⟨5, _⟩ => ⟨S8192x2048, .f32⟩
  | .hbm, ⟨6, _⟩ => ⟨S8192x48, .f32⟩
  | .hbm, ⟨7, _⟩ => ⟨S8192x48, .f32⟩
  | .hbm, ⟨8, _⟩ => ⟨S8192x48, .f32⟩
  | .hbm, ⟨9, _⟩ => ⟨S_, .f32⟩
  | .hbm, ⟨10, _⟩ => ⟨S8192x48, .f32⟩
  | .hbm, ⟨11, _⟩ => ⟨S8192x48, .f32⟩
  | .hbm, ⟨12, _⟩ => ⟨S_, .f32⟩
  | .hbm, ⟨13, _⟩ => ⟨S8192x48, .f32⟩
  | .hbm, ⟨14, _⟩ => ⟨S8192x48, .f32⟩
  | .hbm, ⟨15, _⟩ => ⟨S8192x16x3, .f32⟩
  | .hbm, ⟨16, _⟩ => ⟨S8192x2048x1, .f32⟩
  | .hbm, ⟨17, _⟩ => ⟨S8192x2048x1, .f32⟩
  | .hbm, ⟨18, _⟩ => ⟨S8192x2048x1, .f32⟩
  | .hbm, ⟨19, _⟩ => ⟨S8192x2048x3, .f32⟩
  | .hbm, ⟨20, _⟩ => ⟨S8192x16x128x3, .f32⟩
  | .hbm, ⟨21, _⟩ => ⟨S8192x16x1x3, .f32⟩
  | .hbm, ⟨22, _⟩ => ⟨S8192x16x128x3, .f32⟩
  | .hbm, ⟨23, _⟩ => ⟨S8192x16x128x3, .f32⟩
  | .hbm, ⟨24, _⟩ => ⟨S_, .f32⟩
  | .hbm, ⟨25, _⟩ => ⟨S8192x16x128, .f32⟩
  | .hbm, ⟨26, _⟩ => ⟨S8192x2048, .f32⟩
  | .hbm, ⟨27, _⟩ => ⟨S2048x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.DecRows.lean ====
module

public import Idealize.ShloMosaic.Lib.Pointwise

@[expose] public section

noncomputable section

/-! THE MATHEMATICS OF ATTENTION FOR ONE TOKEN, over the extended reals: the softmax of one window's logits, as the kernel
    takes it — the 128 buffered keys and the token's own apart, the division last — and as the model states it — the 129
    keys together, every weight divided —, and the mixture of three windows. The two agree where the logits are real.
    Nothing here mentions a program. -/

namespace Cert.DecRows

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- Below the infinity in magnitude: a real number. -/
theorem isReal_of_abs_lt {x : EReal} (h : max x (-x) < ⊤) : IsReal x := by
  induction x with
  | bot => simp at h
  | top => simp at h
  | coe r => exact ⟨r, rfl⟩

/-! ## A sum of terms that share a positive divisor -/

theorem div_coe (x : EReal) {s : ℝ} (hs : 0 < s) : Ideal.div x (s : EReal) = x * ((s⁻¹ : ℝ) : EReal) := by
  unfold Ideal.div
  rw [if_neg (by exact_mod_cast hs.ne'), EReal.coe_inv]

theorem add_mul_coe (x y : EReal) {c : ℝ} (hc : 0 ≤ c) : (x + y) * (c : EReal) = x * (c : EReal) + y * (c : EReal) :=
  EReal.right_distrib_of_nonneg_of_ne_top (by exact_mod_cast hc) (EReal.coe_ne_top c) x y

theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih => rw [Finset.sum_insert ha, Finset.sum_insert ha, add_mul_coe _ _ hc, ih]

/-- Dividing every weight is dividing the weighted sum. -/
theorem sum_div_mul {ι : Type} [Fintype ι] (e v : ι → EReal) {s : ℝ} (hs : 0 < s) :
    ∑ i, Ideal.div (e i) (s : EReal) * v i = Ideal.div (∑ i, e i * v i) (s : EReal) := by
  rw [div_coe _ hs, sum_mul_coe _ _ (inv_nonneg.mpr hs.le)]
  refine Finset.sum_congr rfl fun i _ => ?_
  rw [div_coe _ hs, mul_assoc, mul_comm _ (v i), ← mul_assoc]

/-! ## One window -/

/-- The greatest logit. -/
def top {n : ℕ} (l : Fin n → EReal) : EReal := Finset.univ.fold max ⊥ l

/-- The sum of the exponentials of what the logits leave of the greatest. -/
def total {n : ℕ} (l : Fin n → EReal) : EReal := ∑ k, Ideal.exp (l k - top l)

/-- The window's output, every weight divided by the sum (kept off zero by `c`). -/
def out {n : ℕ} (c : EReal) (l v : Fin n → EReal) : EReal :=
  ∑ k, Ideal.div (Ideal.exp (l k - top l)) (max (total l) c) * v k

/-- The logarithm of the window's sum. -/
def lse {n : ℕ} (c : EReal) (l : Fin n → EReal) : EReal := top l + Ideal.log (max (total l) c)

/-- The greatest logit, the last one apart. -/
def top' (l : Fin 128 → EReal) (a : EReal) : EReal := max (Finset.univ.fold max ⊥ l) a

/-- The sum, the last term apart. -/
def total' (l : Fin 128 → EReal) (a : EReal) : EReal := (∑ k, Ideal.exp (l k - top' l a)) + Ideal.exp (a - top' l a)

/-- The output, the last key apart and the division last. -/
def out' (l : Fin 128 → EReal) (a : EReal) (v : Fin 128 → EReal) (w : EReal) : EReal :=
  Ideal.div ((∑ k, Ideal.exp (l k - top' l a) * v k) + Ideal.exp (a - top' l a) * w) (total' l a)

/-- The logarithm of the sum, the last term apart. -/
def lse' (l : Fin 128 → EReal) (a : EReal) : EReal := top' l a + Ideal.log (total' l a)

theorem top_eq (l : Fin 129 → EReal) : top' (fun k => l k.castSucc) (l (Fin.last 128)) = top l := by
  unfold top top'
  conv_rhs => rw [Fin.univ_castSuccEmb, Finset.fold_cons, Finset.fold_map, max_comm]
  rfl

theorem total_eq (l : Fin 129 → EReal) : total' (fun k => l k.castSucc) (l (Fin.last 128)) = total l := by
  unfold total total'
  rw [top_eq]
  exact (Fin.sum_univ_castSucc fun k : Fin 129 => Ideal.exp (l k - top l)).symm

/-- The greatest logit is one of them. -/
theorem top_mem (l : Fin 129 → EReal) : ∃ k, top l = l k := by
  have h : top l = Finset.univ.sup l := by
    unfold top
    rw [Finset.sup_def]; rfl
  obtain ⟨k, -, hk⟩ := Finset.exists_mem_eq_sup Finset.univ ⟨0, Finset.mem_univ _⟩ l
  exact ⟨k, h.trans hk⟩

/-- With real logits the sum is a real number at least one. -/
theorem total_real (l : Fin 129 → EReal) (h : ∀ k, IsReal (l k)) : ∃ s : ℝ, 1 ≤ s ∧ total l = (s : EReal) := by
  obtain ⟨j, hj⟩ := top_mem l
  choose f hf using h
  refine ⟨∑ k, Real.exp (f k - f j), ?_, ?_⟩
  · have := Finset.single_le_sum (f := fun k => Real.exp (f k - f j)) (fun k _ => (Real.exp_pos _).le) (Finset.mem_univ j)
    simpa using this
  · unfold total
    rw [hj]
    have e : ∀ k, Ideal.exp (l k - l j) = ((Real.exp (f k - f j) : ℝ) : EReal) := fun k => by
      rw [hf k, hf j, ← EReal.coe_sub]; rfl
    simp only [e]
    exact (map_sum (⟨⟨fun r : ℝ => (r : EReal), EReal.coe_zero⟩, EReal.coe_add⟩ : ℝ →+ EReal) _ _).symm

theorem top_real (l : Fin 129 → EReal) (h : ∀ k, IsReal (l k)) : IsReal (top l) := by
  obtain ⟨j, hj⟩ := top_mem l
  rw [hj]; exact h j

theorem log_real {s : ℝ} (hs : 0 < s) : Ideal.log (s : EReal) = ((Real.log s : ℝ) : EReal) := by
  show (if s ≤ 0 then (⊥ : EReal) else _) = _
  rw [if_neg (not_le.mpr hs)]

theorem out_eq (c : EReal) (hc : c ≤ 1) (l v : Fin 129 → EReal) (h : ∀ k, IsReal (l k)) :
    out' (fun k => l k.castSucc) (l (Fin.last 128)) (fun k => v k.castSucc) (v (Fin.last 128)) = out c l v := by
  obtain ⟨s, h1, hs⟩ := total_real l h
  have hm : max (total l) c = (s : EReal) := by
    rw [hs]; exact max_eq_left (hc.trans (by exact_mod_cast h1))
  unfold out out'
  rw [hm, sum_div_mul _ _ (lt_of_lt_of_le one_pos h1), total_eq, top_eq, hs]
  exact congrArg (Ideal.div · (s : EReal)) (Fin.sum_univ_castSucc fun k : Fin 129 => Ideal.exp (l k - top l) * v k).symm

theorem lse_eq (c : EReal) (hc : c ≤ 1) (l : Fin 129 → EReal) (h : ∀ k, IsReal (l k)) :
    lse' (fun k => l k.castSucc) (l (Fin.last 128)) = lse c l ∧ IsReal (lse c l) := by
  obtain ⟨s, h1, hs⟩ := total_real l h
  have hm : max (total l) c = (s : EReal) := by
    rw [hs]; exact max_eq_left (hc.trans (by exact_mod_cast h1))
  unfold lse lse'
  rw [hm, total_eq, top_eq, hs]
  refine ⟨rfl, ?_⟩
  rw [log_real (lt_of_lt_of_le one_pos h1)]
  exact (top_real l h).add ⟨_, rfl⟩

/-! ## The mixture of three windows -/

/-- The three outputs, each weight divided by the sum of the three. -/
def mix (a b c x y z : EReal) : EReal :=
  Ideal.div (Ideal.exp (a - max (max a b) c)) (Ideal.exp (a - max (max a b) c) + Ideal.exp (b - max (max a b) c) + Ideal.exp (c - max (max a b) c)) * x
  + Ideal.div (Ideal.exp (b - max (max a b) c)) (Ideal.exp (a - max (max a b) c) + Ideal.exp (b - max (max a b) c) + Ideal.exp (c - max (max a b) c)) * y
  + Ideal.div (Ideal.exp (c - max (max a b) c)) (Ideal.exp (a - max (max a b) c) + Ideal.exp (b - max (max a b) c) + Ideal.exp (c - max (max a b) c)) * z

/-- The three outputs, weighted and then divided. -/
def mix' (a b c x y z : EReal) : EReal :=
  Ideal.div (Ideal.exp (a - max (max a b) c) * x + Ideal.exp (b - max (max a b) c) * y + Ideal.exp (c - max (max a b) c) * z)
    (Ideal.exp (a - max (max a b) c) + Ideal.exp (b - max (max a b) c) + Ideal.exp (c - max (max a b) c))

theorem mix_eq (a b c x y z : EReal) (ha : IsReal a) (hb : IsReal b) (hc : IsReal c) : mix' a b c x y z = mix a b c x y z := by
  obtain ⟨m, hm⟩ : IsReal (max (max a b) c) := by
    rcases max_choice (max a b) c with h | h
    · rcases max_choice a b with h' | h'
      · rw [h, h']; exact ha
      · rw [h, h']; exact hb
    · rw [h]; exact hc
  obtain ⟨p, rfl⟩ := ha
  obtain ⟨q, rfl⟩ := hb
  obtain ⟨r, rfl⟩ := hc
  have ex : ∀ t : ℝ, Ideal.exp ((t : EReal) - (m : EReal)) = ((Real.exp (t - m) : ℝ) : EReal) := fun t => by
    rw [← EReal.coe_sub]; rfl
  have hs : 0 < Real.exp (p - m) + Real.exp (q - m) + Real.exp (r - m) := by positivity
  unfold mix mix'
  rw [hm, ex, ex, ex, ← EReal.coe_add, ← EReal.coe_add, div_coe _ hs, div_coe _ hs, div_coe _ hs, div_coe _ hs,
    add_mul_coe _ _ (inv_nonneg.mpr hs.le), add_mul_coe _ _ (inv_nonneg.mpr hs.le)]
  simp only [mul_assoc, mul_comm, mul_left_comm]

/-! ## The attention of one token, one head and one coordinate -/

/-- The logit of a key: its product with the query, scaled, plus the bias. -/
def logit (scale : EReal) (q k : Fin 128 → EReal) (b : EReal) : EReal := (∑ j, q j * k j) * scale + b

theorem logit_real {scale : EReal} (hs : IsReal scale) (q k : Fin 128 → EReal) (b : EReal) (hq : ∀ j, IsReal (q j)) (hk : ∀ j, IsReal (k j))
    (hb : IsReal b) : IsReal (logit scale q k b) :=
  ((IsReal.sum _ _ fun j => (hq j).mul (hk j)).mul hs).add hb

/-- The buffered keys' entries, then the token's own. -/
def ext (o : Fin 128 → EReal) (a : EReal) (k : Fin 129) : EReal := if h : k.val < 128 then o ⟨k.val, h⟩ else a

theorem ext_old (o : Fin 128 → EReal) (a : EReal) (k : Fin 128) : ext o a k.castSucc = o k := by
  unfold ext
  rw [dif_pos (show k.castSucc.val < 128 from k.isLt)]
  rfl

theorem ext_own (o : Fin 128 → EReal) (a : EReal) : ext o a (Fin.last 128) = a := by
  unfold ext
  rw [dif_neg (by simp)]

theorem ext_real (o : Fin 128 → EReal) (a : EReal) (ho : ∀ k, IsReal (o k)) (ha : IsReal a) (k : Fin 129) : IsReal (ext o a k) := by
  unfold ext
  split
  · exact ho _
  · exact ha

/-- The scale `1 / √128`, as the programs write it. -/
abbrev scale : EReal := Ideal.ofBits FTy.f32 0x3DB504F3#32

/-- The number that keeps a sum off zero. -/
abbrev tiny : EReal := Ideal.ofBits FTy.f32 0x0DA24260#32

theorem scale_real : IsReal scale := by
  refine ⟨1 * ((2 ^ 23 + 3474675 : ℕ) : ℝ) * (2 : ℝ) ^ ((123 : ℤ) - 127 - 23), ?_⟩
  simp [scale, Ideal.ofBits, Ideal.ieee]

theorem tiny_le : tiny ≤ 1 := by
  have e : tiny = ((1 * ((2 ^ 23 + 2245216 : ℕ) : ℝ) * (2 : ℝ) ^ ((27 : ℤ) - 127 - 23) : ℝ) : EReal) := by
    simp [tiny, Ideal.ofBits, Ideal.ieee]
  rw [e]
  exact_mod_cast (by norm_num : (1 * ((2 ^ 23 + 2245216 : ℕ) : ℝ) * (2 : ℝ) ^ ((27 : ℤ) - 127 - 23)) ≤ 1)

section Token

variable (x0 : FVec Ideal ⟨5, ![8, 3, 3, 8, 128]⟩ .f32) (x1 : FVec Ideal ⟨6, ![2, 8, 128, 2, 8, 128]⟩ .f32)
  (x2 : FVec Ideal ⟨6, ![2, 8, 512, 2, 8, 128]⟩ .f32) (x3 : FVec Ideal ⟨6, ![2, 8, 2048, 2, 8, 128]⟩ .f32) (x4 : FVec Ideal ⟨3, ![8, 3, 129]⟩ .f32)

/-- The logits of token `b`, head `h`, window `g`, its buffered keys `K`. -/
def logits (K : Fin 128 → Fin 128 → EReal) (g : Fin 3) (b h : Fin 8) (k : Fin 129) : EReal :=
  logit scale (fun j => x0 (ix5 b g 0 h j)) (fun j => ext (fun i => K i j) (x0 (ix5 b g 1 h j)) k) (x4 (ix3 h g k))

/-- The values of token `b`, head `h`, window `g`, at coordinate `d`, its buffered values `V`. -/
def values (V : Fin 128 → EReal) (g : Fin 3) (b h : Fin 8) (d : Fin 128) : Fin 129 → EReal := ext V (x0 (ix5 b g 2 h d))

/-- The buffered keys and values of the three windows: every row, every fourth, every sixteenth. -/
def buf0 (s : Fin 2) (b h : Fin 8) (k j : Fin 128) : EReal := x1 (ix6 0 b k s h j)
def buf1 (s : Fin 2) (b h : Fin 8) (k j : Fin 128) : EReal := x2 (ix6 0 b ⟨4 * k.val, by omega⟩ s h j)
def buf2 (s : Fin 2) (b h : Fin 8) (k j : Fin 128) : EReal := x3 (ix6 0 b ⟨16 * k.val, by omega⟩ s h j)

/-- The attention of token `b`, head `h`, at coordinate `d`, as the model states it. -/
def attend (b h : Fin 8) (d : Fin 128) : EReal :=
  mix (lse tiny (logits x0 x4 (buf0 x1 0 b h) 0 b h)) (lse tiny (logits x0 x4 (buf1 x2 0 b h) 1 b h)) (lse tiny (logits x0 x4 (buf2 x3 0 b h) 2 b h))
    (out tiny (logits x0 x4 (buf0 x1 0 b h) 0 b h) (values x0 (fun k => buf0 x1 1 b h k d) 0 b h d))
    (out tiny (logits x0 x4 (buf1 x2 0 b h) 1 b h) (values x0 (fun k => buf1 x2 1 b h k d) 1 b h d))
    (out tiny (logits x0 x4 (buf2 x3 0 b h) 2 b h) (values x0 (fun k => buf2 x3 1 b h k d) 2 b h d))

/-- One window's output and logarithm as the kernel takes them. -/
def outK (K : Fin 128 → Fin 128 → EReal) (V : Fin 128 → EReal) (g : Fin 3) (b h : Fin 8) (d : Fin 128) : EReal :=
  out' (fun k => logit scale (fun j => x0 (ix5 b g 0 h j)) (K k) (x4 (ix3 h g k.castSucc)))
    (logit scale (fun j => x0 (ix5 b g 0 h j)) (fun j => x0 (ix5 b g 1 h j)) (x4 (ix3 h g (Fin.last 128)))) V (x0 (ix5 b g 2 h d))

def lseK (K : Fin 128 → Fin 128 → EReal) (g : Fin 3) (b h : Fin 8) : EReal :=
  lse' (fun k => logit scale (fun j => x0 (ix5 b g 0 h j)) (K k) (x4 (ix3 h g k.castSucc)))
    (logit scale (fun j => x0 (ix5 b g 0 h j)) (fun j => x0 (ix5 b g 1 h j)) (x4 (ix3 h g (Fin.last 128))))

/-- The attention as the kernel takes it. -/
def attendK (b h : Fin 8) (d : Fin 128) : EReal :=
  mix' (lseK x0 x4 (buf0 x1 0 b h) 0 b h) (lseK x0 x4 (buf1 x2 0 b h) 1 b h) (lseK x0 x4 (buf2 x3 0 b h) 2 b h)
    (outK x0 x4 (buf0 x1 0 b h) (fun k => buf0 x1 1 b h k d) 0 b h d)
    (outK x0 x4 (buf1 x2 0 b h) (fun k => buf1 x2 1 b h k d) 1 b h d)
    (outK x0 x4 (buf2 x3 0 b h) (fun k => buf2 x3 1 b h k d) 2 b h d)

theorem logits_old (K : Fin 128 → Fin 128 → EReal) (g : Fin 3) (b h : Fin 8) (k : Fin 128) :
    logits x0 x4 K g b h k.castSucc = logit scale (fun j => x0 (ix5 b g 0 h j)) (K k) (x4 (ix3 h g k.castSucc)) := by
  unfold logits
  simp only [ext_old]

theorem logits_own (K : Fin 128 → Fin 128 → EReal) (g : Fin 3) (b h : Fin 8) :
    logits x0 x4 K g b h (Fin.last 128) = logit scale (fun j => x0 (ix5 b g 0 h j)) (fun j => x0 (ix5 b g 1 h j)) (x4 (ix3 h g (Fin.last 128))) := by
  unfold logits
  simp only [ext_own]

variable (h0 : ∀ i, IsReal (x0 i)) (h1 : ∀ i, IsReal (x1 i)) (h2 : ∀ i, IsReal (x2 i)) (h3 : ∀ i, IsReal (x3 i)) (h4 : ∀ i, IsReal (x4 i))
include h0 h4

theorem logits_real (K : Fin 128 → Fin 128 → EReal) (hK : ∀ k j, IsReal (K k j)) (g : Fin 3) (b h : Fin 8) (k : Fin 129) : IsReal (logits x0 x4 K g b h k) :=
  logit_real scale_real _ _ _ (fun _ => h0 _) (fun j => ext_real _ _ (fun i => hK i j) (h0 _) k) (h4 _)

theorem lseK_eq (K : Fin 128 → Fin 128 → EReal) (hK : ∀ k j, IsReal (K k j)) (g : Fin 3) (b h : Fin 8) :
    lseK x0 x4 K g b h = lse tiny (logits x0 x4 K g b h) ∧ IsReal (lse tiny (logits x0 x4 K g b h)) := by
  have e := lse_eq tiny tiny_le (logits x0 x4 K g b h) (logits_real x0 x4 h0 h4 K hK g b h)
  refine ⟨?_, e.2⟩
  rw [← e.1]
  unfold lseK
  simp only [logits_old, logits_own]

theorem outK_eq (K : Fin 128 → Fin 128 → EReal) (hK : ∀ k j, IsReal (K k j)) (V : Fin 128 → EReal) (g : Fin 3) (b h : Fin 8) (d : Fin 128) :
    outK x0 x4 K V g b h d = out tiny (logits x0 x4 K g b h) (values x0 V g b h d) := by
  rw [← out_eq tiny tiny_le (logits x0 x4 K g b h) (values x0 V g b h d) (logits_real x0 x4 h0 h4 K hK g b h)]
  unfold outK values
  simp only [logits_old, logits_own, ext_old, ext_own]

include h1 h2 h3

/-- With real arguments the kernel's attention is the model's. -/
theorem attendK_eq (b h : Fin 8) (d : Fin 128) : attendK x0 x1 x2 x3 x4 b h d = attend x0 x1 x2 x3 x4 b h d := by
  obtain ⟨e0, r0⟩ := lseK_eq x0 x4 h0 h4 (buf0 x1 0 b h) (fun _ _ => h1 _) 0 b h
  obtain ⟨e1, r1⟩ := lseK_eq x0 x4 h0 h4 (buf1 x2 0 b h) (fun _ _ => h2 _) 1 b h
  obtain ⟨e2, r2⟩ := lseK_eq x0 x4 h0 h4 (buf2 x3 0 b h) (fun _ _ => h3 _) 2 b h
  unfold attendK attend
  rw [e0, e1, e2, outK_eq x0 x4 h0 h4 (buf0 x1 0 b h) (fun _ _ => h1 _), outK_eq x0 x4 h0 h4 (buf1 x2 0 b h) (fun _ _ => h2 _),
    outK_eq x0 x4 h0 h4 (buf2 x3 0 b h) (fun _ _ => h3 _), mix_eq _ _ _ _ _ _ r0 r1 r2]

end Token

end Cert.DecRows

end
-- ==== Proof.DecPure.lean ====
module

public import proofs.«01_k».proof.Proof.DecRows
public import proofs.«01_k».proof.Proof.Gen.DecIdeal.Value
public import Idealize.ShloMosaic.Lib.Pointwise

@[expose] public section

set_option maxRecDepth 16384

noncomputable section

/-! THE TOKEN'S ATTENTION, READ AT AN INDEX: what the body stores, over the blocks it loads. The body treats its three
    windows alike; the operations of one window are written once, and read at an index once. -/

namespace Cert.DecIdeal.Hand

open Cert.DecIdeal Cert.DecIdeal.Gen Cert.DecRows
open Idealize.ShloMosaic Idealize.ShloMosaic.TcCoe Idealize.SL.Sem

/-! ## One window's operations -/

section Ops

variable {F : FTy → Type} [FloatOps F]

def kv (v : Vec F S1x1x128x1x1x8x128 .f32) : FVec F S128x8x128 .f32 := shapeCast S128x8x128 v shapeCasts_S1x1x128x1x1x8x128_S128x8x128
def tok (v : Vec F S1x1x1x8x128 .f32) : FVec F S8x128 .f32 := shapeCast S8x128 v shapeCasts_S1x1x1x8x128_S8x128
def biases (v : Vec F S1x128x8x128 .f32) : FVec F S128x8x128 .f32 := shapeCast S128x8x128 v shapeCasts_S1x128x8x128_S128x8x128
def bias1 (v : Vec F S1x1x8x128 .f32) : FVec F S8x128 .f32 := shapeCast S8x128 v shapeCasts_S1x1x8x128_S8x128

/-- The logits of the buffered keys. -/
def olds (q : FVec F S8x128 .f32) (k b : FVec F S128x8x128 .f32) : FVec F S128x8x128 .f32 :=
  addf (broadcastTo S128x8x128 (mulf (shapeCast S128x8x1 (multiReduction .add [2] S128x8 (mulf (broadcastTo S128x8x128 (shapeCast S1x8x128 q shapeCasts_S8x128_S1x8x128) broadcasts_S1x8x128_S128x8x128) k) 0x00000000#32 reduces_S128x8x128_S128x8 (.inl rfl) rfl) shapeCasts_S128x8_S128x8x1) (broadcast S128x8x1 (Scalar.ofBits .f32 0x3DB504F3#32))) broadcasts_S128x8x1_S128x8x128) b

/-- The logit of the token's own key. -/
def own (q k b : FVec F S8x128 .f32) : FVec F S8x128 .f32 :=
  addf (broadcastTo S8x128 (mulf (shapeCast S8x1 (multiReduction .add [1] S8 (mulf q k) 0x00000000#32 reduces_S8x128_S8 (.inl rfl) rfl) shapeCasts_S8_S8x1) (broadcast S8x1 (Scalar.ofBits .f32 0x3DB504F3#32))) broadcasts_S8x1_S8x128) b

def tops (s : FVec F S128x8x128 .f32) (a : FVec F S8x128 .f32) : FVec F S8x128 .f32 :=
  maximumf (multiReduction .maximumf [0] S8x128 s 0xFF800000#32 reduces_S128x8x128_S8x128 (.inl rfl) rfl) a

def exps (s : FVec F S128x8x128 .f32) (t : FVec F S8x128 .f32) : FVec F S128x8x128 .f32 :=
  exp (subf s (broadcastTo S128x8x128 (shapeCast S1x8x128 t shapeCasts_S8x128_S1x8x128) broadcasts_S1x8x128_S128x8x128))

def sums (e : FVec F S128x8x128 .f32) (f : FVec F S8x128 .f32) : FVec F S8x128 .f32 :=
  addf (multiReduction .add [0] S8x128 e 0x00000000#32 reduces_S128x8x128_S8x128 (.inl rfl) rfl) f

/-- A window's sum of exponentials. -/
def windowSum (s : FVec F S128x8x128 .f32) (a : FVec F S8x128 .f32) : FVec F S8x128 .f32 :=
  sums (exps s (tops s a)) (exp (subf a (tops s a)))

/-- A window's output. -/
def windowOut (s : FVec F S128x8x128 .f32) (a : FVec F S8x128 .f32) (v : FVec F S128x8x128 .f32) (w : FVec F S8x128 .f32) : FVec F S8x128 .f32 :=
  divf (sums (mulf (exps s (tops s a)) v) (mulf (exp (subf a (tops s a))) w)) (windowSum s a)

/-- The logarithm of a window's sum. -/
def windowLse (s : FVec F S128x8x128 .f32) (a : FVec F S8x128 .f32) : FVec F S8x128 .f32 :=
  addf (tops s a) (log (windowSum s a))

/-- The mixture of the three windows. -/
def mixture (a b c x y z : FVec F S8x128 .f32) : FVec F S8x128 .f32 :=
  divf (addf (addf (mulf (exp (subf a (maximumf (maximumf a b) c))) x) (mulf (exp (subf b (maximumf (maximumf a b) c))) y)) (mulf (exp (subf c (maximumf (maximumf a b) c))) z))
    (addf (addf (exp (subf a (maximumf (maximumf a b) c))) (exp (subf b (maximumf (maximumf a b) c)))) (exp (subf c (maximumf (maximumf a b) c))))

/-- What the body stores. -/
def stored (x0 : Vec F S1x3x3x8x128 .f32) (x1 x2 x3 : Vec F S1x1x128x1x2x8x128 .f32) (x4 : Vec F S3x129x8x128 .f32) : FVec F S8x128 .f32 :=
  mixture
    (windowLse (olds (tok (View.ld x0 r0_0)) (kv (View.ld x1 r0_3)) (biases (View.ld x4 r0_5))) (own (tok (View.ld x0 r0_0)) (tok (View.ld x0 r0_1)) (bias1 (View.ld x4 r0_6))))
    (windowLse (olds (tok (View.ld x0 r0_7)) (kv (View.ld x2 r0_3)) (biases (View.ld x4 r0_10))) (own (tok (View.ld x0 r0_7)) (tok (View.ld x0 r0_8)) (bias1 (View.ld x4 r0_11))))
    (windowLse (olds (tok (View.ld x0 r0_12)) (kv (View.ld x3 r0_3)) (biases (View.ld x4 r0_15))) (own (tok (View.ld x0 r0_12)) (tok (View.ld x0 r0_13)) (bias1 (View.ld x4 r0_16))))
    (windowOut (olds (tok (View.ld x0 r0_0)) (kv (View.ld x1 r0_3)) (biases (View.ld x4 r0_5))) (own (tok (View.ld x0 r0_0)) (tok (View.ld x0 r0_1)) (bias1 (View.ld x4 r0_6))) (kv (View.ld x1 r0_4)) (tok (View.ld x0 r0_2)))
    (windowOut (olds (tok (View.ld x0 r0_7)) (kv (View.ld x2 r0_3)) (biases (View.ld x4 r0_10))) (own (tok (View.ld x0 r0_7)) (tok (View.ld x0 r0_8)) (bias1 (View.ld x4 r0_11))) (kv (View.ld x2 r0_4)) (tok (View.ld x0 r0_9)))
    (windowOut (olds (tok (View.ld x0 r0_12)) (kv (View.ld x3 r0_3)) (biases (View.ld x4 r0_15))) (own (tok (View.ld x0 r0_12)) (tok (View.ld x0 r0_13)) (bias1 (View.ld x4 r0_16))) (kv (View.ld x3 r0_4)) (tok (View.ld x0 r0_14)))

theorem zero3 : ![0, 0, 0] = (0 : Fin 3 → ℕ) := by decide

theorem out_eq (x0 : Vec F S1x3x3x8x128 .f32) (x1 x2 x3 : Vec F S1x1x128x1x2x8x128 .f32) (x4 : Vec F S3x129x8x128 .f32) :
    out0_5 x0 x1 x2 x3 x4 = shapeCast S1x8x128 (stored x0 x1 x2 x3 x4) shapeCasts_S8x128_S1x8x128 := by
  unfold out0_5
  rw [View.canon_cons_unit_zero (S := S1x8x128) zero3]
  rfl

end Ops

/-! ## The operations, at an index -/

theorem kv_at (v : FVec Ideal S1x1x128x1x1x8x128 .f32) (k : Fin 128) (h : Fin 8) (d : Fin 128) : kv v (ix3 k h d) = v (ix7 0 0 k 0 0 h d) := by
  pointwise [kv]

theorem tok_at (v : FVec Ideal S1x1x1x8x128 .f32) (h : Fin 8) (d : Fin 128) : tok v (ix2 h d) = v (ix5 0 0 0 h d) := by
  pointwise [tok]

theorem biases_at (v : FVec Ideal S1x128x8x128 .f32) (k : Fin 128) (h : Fin 8) (d : Fin 128) : biases v (ix3 k h d) = v (ix4 0 k h d) := by
  pointwise [biases]

theorem bias1_at (v : FVec Ideal S1x1x8x128 .f32) (h : Fin 8) (d : Fin 128) : bias1 v (ix2 h d) = v (ix4 0 0 h d) := by
  pointwise [bias1]

theorem olds_at (q : FVec Ideal S8x128 .f32) (k b : FVec Ideal S128x8x128 .f32) (i : Fin 128) (h : Fin 8) (d : Fin 128) :
    olds q k b (ix3 i h d) = logit (Ideal.ofBits .f32 0x3DB504F3#32) (fun j => q (ix2 h j)) (fun j => k (ix3 i h j)) (b (ix3 i h d)) := by
  pointwise [olds, logit]

theorem own_at (q k b : FVec Ideal S8x128 .f32) (h : Fin 8) (d : Fin 128) :
    own q k b (ix2 h d) = logit (Ideal.ofBits .f32 0x3DB504F3#32) (fun j => q (ix2 h j)) (fun j => k (ix2 h j)) (b (ix2 h d)) := by
  pointwise [own, logit]

theorem bot_bits : Ideal.ofBits FTy.f32 4286578688#32 = (⊥ : EReal) := by
  simp [Ideal.ofBits, Ideal.ieee]

theorem tops_at (s : FVec Ideal S128x8x128 .f32) (a : FVec Ideal S8x128 .f32) (h : Fin 8) (d : Fin 128) :
    tops s a (ix2 h d) = top' (fun k => s (ix3 k h d)) (a (ix2 h d)) := by
  unfold top'
  rw [← bot_bits]
  pointwise [tops]

theorem exps_at (s : FVec Ideal S128x8x128 .f32) (t : FVec Ideal S8x128 .f32) (k : Fin 128) (h : Fin 8) (d : Fin 128) :
    exps s t (ix3 k h d) = Ideal.exp (s (ix3 k h d) - t (ix2 h d)) := by
  pointwise [exps]

theorem sums_at (e : FVec Ideal S128x8x128 .f32) (f : FVec Ideal S8x128 .f32) (h : Fin 8) (d : Fin 128) :
    sums e f (ix2 h d) = (∑ k : Fin 128, e (ix3 k h d)) + f (ix2 h d) := by
  pointwise [sums]

theorem exp_sub_at {s : Shape} (a b : FVec Ideal s .f32) (i : s.Idx) : exp (subf a b) i = Ideal.exp (a i - b i) := rfl
theorem mul_at {s : Shape} (a b : FVec Ideal s .f32) (i : s.Idx) : mulf a b i = a i * b i := rfl
theorem div_at {s : Shape} (a b : FVec Ideal s .f32) (i : s.Idx) : divf a b i = Ideal.div (a i) (b i) := rfl
theorem add_log_at {s : Shape} (a b : FVec Ideal s .f32) (i : s.Idx) : addf a (log b) i = a i + Ideal.log (b i) := rfl

theorem windowSum_at (s : FVec Ideal S128x8x128 .f32) (a : FVec Ideal S8x128 .f32) (h : Fin 8) (d : Fin 128) :
    windowSum s a (ix2 h d) = total' (fun k => s (ix3 k h d)) (a (ix2 h d)) := by
  unfold windowSum total'
  rw [sums_at, exp_sub_at, tops_at]
  simp only [exps_at, tops_at]

theorem windowOut_at (s : FVec Ideal S128x8x128 .f32) (a : FVec Ideal S8x128 .f32) (v : FVec Ideal S128x8x128 .f32) (w : FVec Ideal S8x128 .f32) (h : Fin 8) (d : Fin 128) :
    windowOut s a v w (ix2 h d) = out' (fun k => s (ix3 k h d)) (a (ix2 h d)) (fun k => v (ix3 k h d)) (w (ix2 h d)) := by
  unfold windowOut out'
  rw [div_at, windowSum_at, sums_at, mul_at, exp_sub_at, tops_at]
  simp only [mul_at, exps_at, tops_at]

theorem windowLse_at (s : FVec Ideal S128x8x128 .f32) (a : FVec Ideal S8x128 .f32) (h : Fin 8) (d : Fin 128) :
    windowLse s a (ix2 h d) = lse' (fun k => s (ix3 k h d)) (a (ix2 h d)) := by
  unfold windowLse lse'
  rw [add_log_at, windowSum_at, tops_at]

theorem mixture_at (a b c x y z : FVec Ideal S8x128 .f32) (i : S8x128.Idx) :
    mixture a b c x y z i = mix' (a i) (b i) (c i) (x i) (y i) (z i) := rfl

/-! ## The loads, at an index -/

theorem ld_tok (x : Vec Ideal S1x3x3x8x128 .f32) (g s : ℕ) (hg : g < 3) (hs : s < 3) (hb) (h : Fin 8) (d : Fin 128) :
    View.ld x (Rect.unit (s := S1x3x3x8x128) ![0, g, s, 0, 0] S1x1x1x8x128.size hb) (ix5 0 0 0 h d) = x (ix5 0 ⟨g, hg⟩ ⟨s, hs⟩ h d) := by
  refine congrArg x ?_
  funext a; apply Fin.ext
  match a with
  | ⟨0, _⟩ => rfl
  | ⟨1, _⟩ => show g + 1 * 0 = g; omega
  | ⟨2, _⟩ => show s + 1 * 0 = s; omega
  | ⟨3, _⟩ => show 0 + 1 * h.val = h.val; omega
  | ⟨4, _⟩ => show 0 + 1 * d.val = d.val; omega

theorem ld_kv (x : Vec Ideal S1x1x128x1x2x8x128 .f32) (s : ℕ) (hs : s < 2) (hb) (k : Fin 128) (h : Fin 8) (d : Fin 128) :
    View.ld x (Rect.unit (s := S1x1x128x1x2x8x128) ![0, 0, 0, 0, s, 0, 0] S1x1x128x1x1x8x128.size hb) (ix7 0 0 k 0 0 h d) = x (ix7 0 0 k 0 ⟨s, hs⟩ h d) := by
  refine congrArg x ?_
  funext a; apply Fin.ext
  match a with
  | ⟨0, _⟩ => rfl
  | ⟨1, _⟩ => rfl
  | ⟨2, _⟩ => show 0 + 1 * k.val = k.val; omega
  | ⟨3, _⟩ => rfl
  | ⟨4, _⟩ => show s + 1 * 0 = s; omega
  | ⟨5, _⟩ => show 0 + 1 * h.val = h.val; omega
  | ⟨6, _⟩ => show 0 + 1 * d.val = d.val; omega

theorem ld_biases (x : Vec Ideal S3x129x8x128 .f32) (g : ℕ) (hg : g < 3) (hb) (k : Fin 128) (h : Fin 8) (d : Fin 128) :
    View.ld x (Rect.unit (s := S3x129x8x128) ![g, 0, 0, 0] S1x128x8x128.size hb) (ix4 0 k h d) = x (ix4 ⟨g, hg⟩ k.castSucc h d) := by
  refine congrArg x ?_
  funext a; apply Fin.ext
  match a with
  | ⟨0, _⟩ => show g + 1 * 0 = g; omega
  | ⟨1, _⟩ => show 0 + 1 * k.val = k.val; omega
  | ⟨2, _⟩ => show 0 + 1 * h.val = h.val; omega
  | ⟨3, _⟩ => show 0 + 1 * d.val = d.val; omega

theorem ld_bias1 (x : Vec Ideal S3x129x8x128 .f32) (g : ℕ) (hg : g < 3) (hb) (h : Fin 8) (d : Fin 128) :
    View.ld x (Rect.unit (s := S3x129x8x128) ![g, 128, 0, 0] S1x1x8x128.size hb) (ix4 0 0 h d) = x (ix4 ⟨g, hg⟩ (Fin.last 128) h d) := by
  refine congrArg x ?_
  funext a; apply Fin.ext
  match a with
  | ⟨0, _⟩ => show g + 1 * 0 = g; omega
  | ⟨1, _⟩ => show 128 + 1 * 0 = 128; omega
  | ⟨2, _⟩ => show 0 + 1 * h.val = h.val; omega
  | ⟨3, _⟩ => show 0 + 1 * d.val = d.val; omega

end Cert.DecIdeal.Hand

end
-- ==== Proof.DecValue.lean ====
module

public import proofs.«01_k».proof.Proof.DecPure

@[expose] public section

set_option maxRecDepth 16384

noncomputable section

/-! THE VALUE OF THE TOKEN'S ATTENTION: each point takes one token's queries, keys and values and its rows of the three
    buffers, and writes that token's attention; so the array ends at the attention of the eight tokens. -/

namespace Cert.DecIdeal.Hand

open Cert.DecIdeal Cert.DecIdeal.Gen Cert.DecRows
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## The arguments, and what the region finds of them -/

abbrev arg0 (c : Dev nD) : FVec Ideal S8x3x3x8x128 .f32 := m ((c.tc : Thread nD τ).loc main_arg0)
abbrev arg1 (c : Dev nD) : FVec Ideal S2x8x128x2x8x128 .f32 := m ((c.tc : Thread nD τ).loc main_arg1)
abbrev arg2 (c : Dev nD) : FVec Ideal S2x8x512x2x8x128 .f32 := m ((c.tc : Thread nD τ).loc main_arg2)
abbrev arg3 (c : Dev nD) : FVec Ideal S2x8x2048x2x8x128 .f32 := m ((c.tc : Thread nD τ).loc main_arg3)
abbrev arg4 (c : Dev nD) : FVec Ideal S8x3x129 .f32 := m ((c.tc : Thread nD τ).loc main_arg4)

theorem spread_at (v : FVec Ideal S8x3x129 .f32) (h1 h2 h3) (g : Fin 3) (k : Fin 129) (h : Fin 8) (d : Fin 128) :
    broadcastInDim S3x129x8x128 ![0, 1, 2, 3] h3 (broadcastInDim S3x129x8x1 ![0, 1, 2] h2 (transpose S3x129x8 [1, 2, 0] v h1)) (ix4 g k h d) = v (ix3 h g k) := by
  pointwise

theorem bias_at (c : Dev nD) (g : Fin 3) (k : Fin 129) (h : Fin 8) (d : Fin 128) :
    (V m c main_v2 : FVec Ideal S3x129x8x128 .f32) (ix4 g k h d) = arg4 m c (ix3 h g k) := by
  have e : (V m c main_v2 : FVec Ideal S3x129x8x128 .f32)
      = broadcastInDim S3x129x8x128 ![0, 1, 2, 3] bcast_S3x129x8x1_S3x129x8x128_0_1_2_3 (broadcastInDim S3x129x8x1 ![0, 1, 2] bcast_S3x129x8_S3x129x8x1_0_1_2 (transpose S3x129x8 [1, 2, 0] (arg4 m c) transposes_S8x3x129_S3x129x8_1_2_0)) := by
    unfold V
    after_results_simp <;> rfl
  exact (congrFun e _).trans (spread_at _ _ _ _ g k h d)

theorem rows0_at (c : Dev nD) (a : Fin 2) (b : Fin 8) (k : Fin 128) (z : Fin 1) (s : Fin 2) (h : Fin 8) (j : Fin 128) :
    (V m c main_v3 : FVec Ideal S2x8x128x1x2x8x128 .f32) (ix7 a b k z s h j) = arg1 m c (ix6 a b k s h j) := by
  have e : (V m c main_v3 : FVec Ideal S2x8x128x1x2x8x128 .f32) = shapeCast S2x8x128x1x2x8x128 (arg1 m c) shapeCasts_S2x8x128x2x8x128_S2x8x128x1x2x8x128 := by
    unfold V
    after_results_simp <;> rfl
  refine (congrFun e _).trans ?_
  pointwise

theorem rows1_at (c : Dev nD) (a : Fin 2) (b : Fin 8) (k : Fin 128) (s : Fin 2) (h : Fin 8) (j : Fin 128) :
    (V m c main_v4 : FVec Ideal S2x8x128x4x2x8x128 .f32) (ix7 a b k 0 s h j) = arg2 m c (ix6 a b ⟨4 * k.val, by omega⟩ s h j) := by
  have e : (V m c main_v4 : FVec Ideal S2x8x128x4x2x8x128 .f32) = shapeCast S2x8x128x4x2x8x128 (arg2 m c) shapeCasts_S2x8x512x2x8x128_S2x8x128x4x2x8x128 := by
    unfold V
    after_results_simp <;> rfl
  refine (congrFun e _).trans ?_
  pointwise
  exact congrArg (fun n : Fin 512 => arg2 m c (ix6 a b n s h j)) (Fin.ext (Nat.mul_comm _ _))

theorem rows2_at (c : Dev nD) (a : Fin 2) (b : Fin 8) (k : Fin 128) (s : Fin 2) (h : Fin 8) (j : Fin 128) :
    (V m c main_v5 : FVec Ideal S2x8x128x16x2x8x128 .f32) (ix7 a b k 0 s h j) = arg3 m c (ix6 a b ⟨16 * k.val, by omega⟩ s h j) := by
  have e : (V m c main_v5 : FVec Ideal S2x8x128x16x2x8x128 .f32) = shapeCast S2x8x128x16x2x8x128 (arg3 m c) shapeCasts_S2x8x2048x2x8x128_S2x8x128x16x2x8x128 := by
    unfold V
    after_results_simp <;> rfl
  refine (congrFun e _).trans ?_
  pointwise
  exact congrArg (fun n : Fin 2048 => arg3 m c (ix6 a b n s h j)) (Fin.ext (Nat.mul_comm _ _))

/-! ## The windows' blocks -/

theorem index_facts : ∀ t : Fin cfg0.N,
    (win0_0.index t (0 : Fin 5) = t.val ∧ win0_0.index t (1 : Fin 5) = 0 ∧ win0_0.index t (2 : Fin 5) = 0 ∧ win0_0.index t (3 : Fin 5) = 0 ∧ win0_0.index t (4 : Fin 5) = 0)
    ∧ (win0_1.index t (0 : Fin 7) = 0 ∧ win0_1.index t (1 : Fin 7) = t.val ∧ win0_1.index t (2 : Fin 7) = 0 ∧ win0_1.index t (3 : Fin 7) = 0 ∧ win0_1.index t (4 : Fin 7) = 0 ∧ win0_1.index t (5 : Fin 7) = 0 ∧ win0_1.index t (6 : Fin 7) = 0)
    ∧ (win0_2.index t (0 : Fin 7) = 0 ∧ win0_2.index t (1 : Fin 7) = t.val ∧ win0_2.index t (2 : Fin 7) = 0 ∧ win0_2.index t (3 : Fin 7) = 0 ∧ win0_2.index t (4 : Fin 7) = 0 ∧ win0_2.index t (5 : Fin 7) = 0 ∧ win0_2.index t (6 : Fin 7) = 0)
    ∧ (win0_3.index t (0 : Fin 7) = 0 ∧ win0_3.index t (1 : Fin 7) = t.val ∧ win0_3.index t (2 : Fin 7) = 0 ∧ win0_3.index t (3 : Fin 7) = 0 ∧ win0_3.index t (4 : Fin 7) = 0 ∧ win0_3.index t (5 : Fin 7) = 0 ∧ win0_3.index t (6 : Fin 7) = 0)
    ∧ (win0_4.index t (0 : Fin 4) = 0 ∧ win0_4.index t (1 : Fin 4) = 0 ∧ win0_4.index t (2 : Fin 4) = 0 ∧ win0_4.index t (3 : Fin 4) = 0)
    ∧ (win0_5.index t (0 : Fin 3) = t.val ∧ win0_5.index t (1 : Fin 3) = 0 ∧ win0_5.index t (2 : Fin 3) = 0) :=
  (by decide +kernel : ∀ t : Fin grid0.N, _)

/-- The token that point `t` is about. -/
abbrev tokOf (t : Fin cfg0.N) : Fin 8 := ⟨t.val, lt_of_lt_of_eq t.isLt (show cfg0.N = 8 from N_0)⟩

theorem blk0_at (c : Dev nD) (t : Fin cfg0.N) (g s : Fin 3) (h : Fin 8) (j : Fin 128) :
    (iblk m c 0 t : FVec Ideal S1x3x3x8x128 .f32) (ix5 0 g s h j) = arg0 m c (ix5 (tokOf t) g s h j) := by
  obtain ⟨⟨e0, e1, e2, e3, e4⟩, -⟩ := index_facts t
  refine (congrArg (V m c main_arg0) ?_ : _ = V m c main_arg0 (ix5 (tokOf t) g s h j)).trans (congrFun (V_main_arg0 m c) _)
  funext a; apply Fin.ext
  match a with
  | ⟨0, _⟩ => show win0_0.index t (0 : Fin 5) * 1 + 1 * 0 = t.val; omega
  | ⟨1, _⟩ => show win0_0.index t (1 : Fin 5) * 3 + 1 * g.val = g.val; omega
  | ⟨2, _⟩ => show win0_0.index t (2 : Fin 5) * 3 + 1 * s.val = s.val; omega
  | ⟨3, _⟩ => show win0_0.index t (3 : Fin 5) * 8 + 1 * h.val = h.val; omega
  | ⟨4, _⟩ => show win0_0.index t (4 : Fin 5) * 128 + 1 * j.val = j.val; omega

theorem blk1_at (c : Dev nD) (t : Fin cfg0.N) (k : Fin 128) (s : Fin 2) (h : Fin 8) (j : Fin 128) :
    (iblk m c 1 t : FVec Ideal S1x1x128x1x2x8x128 .f32) (ix7 0 0 k 0 s h j) = buf0 (arg1 m c) s (tokOf t) h k j := by
  obtain ⟨-, ⟨e0, e1, e2, e3, e4, e5, e6⟩, -⟩ := index_facts t
  refine (congrArg (V m c main_v3) ?_ : _ = V m c main_v3 (ix7 0 (tokOf t) k 0 s h j)).trans (rows0_at m c 0 (tokOf t) k 0 s h j)
  funext a; apply Fin.ext
  match a with
  | ⟨0, _⟩ => show win0_1.index t (0 : Fin 7) * 1 + 1 * 0 = 0; omega
  | ⟨1, _⟩ => show win0_1.index t (1 : Fin 7) * 1 + 1 * 0 = t.val; omega
  | ⟨2, _⟩ => show win0_1.index t (2 : Fin 7) * 128 + 1 * k.val = k.val; omega
  | ⟨3, _⟩ => show win0_1.index t (3 : Fin 7) * 1 + 1 * 0 = 0; omega
  | ⟨4, _⟩ => show win0_1.index t (4 : Fin 7) * 2 + 1 * s.val = s.val; omega
  | ⟨5, _⟩ => show win0_1.index t (5 : Fin 7) * 8 + 1 * h.val = h.val; omega
  | ⟨6, _⟩ => show win0_1.index t (6 : Fin 7) * 128 + 1 * j.val = j.val; omega

theorem blk2_at (c : Dev nD) (t : Fin cfg0.N) (k : Fin 128) (s : Fin 2) (h : Fin 8) (j : Fin 128) :
    (iblk m c 2 t : FVec Ideal S1x1x128x1x2x8x128 .f32) (ix7 0 0 k 0 s h j) = buf1 (arg2 m c) s (tokOf t) h k j := by
  obtain ⟨-, -, ⟨e0, e1, e2, e3, e4, e5, e6⟩, -⟩ := index_facts t
  refine (congrArg (V m c main_v4) ?_ : _ = V m c main_v4 (ix7 0 (tokOf t) k 0 s h j)).trans (rows1_at m c 0 (tokOf t) k s h j)
  funext a; apply Fin.ext
  match a with
  | ⟨0, _⟩ => show win0_2.index t (0 : Fin 7) * 1 + 1 * 0 = 0; omega
  | ⟨1, _⟩ => show win0_2.index t (1 : Fin 7) * 1 + 1 * 0 = t.val; omega
  | ⟨2, _⟩ => show win0_2.index t (2 : Fin 7) * 128 + 1 * k.val = k.val; omega
  | ⟨3, _⟩ => show win0_2.index t (3 : Fin 7) * 1 + 1 * 0 = 0; omega
  | ⟨4, _⟩ => show win0_2.index t (4 : Fin 7) * 2 + 1 * s.val = s.val; omega
  | ⟨5, _⟩ => show win0_2.index t (5 : Fin 7) * 8 + 1 * h.val = h.val; omega
  | ⟨6, _⟩ => show win0_2.index t (6 : Fin 7) * 128 + 1 * j.val = j.val; omega

theorem blk3_at (c : Dev nD) (t : Fin cfg0.N) (k : Fin 128) (s : Fin 2) (h : Fin 8) (j : Fin 128) :
    (iblk m c 3 t : FVec Ideal S1x1x128x1x2x8x128 .f32) (ix7 0 0 k 0 s h j) = buf2 (arg3 m c) s (tokOf t) h k j := by
  obtain ⟨-, -, -, ⟨e0, e1, e2, e3, e4, e5, e6⟩, -⟩ := index_facts t
  refine (congrArg (V m c main_v5) ?_ : _ = V m c main_v5 (ix7 0 (tokOf t) k 0 s h j)).trans (rows2_at m c 0 (tokOf t) k s h j)
  funext a; apply Fin.ext
  match a with
  | ⟨0, _⟩ => show win0_3.index t (0 : Fin 7) * 1 + 1 * 0 = 0; omega
  | ⟨1, _⟩ => show win0_3.index t (1 : Fin 7) * 1 + 1 * 0 = t.val; omega
  | ⟨2, _⟩ => show win0_3.index t (2 : Fin 7) * 128 + 1 * k.val = k.val; omega
  | ⟨3, _⟩ => show win0_3.index t (3 : Fin 7) * 1 + 1 * 0 = 0; omega
  | ⟨4, _⟩ => show win0_3.index t (4 : Fin 7) * 2 + 1 * s.val = s.val; omega
  | ⟨5, _⟩ => show win0_3.index t (5 : Fin 7) * 8 + 1 * h.val = h.val; omega
  | ⟨6, _⟩ => show win0_3.index t (6 : Fin 7) * 128 + 1 * j.val = j.val; omega

theorem blk4_at (c : Dev nD) (t : Fin cfg0.N) (g : Fin 3) (k : Fin 129) (h : Fin 8) (d : Fin 128) :
    (iblk m c 4 t : FVec Ideal S3x129x8x128 .f32) (ix4 g k h d) = arg4 m c (ix3 h g k) := by
  obtain ⟨-, -, -, -, ⟨e0, e1, e2, e3⟩, -⟩ := index_facts t
  refine (congrArg (V m c main_v2) ?_ : _ = V m c main_v2 (ix4 g k h d)).trans (bias_at m c g k h d)
  funext a; apply Fin.ext
  match a with
  | ⟨0, _⟩ => show win0_4.index t (0 : Fin 4) * 3 + 1 * g.val = g.val; omega
  | ⟨1, _⟩ => show win0_4.index t (1 : Fin 4) * 129 + 1 * k.val = k.val; omega
  | ⟨2, _⟩ => show win0_4.index t (2 : Fin 4) * 8 + 1 * h.val = h.val; omega
  | ⟨3, _⟩ => show win0_4.index t (3 : Fin 4) * 128 + 1 * d.val = d.val; omega

/-! ## What a point stores -/

theorem stored_at (c : Dev nD) (t : Fin cfg0.N) (h : Fin 8) (d : Fin 128) :
    stored (F := Ideal) (iblk m c 0 t) (iblk m c 1 t) (iblk m c 2 t) (iblk m c 3 t) (iblk m c 4 t) (ix2 h d)
      = attendK (arg0 m c) (arg1 m c) (arg2 m c) (arg3 m c) (arg4 m c) (tokOf t) h d := by
  unfold stored attendK lseK outK
  rw [mixture_at]
  simp only [windowLse_at, windowOut_at, olds_at, own_at, kv_at, tok_at, biases_at, bias1_at]
  have q (g s : ℕ) (hg : g < 3) (hs : s < 3) (hb) (j : Fin 128) :=
    (ld_tok (iblk m c 0 t) g s hg hs hb h j).trans (blk0_at m c t ⟨g, hg⟩ ⟨s, hs⟩ h j)
  have k1 (s : ℕ) (hs : s < 2) (hb) (k j : Fin 128) := (ld_kv (iblk m c 1 t) s hs hb k h j).trans (blk1_at m c t k ⟨s, hs⟩ h j)
  have k2 (s : ℕ) (hs : s < 2) (hb) (k j : Fin 128) := (ld_kv (iblk m c 2 t) s hs hb k h j).trans (blk2_at m c t k ⟨s, hs⟩ h j)
  have k3 (s : ℕ) (hs : s < 2) (hb) (k j : Fin 128) := (ld_kv (iblk m c 3 t) s hs hb k h j).trans (blk3_at m c t k ⟨s, hs⟩ h j)
  have b (g : ℕ) (hg : g < 3) (hb) (k : Fin 128) := (ld_biases (iblk m c 4 t) g hg hb k h d).trans (blk4_at m c t ⟨g, hg⟩ k.castSucc h d)
  have b' (g : ℕ) (hg : g < 3) (hb) := (ld_bias1 (iblk m c 4 t) g hg hb h d).trans (blk4_at m c t ⟨g, hg⟩ (Fin.last 128) h d)
  simp only [q 0 0 (by decide) (by decide), q 0 1 (by decide) (by decide), q 0 2 (by decide) (by decide), q 1 0 (by decide) (by decide),
    q 1 1 (by decide) (by decide), q 1 2 (by decide) (by decide), q 2 0 (by decide) (by decide), q 2 1 (by decide) (by decide),
    q 2 2 (by decide) (by decide), k1 0 (by decide), k1 1 (by decide), k2 0 (by decide), k2 1 (by decide), k3 0 (by decide), k3 1 (by decide),
    b 0 (by decide), b 1 (by decide), b 2 (by decide), b' 0 (by decide), b' 1 (by decide), b' 2 (by decide)]
  rfl

/-! ## The array -/

/-- The attention of the eight tokens, as the kernel takes it. -/
def outK (c : Dev nD) : Buf (Elt Ideal) ((c.tc : Thread nD τ).loc main_v6) := fun i =>
  attendK (arg0 m c) (arg1 m c) (arg2 m c) (arg3 m c) (arg4 m c) (i 0) (i 1) (i 2)

theorem head_at (v : FVec Ideal S8x128 .f32) (h : Fin 8) (d : Fin 128) :
    shapeCast S1x8x128 v shapeCasts_S8x128_S1x8x128 (ix3 0 h d) = v (ix2 h d) := by
  pointwise

theorem flushed (c : Dev nD) (t : Fin cfg0.N) :
    (dats m 0 c).flushed 5 t = ((cfg0.win 5).blk t).view.read (Elt Ideal) (outK m c) := by
  show (cfg0.win 5).cut (grid0.coords t) ((dats m 0 c).after 5 t) = _
  rw [after0_5]
  obtain ⟨-, -, -, -, -, ⟨e0, e1, e2⟩⟩ := index_facts t
  funext y
  obtain ⟨z, h, d, rfl⟩ : ∃ (z : Fin 1) (h : Fin 8) (d : Fin 128), y = ix3 z h d := ⟨y 0, y 1, y 2, eq_ix3 y⟩
  obtain rfl : z = 0 := Subsingleton.elim _ _
  have hb : ((cfg0.win 5).blk t).view.emb (ix3 0 h d) = ix3 (tokOf t) h d := by
    funext a; apply Fin.ext
    match a with
    | ⟨0, _⟩ => show win0_5.index t (0 : Fin 3) * 1 + 1 * 0 = t.val; omega
    | ⟨1, _⟩ => show win0_5.index t (1 : Fin 3) * 8 + 1 * h.val = h.val; omega
    | ⟨2, _⟩ => show win0_5.index t (2 : Fin 3) * 128 + 1 * d.val = d.val; omega
  refine (congrFun (out_eq (iblk m c 0 t) (iblk m c 1 t) (iblk m c 2 t) (iblk m c 3 t) (iblk m c 4 t)) (ix3 0 h d)).trans ?_
  refine (head_at _ h d).trans ((stored_at m c t h d).trans ?_)
  exact (congrArg (outK m c) hb).symm

theorem mem_out (t : Fin cfg0.N) (i : S8x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v6).slice (win0_5.rect t)).set ↔ _
  rw [View.set_slice_whole, Rect.mem_set_unit]
  exact Iff.rfl

theorem final (c : Dev nD) : (dats m 0 c).arrAt 5 cfg0.N = outK m c :=
  (dats m 0 c).arrAt_eq_of_cover 5 _ (fun t _ => flushed m c t) fun i => by
    have h0 : (i 0).val < 8 := (i 0).isLt
    have h1 : (i 1).val < 8 := (i 1).isLt
    have h2 : (i 2).val < 128 := (i 2).isLt
    have hlt : (i 0).val < cfg0.N := lt_of_lt_of_eq h0 (show cfg0.N = 8 from N_0).symm
    obtain ⟨-, -, -, -, -, ⟨e0, e1, e2⟩⟩ := index_facts ⟨_, hlt⟩
    refine ⟨⟨_, hlt⟩, flush0_5 _, ?_⟩
    rw [mem_out]
    dsimp only at e0 e1 e2
    intro a
    match a with
    | ⟨0, _⟩ => show win0_5.index ⟨_, hlt⟩ (0 : Fin 3) * 1 ≤ (i 0).val ∧ (i 0).val < win0_5.index ⟨_, hlt⟩ (0 : Fin 3) * 1 + 1; omega
    | ⟨1, _⟩ => show win0_5.index ⟨_, hlt⟩ (1 : Fin 3) * 8 ≤ (i 1).val ∧ (i 1).val < win0_5.index ⟨_, hlt⟩ (1 : Fin 3) * 8 + 8; omega
    | ⟨2, _⟩ => show win0_5.index ⟨_, hlt⟩ (2 : Fin 3) * 128 ≤ (i 2).val ∧ (i 2).val < win0_5.index ⟨_, hlt⟩ (2 : Fin 3) * 128 + 128; omega

/-- The run: the result at the attention. -/
theorem run : θ_run defs (onTc (τ := τ) (main (F := Ideal))) ⟨m, fun _ => 0, ρ⟩ fun r => ∀ c : Dev nD,
      r.2.mem ((c.tc : Thread nD τ).loc main_v6) = outK m c :=
  (θ_run defs _ _).mono (fun r h c => ((h c).1 5).trans (final m c)) (run_main m ρ)

end Cert.DecIdeal.Hand

end
-- ==== Proof.DecRefPure.lean ====
module

public import proofs.«01_k».proof.Proof.DecRows
public import proofs.«01_k».proof.Proof.Gen.DecRefIdeal.Run
public import Idealize.ShloMosaic.Lib.Pointwise

@[expose] public section

set_option maxRecDepth 16384

noncomputable section

/-! THE REFERENCE'S ATTENTION, READ AT AN INDEX. The reference treats its three windows alike; the operations of one
    window are written once, and read at an index once. -/

namespace Cert.DecRefIdeal.Hand

open Cert.DecRefIdeal Cert.DecRefIdeal.Gen Cert.DecRows
open Idealize.ShloMosaic Idealize.ShloMosaic.TcCoe Idealize.SL.Sem

/-! ## One window's operations -/

/-- The queries (`s = 0`), keys (1) or values (2) of window `g`. -/
def tok (x : FVec Ideal S8x3x3x8x128 .f32) (g s : ℕ) (h : S8x3x3x8x128.Slices ![0, g, s, 0, 0] S8x1x1x8x128) : FVec Ideal S8x8x128 .f32 :=
  shapeCast _ (extractStridedSlice S8x1x1x8x128 ![0, g, s, 0, 0] x h) shapeCasts_S8x1x1x8x128_S8x8x128

/-- The buffered keys (`s = 0`) or values (1) of the three windows. -/
def rows0 (x : FVec Ideal S2x8x128x2x8x128 .f32) (s : ℕ) (h : S8x128x2x8x128.Slices ![0, 0, s, 0, 0] S8x128x1x8x128) : FVec Ideal S8x128x8x128 .f32 :=
  shapeCast _ (extractStridedSlice S8x128x1x8x128 ![0, 0, s, 0, 0] (shapeCast _ (extractStridedSlice S1x8x128x2x8x128 ![0, 0, 0, 0, 0, 0] x slices_S2x8x128x2x8x128_S1x8x128x2x8x128_0_0_0_0_0_0 : FVec Ideal S1x8x128x2x8x128 .f32) shapeCasts_S1x8x128x2x8x128_S8x128x2x8x128 : FVec Ideal S8x128x2x8x128 .f32) h) shapeCasts_S8x128x1x8x128_S8x128x8x128
def rows1 (x : FVec Ideal S2x8x512x2x8x128 .f32) (s : ℕ) (h : S8x512x2x8x128.SlicesBy (![0, 0, s, 0, 0] : Fin 5 → Nat) ![1, 4, 1, 1, 1] S8x128x1x8x128) : FVec Ideal S8x128x8x128 .f32 :=
  shapeCast _ (Host.slice S8x128x1x8x128 ![0, 0, s, 0, 0] ![1, 4, 1, 1, 1] (shapeCast _ (extractStridedSlice S1x8x512x2x8x128 ![0, 0, 0, 0, 0, 0] x slices_S2x8x512x2x8x128_S1x8x512x2x8x128_0_0_0_0_0_0 : FVec Ideal S1x8x512x2x8x128 .f32) shapeCasts_S1x8x512x2x8x128_S8x512x2x8x128 : FVec Ideal S8x512x2x8x128 .f32) h) shapeCasts_S8x128x1x8x128_S8x128x8x128
def rows2 (x : FVec Ideal S2x8x2048x2x8x128 .f32) (s : ℕ) (h : S8x2048x2x8x128.SlicesBy (![0, 0, s, 0, 0] : Fin 5 → Nat) ![1, 16, 1, 1, 1] S8x128x1x8x128) : FVec Ideal S8x128x8x128 .f32 :=
  shapeCast _ (Host.slice S8x128x1x8x128 ![0, 0, s, 0, 0] ![1, 16, 1, 1, 1] (shapeCast _ (extractStridedSlice S1x8x2048x2x8x128 ![0, 0, 0, 0, 0, 0] x slices_S2x8x2048x2x8x128_S1x8x2048x2x8x128_0_0_0_0_0_0 : FVec Ideal S1x8x2048x2x8x128 .f32) shapeCasts_S1x8x2048x2x8x128_S8x2048x2x8x128 : FVec Ideal S8x2048x2x8x128 .f32) h) shapeCasts_S8x128x1x8x128_S8x128x8x128

/-- The token's own row after the buffered ones. -/
def joined (o : FVec Ideal S8x128x8x128 .f32) (a : FVec Ideal S8x8x128 .f32) : FVec Ideal S8x129x8x128 .f32 :=
  concatenate S8x129x8x128 1 [⟨S8x128x8x128, o⟩, ⟨S8x1x8x128, broadcastInDim S8x1x8x128 ![0, 2, 3] bcast_S8x8x128_S8x1x8x128_0_2_3 a⟩] concatenates_S8x128x8x128_S8x1x8x128_S8x129x8x128_d1

def biasOf (x : FVec Ideal S8x3x129 .f32) (g : ℕ) (h : S8x3x129.Slices ![0, g, 0] S8x1x129) : FVec Ideal S8x8x129 .f32 :=
  broadcastInDim S8x8x129 ![0, 1, 2] bcast_S1x8x129_S8x8x129_0_1_2 (broadcastInDim S1x8x129 ![1, 2] bcast_S8x129_S1x8x129_1_2 (shapeCast _ (extractStridedSlice S8x1x129 ![0, g, 0] x h : FVec Ideal S8x1x129 .f32) shapeCasts_S8x1x129_S8x129 : FVec Ideal S8x129 .f32))

def logitsOf (q : FVec Ideal S8x8x128 .f32) (k : FVec Ideal S8x129x8x128 .f32) (b : FVec Ideal S8x8x129 .f32) : FVec Ideal S8x8x129 .f32 :=
  addf (mulf (Host.dotGeneral dot_S8x8x128_S8x129x8x128_S8x8x129_2_3_n_1_01_02 none q k) (broadcastInDim S8x8x129 ![] bcast_S_S8x8x129 (constant S_ .f32 0x3DB504F3#32))) b

def topOf (l : FVec Ideal S8x8x129 .f32) : FVec Ideal S8x8x1 .f32 :=
  broadcastInDim S8x8x1 ![0, 1] bcast_S8x8_S8x8x1_0_1 (Host.reduce FloatOps.maximumf l (constant S_ .f32 0xFF800000#32) reducesTo_S8x8x129_S8x8_d2 h_S_)

def expOf (l : FVec Ideal S8x8x129 .f32) (t : FVec Ideal S8x8x1 .f32) : FVec Ideal S8x8x129 .f32 :=
  Host.exp (subf l (broadcastInDim S8x8x129 ![0, 1, 2] bcast_S8x8x1_S8x8x129_0_1_2 t))

def sumOf (e : FVec Ideal S8x8x129 .f32) : FVec Ideal S8x8x1 .f32 :=
  maximumf (broadcastInDim S8x8x1 ![0, 1] bcast_S8x8_S8x8x1_0_1 (Host.reduceAdd e (constant S_ .f32 0x00000000#32) reducesTo_S8x8x129_S8x8_d2 h_S_)) (broadcastInDim S8x8x1 ![] bcast_S_S8x8x1 (constant S_ .f32 0x0DA24260#32))

def weighted (e : FVec Ideal S8x8x129 .f32) (s : FVec Ideal S8x8x1 .f32) (v : FVec Ideal S8x129x8x128 .f32) : FVec Ideal S8x8x128 .f32 :=
  Host.dotGeneral dot_S8x8x129_S8x129x8x128_S8x8x128_2_1_n_3_01_02 none (Host.divf e (broadcastInDim S8x8x129 ![0, 1, 2] bcast_S8x8x1_S8x8x129_0_1_2 s)) v

/-- A window's output, of its logits and values. -/
def windowOut (l : FVec Ideal S8x8x129 .f32) (v : FVec Ideal S8x129x8x128 .f32) : FVec Ideal S8x8x128 .f32 :=
  weighted (expOf l (topOf l)) (sumOf (expOf l (topOf l))) v

/-- The logarithm of a window's sum. -/
def windowLse (l : FVec Ideal S8x8x129 .f32) : FVec Ideal S8x8 .f32 :=
  shapeCast _ (addf (topOf l) (Host.log (sumOf (expOf l (topOf l))))) shapeCasts_S8x8x1_S8x8

/-! ## The mixture's operations -/

def stack (a b c : FVec Ideal S8x8 .f32) : FVec Ideal S3x8x8 .f32 :=
  concatenate S3x8x8 0 [⟨S1x8x8, broadcastInDim S1x8x8 ![1, 2] bcast_S8x8_S1x8x8_1_2 a⟩, ⟨S1x8x8, broadcastInDim S1x8x8 ![1, 2] bcast_S8x8_S1x8x8_1_2 b⟩, ⟨S1x8x8, broadcastInDim S1x8x8 ![1, 2] bcast_S8x8_S1x8x8_1_2 c⟩] concatenates_S1x8x8_S1x8x8_S1x8x8_S3x8x8_d0

def stackOut (a b c : FVec Ideal S8x8x128 .f32) : FVec Ideal S3x8x8x128 .f32 :=
  concatenate S3x8x8x128 0 [⟨S1x8x8x128, broadcastInDim S1x8x8x128 ![1, 2, 3] bcast_S8x8x128_S1x8x8x128_1_2_3 a⟩, ⟨S1x8x8x128, broadcastInDim S1x8x8x128 ![1, 2, 3] bcast_S8x8x128_S1x8x8x128_1_2_3 b⟩, ⟨S1x8x8x128, broadcastInDim S1x8x8x128 ![1, 2, 3] bcast_S8x8x128_S1x8x8x128_1_2_3 c⟩] concatenates_S1x8x8x128_S1x8x8x128_S1x8x8x128_S3x8x8x128_d0

def stackTop (s : FVec Ideal S3x8x8 .f32) : FVec Ideal S8x8 .f32 :=
  maximumf (broadcastInDim S8x8 ![] bcast_S_S8x8 (constant S_ .f32 0xFF800000#32)) (Host.reduce FloatOps.maximumf s (constant S_ .f32 0xFF800000#32) reducesTo_S3x8x8_S8x8_d0 h_S_)

def spread (t : FVec Ideal S8x8 .f32) : FVec Ideal S3x8x8 .f32 :=
  broadcastInDim S3x8x8 ![0, 1, 2] bcast_S1x8x8_S3x8x8_0_1_2 (broadcastInDim S1x8x8 ![1, 2] bcast_S8x8_S1x8x8_1_2 t)

def stackExp (s : FVec Ideal S3x8x8 .f32) : FVec Ideal S3x8x8 .f32 := Host.exp (subf s (spread (stackTop s)))

def stackSum (e : FVec Ideal S3x8x8 .f32) : FVec Ideal S8x8 .f32 := Host.reduceAdd e (constant S_ .f32 0x00000000#32) reducesTo_S3x8x8_S8x8_d0 h_S_

def mixed (e : FVec Ideal S3x8x8 .f32) (u : FVec Ideal S3x8x8x128 .f32) : FVec Ideal S8x8x128 .f32 :=
  Host.dotGeneral dot_S3x8x8_S3x8x8x128_S8x8x128_0_0_n_3_12_12 none (Host.divf e (spread (stackSum e))) u

/-! ## The reference's result -/

section Result

variable (x0 : FVec Ideal S8x3x3x8x128 .f32) (x1 : FVec Ideal S2x8x128x2x8x128 .f32) (x2 : FVec Ideal S2x8x512x2x8x128 .f32)
  (x3 : FVec Ideal S2x8x2048x2x8x128 .f32) (x4 : FVec Ideal S8x3x129 .f32)

def logits0 : FVec Ideal S8x8x129 .f32 :=
  logitsOf (tok x0 0 0 slices_S8x3x3x8x128_S8x1x1x8x128_0_0_0_0_0) (joined (rows0 x1 0 slices_S8x128x2x8x128_S8x128x1x8x128_0_0_0_0_0) (tok x0 0 1 slices_S8x3x3x8x128_S8x1x1x8x128_0_0_1_0_0)) (biasOf x4 0 slices_S8x3x129_S8x1x129_0_0_0)
def logits1 : FVec Ideal S8x8x129 .f32 :=
  logitsOf (tok x0 1 0 slices_S8x3x3x8x128_S8x1x1x8x128_0_1_0_0_0) (joined (rows1 x2 0 slicesBy_S8x512x2x8x128_S8x128x1x8x128_0s1_0s4_0s1_0s1_0s1) (tok x0 1 1 slices_S8x3x3x8x128_S8x1x1x8x128_0_1_1_0_0)) (biasOf x4 1 slices_S8x3x129_S8x1x129_0_1_0)
def logits2 : FVec Ideal S8x8x129 .f32 :=
  logitsOf (tok x0 2 0 slices_S8x3x3x8x128_S8x1x1x8x128_0_2_0_0_0) (joined (rows2 x3 0 slicesBy_S8x2048x2x8x128_S8x128x1x8x128_0s1_0s16_0s1_0s1_0s1) (tok x0 2 1 slices_S8x3x3x8x128_S8x1x1x8x128_0_2_1_0_0)) (biasOf x4 2 slices_S8x3x129_S8x1x129_0_2_0)

def values0 : FVec Ideal S8x129x8x128 .f32 :=
  joined (rows0 x1 1 slices_S8x128x2x8x128_S8x128x1x8x128_0_0_1_0_0) (tok x0 0 2 slices_S8x3x3x8x128_S8x1x1x8x128_0_0_2_0_0)
def values1 : FVec Ideal S8x129x8x128 .f32 :=
  joined (rows1 x2 1 slicesBy_S8x512x2x8x128_S8x128x1x8x128_0s1_0s4_1s1_0s1_0s1) (tok x0 1 2 slices_S8x3x3x8x128_S8x1x1x8x128_0_1_2_0_0)
def values2 : FVec Ideal S8x129x8x128 .f32 :=
  joined (rows2 x3 1 slicesBy_S8x2048x2x8x128_S8x128x1x8x128_0s1_0s16_1s1_0s1_0s1) (tok x0 2 2 slices_S8x3x3x8x128_S8x1x1x8x128_0_2_2_0_0)

/-- The reference's result. -/
def result : FVec Ideal S8x8x128 .f32 :=
  mixed (stackExp (stack (windowLse (logits0 x0 x1 x4)) (windowLse (logits1 x0 x2 x4)) (windowLse (logits2 x0 x3 x4))))
    (stackOut (windowOut (logits0 x0 x1 x4) (values0 x0 x1)) (windowOut (logits1 x0 x2 x4) (values1 x0 x2)) (windowOut (logits2 x0 x3 x4) (values2 x0 x3)))

end Result

/-- The run's result is this one. -/
theorem res_eq (m : (ℓ : Loc nD τ sig) → Buf (Elt Ideal) ℓ) (c : Dev nD) :
    Value.res_main_v136 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.DecRefIdeal.Hand

end
-- ==== Proof.DecRefValue.lean ====
module

public import proofs.«01_k».proof.Proof.DecRefPure

@[expose] public section

set_option maxRecDepth 16384

noncomputable section

/-! THE REFERENCE'S OPERATIONS AT AN INDEX, and its result: the model's attention of the eight tokens. -/

namespace Cert.DecRefIdeal.Hand

open Cert.DecRefIdeal Cert.DecRefIdeal.Gen Cert.DecRows
open Idealize.ShloMosaic Idealize.ShloMosaic.TcCoe Idealize.SL.Sem

/-! ## What a window reads -/

theorem tok_at (x : FVec Ideal S8x3x3x8x128 .f32) (g s : ℕ) (hg : g < 3) (hs : s < 3) (hx) (b h : Fin 8) (j : Fin 128) :
    tok x g s hx (ix3 b h j) = x (ix5 b ⟨g, hg⟩ ⟨s, hs⟩ h j) := by
  pointwise [tok]

theorem rows0_at (x : FVec Ideal S2x8x128x2x8x128 .f32) (s : ℕ) (hs : s < 2) (hx) (b : Fin 8) (k : Fin 128) (h : Fin 8) (j : Fin 128) :
    rows0 x s hx (ix4 b k h j) = buf0 x ⟨s, hs⟩ b h k j := by
  unfold buf0
  pointwise [rows0]

theorem rows1_at (x : FVec Ideal S2x8x512x2x8x128 .f32) (s : ℕ) (hs : s < 2) (hx) (b : Fin 8) (k : Fin 128) (h : Fin 8) (j : Fin 128) :
    rows1 x s hx (ix4 b k h j) = buf1 x ⟨s, hs⟩ b h k j := by
  unfold buf1
  pointwise [rows1]

theorem rows2_at (x : FVec Ideal S2x8x2048x2x8x128 .f32) (s : ℕ) (hs : s < 2) (hx) (b : Fin 8) (k : Fin 128) (h : Fin 8) (j : Fin 128) :
    rows2 x s hx (ix4 b k h j) = buf2 x ⟨s, hs⟩ b h k j := by
  unfold buf2
  pointwise [rows2]

theorem biasOf_at (x : FVec Ideal S8x3x129 .f32) (g : ℕ) (hg : g < 3) (hx) (b h : Fin 8) (k : Fin 129) :
    biasOf x g hx (ix3 b h k) = x (ix3 h ⟨g, hg⟩ k) := by
  pointwise [biasOf]

theorem joined_old (o : FVec Ideal S8x128x8x128 .f32) (a : FVec Ideal S8x8x128 .f32) (b : Fin 8) (k : Fin 129) (hk : k.val < 128) (h : Fin 8) (j : Fin 128) :
    joined o a (ix4 b k h j) = o (ix4 b ⟨k.val, hk⟩ h j) := by
  unfold joined
  refine concatenate_apply_piece 1 [⟨S8x128x8x128, o⟩, ⟨S8x1x8x128, broadcastInDim S8x1x8x128 ![0, 2, 3] bcast_S8x8x128_S8x1x8x128_0_2_3 a⟩] _ (ix4 b k h j) 0 (by simp) S8x128x8x128 o rfl rfl 0 rfl (ix4 b ⟨k.val, hk⟩ h j) ?_ ?_
  · intro z hz
    match z, hz with
    | ⟨0, _⟩, _ => rfl
    | ⟨1, _⟩, hz => exact absurd rfl hz
    | ⟨2, _⟩, _ => rfl
    | ⟨3, _⟩, _ => rfl
  · exact Nat.zero_add _

theorem joined_own (o : FVec Ideal S8x128x8x128 .f32) (a : FVec Ideal S8x8x128 .f32) (b : Fin 8) (k : Fin 129) (hk : ¬ k.val < 128) (h : Fin 8) (j : Fin 128) :
    joined o a (ix4 b k h j) = a (ix3 b h j) := by
  unfold joined
  refine (concatenate_apply_piece 1 [⟨S8x128x8x128, o⟩, ⟨S8x1x8x128, broadcastInDim S8x1x8x128 ![0, 2, 3] bcast_S8x8x128_S8x1x8x128_0_2_3 a⟩] _ (ix4 b k h j) 1 (by simp) S8x1x8x128 (broadcastInDim S8x1x8x128 ![0, 2, 3] bcast_S8x8x128_S8x1x8x128_0_2_3 a) rfl rfl 128 ?_ (ix4 b 0 h j) ?_ ?_).trans ?_
  · simp only [List.take_succ_cons, List.take_zero, List.map_cons, List.map_nil, List.sum_cons, List.sum_nil]
    rfl
  · intro z hz
    match z, hz with
    | ⟨0, _⟩, _ => rfl
    | ⟨1, _⟩, hz => exact absurd rfl hz
    | ⟨2, _⟩, _ => rfl
    | ⟨3, _⟩, _ => rfl
  · show 128 + 0 = k.val
    omega
  · pointwise

theorem joined_at (o : FVec Ideal S8x128x8x128 .f32) (a : FVec Ideal S8x8x128 .f32) (b : Fin 8) (k : Fin 129) (h : Fin 8) (j : Fin 128) :
    joined o a (ix4 b k h j) = ext (fun i => o (ix4 b i h j)) (a (ix3 b h j)) k := by
  unfold ext
  split
  · next hk => exact joined_old o a b k hk h j
  · next hk => exact joined_own o a b k hk h j

theorem logitsOf_at (q : FVec Ideal S8x8x128 .f32) (k : FVec Ideal S8x129x8x128 .f32) (v : FVec Ideal S8x8x129 .f32) (b h : Fin 8) (i : Fin 129) :
    logitsOf q k v (ix3 b h i) = logit scale (fun j => q (ix3 b h j)) (fun j => k (ix4 b i h j)) (v (ix3 b h i)) := by
  pointwise [logitsOf, logit]

/-! ## A window's softmax -/

theorem bot_bits : Ideal.ofBits FTy.f32 4286578688#32 = (⊥ : EReal) := by
  simp [Ideal.ofBits, Ideal.ieee]

/-- A greatest value along the last axis, at sizes of any size. -/
theorem reduce_last {n0 n1 n2 : ℕ} (v : FVec Ideal ⟨3, ![n0, n1, n2]⟩ .f32) (c : FVec Ideal S_ .f32) (h : (⟨3, ![n0, n1, n2]⟩ : Shape).ReducesTo [2] ⟨2, ![n0, n1]⟩)
    (hu : 0 < S_.numel) (r : Fin n0) (k : Fin n1) :
    Host.reduce FloatOps.maximumf v c h hu (ix2 r k) = Finset.univ.fold max (c (Shape.Idx.first hu)) fun j : Fin n2 => v (ix3 r k j) := by
  simp only [pointwise]

/-- A greatest value over the leading axis, at sizes of any size. -/
theorem reduce_first {n1 n2 : ℕ} (v : FVec Ideal ⟨3, ![3, n1, n2]⟩ .f32) (c : FVec Ideal S_ .f32) (h : (⟨3, ![3, n1, n2]⟩ : Shape).ReducesTo [0] ⟨2, ![n1, n2]⟩)
    (hu : 0 < S_.numel) (r : Fin n1) (k : Fin n2) :
    Host.reduce FloatOps.maximumf v c h hu (ix2 r k) = max (max (max (v (ix3 0 r k)) (v (ix3 1 r k))) (v (ix3 2 r k))) (c (Shape.Idx.first hu)) := by
  have e : Host.reduce FloatOps.maximumf v c h hu (ix2 r k)
      = Finset.univ.fold max (c (Shape.Idx.first hu)) fun j : Fin 3 => v (ix3 j r k) := by
    simp only [pointwise]
  rw [e]
  simp [Fin.univ_succ, max_assoc]

theorem max_gen {s : Shape} (a b : FVec Ideal s .f32) (i : s.Idx) : maximumf a b i = max (a i) (b i) := rfl
theorem const_gen {s : Shape} (b : BitVec 32) (i : s.Idx) : constant (F := Ideal) s .f32 b i = Ideal.ofBits FTy.f32 b := rfl
theorem fill_gen {s t : Shape} (d : Fin s.rank → Fin t.rank) (h) (b : BitVec 32) (i : t.Idx) :
    broadcastInDim t d h (constant (F := Ideal) s .f32 b) i = Ideal.ofBits FTy.f32 b := rfl
theorem add_log_gen {s : Shape} (a b : FVec Ideal s .f32) (i : s.Idx) : addf a (Host.log b) i = a i + Ideal.log (b i) := rfl

theorem column_at (v : FVec Ideal S8x8 .f32) (b h : Fin 8) :
    broadcastInDim S8x8x1 ![0, 1] bcast_S8x8_S8x8x1_0_1 v (ix3 b h 0) = v (ix2 b h) := by
  pointwise

theorem topOf_at (l : FVec Ideal S8x8x129 .f32) (b h : Fin 8) : topOf l (ix3 b h 0) = top fun k => l (ix3 b h k) := by
  unfold topOf top
  rw [column_at, reduce_last, const_gen, bot_bits]

theorem expOf_at (l : FVec Ideal S8x8x129 .f32) (t : FVec Ideal S8x8x1 .f32) (b h : Fin 8) (k : Fin 129) :
    expOf l t (ix3 b h k) = Ideal.exp (l (ix3 b h k) - t (ix3 b h 0)) := by
  pointwise [expOf]

theorem added_at (e : FVec Ideal S8x8x129 .f32) (b h : Fin 8) :
    Host.reduceAdd e (constant S_ .f32 0x00000000#32) reducesTo_S8x8x129_S8x8_d2 h_S_ (ix2 b h) = ∑ k : Fin 129, e (ix3 b h k) := by
  pointwise

theorem sumOf_at (e : FVec Ideal S8x8x129 .f32) (b h : Fin 8) : sumOf e (ix3 b h 0) = max (∑ k : Fin 129, e (ix3 b h k)) tiny := by
  unfold sumOf
  rw [max_gen, column_at, fill_gen, added_at]

theorem weighted_at (e : FVec Ideal S8x8x129 .f32) (s : FVec Ideal S8x8x1 .f32) (v : FVec Ideal S8x129x8x128 .f32) (b h : Fin 8) (d : Fin 128) :
    weighted e s v (ix3 b h d) = ∑ k : Fin 129, Ideal.div (e (ix3 b h k)) (s (ix3 b h 0)) * v (ix4 b k h d) := by
  pointwise [weighted]

theorem windowOut_at (l : FVec Ideal S8x8x129 .f32) (v : FVec Ideal S8x129x8x128 .f32) (b h : Fin 8) (d : Fin 128) :
    windowOut l v (ix3 b h d) = out tiny (fun k => l (ix3 b h k)) (fun k => v (ix4 b k h d)) := by
  unfold windowOut out total
  rw [weighted_at, sumOf_at]
  simp only [expOf_at, topOf_at]

theorem flat_at (v : FVec Ideal S8x8x1 .f32) (b h : Fin 8) : (shapeCast S8x8 v shapeCasts_S8x8x1_S8x8) (ix2 b h) = v (ix3 b h 0) := by
  pointwise

theorem windowLse_at (l : FVec Ideal S8x8x129 .f32) (b h : Fin 8) : windowLse l (ix2 b h) = lse tiny fun k => l (ix3 b h k) := by
  unfold windowLse lse total
  rw [flat_at, add_log_gen, sumOf_at]
  simp only [expOf_at, topOf_at]

/-! ## The mixture -/

theorem stack_0 (a b c : FVec Ideal S8x8 .f32) (r k : Fin 8) : stack a b c (ix3 0 r k) = a (ix2 r k) := by
  pointwise [stack]
theorem stack_1 (a b c : FVec Ideal S8x8 .f32) (r k : Fin 8) : stack a b c (ix3 1 r k) = b (ix2 r k) := by
  pointwise [stack]
theorem stack_2 (a b c : FVec Ideal S8x8 .f32) (r k : Fin 8) : stack a b c (ix3 2 r k) = c (ix2 r k) := by
  pointwise [stack]
theorem stackOut_0 (a b c : FVec Ideal S8x8x128 .f32) (r k : Fin 8) (d : Fin 128) : stackOut a b c (ix4 0 r k d) = a (ix3 r k d) := by
  pointwise [stackOut]
theorem stackOut_1 (a b c : FVec Ideal S8x8x128 .f32) (r k : Fin 8) (d : Fin 128) : stackOut a b c (ix4 1 r k d) = b (ix3 r k d) := by
  pointwise [stackOut]
theorem stackOut_2 (a b c : FVec Ideal S8x8x128 .f32) (r k : Fin 8) (d : Fin 128) : stackOut a b c (ix4 2 r k d) = c (ix3 r k d) := by
  pointwise [stackOut]

theorem stackTop_at (s : FVec Ideal S3x8x8 .f32) (r k : Fin 8) : stackTop s (ix2 r k) = max (max (s (ix3 0 r k)) (s (ix3 1 r k))) (s (ix3 2 r k)) := by
  unfold stackTop
  rw [max_gen, fill_gen, reduce_first, const_gen, bot_bits]
  simp

theorem stackExp_at (s : FVec Ideal S3x8x8 .f32) (j : Fin 3) (r k : Fin 8) :
    stackExp s (ix3 j r k) = Ideal.exp (s (ix3 j r k) - stackTop s (ix2 r k)) := by
  pointwise [stackExp, spread]

theorem stackSum_at (e : FVec Ideal S3x8x8 .f32) (r k : Fin 8) : stackSum e (ix2 r k) = e (ix3 0 r k) + e (ix3 1 r k) + e (ix3 2 r k) := by
  pointwise [stackSum]
  exact Fin.sum_univ_three _

theorem mixed_at (e : FVec Ideal S3x8x8 .f32) (u : FVec Ideal S3x8x8x128 .f32) (r k : Fin 8) (d : Fin 128) :
    mixed e u (ix3 r k d) = Ideal.div (e (ix3 0 r k)) (stackSum e (ix2 r k)) * u (ix4 0 r k d) + Ideal.div (e (ix3 1 r k)) (stackSum e (ix2 r k)) * u (ix4 1 r k d)
      + Ideal.div (e (ix3 2 r k)) (stackSum e (ix2 r k)) * u (ix4 2 r k d) := by
  pointwise [mixed, spread]
  exact Fin.sum_univ_three _

/-! ## The result -/

section Result

variable (x0 : FVec Ideal S8x3x3x8x128 .f32) (x1 : FVec Ideal S2x8x128x2x8x128 .f32) (x2 : FVec Ideal S2x8x512x2x8x128 .f32)
  (x3 : FVec Ideal S2x8x2048x2x8x128 .f32) (x4 : FVec Ideal S8x3x129 .f32)

theorem logits0_at (b h : Fin 8) (k : Fin 129) : logits0 x0 x1 x4 (ix3 b h k) = logits x0 x4 (buf0 x1 0 b h) 0 b h k := by
  unfold logits0 logits
  rw [logitsOf_at]
  simp only [joined_at, tok_at _ 0 0 (by decide) (by decide), tok_at _ 0 1 (by decide) (by decide), rows0_at _ 0 (by decide), biasOf_at _ 0 (by decide)]
  rfl

theorem logits1_at (b h : Fin 8) (k : Fin 129) : logits1 x0 x2 x4 (ix3 b h k) = logits x0 x4 (buf1 x2 0 b h) 1 b h k := by
  unfold logits1 logits
  rw [logitsOf_at]
  simp only [joined_at, tok_at _ 1 0 (by decide) (by decide), tok_at _ 1 1 (by decide) (by decide), rows1_at _ 0 (by decide), biasOf_at _ 1 (by decide)]
  rfl

theorem logits2_at (b h : Fin 8) (k : Fin 129) : logits2 x0 x3 x4 (ix3 b h k) = logits x0 x4 (buf2 x3 0 b h) 2 b h k := by
  unfold logits2 logits
  rw [logitsOf_at]
  simp only [joined_at, tok_at _ 2 0 (by decide) (by decide), tok_at _ 2 1 (by decide) (by decide), rows2_at _ 0 (by decide), biasOf_at _ 2 (by decide)]
  rfl

theorem values0_at (b h : Fin 8) (k : Fin 129) (d : Fin 128) : values0 x0 x1 (ix4 b k h d) = values x0 (fun k => buf0 x1 1 b h k d) 0 b h d k := by
  unfold values0 values
  rw [joined_at]
  simp only [tok_at _ 0 2 (by decide) (by decide), rows0_at _ 1 (by decide)]
  rfl

theorem values1_at (b h : Fin 8) (k : Fin 129) (d : Fin 128) : values1 x0 x2 (ix4 b k h d) = values x0 (fun k => buf1 x2 1 b h k d) 1 b h d k := by
  unfold values1 values
  rw [joined_at]
  simp only [tok_at _ 1 2 (by decide) (by decide), rows1_at _ 1 (by decide)]
  rfl

theorem values2_at (b h : Fin 8) (k : Fin 129) (d : Fin 128) : values2 x0 x3 (ix4 b k h d) = values x0 (fun k => buf2 x3 1 b h k d) 2 b h d k := by
  unfold values2 values
  rw [joined_at]
  simp only [tok_at _ 2 2 (by decide) (by decide), rows2_at _ 1 (by decide)]
  rfl

theorem result_at (b h : Fin 8) (d : Fin 128) : result x0 x1 x2 x3 x4 (ix3 b h d) = attend x0 x1 x2 x3 x4 b h d := by
  unfold result attend mix
  rw [mixed_at, stackSum_at, stackExp_at, stackExp_at, stackExp_at, stackTop_at, stack_0, stack_1, stack_2, stackOut_0, stackOut_1, stackOut_2]
  simp only [windowLse_at, windowOut_at, logits0_at, logits1_at, logits2_at, values0_at, values1_at, values2_at]

end Result

end Cert.DecRefIdeal.Hand

end
-- ==== Proof.DecClaims.lean ====
module

public import proofs.«01_k».proof.Defs
public import proofs.«01_k».proof.Proof.DecValue
public import proofs.«01_k».proof.Proof.Gen.Dec
public import proofs.«01_k».proof.Proof.DecRefValue
public import Idealize.ShloMosaic.Lib.Claim

@[expose] public section

set_option maxRecDepth 16384

noncomputable section

/-! THE CLAIMS OF THE TOKEN'S ATTENTION: the frames, and the kernel's result equal to the reference's where the arguments are
    finite. -/

namespace Cert.DecProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.Dec.defs₀ (F := F) = Cert.DecIdeal.defs₀ (F := F) := by
  funext p l a
  cases p with
  | tc =>
    match l, a with
    | 0, (t, s) => rfl
  | scScalar => rfl
  | scVector => rfl

theorem defs_same {F : FTy → Type} [FloatOps F] : Cert.Dec.defs (F := F) = Cert.DecIdeal.defs (F := F) :=
  congrArg (Idealize.ShloMosaic.Pipeline.defs Cert.Dec.pcfgs) body_same

theorem frame_kernel : Cert.quiescent_Dec (hDec := Cert.Dec.Gen.facts) := fun m ρ _ =>
  (congrArg (fun d => θ_run d (onTc (τ := Cert.Dec.τ) (Cert.Dec.main (F := Bits))) ⟨m, fun _ => 0, ρ⟩ _) defs_same).mpr
    (Cert.DecIdeal.Gen.frame (F := Bits) m ρ)

theorem frame_ideal : Cert.quiescent_DecIdeal (hDecIdeal := Cert.DecIdeal.Gen.facts) := fun m ρ _ => Cert.DecIdeal.Gen.frame m ρ

theorem frame_reference : Cert.quiescent_DecRefIdeal (hDecRefIdeal := Cert.DecRefIdeal.Gen.facts) := fun m ρ _ =>
  (θ_run _ _ _).mono (fun r h => ⟨fun c => (h c).2, Idealize.ShloMosaic.sem_eq_zero_of_no_sems (by decide) r.2⟩)
    (Cert.DecRefIdeal.Value.run (F := Ideal) m ρ)

/-! ## The precondition -/

/-- The side conditions the precondition's operations take. -/
theorem facts_finite : Cert.Pre_finite.Facts where
  bcast_S_S8x3x3x8x128 := by decide
  bcast_S_S2x8x128x2x8x128 := by decide
  bcast_S_S2x8x512x2x8x128 := by decide
  bcast_S_S2x8x2048x2x8x128 := by decide
  bcast_S_S8x3x129 := by decide

theorem frame_ideal_finite : Cert.quiescent_DecIdeal_pre_finite (hDecIdeal := Cert.DecIdeal.Gen.facts) (hPre_finite := facts_finite) :=
  fun m ρ _ => frame_ideal m ρ trivial

theorem frame_reference_finite : Cert.quiescent_DecRefIdeal_pre_finite (hDecRefIdeal := Cert.DecRefIdeal.Gen.facts) (hPre_finite := facts_finite) :=
  fun m ρ _ => frame_reference m ρ trivial

theorem top_bits : Ideal.ofBits FTy.f32 0x7F800000#32 = (⊤ : EReal) := by
  simp [Ideal.ofBits, Ideal.ieee]

/-- Where the precondition's comparison is one, the entry is a real number. -/
theorem real_of_one {s t : Shape} (d : Fin s.rank → Fin t.rank) (h) (x : FVec Ideal t .f32)
    (e : cmpf .olt (Host.absf x) (broadcastInDim t d h (constant (F := Ideal) s .f32 0x7F800000#32)) = fun _ => 1#1) (i : t.Idx) : Cert.DecRows.IsReal (x i) := by
  have e' : Ideal.cmp .olt (max (x i) (-(x i))) (Ideal.ofBits FTy.f32 0x7F800000#32) = 1#1 := congrFun e i
  rw [top_bits] at e'
  refine Cert.DecRows.isReal_of_abs_lt ?_
  by_contra hn
  simp [Ideal.cmp, hn] at e'

/-! ## The value -/

theorem algebraic : Cert.algebraic_DecIdeal_DecRefIdeal_pre_finite (hDecIdeal := Cert.DecIdeal.Gen.facts) (hDecRefIdeal := Cert.DecRefIdeal.Gen.facts) (hPre_finite := facts_finite) := by
  intro m g m' g' hpre hargs
  refine ⟨fun c => Cert.DecIdeal.Hand.outK m c, ?_, ?_⟩
  · refine (θ_run _ _ _).mono (fun r h c => ?_) (θ_run_and (Cert.DecIdeal.Hand.run m g) (Cert.DecIdeal.Gen.frame m g))
    obtain ⟨h1, h2, -⟩ := h
    exact ⟨h1 c, h2 c⟩
  · refine (θ_run _ _ _).mono (fun r h c => ?_) (Cert.DecRefIdeal.Value.run (F := Ideal) m' g')
    obtain ⟨e0, e1, e2, e3, e4⟩ := hargs c
    obtain ⟨p0, p1, p2, p3, p4⟩ := hpre c
    obtain ⟨hv, h⟩ := h c
    refine ⟨hv.trans ((Cert.DecRefIdeal.Hand.res_eq m' c).trans ?_), h⟩
    rw [e0, e1, e2, e3, e4]
    funext i
    obtain ⟨b, k, d, rfl⟩ : ∃ (b k : Fin 8) (d : Fin 128), i = ix3 b k d := ⟨i 0, i 1, i 2, eq_ix3 i⟩
    refine (Cert.DecRefIdeal.Hand.result_at _ _ _ _ _ b k d).trans ?_
    exact (Cert.DecRows.attendK_eq _ _ _ _ _ (real_of_one _ _ _ p0) (real_of_one _ _ _ p1) (real_of_one _ _ _ p2) (real_of_one _ _ _ p3) (real_of_one _ _ _ p4) b k d).symm

end Cert.DecProof

end
-- ==== Proof.MlpBody.lean ====
module

public import proofs.«01_k».proof.Proof.Gen.MlpIdeal.Frame
public import proofs.«01_k».proof.Proof.Gen.MlpIdeal.Skeleton
public import Idealize.ShloMosaic.Lib.Pipeline.Value

@[expose] public section

set_option maxRecDepth 16384

noncomputable section

/-! ONE RUN OF THE FEED-FORWARD CALL'S BODY, in each of the four cases of its three conditions: what the two results'
    staging buffers and the two normalised-rows scratch buffers hold afterwards, as the body's own expressions
    (`k0_pay1`, `k0_pay2` the normalised rows, `k0_pay5`, `k0_pay6` a running sum with one tile's product added). -/

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The first branch's condition: the first tile of a block of rows. -/
abbrev firstTile (i : grid0.Coords) : Prop := (Scalar.cmpi .ne (Scalar.extui (Scalar.cmpi .eq (BitVec.ofNat 32 (i 1).val) 0#32)) 0#32) = 1#1
/-- The second's: the first point of the grid. -/
abbrev firstPoint (i : grid0.Coords) : Prop := k0_cond2 i = 1#1
/-- The third's: the first block of rows. -/
abbrev firstBlock (i : grid0.Coords) : Prop := k0_cond3 i = 1#1

/-- The first point: both groups of rows are normalised, both results start at their rows and take the first tile. -/
theorem body_A (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1024x2048 .f32) (harg7 : arg7.IsWhole) (arg8 : Memref sig .tc .vmem S8x2048 .f32) (harg8 : arg8.IsWhole) (arg9 : Memref sig .tc .vmem S1024x2048 .bf16) (harg9 : arg9.IsWhole) (arg10 : Memref sig .tc .vmem S8x2048 .bf16) (harg10 : arg10.IsWhole)
    (hc0 : firstTile i) (hc1 : firstPoint i) (hc2 : firstBlock i)
    (x : Vec F S1024x2048 .f32) (y : Vec F S8x2048 .f32) (g : Vec F S1x1x2048 .f32) (u : Vec F S1x2048x512 .f32) (w : Vec F S1x512x2048 .f32)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare (k0_pay5 u w x (k0_pay1 x g)) ∗ owns (c : Thread nD τ) arg8 fullShare (k0_pay6 u w y (k0_pay2 y g)) ∗ owns (c : Thread nD τ) arg9 fullShare (k0_pay1 x g) ∗ owns (c : Thread nD τ) arg10 fullShare (k0_pay2 y g)) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]
  isplitl [H8]
  · iexists _; isplitr; swap; · iexact H8
    ipureintro
    sl_unfold_words
    rw [View.read_writes_eq_canon _ _ _ (fun z => View.cover_of_tiledL _ S8x2048.size (by sl_kernel_rfl) z)]
    simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]
  isplitl [H9]
  · iexists _; isplitr; swap; · iexact H9
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]
  iexists _; isplitr; swap; · iexact H10
  ipureintro
  sl_unfold_words
  rw [View.read_writes_eq_canon _ _ _ (fun z => View.cover_of_tiledL _ S8x2048.size (by sl_kernel_rfl) z)]
  simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]

/-- The other points of the first block of rows: both results take their tile. -/
theorem body_B (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1024x2048 .f32) (harg7 : arg7.IsWhole) (arg8 : Memref sig .tc .vmem S8x2048 .f32) (harg8 : arg8.IsWhole) (arg9 : Memref sig .tc .vmem S1024x2048 .bf16) (harg9 : arg9.IsWhole) (arg10 : Memref sig .tc .vmem S8x2048 .bf16) (harg10 : arg10.IsWhole)
    (hc0 : ¬firstTile i) (hc1 : ¬firstPoint i) (hc2 : firstBlock i)
    (x : Vec F S1024x2048 .f32) (y : Vec F S8x2048 .f32) (g : Vec F S1x1x2048 .f32) (u : Vec F S1x2048x512 .f32) (w : Vec F S1x512x2048 .f32) (o : Vec F S1024x2048 .f32) (p : Vec F S8x2048 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare o ∗ owns (c : Thread nD τ) arg8 fullShare p ∗ owns (c : Thread nD τ) arg9 fullShare h ∗ owns (c : Thread nD τ) arg10 fullShare k
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare (k0_pay5 u w o h) ∗ owns (c : Thread nD τ) arg8 fullShare (k0_pay6 u w p k) ∗ owns (c : Thread nD τ) arg9 fullShare h ∗ owns (c : Thread nD τ) arg10 fullShare k) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]
  isplitl [H8]
  · iexists _; isplitr; swap; · iexact H8
    ipureintro
    sl_unfold_words
    rw [View.read_writes_eq_canon _ _ _ (fun z => View.cover_of_tiledL _ S8x2048.size (by sl_kernel_rfl) z)]
    simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]
  isplitl [H9]
  · iexists _; isplitr; · ipureintro; exact harg9.read_unread _
    iexact H9
  iexists _; isplitr; · ipureintro; exact harg10.read_unread _
  iexact H10

/-- The first tile of a later block of rows: its rows are normalised, its result starts. -/
theorem body_C (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1024x2048 .f32) (harg7 : arg7.IsWhole) (arg8 : Memref sig .tc .vmem S8x2048 .f32) (harg8 : arg8.IsWhole) (arg9 : Memref sig .tc .vmem S1024x2048 .bf16) (harg9 : arg9.IsWhole) (arg10 : Memref sig .tc .vmem S8x2048 .bf16) (harg10 : arg10.IsWhole)
    (hc0 : firstTile i) (hc1 : ¬firstPoint i) (hc2 : ¬firstBlock i)
    (x : Vec F S1024x2048 .f32) (y : Vec F S8x2048 .f32) (g : Vec F S1x1x2048 .f32) (u : Vec F S1x2048x512 .f32) (w : Vec F S1x512x2048 .f32) (p : Vec F S8x2048 .f32) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ (∃ d, owns (c : Thread nD τ) arg7 fullShare d) ∗ owns (c : Thread nD τ) arg8 fullShare p ∗ (∃ d, owns (c : Thread nD τ) arg9 fullShare d) ∗ owns (c : Thread nD τ) arg10 fullShare k
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare (k0_pay5 u w x (k0_pay1 x g)) ∗ owns (c : Thread nD τ) arg8 fullShare p ∗ owns (c : Thread nD τ) arg9 fullShare (k0_pay1 x g) ∗ owns (c : Thread nD τ) arg10 fullShare k) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg10.eq_unread hf10
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]
  isplitl [H8]
  · iexists _; isplitr; · ipureintro; exact harg8.read_unread _
    iexact H8
  isplitl [H9]
  · iexists _; isplitr; swap; · iexact H9
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]
  iexists _; isplitr; · ipureintro; exact harg10.read_unread _
  iexact H10

/-- The other points of a later block of rows: its result takes its tile. -/
theorem body_D (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1024x2048 .f32) (harg7 : arg7.IsWhole) (arg8 : Memref sig .tc .vmem S8x2048 .f32) (harg8 : arg8.IsWhole) (arg9 : Memref sig .tc .vmem S1024x2048 .bf16) (harg9 : arg9.IsWhole) (arg10 : Memref sig .tc .vmem S8x2048 .bf16) (harg10 : arg10.IsWhole)
    (hc0 : ¬firstTile i) (hc1 : ¬firstPoint i) (hc2 : ¬firstBlock i)
    (x : Vec F S1024x2048 .f32) (y : Vec F S8x2048 .f32) (g : Vec F S1x1x2048 .f32) (u : Vec F S1x2048x512 .f32) (w : Vec F S1x512x2048 .f32) (o : Vec F S1024x2048 .f32) (p : Vec F S8x2048 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare o ∗ owns (c : Thread nD τ) arg8 fullShare p ∗ owns (c : Thread nD τ) arg9 fullShare h ∗ owns (c : Thread nD τ) arg10 fullShare k
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare (k0_pay5 u w o h) ∗ owns (c : Thread nD τ) arg8 fullShare p ∗ owns (c : Thread nD τ) arg9 fullShare h ∗ owns (c : Thread nD τ) arg10 fullShare k) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, View.ld_unit_zero (S := S1024x2048) zero2, View.ld_unit_zero (S := S8x2048) zero2, View.ld_unit_zero (S := S1x1x2048) zero3, View.ld_unit_zero (S := S1x2048x512) zero3, View.ld_unit_zero (S := S1x512x2048) zero3]
  isplitl [H8]
  · iexists _; isplitr; · ipureintro; exact harg8.read_unread _
    iexact H8
  isplitl [H9]
  · iexists _; isplitr; · ipureintro; exact harg9.read_unread _
    iexact H9
  iexists _; isplitr; · ipureintro; exact harg10.read_unread _
  iexact H10

end Cert.MlpIdeal.Hand

end
-- ==== Proof.MlpRun.lean ====
module

public import proofs.«01_k».proof.Proof.MlpBody
public import Idealize.ShloMosaic.Lib.Claim
public import Idealize.ShloMosaic.Lib.Pipeline.Value

@[expose] public section

set_option maxRecDepth 16384

noncomputable section

/-! THE FEED-FORWARD CALL'S RUN: what its four carried buffers hold after each point of the grid (`stAt`, by recursion
    on the point), the pipeline's obligations at those contents, and the run with both result arrays named. The second
    result's block never moves: after the first block of rows the body leaves it alone, and it keeps what point 15 left. -/

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, by arithmetic of the point -/

theorem firstTile_iff : ∀ t : Fin cfg0.N, firstTile (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [firstTile, e0, e1]
    word_cmp
   : ∀ t : Fin grid0.N, firstTile (grid0.coords t) ↔ t.val % 16 = 0)

theorem firstPoint_iff : ∀ t : Fin cfg0.N, firstPoint (grid0.coords t) ↔ t.val % 128 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [firstPoint, k0_cond2, e0, e1]
    word_cmp
   : ∀ t : Fin grid0.N, firstPoint (grid0.coords t) ↔ t.val % 128 = 0)

theorem firstBlock_iff : ∀ t : Fin cfg0.N, firstBlock (grid0.coords t) ↔ t.val < 16 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [firstBlock, k0_cond3, e0, e1]
    word_cmp
   : ∀ t : Fin grid0.N, firstBlock (grid0.coords t) ↔ t.val < 16)

/-- The second result's window is idle exactly past the first block of rows. -/
theorem idle6_iff : ∀ t : Fin cfg0.N, cfg0.idle 6 (grid0.coords t) = true ↔ 16 ≤ t.val := fun t => by
  have h1 := firstPoint_iff t; have h2 := firstBlock_iff t
  show (!(k0_cond2 (grid0.coords t) == 1#1) && !(k0_cond3 (grid0.coords t) == 1#1)) = true ↔ _
  rw [Bool.and_eq_true, Bool.not_eq_true', Bool.not_eq_true', beq_eq_false_iff_ne, beq_eq_false_iff_ne]
  have hN : t.val < 128 := lt_of_lt_of_eq t.isLt (show cfg0.N = 128 from N_0)
  unfold firstPoint at h1; unfold firstBlock at h2
  constructor
  · rintro ⟨-, b⟩; by_contra hc; exact b (h2.mpr (by omega))
  · intro h; exact ⟨fun a => by have := h1.mp a; omega, fun b => by have := h2.mp b; omega⟩

/-! ## The staging and scratch memrefs -/

abbrev mr0 (t : Fin cfg0.N) : Memref sig .tc .vmem S1024x2048 .f32 := win0_0.stage (cfg0.slots t 0)
abbrev mr1 (t : Fin cfg0.N) : Memref sig .tc .vmem S8x2048 .f32 := win0_1.stage (cfg0.slots t 1)
abbrev mr2 (t : Fin cfg0.N) : Memref sig .tc .vmem S1x1x2048 .f32 := win0_2.stage (cfg0.slots t 2)
abbrev mr3 (t : Fin cfg0.N) : Memref sig .tc .vmem S1x2048x512 .f32 := win0_3.stage (cfg0.slots t 3)
abbrev mr4 (t : Fin cfg0.N) : Memref sig .tc .vmem S1x512x2048 .f32 := win0_4.stage (cfg0.slots t 4)
abbrev mr5 (t : Fin cfg0.N) : Memref sig .tc .vmem S1024x2048 .f32 := win0_5.stage (cfg0.slots t 5)
abbrev mr6 (t : Fin cfg0.N) : Memref sig .tc .vmem S8x2048 .f32 := win0_6.stage (cfg0.slots t 6)
abbrev sc0 : Memref sig .tc .vmem S1024x2048 .bf16 := Memref.whole cc0_scratch0
abbrev sc1 : Memref sig .tc .vmem S8x2048 .bf16 := Memref.whole cc0_scratch1

/-- The launch's invariant, with the two scratch buffers as memrefs held at some contents. -/
theorem launch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the carried buffers hold after each point -/

/-- The four carried buffers: the two running results and the two groups of normalised rows. -/
abbrev St (F : FTy → Type) : Type :=
  Vec F S1024x2048 .f32 × Vec F S8x2048 .f32 × Vec F S1024x2048 .bf16 × Vec F S8x2048 .bf16

/-- After the body at position `n`. -/
def stAt (c : Dev nD) : (n : ℕ) → n < cfg0.N → St F
  | 0, hn => (k0_pay5 (iblk m c 3 ⟨0, hn⟩) (iblk m c 4 ⟨0, hn⟩) (iblk m c 0 ⟨0, hn⟩) (k0_pay1 (iblk m c 0 ⟨0, hn⟩) (iblk m c 2 ⟨0, hn⟩)),
      k0_pay6 (iblk m c 3 ⟨0, hn⟩) (iblk m c 4 ⟨0, hn⟩) (iblk m c 1 ⟨0, hn⟩) (k0_pay2 (iblk m c 1 ⟨0, hn⟩) (iblk m c 2 ⟨0, hn⟩)),
      k0_pay1 (iblk m c 0 ⟨0, hn⟩) (iblk m c 2 ⟨0, hn⟩), k0_pay2 (iblk m c 1 ⟨0, hn⟩) (iblk m c 2 ⟨0, hn⟩))
  | n + 1, hn =>
    if (n + 1) % 16 = 0 then
      (k0_pay5 (iblk m c 3 ⟨n + 1, hn⟩) (iblk m c 4 ⟨n + 1, hn⟩) (iblk m c 0 ⟨n + 1, hn⟩) (k0_pay1 (iblk m c 0 ⟨n + 1, hn⟩) (iblk m c 2 ⟨n + 1, hn⟩)),
        (stAt c n (Nat.lt_of_succ_lt hn)).2.1,
        k0_pay1 (iblk m c 0 ⟨n + 1, hn⟩) (iblk m c 2 ⟨n + 1, hn⟩), (stAt c n (Nat.lt_of_succ_lt hn)).2.2.2)
    else
      (k0_pay5 (iblk m c 3 ⟨n + 1, hn⟩) (iblk m c 4 ⟨n + 1, hn⟩) (stAt c n (Nat.lt_of_succ_lt hn)).1 (stAt c n (Nat.lt_of_succ_lt hn)).2.2.1,
        (if n + 1 < 16 then k0_pay6 (iblk m c 3 ⟨n + 1, hn⟩) (iblk m c 4 ⟨n + 1, hn⟩) (stAt c n (Nat.lt_of_succ_lt hn)).2.1 (stAt c n (Nat.lt_of_succ_lt hn)).2.2.2
          else (stAt c n (Nat.lt_of_succ_lt hn)).2.1),
        (stAt c n (Nat.lt_of_succ_lt hn)).2.2.1, (stAt c n (Nat.lt_of_succ_lt hn)).2.2.2)

/-- The point before. -/
abbrev prev (t : Fin cfg0.N) : t.val - 1 < cfg0.N := Nat.lt_of_le_of_lt (Nat.sub_le _ _) t.isLt

theorem stAt_first (c : Dev nD) (t : Fin cfg0.N) (hz : t.val = 0) :
    stAt m c t.val t.isLt = (k0_pay5 (iblk m c 3 t) (iblk m c 4 t) (iblk m c 0 t) (k0_pay1 (iblk m c 0 t) (iblk m c 2 t)),
      k0_pay6 (iblk m c 3 t) (iblk m c 4 t) (iblk m c 1 t) (k0_pay2 (iblk m c 1 t) (iblk m c 2 t)),
      k0_pay1 (iblk m c 0 t) (iblk m c 2 t), k0_pay2 (iblk m c 1 t) (iblk m c 2 t)) := by
  obtain ⟨n, hn⟩ := t
  obtain rfl : n = 0 := hz
  rfl

theorem stAt_start (c : Dev nD) (t : Fin cfg0.N) (hz : t.val ≠ 0) (h : t.val % 16 = 0) :
    stAt m c t.val t.isLt = (k0_pay5 (iblk m c 3 t) (iblk m c 4 t) (iblk m c 0 t) (k0_pay1 (iblk m c 0 t) (iblk m c 2 t)),
      (stAt m c (t.val - 1) (prev t)).2.1, k0_pay1 (iblk m c 0 t) (iblk m c 2 t), (stAt m c (t.val - 1) (prev t)).2.2.2) := by
  obtain ⟨n, hn⟩ := t
  cases n with
  | zero => exact absurd rfl hz
  | succ n => exact (if_pos h).trans rfl

theorem stAt_step (c : Dev nD) (t : Fin cfg0.N) (h : ¬t.val % 16 = 0) :
    stAt m c t.val t.isLt = (k0_pay5 (iblk m c 3 t) (iblk m c 4 t) (stAt m c (t.val - 1) (prev t)).1 (stAt m c (t.val - 1) (prev t)).2.2.1,
      (if t.val < 16 then k0_pay6 (iblk m c 3 t) (iblk m c 4 t) (stAt m c (t.val - 1) (prev t)).2.1 (stAt m c (t.val - 1) (prev t)).2.2.2
        else (stAt m c (t.val - 1) (prev t)).2.1),
      (stAt m c (t.val - 1) (prev t)).2.2.1, (stAt m c (t.val - 1) (prev t)).2.2.2) := by
  obtain ⟨n, hn⟩ := t
  cases n with
  | zero => exact absurd (Nat.zero_mod _) h
  | succ n => exact (if_neg h).trans rfl

/-- Past the first block of rows the second result stays. -/
theorem stAt_keep (c : Dev nD) (t : Fin cfg0.N) (h : 16 ≤ t.val) :
    (stAt m c t.val t.isLt).2.1 = (stAt m c (t.val - 1) (prev t)).2.1 := by
  by_cases h0 : t.val % 16 = 0
  · rw [stAt_start m c t (by omega) h0]
  · rw [stAt_step m c t h0, if_neg (by omega)]

/-- The invariant before position `n`: at the start the launch's; afterwards the scratch buffers at what the point
    before left in them. -/
def Inv (c : Dev nD) : (n : ℕ) → n ≤ cfg0.N → sProp 𝕄
  | 0, _ => Pipeline.ΦA spec0 c
  | n + 1, hn => iprop(iprop(owns (c : Thread nD τ) sc0 fullShare (stAt m c n hn).2.2.1
      ∗ owns (c : Thread nD τ) sc1 fullShare (stAt m c n hn).2.2.2) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) sc0 fullShare (stAt m c n hn).2.2.1
      ∗ owns (c : Thread nD τ) sc1 fullShare (stAt m c n hn).2.2.2) ∗ (∃ r, prngReg c r)) := rfl

theorem Inv_pos (c : Dev nD) (n : ℕ) (h : n ≤ cfg0.N) (hz : n ≠ 0) :
    Inv m c n h = iprop(iprop(owns (c : Thread nD τ) sc0 fullShare (stAt m c (n - 1) (by omega)).2.2.1
      ∗ owns (c : Thread nD τ) sc1 fullShare (stAt m c (n - 1) (by omega)).2.2.2) ∗ (∃ r, prngReg c r)) := by
  cases n with
  | zero => exact absurd rfl hz
  | succ n => rfl

/-! ## The proof data -/

/-- The arrays as the region finds them; each input's buffer at its block, each result's at the carried state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).1
    | ⟨6, _⟩ => (stAt m c t.val t.isLt).2.1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (stAt m c t.val t.isLt).1 := by dsimp only [dats]
theorem after6 (c : Dev nD) (t : Fin cfg0.N) : (dats m 0 c).after 6 t = (stAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Within a block of rows the first result's buffer holds what the point before left. -/
theorem before5 (c : Dev nD) (t : Fin cfg0.N) (h : ¬t.val % 16 = 0) (d) :
    (dats m 0 c).before 5 t d = (stAt m c (t.val - 1) (prev t)).1 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]

/-- The second result's buffer holds, after the first point, what the point before left: the body's own contents within
    the first block of rows, and past it the same contents, left alone. -/
theorem before6 (c : Dev nD) : ∀ (n : ℕ) (hn : n < cfg0.N) (hz : n ≠ 0) (d),
    (dats m 0 c).before 6 ⟨n, hn⟩ d = (stAt m c (n - 1) (Nat.lt_of_le_of_lt (Nat.sub_le _ _) hn)).2.1
  | 0, hn, hz, d => absurd rfl hz
  | n + 1, hn, hz, d => by
    have hN : n + 1 < 128 := lt_of_lt_of_eq hn (show cfg0.N = 128 from N_0)
    have hfl : (cfg0.win 6).flush ⟨n, Nat.lt_of_succ_lt hn⟩ = false :=
      Bool.eq_false_iff.mpr fun h => by have := (flush0_6 _).mp h; dsimp only at this; omega
    rw [(dats m 0 c).before_of_pos 6 ⟨n + 1, hn⟩ hz ((cfg0.win 6).fetch_out rfl _)]
    show (if (cfg0.win 6).flush ⟨n, Nat.lt_of_succ_lt hn⟩ = true then d else (dats m 0 c).left 6 ⟨n, Nat.lt_of_succ_lt hn⟩ d) = (stAt m c n (Nat.lt_of_succ_lt hn)).2.1
    rw [hfl, if_neg Bool.false_ne_true]
    unfold Dat.left
    by_cases hi : 16 ≤ n
    · rw [(idle6_iff ⟨n, Nat.lt_of_succ_lt hn⟩).mpr hi]
      show (dats m 0 c).before 6 ⟨n, Nat.lt_of_succ_lt hn⟩ d = _
      rw [before6 c n (Nat.lt_of_succ_lt hn) (by omega) d]
      exact (stAt_keep m c ⟨n, Nat.lt_of_succ_lt hn⟩ hi).symm
    · rw [show cfg0.idle 6 (cfg0.grid.coords ⟨n, Nat.lt_of_succ_lt hn⟩) = false from
        Bool.eq_false_iff.mpr fun h => hi ((idle6_iff ⟨n, Nat.lt_of_succ_lt hn⟩).mp h)]
      show (dats m 0 c).kept 6 ⟨n, Nat.lt_of_succ_lt hn⟩ d = _
      unfold Dat.kept
      rw [Pipeline.fill_of_clip_none 6 _ (fun _ => rfl) d ((dats m 0 c).after 6 _), Window.fill_cut, after6]

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t)
    ∗ (dats m 0 c).leavesExact 6 t)

/-- Handing the second result's buffer back at its state is what the obligation asks, at every point. -/
theorem leaves6 (c : Dev nD) (t : Fin cfg0.N) :
    (owns (c : Thread nD τ) (mr6 t) fullShare (stAt m c t.val t.isLt).2.1 : sProp 𝕄) ⊢ (dats m 0 c).leavesExact 6 t := by
  have hN : t.val < 128 := lt_of_lt_of_eq t.isLt (show cfg0.N = 128 from N_0)
  by_cases hi : 16 ≤ t.val
  · by_cases hf : (cfg0.win 6).flush t = true
    · unfold Dat.leavesExact
      rw [(idle6_iff t).mpr hi, hf, after6]
    · rw [(dats m 0 c).leavesExact_idle 6 t ((idle6_iff t).mpr hi) (Bool.eq_false_iff.mpr hf)]
      iintro H
      iexists (stAt m c t.val t.isLt).2.1
      rw [show (dats m 0 c).before 6 t (stAt m c t.val t.isLt).2.1 = (stAt m c t.val t.isLt).2.1 from by
        rw [before6 m c t.val t.isLt (by omega), stAt_keep m c t hi]]
      iexact H
  · unfold Dat.leavesExact
    rw [show cfg0.idle 6 (cfg0.grid.coords t) = false from Bool.eq_false_iff.mpr fun h => hi ((idle6_iff t).mp h), after6]

set_option maxHeartbeats 3200000 in
/-- The body's triple at any point, by the case its conditions select. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5]
  rw [show (dats m 0 c).Φ t.succ = Inv m c (t.val + 1) t.isLt from rfl, Inv_succ]
  have hN : t.val < 128 := lt_of_lt_of_eq t.isLt (show cfg0.N = 128 from N_0)
  by_cases h0 : t.val % 16 = 0
  · by_cases hz : t.val = 0
    · rw [Inv_castSucc m c t, Inv_zero m c _ _ hz, launch_eq]
      have e := stAt_first m c t hz
      rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
      have e6 : (stAt m c t.val t.isLt).2.1 = _ := congrArg (fun s => s.2.1) e
      dsimp only at e6 ⊢
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (body_A c (grid0.coords t) _ _ _ _ _ _ _ _ _ _ _ _ _ _ _ _ _ _ ((firstTile_iff t).mpr h0) ((firstPoint_iff t).mpr (by omega)) ((firstBlock_iff t).mpr (by omega)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves6 m c t)
      rw [e6]
      iexact H6
    · rw [Inv_castSucc m c t, Inv_pos m c _ _ hz]
      have e := stAt_start m c t hz h0
      simp only [show ∀ d, (dats m 0 c).before 6 t d = (stAt m c (t.val - 1) (prev t)).2.1 from fun d => before6 m c t.val t.isLt hz d]
      rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
      have e6 : (stAt m c t.val t.isLt).2.1 = _ := congrArg (fun s => s.2.1) e
      dsimp only at e6 ⊢
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (body_C c (grid0.coords t) _ _ _ _ _ _ _ _ _ _ _ _ _ _ _ _ _ _ ((firstTile_iff t).mpr h0) (fun h => by have := (firstPoint_iff t).mp h; omega) (fun h => by have := (firstBlock_iff t).mp h; omega) (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves6 m c t)
      rw [e6]
      iexact H6
  · have hz : t.val ≠ 0 := fun h => h0 (by rw [h])
    by_cases h2 : t.val < 16
    · rw [Inv_castSucc m c t, Inv_pos m c _ _ hz]
      have e := stAt_step m c t h0
      rw [if_pos h2] at e
      simp only [before5 m c t h0]
      simp only [show ∀ d, (dats m 0 c).before 6 t d = (stAt m c (t.val - 1) (prev t)).2.1 from fun d => before6 m c t.val t.isLt hz d]
      rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
      have e6 : (stAt m c t.val t.isLt).2.1 = _ := congrArg (fun s => s.2.1) e
      dsimp only at e6 ⊢
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (body_B c (grid0.coords t) _ _ _ _ _ _ _ _ _ _ _ _ _ _ _ _ _ _ (fun h => h0 ((firstTile_iff t).mp h)) (fun h => by have := (firstPoint_iff t).mp h; omega) ((firstBlock_iff t).mpr (by omega)) (iblk m c 0 t) (iblk m c 1 t) (iblk m c 2 t) (iblk m c 3 t) (iblk m c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves6 m c t)
      rw [e6]
      iexact H6
    · rw [Inv_castSucc m c t, Inv_pos m c _ _ hz]
      have e := stAt_step m c t h0
      rw [if_neg h2] at e
      simp only [before5 m c t h0]
      simp only [show ∀ d, (dats m 0 c).before 6 t d = (stAt m c (t.val - 1) (prev t)).2.1 from fun d => before6 m c t.val t.isLt hz d]
      rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
      have e6 : (stAt m c t.val t.isLt).2.1 = _ := congrArg (fun s => s.2.1) e
      dsimp only at e6 ⊢
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (body_D c (grid0.coords t) _ _ _ _ _ _ _ _ _ _ _ _ _ _ _ _ _ _ (fun h => h0 ((firstTile_iff t).mp h)) (fun h => by have := (firstPoint_iff t).mp h; omega) (fun h => by have := (firstBlock_iff t).mp h; omega) (iblk m c 0 t) (iblk m c 1 t) (iblk m c 2 t) (iblk m c 3 t) (iblk m c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves6 m c t)
      rw [e6]
      iexact H6

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦA spec0 c ⊢ (dats m 0 c).Φ 0 := by
  rw [show (dats m 0 c).Φ 0 = Inv m c 0 (Nat.zero_le _) from rfl, Inv_zero m c 0 _ rfl]

theorem inv_out (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by have : cfg0.N = 128 := N_0; omega), launch_eq]
  iintro ⟨⟨HS0, HS1⟩, Hg⟩
  isplitl [HS0 HS1]
  · isplitl [HS0]; · iexists _; iexact HS0
    iexists _; iexact HS1
  iexact Hg

/-! ## The run -/

set_option backward.isDefEq.respectTransparency.types false in
/-- The launch: every execution ends with the arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.MlpIdeal.Hand

end
-- ==== Proof.Rows.lean ====
module

public import Idealize.ShloMosaic.Lib.Pointwise

@[expose] public section

noncomputable section

/-! THE MATHEMATICS OF ONE ROW, over the extended reals: root-mean-square normalisation, the squared-ReLU feed-forward
    sum, and the one law the kernels' tiling needs — a sum over 8192 hidden units is the sum, tile after tile, of the sums
    over the 512 units of each. Nothing here mentions a program. -/

namespace Cert.Rows

open Idealize.ShloMosaic

/-- The row `x`, normalised by its root mean square (with the small constant under the root) and scaled by `g`. -/
def rms (x g : Fin 2048 → EReal) (k : Fin 2048) : EReal :=
  x k * Ideal.rsqrt (Ideal.div (∑ l, x l * x l) (Ideal.ofBits .f32 0x45000000#32) + Ideal.ofBits .f32 0x358637BD#32) * g k

/-- A hidden unit's contribution: the squared positive part of the row against the unit's column, times its weight out. -/
def unit (h u : Fin 2048 → EReal) (w : EReal) : EReal :=
  max (∑ k, h k * u k) 0 * max (∑ k, h k * u k) 0 * w

/-- The `j`-th tile of 512 terms of a family of 8192, zero past the end. -/
def tile (T : Fin 8192 → EReal) (j : ℕ) : EReal :=
  ∑ f : Fin 512, if h : j * 512 + f.val < 8192 then T ⟨j * 512 + f.val, h⟩ else 0

theorem tile_eq (T : Fin 8192 → EReal) (j : ℕ) (S : Fin 512 → EReal)
    (h : ∀ (f : Fin 512) (hf : j * 512 + f.val < 8192), S f = T ⟨j * 512 + f.val, hf⟩) (hj : j < 16) : ∑ f, S f = tile T j := by
  unfold tile
  refine Finset.sum_congr rfl fun f _ => ?_
  rw [dif_pos (by omega)]
  exact h f _

/-- The sixteen tiles make the whole sum. -/
theorem sum_tiles (T : Fin 8192 → EReal) : ∑ j ∈ Finset.range 16, tile T j = ∑ f, T f := by
  rw [Fin.sum_univ_tiles 16 512 rfl T, Finset.sum_range]
  refine Finset.sum_congr rfl fun j _ => ?_
  exact (tile_eq T j.val (fun f => T ⟨j.val * 512 + f.val, by omega⟩) (fun f hf => rfl) j.isLt).symm

/-- One more tile added to a partial sum over the ones before it. -/
theorem add_tile (x : EReal) (T : Fin 8192 → EReal) (s : ℕ) :
    (x + ∑ j ∈ Finset.range s, tile T j) + tile T s = x + ∑ j ∈ Finset.range (s + 1), tile T j := by
  rw [Finset.sum_range_succ, add_assoc]

end Cert.Rows

end
-- ==== Proof.MlpPure.lean ====
module

public import proofs.«01_k».proof.Proof.Rows
public import proofs.«01_k».proof.Proof.Gen.MlpIdeal.Skeleton
public import proofs.«01_k».proof.Proof.Gen.MlpRefIdeal.Run

@[expose] public section

set_option maxRecDepth 16384

noncomputable section

/-! THE FEED-FORWARD CALL, READ AT AN INDEX: what the body stores over the values it loads, and the reference's two
    results, each as the row mathematics of `Rows`. -/

namespace Cert.MlpIdeal.Hand

open Cert.MlpIdeal Cert.MlpIdeal.Gen
open Idealize.ShloMosaic Idealize.ShloMosaic.TcCoe Idealize.SL.Sem

/-- The normalised rows of the prompt's block. -/
theorem pay1_at (x : FVec Ideal S1024x2048 .f32) (g : FVec Ideal S1x1x2048 .f32) (r : Fin 1024) (k : Fin 2048) :
    k0_pay1 (F := Ideal) x g (ix2 r k) = Rows.rms (fun l => x (ix2 r l)) (fun l => g (ix3 0 0 l)) k := by
  pointwise [k0_pay1]
  rfl

/-- The normalised rows of the sample. -/
theorem pay2_at (x : FVec Ideal S8x2048 .f32) (g : FVec Ideal S1x1x2048 .f32) (r : Fin 8) (k : Fin 2048) :
    k0_pay2 (F := Ideal) x g (ix2 r k) = Rows.rms (fun l => x (ix2 r l)) (fun l => g (ix3 0 0 l)) k := by
  pointwise [k0_pay2]
  rfl

/-- One tile of hidden units added to the prompt's block. -/
theorem pay5_at (u : FVec Ideal S1x2048x512 .f32) (w : FVec Ideal S1x512x2048 .f32) (o : FVec Ideal S1024x2048 .f32)
    (h : FVec Ideal S1024x2048 .bf16) (r : Fin 1024) (d : Fin 2048) :
    k0_pay5 (F := Ideal) u w o h (ix2 r d)
      = o (ix2 r d) + ∑ f : Fin 512, Rows.unit (fun k => h (ix2 r k)) (fun k => u (ix3 0 k f)) (w (ix3 0 f d)) := by
  pointwise [k0_pay5, k0_pay3, k0_pay4]
  rfl

/-- One tile of hidden units added to the sample. -/
theorem pay6_at (u : FVec Ideal S1x2048x512 .f32) (w : FVec Ideal S1x512x2048 .f32) (o : FVec Ideal S8x2048 .f32)
    (h : FVec Ideal S8x2048 .bf16) (r : Fin 8) (d : Fin 2048) :
    k0_pay6 (F := Ideal) u w o h (ix2 r d)
      = o (ix2 r d) + ∑ f : Fin 512, Rows.unit (fun k => h (ix2 r k)) (fun k => u (ix3 0 k f)) (w (ix3 0 f d)) := by
  pointwise [k0_pay6, k0_pay3, k0_pay4]
  rfl

/-- The layer on one row `x`: the row plus its feed-forward sum over all 8192 hidden units of layer 0. -/
def terms (x : Fin 2048 → EReal) (a2 : FVec Ideal S4x1x2048 .f32) (a3 : FVec Ideal S4x2048x8192 .f32) (a4 : FVec Ideal S4x8192x2048 .f32)
    (d : Fin 2048) (f : Fin 8192) : EReal :=
  Rows.unit (Rows.rms x fun l => a2 (ix3 0 0 l)) (fun k => a3 (ix3 0 k f)) (a4 (ix3 0 f d))

end Cert.MlpIdeal.Hand

namespace Cert.MlpRefIdeal.Hand

open Cert.MlpRefIdeal Cert.MlpRefIdeal.Gen
open Idealize.ShloMosaic Idealize.ShloMosaic.TcCoe Idealize.SL.Sem

/-- The reference's first result, as its run states it. -/
def prompt (a0 : FVec Ideal S8192x2048 .f32) (a2 : FVec Ideal S4x1x2048 .f32) (a3 : FVec Ideal S4x2048x8192 .f32) (a4 : FVec Ideal S4x8192x2048 .f32) : FVec Ideal S8192x2048 .f32 :=
  addf a0 (Host.dotGeneral dot_S8192x8192_S8192x2048_S8192x2048_1_0_0_1_n_n none (mulf (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![0, 0, 0] a2 slices_S4x1x2048_S1x1x2048_0_0_0) shapeCasts_S1x1x2048_S1x2048))) (shapeCast _ (extractStridedSlice S1x2048x8192 ![0, 0, 0] a3 slices_S4x2048x8192_S1x2048x8192_0_0_0) shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![0, 0, 0] a2 slices_S4x1x2048_S1x1x2048_0_0_0) shapeCasts_S1x1x2048_S1x2048))) (shapeCast _ (extractStridedSlice S1x2048x8192 ![0, 0, 0] a3 slices_S4x2048x8192_S1x2048x8192_0_0_0) shapeCasts_S1x2048x8192_S2048x8192)) (broadcastInDim S8192x8192 ![] bcast_S_S8192x8192 (constant S_ .f32 0x00000000#32)))) (shapeCast _ (extractStridedSlice S1x8192x2048 ![0, 0, 0] a4 slices_S4x8192x2048_S1x8192x2048_0_0_0) shapeCasts_S1x8192x2048_S8192x2048))

/-- The reference's second result, as its run states it. -/
def sample (a1 : FVec Ideal S8x2048 .f32) (a2 : FVec Ideal S4x1x2048 .f32) (a3 : FVec Ideal S4x2048x8192 .f32) (a4 : FVec Ideal S4x8192x2048 .f32) : FVec Ideal S8x2048 .f32 :=
  addf a1 (Host.dotGeneral dot_S8x8192_S8192x2048_S8x2048_1_0_0_1_n_n none (mulf (maximumf (Host.dotGeneral dot_S8x2048_S2048x8192_S8x8192_1_0_0_1_n_n none (mulf (mulf a1 (broadcastInDim S8x2048 ![0, 1] bcast_S8x1_S8x2048_0_1 (Host.rsqrt (addf (Host.divf (broadcastInDim S8x1 ![0] bcast_S8_S8x1_0 (Host.reduceAdd (mulf a1 a1) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (shapeCast _ (extractStridedSlice S1x1x2048 ![0, 0, 0] a2 slices_S4x1x2048_S1x1x2048_0_0_0) shapeCasts_S1x1x2048_S1x2048))) (shapeCast _ (extractStridedSlice S1x2048x8192 ![0, 0, 0] a3 slices_S4x2048x8192_S1x2048x8192_0_0_0) shapeCasts_S1x2048x8192_S2048x8192)) (broadcastInDim S8x8192 ![] bcast_S_S8x8192 (constant S_ .f32 0x00000000#32))) (maximumf (Host.dotGeneral dot_S8x2048_S2048x8192_S8x8192_1_0_0_1_n_n none (mulf (mulf a1 (broadcastInDim S8x2048 ![0, 1] bcast_S8x1_S8x2048_0_1 (Host.rsqrt (addf (Host.divf (broadcastInDim S8x1 ![0] bcast_S8_S8x1_0 (Host.reduceAdd (mulf a1 a1) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (shapeCast _ (extractStridedSlice S1x1x2048 ![0, 0, 0] a2 slices_S4x1x2048_S1x1x2048_0_0_0) shapeCasts_S1x1x2048_S1x2048))) (shapeCast _ (extractStridedSlice S1x2048x8192 ![0, 0, 0] a3 slices_S4x2048x8192_S1x2048x8192_0_0_0) shapeCasts_S1x2048x8192_S2048x8192)) (broadcastInDim S8x8192 ![] bcast_S_S8x8192 (constant S_ .f32 0x00000000#32)))) (shapeCast _ (extractStridedSlice S1x8192x2048 ![0, 0, 0] a4 slices_S4x8192x2048_S1x8192x2048_0_0_0) shapeCasts_S1x8192x2048_S8192x2048))

theorem prompt_at (a0 : FVec Ideal S8192x2048 .f32) (a2 : FVec Ideal S4x1x2048 .f32) (a3 : FVec Ideal S4x2048x8192 .f32) (a4 : FVec Ideal S4x8192x2048 .f32)
    (r : Fin 8192) (d : Fin 2048) :
    prompt a0 a2 a3 a4 (ix2 r d) = a0 (ix2 r d) + ∑ f, MlpIdeal.Hand.terms (fun l => a0 (ix2 r l)) a2 a3 a4 d f := by
  pointwise [prompt]
  rfl

theorem sample_at (a1 : FVec Ideal S8x2048 .f32) (a2 : FVec Ideal S4x1x2048 .f32) (a3 : FVec Ideal S4x2048x8192 .f32) (a4 : FVec Ideal S4x8192x2048 .f32)
    (r : Fin 8) (d : Fin 2048) :
    sample a1 a2 a3 a4 (ix2 r d) = a1 (ix2 r d) + ∑ f, MlpIdeal.Hand.terms (fun l => a1 (ix2 r l)) a2 a3 a4 d f := by
  pointwise [sample]
  rfl

end Cert.MlpRefIdeal.Hand

end
-- ==== Proof.MlpValue.lean ====
module

public import proofs.«01_k».proof.Proof.MlpRun
public import proofs.«01_k».proof.Proof.MlpPure

@[expose] public section

set_option maxRecDepth 16384

noncomputable section

/-! THE FEED-FORWARD CALL'S VALUE: by induction over the points, the prompt's block holds its rows plus the tiles of
    hidden units seen so far, the sample's likewise during the first block of rows; so both arrays end at the layer. -/

namespace Cert.MlpIdeal.Hand

open Cert.MlpIdeal Cert.MlpIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments, and the windows' blocks of them -/

abbrev arg0 (c : Dev nD) : FVec Ideal S8192x2048 .f32 := m ((c.tc : Thread nD τ).loc main_arg0)
abbrev arg1 (c : Dev nD) : FVec Ideal S8x2048 .f32 := m ((c.tc : Thread nD τ).loc main_arg1)
abbrev arg2 (c : Dev nD) : FVec Ideal S4x1x2048 .f32 := m ((c.tc : Thread nD τ).loc main_arg2)
abbrev arg3 (c : Dev nD) : FVec Ideal S4x2048x8192 .f32 := m ((c.tc : Thread nD τ).loc main_arg3)
abbrev arg4 (c : Dev nD) : FVec Ideal S4x8192x2048 .f32 := m ((c.tc : Thread nD τ).loc main_arg4)

theorem index_facts : ∀ t : Fin cfg0.N,
    (win0_0.index t (0 : Fin 2) = t.val / 16 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = t.val % 16)
    ∧ (win0_4.index t (0 : Fin 3) = 0 ∧ win0_4.index t (1 : Fin 3) = t.val % 16 ∧ win0_4.index t (2 : Fin 3) = 0)
    ∧ (win0_5.index t (0 : Fin 2) = t.val / 16 ∧ win0_5.index t (1 : Fin 2) = 0)
    ∧ (win0_6.index t (0 : Fin 2) = 0 ∧ win0_6.index t (1 : Fin 2) = 0) :=
  (by decide +kernel : ∀ t : Fin grid0.N, _)

theorem blk0_at (c : Dev nD) (t : Fin cfg0.N) (r : Fin 1024) (k : Fin 2048) (R : Fin 8192) (hR : R.val = t.val / 16 * 1024 + r.val) :
    (iblk m c 0 t : FVec Ideal S1024x2048 .f32) (ix2 r k) = arg0 m c (ix2 R k) := by
  obtain ⟨⟨e0, e1⟩, -⟩ := index_facts t
  refine congrArg (m ((c.tc : Thread nD τ).loc main_arg0)) ?_
  funext a; apply Fin.ext
  match a with
  | ⟨0, _⟩ => show win0_0.index t (0 : Fin 2) * 1024 + 1 * r.val = R.val; omega
  | ⟨1, _⟩ => show win0_0.index t (1 : Fin 2) * 2048 + 1 * k.val = k.val; omega

theorem blk1_at (c : Dev nD) (t : Fin cfg0.N) (r : Fin 8) (k : Fin 2048) :
    (iblk m c 1 t : FVec Ideal S8x2048 .f32) (ix2 r k) = arg1 m c (ix2 r k) := by
  obtain ⟨-, ⟨e0, e1⟩, -⟩ := index_facts t
  refine congrArg (m ((c.tc : Thread nD τ).loc main_arg1)) ?_
  funext a; apply Fin.ext
  match a with
  | ⟨0, _⟩ => show win0_1.index t (0 : Fin 2) * 8 + 1 * r.val = r.val; omega
  | ⟨1, _⟩ => show win0_1.index t (1 : Fin 2) * 2048 + 1 * k.val = k.val; omega

theorem blk2_at (c : Dev nD) (t : Fin cfg0.N) (k : Fin 2048) :
    (iblk m c 2 t : FVec Ideal S1x1x2048 .f32) (ix3 0 0 k) = arg2 m c (ix3 0 0 k) := by
  obtain ⟨-, -, ⟨e0, e1, e2⟩, -⟩ := index_facts t
  refine congrArg (m ((c.tc : Thread nD τ).loc main_arg2)) ?_
  funext a; apply Fin.ext
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 2048 + 1 * k.val = k.val; omega

theorem blk3_at (c : Dev nD) (t : Fin cfg0.N) (k : Fin 2048) (f : Fin 512) (G : Fin 8192) (hG : G.val = t.val % 16 * 512 + f.val) :
    (iblk m c 3 t : FVec Ideal S1x2048x512 .f32) (ix3 0 k f) = arg3 m c (ix3 0 k G) := by
  obtain ⟨-, -, -, ⟨e0, e1, e2⟩, -⟩ := index_facts t
  refine congrArg (m ((c.tc : Thread nD τ).loc main_arg3)) ?_
  funext a; apply Fin.ext
  match a with
  | ⟨0, _⟩ => show win0_3.index t (0 : Fin 3) * 1 + 1 * 0 = 0; omega
  | ⟨1, _⟩ => show win0_3.index t (1 : Fin 3) * 2048 + 1 * k.val = k.val; omega
  | ⟨2, _⟩ => show win0_3.index t (2 : Fin 3) * 512 + 1 * f.val = G.val; omega

theorem blk4_at (c : Dev nD) (t : Fin cfg0.N) (f : Fin 512) (d : Fin 2048) (G : Fin 8192) (hG : G.val = t.val % 16 * 512 + f.val) :
    (iblk m c 4 t : FVec Ideal S1x512x2048 .f32) (ix3 0 f d) = arg4 m c (ix3 0 G d) := by
  obtain ⟨-, -, -, -, ⟨e0, e1, e2⟩, -⟩ := index_facts t
  refine congrArg (m ((c.tc : Thread nD τ).loc main_arg4)) ?_
  funext a; apply Fin.ext
  match a with
  | ⟨0, _⟩ => show win0_4.index t (0 : Fin 3) * 1 + 1 * 0 = 0; omega
  | ⟨1, _⟩ => show win0_4.index t (1 : Fin 3) * 512 + 1 * f.val = G.val; omega
  | ⟨2, _⟩ => show win0_4.index t (2 : Fin 3) * 2048 + 1 * d.val = d.val; omega

/-! ## The carried state, row by row -/

/-- The row of the prompt that row `r` of the block at point `n` is. -/
abbrev rowOf (n : ℕ) (hn : n < cfg0.N) (r : Fin 1024) : Fin 8192 :=
  ⟨n / 16 * 1024 + r.val, by have : n < 128 := lt_of_lt_of_eq hn (show cfg0.N = 128 from N_0); have := r.isLt; omega⟩

/-- The gain of layer 0. -/
abbrev gain (c : Dev nD) : Fin 2048 → EReal := fun l => arg2 m c (ix3 0 0 l)

/-- The feed-forward terms of a row, at layer 0's weights. -/
abbrev T (c : Dev nD) (x : Fin 2048 → EReal) (d : Fin 2048) : Fin 8192 → EReal := terms x (arg2 m c) (arg3 m c) (arg4 m c) d

theorem norm_prompt (c : Dev nD) (t : Fin cfg0.N) (r : Fin 1024) (k : Fin 2048) :
    k0_pay1 (F := Ideal) (iblk m c 0 t) (iblk m c 2 t) (ix2 r k) = Rows.rms (fun l => arg0 m c (ix2 (rowOf t.val t.isLt r) l)) (gain m c) k := by
  refine (pay1_at _ _ r k).trans ?_
  rw [show (fun l => (iblk m c 0 t : FVec Ideal S1024x2048 .f32) (ix2 r l)) = fun l => arg0 m c (ix2 (rowOf t.val t.isLt r) l) from
      funext fun l => blk0_at m c t r l _ rfl,
    show (fun l => (iblk m c 2 t : FVec Ideal S1x1x2048 .f32) (ix3 0 0 l)) = gain m c from funext fun l => blk2_at m c t l]

theorem norm_sample (c : Dev nD) (t : Fin cfg0.N) (r : Fin 8) (k : Fin 2048) :
    k0_pay2 (F := Ideal) (iblk m c 1 t) (iblk m c 2 t) (ix2 r k) = Rows.rms (fun l => arg1 m c (ix2 r l)) (gain m c) k := by
  refine (pay2_at _ _ r k).trans ?_
  rw [show (fun l => (iblk m c 1 t : FVec Ideal S8x2048 .f32) (ix2 r l)) = fun l => arg1 m c (ix2 r l) from
      funext fun l => blk1_at m c t r l,
    show (fun l => (iblk m c 2 t : FVec Ideal S1x1x2048 .f32) (ix3 0 0 l)) = gain m c from funext fun l => blk2_at m c t l]

/-- The tile of hidden units the point works on, over a normalised row. -/
theorem tile_at (c : Dev nD) (t : Fin cfg0.N) (x h : Fin 2048 → EReal) (hh : ∀ k, h k = Rows.rms x (gain m c) k) (d : Fin 2048) :
    (∑ f : Fin 512, Rows.unit h (fun k => (iblk m c 3 t : FVec Ideal S1x2048x512 .f32) (ix3 0 k f)) ((iblk m c 4 t : FVec Ideal S1x512x2048 .f32) (ix3 0 f d)))
      = Rows.tile (T m c x d) (t.val % 16) := by
  refine Rows.tile_eq _ _ _ (fun f hf => ?_) (by omega)
  rw [show h = Rows.rms x (gain m c) from funext hh, blk4_at m c t f d ⟨_, hf⟩ rfl,
    show (fun k => (iblk m c 3 t : FVec Ideal S1x2048x512 .f32) (ix3 0 k f)) = fun k => arg3 m c (ix3 0 k ⟨_, hf⟩) from
      funext fun k => blk3_at m c t k f _ rfl]
  rfl

/-- After point `n`: the prompt's block is its rows plus the tiles `0 … n % 16`, beside its normalised rows. -/
theorem state_prompt (c : Dev nD) : ∀ (n : ℕ) (hn : n < cfg0.N) (r : Fin 1024),
    (∀ d : Fin 2048, (stAt m c n hn).1 (ix2 r d) = arg0 m c (ix2 (rowOf n hn r) d)
        + ∑ j ∈ Finset.range (n % 16 + 1), Rows.tile (T m c (fun l => arg0 m c (ix2 (rowOf n hn r) l)) d) j)
    ∧ ∀ k : Fin 2048, (stAt m c n hn).2.2.1 (ix2 r k) = Rows.rms (fun l => arg0 m c (ix2 (rowOf n hn r) l)) (gain m c) k := by
  have start : ∀ (t : Fin cfg0.N) (r : Fin 1024), t.val % 16 = 0 →
      (∀ d : Fin 2048, k0_pay5 (F := Ideal) (iblk m c 3 t) (iblk m c 4 t) (iblk m c 0 t) (k0_pay1 (iblk m c 0 t) (iblk m c 2 t)) (ix2 r d)
        = arg0 m c (ix2 (rowOf t.val t.isLt r) d)
        + ∑ j ∈ Finset.range (t.val % 16 + 1), Rows.tile (T m c (fun l => arg0 m c (ix2 (rowOf t.val t.isLt r) l)) d) j) := by
    intro t r h d
    refine (pay5_at _ _ _ _ r d).trans ?_
    rw [tile_at m c t (fun l => arg0 m c (ix2 (rowOf t.val t.isLt r) l)) _ (fun k => norm_prompt m c t r k) d, h,
      Finset.sum_range_one, blk0_at m c t r d (rowOf t.val t.isLt r) rfl]
  intro n
  induction n with
  | zero =>
    intro hn r
    have e := stAt_first m c ⟨0, hn⟩ rfl
    dsimp only at e
    rw [e]
    exact ⟨start ⟨0, hn⟩ r rfl, norm_prompt m c ⟨0, hn⟩ r⟩
  | succ n ih =>
    intro hn r
    by_cases h0 : (n + 1) % 16 = 0
    · have e := stAt_start m c ⟨n + 1, hn⟩ (Nat.succ_ne_zero n) h0
      dsimp only at e
      rw [e]
      exact ⟨start ⟨n + 1, hn⟩ r h0, norm_prompt m c ⟨n + 1, hn⟩ r⟩
    · have e := stAt_step m c ⟨n + 1, hn⟩ h0
      obtain ⟨p1, p2⟩ := ih (Nat.lt_of_succ_lt hn) r
      have hrow : rowOf n (Nat.lt_of_succ_lt hn) r = rowOf (n + 1) hn r := Fin.ext (by dsimp only; omega)
      rw [hrow] at p1 p2
      simp only [Nat.add_sub_cancel] at e
      rw [e]
      refine ⟨fun d => ?_, p2⟩
      refine (pay5_at _ _ _ _ r d).trans ?_
      rw [tile_at m c ⟨n + 1, hn⟩ (fun l => arg0 m c (ix2 (rowOf (n + 1) hn r) l)) _ p2 d, p1 d,
        show (n + 1) % 16 + 1 = n % 16 + 1 + 1 from by omega, Finset.sum_range_succ _ (n % 16 + 1), ← add_assoc]
      dsimp only
      rw [show (n + 1) % 16 = n % 16 + 1 from by omega]

/-- After point `n`: the sample's rows plus the tiles seen during the first block of rows, beside its normalised rows. -/
theorem state_sample (c : Dev nD) (r : Fin 8) : ∀ (n : ℕ) (hn : n < cfg0.N),
    (∀ d : Fin 2048, (stAt m c n hn).2.1 (ix2 r d) = arg1 m c (ix2 r d)
        + ∑ j ∈ Finset.range (min (n + 1) 16), Rows.tile (T m c (fun l => arg1 m c (ix2 r l)) d) j)
    ∧ ∀ k : Fin 2048, (stAt m c n hn).2.2.2 (ix2 r k) = Rows.rms (fun l => arg1 m c (ix2 r l)) (gain m c) k := by
  intro n
  induction n with
  | zero =>
    intro hn
    have e := stAt_first m c ⟨0, hn⟩ rfl
    dsimp only at e
    rw [e]
    refine ⟨fun d => ?_, norm_sample m c ⟨0, hn⟩ r⟩
    refine (pay6_at _ _ _ _ r d).trans ?_
    rw [tile_at m c ⟨0, hn⟩ (fun l => arg1 m c (ix2 r l)) _ (fun k => norm_sample m c ⟨0, hn⟩ r k) d,
      show min (0 + 1) 16 = 1 from rfl, Finset.sum_range_one, blk1_at m c ⟨0, hn⟩ r d]
    rfl
  | succ n ih =>
    intro hn
    obtain ⟨p1, p2⟩ := ih (Nat.lt_of_succ_lt hn)
    by_cases h0 : (n + 1) % 16 = 0
    · have e := stAt_start m c ⟨n + 1, hn⟩ (Nat.succ_ne_zero n) h0
      simp only [Nat.add_sub_cancel] at e
      rw [e]
      refine ⟨fun d => ?_, p2⟩
      rw [show min (n + 1 + 1) 16 = min (n + 1) 16 from by omega]
      exact p1 d
    · have e := stAt_step m c ⟨n + 1, hn⟩ h0
      simp only [Nat.add_sub_cancel] at e
      rw [e]
      refine ⟨fun d => ?_, p2⟩
      by_cases h2 : n + 1 < 16
      · rw [if_pos h2]
        refine (pay6_at _ _ _ _ r d).trans ?_
        rw [tile_at m c ⟨n + 1, hn⟩ (fun l => arg1 m c (ix2 r l)) _ p2 d, p1 d, show min (n + 1 + 1) 16 = (n + 1) + 1 from by omega,
          show min (n + 1) 16 = n + 1 from by omega]
        dsimp only
        rw [show (n + 1) % 16 = n + 1 from by omega, Rows.add_tile]
      · rw [if_neg h2, show min (n + 1 + 1) 16 = min (n + 1) 16 from by omega]
        exact p1 d

/-! ## The arrays -/

/-- The prompt's result. -/
def outPrompt (c : Dev nD) : Buf (Elt Ideal) ((c.tc : Thread nD τ).loc main_v0_0) := fun i =>
  arg0 m c (ix2 (i 0) (i 1)) + ∑ f, T m c (fun l => arg0 m c (ix2 (i 0) l)) (i 1) f

/-- The sample's result. -/
def outSample (c : Dev nD) : Buf (Elt Ideal) ((c.tc : Thread nD τ).loc main_v0_1) := fun i =>
  arg1 m c (ix2 (i 0) (i 1)) + ∑ f, T m c (fun l => arg1 m c (ix2 (i 0) l)) (i 1) f

theorem flushed_prompt (c : Dev nD) (t : Fin cfg0.N) (hf : (cfg0.win 5).flush t = true) :
    (dats m 0 c).flushed 5 t = ((cfg0.win 5).blk t).view.read (Elt Ideal) (outPrompt m c) := by
  show (cfg0.win 5).cut (grid0.coords t) ((dats m 0 c).after 5 t) = _
  rw [after5]
  have hm : t.val % 16 = 15 := (flush0_5 t).mp hf
  obtain ⟨-, -, -, -, -, ⟨e0, e1⟩, -⟩ := index_facts t
  funext y
  obtain ⟨r, d, rfl⟩ : ∃ (r : Fin 1024) (d : Fin 2048), y = ix2 r d := ⟨y 0, y 1, eq_ix2 y⟩
  have hb : ((cfg0.win 5).blk t).view.emb (ix2 r d) = ix2 (rowOf t.val t.isLt r) d := by
    funext a; apply Fin.ext
    match a with
    | ⟨0, _⟩ => show win0_5.index t (0 : Fin 2) * 1024 + 1 * r.val = _; rw [e0]; show _ = t.val / 16 * 1024 + r.val; omega
    | ⟨1, _⟩ => show win0_5.index t (1 : Fin 2) * 2048 + 1 * d.val = d.val; omega
  refine ((state_prompt m c t.val t.isLt r).1 d).trans ?_
  rw [hm, Rows.sum_tiles]
  exact (congrArg (outPrompt m c) hb).symm

theorem flushed_sample (c : Dev nD) (t : Fin cfg0.N) (hf : (cfg0.win 6).flush t = true) :
    (dats m 0 c).flushed 6 t = ((cfg0.win 6).blk t).view.read (Elt Ideal) (outSample m c) := by
  show (cfg0.win 6).cut (grid0.coords t) ((dats m 0 c).after 6 t) = _
  rw [after6]
  have hm : t.val % 128 = 127 := (flush0_6 t).mp hf
  obtain ⟨-, -, -, -, -, -, ⟨e0, e1⟩⟩ := index_facts t
  funext y
  obtain ⟨r, d, rfl⟩ : ∃ (r : Fin 8) (d : Fin 2048), y = ix2 r d := ⟨y 0, y 1, eq_ix2 y⟩
  have hb : ((cfg0.win 6).blk t).view.emb (ix2 r d) = ix2 r d := by
    funext a; apply Fin.ext
    match a with
    | ⟨0, _⟩ => show win0_6.index t (0 : Fin 2) * 8 + 1 * r.val = r.val; omega
    | ⟨1, _⟩ => show win0_6.index t (1 : Fin 2) * 2048 + 1 * d.val = d.val; omega
  refine ((state_sample m c r t.val t.isLt).1 d).trans ?_
  rw [show min (t.val + 1) 16 = 16 from by omega, Rows.sum_tiles]
  exact (congrArg (outSample m c) hb).symm

theorem mem_prompt (t : Fin cfg0.N) (i : S8192x2048.Idx) :
    i ∈ ((cfg0.win 5).blk t).view.set ↔ ∀ a : Fin 2, win0_5.index t a * S1024x2048.size a ≤ (i a).val ∧ (i a).val < win0_5.index t a * S1024x2048.size a + S1024x2048.size a := by
  show i ∈ ((View.whole main_v0_0).slice (win0_5.rect t)).set ↔ _
  rw [View.set_slice_whole, Rect.mem_set_unit]
  exact Iff.rfl

theorem mem_sample (t : Fin cfg0.N) (i : S8x2048.Idx) :
    i ∈ ((cfg0.win 6).blk t).view.set ↔ ∀ a : Fin 2, win0_6.index t a * S8x2048.size a ≤ (i a).val ∧ (i a).val < win0_6.index t a * S8x2048.size a + S8x2048.size a := by
  show i ∈ ((View.whole main_v0_1).slice (win0_6.rect t)).set ↔ _
  rw [View.set_slice_whole, Rect.mem_set_unit]
  exact Iff.rfl

theorem final_prompt (c : Dev nD) : (dats m 0 c).arrAt 5 cfg0.N = outPrompt m c :=
  (dats m 0 c).arrAt_eq_of_cover 5 _ (fun t hf => flushed_prompt m c t hf) fun i => by
    have h0 : (i 0).val < 8192 := (i 0).isLt
    have h1 : (i 1).val < 2048 := (i 1).isLt
    have hlt : 16 * ((i 0).val / 1024) + 15 < cfg0.N := lt_of_lt_of_eq (by omega : _ < 128) (show cfg0.N = 128 from N_0).symm
    obtain ⟨-, -, -, -, -, ⟨e0, e1⟩, -⟩ := index_facts ⟨_, hlt⟩
    refine ⟨⟨_, hlt⟩, (flush0_5 _).mpr (by dsimp only; omega), ?_⟩
    rw [mem_prompt]
    dsimp only at e0
    intro a
    match a with
    | ⟨0, _⟩ => show win0_5.index ⟨_, hlt⟩ (0 : Fin 2) * 1024 ≤ (i 0).val ∧ (i 0).val < win0_5.index ⟨_, hlt⟩ (0 : Fin 2) * 1024 + 1024; omega
    | ⟨1, _⟩ => show win0_5.index ⟨_, hlt⟩ (1 : Fin 2) * 2048 ≤ (i 1).val ∧ (i 1).val < win0_5.index ⟨_, hlt⟩ (1 : Fin 2) * 2048 + 2048; omega

theorem final_sample (c : Dev nD) : (dats m 0 c).arrAt 6 cfg0.N = outSample m c :=
  (dats m 0 c).arrAt_eq_of_cover 6 _ (fun t hf => flushed_sample m c t hf) fun i => by
    have h0 : (i 0).val < 8 := (i 0).isLt
    have h1 : (i 1).val < 2048 := (i 1).isLt
    have hlt : 127 < cfg0.N := lt_of_lt_of_eq (by omega : _ < 128) (show cfg0.N = 128 from N_0).symm
    obtain ⟨-, -, -, -, -, -, ⟨e0, e1⟩⟩ := index_facts ⟨_, hlt⟩
    refine ⟨⟨_, hlt⟩, (flush0_6 _).mpr (by dsimp only), ?_⟩
    rw [mem_sample]
    intro a
    match a with
    | ⟨0, _⟩ => show win0_6.index ⟨_, hlt⟩ (0 : Fin 2) * 8 ≤ (i 0).val ∧ (i 0).val < win0_6.index ⟨_, hlt⟩ (0 : Fin 2) * 8 + 8; omega
    | ⟨1, _⟩ => show win0_6.index ⟨_, hlt⟩ (1 : Fin 2) * 2048 ≤ (i 1).val ∧ (i 1).val < win0_6.index ⟨_, hlt⟩ (1 : Fin 2) * 2048 + 2048; omega

/-- The run: both results at the layer, the arguments unchanged. -/
theorem run : θ_run defs (onTc (τ := τ) (main (F := Ideal))) ⟨m, fun _ => 0, ρ⟩ fun r => ∀ c : Dev nD,
      r.2.mem ((c.tc : Thread nD τ).loc main_v0_0) = outPrompt m c
      ∧ r.2.mem ((c.tc : Thread nD τ).loc main_v0_1) = outSample m c :=
  (θ_run defs _ _).mono (fun r h c => ⟨((h c).1 5).trans (final_prompt m c), ((h c).1 6).trans (final_sample m c)⟩) (run_main m ρ)

end Cert.MlpIdeal.Hand

end
-- ==== Proof.MlpClaims.lean ====
module

public import proofs.«01_k».proof.Defs
public import proofs.«01_k».proof.Proof.MlpValue
public import proofs.«01_k».proof.Proof.Gen.Mlp
public import proofs.«01_k».proof.Proof.Gen.MlpRefIdeal.Run
public import Idealize.ShloMosaic.Lib.Claim

@[expose] public section

set_option maxRecDepth 16384

noncomputable section

/-! THE FEED-FORWARD CALL'S CLAIMS: the three frames, and the kernel's two results equal to the reference's. -/

namespace Cert.MlpProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.Mlp.defs₀ (F := F) = Cert.MlpIdeal.defs₀ (F := F) := by
  funext p l a
  cases p with
  | tc =>
    match l, a with
    | 0, (t, s) => rfl
  | scScalar => rfl
  | scVector => rfl

theorem defs_same {F : FTy → Type} [FloatOps F] : Cert.Mlp.defs (F := F) = Cert.MlpIdeal.defs (F := F) :=
  congrArg (Idealize.ShloMosaic.Pipeline.defs Cert.Mlp.pcfgs) body_same

theorem frame_kernel : Cert.quiescent_Mlp (hMlp := Cert.Mlp.Gen.facts) := fun m ρ _ =>
  (congrArg (fun d => θ_run d (onTc (τ := Cert.Mlp.τ) (Cert.Mlp.main (F := Bits))) ⟨m, fun _ => 0, ρ⟩ _) defs_same).mpr
    (Cert.MlpIdeal.Hand.frame (F := Bits) m ρ)

theorem frame_ideal : Cert.quiescent_MlpIdeal (hMlpIdeal := Cert.MlpIdeal.Gen.facts) := fun m ρ _ => Cert.MlpIdeal.Hand.frame m ρ

theorem frame_reference : Cert.quiescent_MlpRefIdeal (hMlpRefIdeal := Cert.MlpRefIdeal.Gen.facts) := fun m ρ _ =>
  (θ_run _ _ _).mono (fun r h => ⟨fun c => (h c).2.2, Idealize.ShloMosaic.sem_eq_zero_of_no_sems (by decide) r.2⟩)
    (Cert.MlpRefIdeal.Value.run (F := Ideal) m ρ)

/-- The reference's first result is the kernel's. -/
theorem prompt_eq (m : (ℓ : Loc Cert.MlpIdeal.nD Cert.MlpIdeal.τ Cert.MlpIdeal.sig) → Buf (Elt Ideal) ℓ) (c : Dev Cert.MlpIdeal.nD) :
    Cert.MlpRefIdeal.Hand.prompt (Cert.MlpIdeal.Hand.arg0 m c) (Cert.MlpIdeal.Hand.arg2 m c) (Cert.MlpIdeal.Hand.arg3 m c) (Cert.MlpIdeal.Hand.arg4 m c)
      = Cert.MlpIdeal.Hand.outPrompt m c := by
  funext i
  obtain ⟨r, d, rfl⟩ : ∃ (r : Fin 8192) (d : Fin 2048), i = ix2 r d := ⟨i 0, i 1, eq_ix2 i⟩
  exact Cert.MlpRefIdeal.Hand.prompt_at _ _ _ _ r d

/-- The reference's second result is the kernel's. -/
theorem sample_eq (m : (ℓ : Loc Cert.MlpIdeal.nD Cert.MlpIdeal.τ Cert.MlpIdeal.sig) → Buf (Elt Ideal) ℓ) (c : Dev Cert.MlpIdeal.nD) :
    Cert.MlpRefIdeal.Hand.sample (Cert.MlpIdeal.Hand.arg1 m c) (Cert.MlpIdeal.Hand.arg2 m c) (Cert.MlpIdeal.Hand.arg3 m c) (Cert.MlpIdeal.Hand.arg4 m c)
      = Cert.MlpIdeal.Hand.outSample m c := by
  funext i
  obtain ⟨r, d, rfl⟩ : ∃ (r : Fin 8) (d : Fin 2048), i = ix2 r d := ⟨i 0, i 1, eq_ix2 i⟩
  exact Cert.MlpRefIdeal.Hand.sample_at _ _ _ _ r d

theorem algebraic : Cert.algebraic_MlpIdeal_MlpRefIdeal (hMlpIdeal := Cert.MlpIdeal.Gen.facts) (hMlpRefIdeal := Cert.MlpRefIdeal.Gen.facts) := by
  intro m g m' g' _ hargs
  refine ⟨fun c => Cert.MlpIdeal.Hand.outPrompt m c, fun c => Cert.MlpIdeal.Hand.outSample m c, ?_, ?_⟩
  · refine (θ_run _ _ _).mono (fun r h c => ?_) (θ_run_and (Cert.MlpIdeal.Hand.run m g) (Cert.MlpIdeal.Hand.frame m g))
    obtain ⟨h1, h2, -⟩ := h
    exact ⟨(h1 c).1, (h1 c).2, h2 c⟩
  · refine (θ_run _ _ _).mono (fun r h c => ?_) (Cert.MlpRefIdeal.Value.run (F := Ideal) m' g')
    obtain ⟨e0, e1, e2, e3, e4⟩ := hargs c
    obtain ⟨hv, hw, h⟩ := h c
    refine ⟨hv.trans ?_, hw.trans ?_, h⟩
    · rw [e0, e2, e3, e4]
      exact prompt_eq m c
    · rw [e1, e2, e3, e4]
      exact sample_eq m c

end Cert.MlpProof

end
-- ==== Proof.ProjBody.lean ====
module

public import proofs.«01_k».proof.Proof.Gen.ProjIdeal.Frame
public import proofs.«01_k».proof.Proof.Gen.ProjIdeal.Skeleton
public import Idealize.ShloMosaic.Lib.Pipeline.Value
public import Idealize.ShloMosaic.Lib.Pipeline.DatRel
public import Idealize.ShloMosaic.Lib.Pointwise.Index
public import Idealize.ShloMosaic.Lib.WritesUnit

@[expose] public section

set_option maxRecDepth 16384

noncomputable section

/-! ONE RUN OF THE BODY OF MIXER A'S INPUT PROJECTION, in each of the four cases of its three conditions: what the two
    results' staging buffers and the two normalised-rows scratch buffers hold afterwards. The sample's result is written
    one tile of columns at a time, so of its buffer the body changes the point's tile only (`put`). -/

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The first branch's condition: the first tile of columns of a block of rows. -/
abbrev firstTile (i : grid0.Coords) : Prop := (Scalar.cmpi .ne (Scalar.extui (Scalar.cmpi .eq (BitVec.ofNat 32 (i 1).val) 0#32)) 0#32) = 1#1
/-- The second's: the first point of the grid. -/
abbrev firstPoint (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The third's: the first block of rows. -/
abbrev firstBlock (i : grid0.Coords) : Prop := k0_cond3 i = 1#1

/-- The sample's result with the point's tile of columns put in its place. -/
abbrev put (i : grid0.Coords) (p : Vec F S18x8x512 .f32) (v : Vec F S1x8x512 .f32) : Vec F S18x8x512 .f32 :=
  fun z => if (z 0).val = (i 1).val then v (ix3 0 (z 1) (z 2)) else p z

theorem off1_eq (i : grid0.Coords) : k0_off1 i = ![(i 1).val, 0, 0] := by
  have h : ∀ j : Fin 18, (Scalar.indexCast (BitVec.ofNat 32 j.val)).toNat = j.val := by decide
  show ![(Scalar.indexCast (BitVec.ofNat 32 (i 1).val)).toNat, 0, 0] = _
  rw [h (i 1)]

/-- The first point: both groups of rows are normalised, both results take the tile of columns. -/
theorem body_A (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S18x8x512 .f32) (harg7 : arg7.IsWhole) (arg8 : Memref sig .tc .vmem S1024x2048 .bf16) (harg8 : arg8.IsWhole) (arg9 : Memref sig .tc .vmem S8x2048 .bf16) (harg9 : arg9.IsWhole)
    (hc0 : firstTile i) (hc1 : firstPoint i) (hc2 : firstBlock i)
    (x : Vec F S1024x2048 .f32) (y : Vec F S8x2048 .f32) (g : Vec F S1x1x2048 .f32) (w : Vec F S1x2048x512 .bf16) (p : Vec F S18x8x512 .f32)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ (∃ d, owns (c : Thread nD τ) arg8 fullShare d) ∗ (∃ d, owns (c : Thread nD τ) arg9 fullShare d)
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w (k0_pay1 x g)) ∗ owns (c : Thread nD τ) arg7 fullShare (put i p (k0_pay5 w (k0_pay2 y g))) ∗ owns (c : Thread nD τ) arg8 fullShare (k0_pay1 x g) ∗ owns (c : Thread nD τ) arg9 fullShare (k0_pay2 y g)) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5; obtain rfl := harg7.eq_unread hf7
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; swap; · iexact H7
    ipureintro
    sl_unfold_words
    funext z
    by_cases h : (z 0).val = (i 1).val
    · refine (View.read_writes_cons_unit_of_mem _ _ _ _ _ z (ix3 0 (z 1) (z 2)) (off1_eq i) fun a => ?_).trans ?_
      · match a with
        | ⟨0, _⟩ => show (z 0).val = (i 1).val + 0; omega
        | ⟨1, _⟩ => show (z 1).val = 0 + (z 1).val; omega
        | ⟨2, _⟩ => show (z 2).val = 0 + (z 2).val; omega
      · simp only [View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
        exact (if_pos h).symm
    · refine (View.read_writes_cons_unit_of_not_mem _ _ _ _ _ z (off1_eq i) 0 ?_).trans ?_
      · show (z 0).val < (i 1).val ∨ (i 1).val + 1 ≤ (z 0).val; omega
      · rw [View.writes_nil, harg7.read_unread]
        exact (if_neg h).symm
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  iexists _; isplitr; swap; · iexact H9
  ipureintro
  sl_unfold_words
  rw [View.read_writes_eq_canon _ _ _ (fun z => View.cover_of_tiledL _ S8x2048.size (by sl_kernel_rfl) z)]
  simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]

/-- The other points of the first block of rows: both results take the tile. -/
theorem body_B (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S18x8x512 .f32) (harg7 : arg7.IsWhole) (arg8 : Memref sig .tc .vmem S1024x2048 .bf16) (harg8 : arg8.IsWhole) (arg9 : Memref sig .tc .vmem S8x2048 .bf16) (harg9 : arg9.IsWhole)
    (hc0 : ¬firstTile i) (hc1 : ¬firstPoint i) (hc2 : firstBlock i)
    (x : Vec F S1024x2048 .f32) (y : Vec F S8x2048 .f32) (g : Vec F S1x1x2048 .f32) (w : Vec F S1x2048x512 .bf16) (p : Vec F S18x8x512 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ owns (c : Thread nD τ) arg8 fullShare h ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w h) ∗ owns (c : Thread nD τ) arg7 fullShare (put i p (k0_pay5 w k)) ∗ owns (c : Thread nD τ) arg8 fullShare h ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; swap; · iexact H7
    ipureintro
    sl_unfold_words
    funext z
    by_cases h : (z 0).val = (i 1).val
    · refine (View.read_writes_cons_unit_of_mem _ _ _ _ _ z (ix3 0 (z 1) (z 2)) (off1_eq i) fun a => ?_).trans ?_
      · match a with
        | ⟨0, _⟩ => show (z 0).val = (i 1).val + 0; omega
        | ⟨1, _⟩ => show (z 1).val = 0 + (z 1).val; omega
        | ⟨2, _⟩ => show (z 2).val = 0 + (z 2).val; omega
      · simp only [View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
        exact (if_pos h).symm
    · refine (View.read_writes_cons_unit_of_not_mem _ _ _ _ _ z (off1_eq i) 0 ?_).trans ?_
      · show (z 0).val < (i 1).val ∨ (i 1).val + 1 ≤ (z 0).val; omega
      · rw [View.writes_nil, harg7.read_unread]
        exact (if_neg h).symm
  isplitl [H8]
  · iexists _; isplitr; · ipureintro; exact harg8.read_unread _
    iexact H8
  iexists _; isplitr; · ipureintro; exact harg9.read_unread _
  iexact H9

/-- The first tile of a later block of rows: its rows are normalised. -/
theorem body_C (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S18x8x512 .f32) (harg7 : arg7.IsWhole) (arg8 : Memref sig .tc .vmem S1024x2048 .bf16) (harg8 : arg8.IsWhole) (arg9 : Memref sig .tc .vmem S8x2048 .bf16) (harg9 : arg9.IsWhole)
    (hc0 : firstTile i) (hc1 : ¬firstPoint i) (hc2 : ¬firstBlock i)
    (x : Vec F S1024x2048 .f32) (y : Vec F S8x2048 .f32) (g : Vec F S1x1x2048 .f32) (w : Vec F S1x2048x512 .bf16) (p : Vec F S18x8x512 .f32) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ (∃ d, owns (c : Thread nD τ) arg8 fullShare d) ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w (k0_pay1 x g)) ∗ owns (c : Thread nD τ) arg7 fullShare p ∗ owns (c : Thread nD τ) arg8 fullShare (k0_pay1 x g) ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  iexists _; isplitr; · ipureintro; exact harg9.read_unread _
  iexact H9

/-- The other points of a later block of rows. -/
theorem body_D (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S18x8x512 .f32) (harg7 : arg7.IsWhole) (arg8 : Memref sig .tc .vmem S1024x2048 .bf16) (harg8 : arg8.IsWhole) (arg9 : Memref sig .tc .vmem S8x2048 .bf16) (harg9 : arg9.IsWhole)
    (hc0 : ¬firstTile i) (hc1 : ¬firstPoint i) (hc2 : ¬firstBlock i)
    (x : Vec F S1024x2048 .f32) (y : Vec F S8x2048 .f32) (g : Vec F S1x1x2048 .f32) (w : Vec F S1x2048x512 .bf16) (p : Vec F S18x8x512 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ owns (c : Thread nD τ) arg8 fullShare h ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w h) ∗ owns (c : Thread nD τ) arg7 fullShare p ∗ owns (c : Thread nD τ) arg8 fullShare h ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

end Cert.ProjIdeal.Hand

end
-- ==== Proof.ProjRun.lean ====
module

public import proofs.«01_k».proof.Proof.ProjBody
public import Idealize.ShloMosaic.Lib.Claim
public import Idealize.ShloMosaic.Lib.Pipeline.Value
public import Idealize.ShloMosaic.Lib.Pipeline.DatRel

@[expose] public section

set_option maxRecDepth 16384

noncomputable section

/-! THE RUN OF MIXER A'S INPUT PROJECTION: the prompt's result is one tile per point; the sample's is one resident
    block whose tiles are written during the first block of rows, so its contents are held to a relation (`upTo`: the
    tiles written so far), which at the last point names the whole block. -/

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, by arithmetic of the point -/

theorem coords0 (t : Fin cfg0.N) : (grid0.coords t 0).val = t.val / 18 % 8 := Pipeline.Grid.coords_val t 0 (by decide) rfl
theorem coords1 (t : Fin cfg0.N) : (grid0.coords t 1).val = t.val % 18 :=
  (Pipeline.Grid.coords_val t 1 (by decide) rfl).trans (by rw [Nat.div_one] : t.val / 1 % 18 = t.val % 18)

theorem firstTile_iff : ∀ t : Fin cfg0.N, firstTile (grid0.coords t) ↔ t.val % 18 = 0 :=
  (fun t => by
    have ht : t.val < 144 := Nat.lt_of_lt_of_eq t.isLt N_0
    have e0 : (grid0.coords t 0).val = t.val / 18 % 8 := Pipeline.Grid.coords_val t 0 (by decide) rfl
    have e1 : (grid0.coords t 1).val = t.val / 1 % 18 := Pipeline.Grid.coords_val t 1 (by decide) rfl
    simp only [firstTile, e0, e1]
    word_cmp
   : ∀ t : Fin grid0.N, firstTile (grid0.coords t) ↔ t.val % 18 = 0)

theorem firstPoint_iff : ∀ t : Fin cfg0.N, firstPoint (grid0.coords t) ↔ t.val % 144 = 0 :=
  (fun t => by
    have ht : t.val < 144 := Nat.lt_of_lt_of_eq t.isLt N_0
    have e0 : (grid0.coords t 0).val = t.val / 18 % 8 := Pipeline.Grid.coords_val t 0 (by decide) rfl
    have e1 : (grid0.coords t 1).val = t.val / 1 % 18 := Pipeline.Grid.coords_val t 1 (by decide) rfl
    simp only [firstPoint, e0, e1]
    word_cmp
   : ∀ t : Fin grid0.N, firstPoint (grid0.coords t) ↔ t.val % 144 = 0)

theorem firstBlock_iff : ∀ t : Fin cfg0.N, firstBlock (grid0.coords t) ↔ t.val < 18 :=
  (fun t => by
    have ht : t.val < 144 := Nat.lt_of_lt_of_eq t.isLt N_0
    have e0 : (grid0.coords t 0).val = t.val / 18 % 8 := Pipeline.Grid.coords_val t 0 (by decide) rfl
    have e1 : (grid0.coords t 1).val = t.val / 1 % 18 := Pipeline.Grid.coords_val t 1 (by decide) rfl
    simp only [firstBlock, k0_cond3, e0, e1]
    word_cmp
   : ∀ t : Fin grid0.N, firstBlock (grid0.coords t) ↔ t.val < 18)

/-! ## The staging and scratch memrefs -/

abbrev mr0 (t : Fin cfg0.N) : Memref sig .tc .vmem S1024x2048 .f32 := win0_0.stage (cfg0.slots t 0)
abbrev mr1 (t : Fin cfg0.N) : Memref sig .tc .vmem S8x2048 .f32 := win0_1.stage (cfg0.slots t 1)
abbrev mr2 (t : Fin cfg0.N) : Memref sig .tc .vmem S1x1x2048 .f32 := win0_2.stage (cfg0.slots t 2)
abbrev mr3 (t : Fin cfg0.N) : Memref sig .tc .vmem S1x2048x512 .bf16 := win0_3.stage (cfg0.slots t 3)
abbrev mr4 (t : Fin cfg0.N) : Memref sig .tc .vmem S1024x512 .f32 := win0_4.stage (cfg0.slots t 4)
abbrev mr5 (t : Fin cfg0.N) : Memref sig .tc .vmem S18x8x512 .f32 := win0_5.stage (cfg0.slots t 5)
abbrev sc0 : Memref sig .tc .vmem S1024x2048 .bf16 := Memref.whole cc0_scratch0
abbrev sc1 : Memref sig .tc .vmem S8x2048 .bf16 := Memref.whole cc0_scratch1

/-- The launch's invariant, with the two scratch buffers as memrefs held at some contents. -/
theorem launch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the carried buffers hold after each point -/

/-- The first point. -/
abbrev pt0 : Fin cfg0.N := ⟨0, lt_of_lt_of_eq (by decide : 0 < 144) (show cfg0.N = 144 from N_0).symm⟩

/-- The prompt's normalised rows after the body at position `n`: made at the first tile of the block of rows, kept after. -/
def hAt (c : Dev nD) : (n : ℕ) → n < cfg0.N → Vec F S1024x2048 .bf16
  | 0, hn => k0_pay1 (iblk m c 0 ⟨0, hn⟩) (iblk m c 2 ⟨0, hn⟩)
  | n + 1, hn => if (n + 1) % 18 = 0 then k0_pay1 (iblk m c 0 ⟨n + 1, hn⟩) (iblk m c 2 ⟨n + 1, hn⟩) else hAt c n (Nat.lt_of_succ_lt hn)

/-- The sample's normalised rows, made at the first point. -/
def hsOf (c : Dev nD) : Vec F S8x2048 .bf16 := k0_pay2 (iblk m c 1 pt0) (iblk m c 2 pt0)

/-- The point before. -/
abbrev prev (t : Fin cfg0.N) : t.val - 1 < cfg0.N := Nat.lt_of_le_of_lt (Nat.sub_le _ _) t.isLt

theorem hAt_start (c : Dev nD) (t : Fin cfg0.N) (h : t.val % 18 = 0) :
    hAt m c t.val t.isLt = k0_pay1 (iblk m c 0 t) (iblk m c 2 t) := by
  obtain ⟨n, hn⟩ := t
  cases n with
  | zero => rfl
  | succ n => exact (if_pos h).trans rfl

theorem hAt_step (c : Dev nD) (t : Fin cfg0.N) (h : ¬t.val % 18 = 0) :
    hAt m c t.val t.isLt = hAt m c (t.val - 1) (prev t) := by
  obtain ⟨n, hn⟩ := t
  cases n with
  | zero => exact absurd (Nat.zero_mod _) h
  | succ n => exact (if_neg h).trans rfl

/-- The point whose tile of columns is `j`, in the first block of rows. -/
abbrev ptOf (j : Fin 18) : Fin cfg0.N := ⟨j.val, lt_of_lt_of_eq (by omega : j.val < 144) (show cfg0.N = 144 from N_0).symm⟩

/-- The sample's whole result. -/
def osOf (c : Dev nD) : Vec F S18x8x512 .f32 := fun z => k0_pay5 (iblk m c 3 (ptOf (z 0))) (hsOf m c) (ix3 0 (z 1) (z 2))

/-- The sample's result has its tiles `0 … n`. -/
def upTo (c : Dev nD) (n : ℕ) (X : Vec F S18x8x512 .f32) : Prop := ∀ z : (S18x8x512).Idx, (z 0).val ≤ n → X z = osOf m c z

theorem upTo_mono (c : Dev nD) {n n' : ℕ} {X : Vec F S18x8x512 .f32} (h : upTo m c n X) (hn : 18 ≤ n + 1) : upTo m c n' X :=
  fun z _ => h z (by have := (z 0).isLt; have h' : (z 0).val < 18 := this; omega)

theorem upTo_put (c : Dev nD) (t : Fin cfg0.N) (ht : t.val < 18) {X : Vec F S18x8x512 .f32} (h : t.val ≠ 0 → upTo m c (t.val - 1) X) :
    upTo m c t.val (put (grid0.coords t) X (k0_pay5 (iblk m c 3 t) (hsOf m c))) := by
  intro z hz
  have e : (grid0.coords t 1).val = t.val := (coords1 t).trans (Nat.mod_eq_of_lt ht)
  show (if (z 0).val = (grid0.coords t 1).val then _ else _) = _
  rw [e]
  by_cases hc : (z 0).val = t.val
  · rw [if_pos hc]
    have ep : ptOf (z 0) = t := Fin.ext hc
    unfold osOf
    rw [ep]
  · rw [if_neg hc]
    exact h (by omega) z (by omega)

/-- The invariant before position `n`: at the start the launch's; afterwards the scratch buffers at what the point
    before left in them. -/
def Inv (c : Dev nD) : (n : ℕ) → n ≤ cfg0.N → sProp 𝕄
  | 0, _ => Pipeline.ΦA spec0 c
  | n + 1, hn => iprop(iprop(owns (c : Thread nD τ) sc0 fullShare (hAt m c n hn)
      ∗ owns (c : Thread nD τ) sc1 fullShare (hsOf m c)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) sc0 fullShare (hAt m c n hn)
      ∗ owns (c : Thread nD τ) sc1 fullShare (hsOf m c)) ∗ (∃ r, prngReg c r)) := rfl

theorem Inv_pos (c : Dev nD) (n : ℕ) (h : n ≤ cfg0.N) (hz : n ≠ 0) :
    Inv m c n h = iprop(iprop(owns (c : Thread nD τ) sc0 fullShare (hAt m c (n - 1) (by omega))
      ∗ owns (c : Thread nD τ) sc1 fullShare (hsOf m c)) ∗ (∃ r, prngReg c r)) := by
  cases n with
  | zero => exact absurd rfl hz
  | succ n => rfl

/-! ## The proof data -/

/-- The arrays as the region finds them; each input's buffer at its block, the prompt's result at its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (iblk m c 3 t) (hAt m c t.val t.isLt)
    | ⟨5, _⟩ => osOf m c
  Φ t := Inv m c t.val (Nat.le_of_lt_succ t.isLt)
  q _ := fullShare
  owed _ := 0

/-- The sample's result is held to a relation: its tiles written so far. -/
abbrev marked : Fin cfg0.W → Bool := fun w => match w with
  | ⟨0, _⟩ => false | ⟨1, _⟩ => false | ⟨2, _⟩ => false | ⟨3, _⟩ => false | ⟨4, _⟩ => false | ⟨5, _⟩ => true

abbrev Rl (c : Dev nD) : (w : Fin cfg0.W) → Fin cfg0.N → ((cfg0.win w).block.Idx → Elt F (cfg0.win w).elt) → Prop :=
  fun w t => match w with
    | ⟨0, _⟩ => fun _ => True | ⟨1, _⟩ => fun _ => True | ⟨2, _⟩ => fun _ => True | ⟨3, _⟩ => fun _ => True | ⟨4, _⟩ => fun _ => True
    | ⟨5, _⟩ => fun X => upTo m c t.val X

/-- The relational proof data. -/
abbrev rdat (c : Dev nD) : RDat τ (Elt F) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (iblk m c 3 t) (hAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- After the first point the sample's buffer is found with the tiles of the points before. -/
theorem finds5 (c : Dev nD) (t : Fin cfg0.N) (Y : Vec F S18x8x512 .f32) (h : (rdat m c).Finds 5 t Y) (hz : t.val ≠ 0) : upTo m c (t.val - 1) Y := by
  have hN : t.val < 144 := lt_of_lt_of_eq t.isLt (show cfg0.N = 144 from N_0)
  rw [RDat.finds_of_pos (rdat m c) ((cfg0.win 5).fetch_out rfl t) hz] at h
  have hfl : ¬(cfg0.win 5).flush ⟨t.val - 1, prev t⟩ = true := fun h => by have := (flush0_5 _).mp h; dsimp only at this; omega
  rcases h with h | h
  · exact absurd h hfl
  · exact (dats m 0 c).toRRel_leaves (fgt := marked) (Rl := Rl m c) (w := 5) rfl h

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ Y, ⌜(rdat m c).Finds 5 t Y⌝ ∗ owns (c : Thread nD τ) (mr5 t) fullShare Y))

def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ (∃ X, ⌜upTo m c t.val X⌝ ∗ owns (c : Thread nD τ) (mr5 t) fullShare X))

set_option maxHeartbeats 3200000 in
/-- The body's triple at any point, by the case its conditions select. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.succ = Inv m c (t.val + 1) t.isLt from rfl, Inv_succ]
  have hN : t.val < 144 := lt_of_lt_of_eq t.isLt (show cfg0.N = 144 from N_0)
  by_cases h0 : t.val % 18 = 0
  · by_cases hz : t.val = 0
    · obtain rfl : t = pt0 := Fin.ext hz
      rw [Inv_castSucc m c pt0, Inv_zero m c _ _ hz, launch_eq, hAt_start m c pt0 h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_A c (grid0.coords pt0) _ _ _ _ _ _ _ _ _ _ _ _ _ _ _ _ ((firstTile_iff _).mpr h0) ((firstPoint_iff _).mpr (by omega)) ((firstBlock_iff _).mpr (by omega)) (iblk m c 0 pt0) (iblk m c 1 pt0) (iblk m c 2 pt0) (iblk m c 3 pt0) Y Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_put m c pt0 (by omega) fun h => absurd hz h
    · rw [Inv_castSucc m c t, Inv_pos m c _ _ hz, hAt_start m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_C c (grid0.coords t) _ _ _ _ _ _ _ _ _ _ _ _ _ _ _ _ ((firstTile_iff t).mpr h0) (fun h => by have := (firstPoint_iff t).mp h; omega) (fun h => by have := (firstBlock_iff t).mp h; omega) (iblk m c 0 t) (iblk m c 1 t) (iblk m c 2 t) (iblk m c 3 t) Y _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_mono m c (finds5 m c t Y hY hz) (by omega)
  · have hz : t.val ≠ 0 := fun h => h0 (by rw [h])
    by_cases h2 : t.val < 18
    · rw [Inv_castSucc m c t, Inv_pos m c _ _ hz, hAt_step m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_B c (grid0.coords t) _ _ _ _ _ _ _ _ _ _ _ _ _ _ _ _ (fun h => h0 ((firstTile_iff t).mp h)) (fun h => by have := (firstPoint_iff t).mp h; omega) ((firstBlock_iff t).mpr h2) (iblk m c 0 t) (iblk m c 1 t) (iblk m c 2 t) (iblk m c 3 t) Y _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_put m c t h2 fun hz => finds5 m c t Y hY hz
    · rw [Inv_castSucc m c t, Inv_pos m c _ _ hz, hAt_step m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_D c (grid0.coords t) _ _ _ _ _ _ _ _ _ _ _ _ _ _ _ _ (fun h => h0 ((firstTile_iff t).mp h)) (fun h => by have := (firstPoint_iff t).mp h; omega) (fun h => by have := (firstBlock_iff t).mp h; omega) (iblk m c 0 t) (iblk m c 1 t) (iblk m c 2 t) (iblk m c 3 t) Y _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_mono m c (finds5 m c t Y hY hz) (by omega)

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (Rl m c) := fun t => by
  rw [bigSep_W0, bigSep_W0, body_row]
  exact triple_restated (sound_body m c t) rfl .rfl fun _ => .rfl

theorem inv_in (c : Dev nD) : Pipeline.ΦA spec0 c ⊢ (rdat m c).Φ 0 := by
  rw [show (rdat m c).Φ 0 = Inv m c 0 (Nat.zero_le _) from rfl, Inv_zero m c 0 _ rfl]

theorem inv_out (c : Dev nD) : (rdat m c).Φ (Fin.last cfg0.N) ⊢ Pipeline.ΦA spec0 c := by
  rw [show (rdat m c).Φ (Fin.last cfg0.N) = Inv m c cfg0.N (Nat.le_refl _) from rfl,
    Inv_pos m c _ _ (by have : cfg0.N = 144 := N_0; omega), launch_eq]
  iintro ⟨⟨HS0, HS1⟩, Hg⟩
  isplitl [HS0 HS1]
  · isplitl [HS0]; · iexists _; iexact HS0
    iexists _; iexact HS1
  iexact Hg

/-! ## The run -/

set_option backward.isDefEq.respectTransparency.types false in
/-- The launch: every execution ends with the arrays at what the proof data allows and every semaphore at zero. -/
theorem run_main_quiescent : θ_run defs (onTc (τ := τ) (main (F := F))) (s₀ m ρ) (fun r => (RDat.FramePost cfg0 (rdat m) (V m)) r ∧ r.2.sem = fun _ => 0) :=
  RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (RDat.FramePost cfg0 (rdat m) (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1.arr_in c 0 rfl).trans (V_main_arg0 m c), (h.1.arr_in c 1 rfl).trans (V_main_arg1 m c),
    (h.1.arr_in c 2 rfl).trans (V_main_arg2 m c),
    ((h.1 c).2 main_arg3 (Pipeline.mem_restRefs_of main_arg3 (by decide) (by decide))).trans (V_main_arg3 m c)⟩, h.2⟩) (run_main_quiescent m ρ)

end Cert.ProjIdeal.Hand

end
-- ==== Proof.ProjPure.lean ====
module

public import proofs.«01_k».proof.Proof.Rows
public import proofs.«01_k».proof.Proof.Gen.ProjIdeal.Skeleton
public import proofs.«01_k».proof.Proof.Gen.ProjRefIdeal.Run

@[expose] public section

set_option maxRecDepth 16384

noncomputable section

/-! MIXER A'S INPUT PROJECTION, READ AT AN INDEX: what the body stores over the values it loads, and the reference's two
    results: a row's normalisation times a column of the layer's weights. -/

namespace Cert.ProjIdeal.Hand

open Cert.ProjIdeal Cert.ProjIdeal.Gen
open Idealize.ShloMosaic Idealize.ShloMosaic.TcCoe Idealize.SL.Sem

/-- The normalised rows of the prompt's block. -/
theorem pay1_at (x : FVec Ideal S1024x2048 .f32) (g : FVec Ideal S1x1x2048 .f32) (r : Fin 1024) (k : Fin 2048) :
    k0_pay1 (F := Ideal) x g (ix2 r k) = Rows.rms (fun l => x (ix2 r l)) (fun l => g (ix3 0 0 l)) k := by
  pointwise [k0_pay1]
  rfl

/-- The normalised rows of the sample. -/
theorem pay2_at (x : FVec Ideal S8x2048 .f32) (g : FVec Ideal S1x1x2048 .f32) (r : Fin 8) (k : Fin 2048) :
    k0_pay2 (F := Ideal) x g (ix2 r k) = Rows.rms (fun l => x (ix2 r l)) (fun l => g (ix3 0 0 l)) k := by
  pointwise [k0_pay2]
  rfl

/-- One tile of columns of the prompt's block. -/
theorem pay4_at (w : FVec Ideal S1x2048x512 .bf16) (h : FVec Ideal S1024x2048 .bf16) (r : Fin 1024) (d : Fin 512) :
    k0_pay4 (F := Ideal) w h (ix2 r d) = ∑ k : Fin 2048, h (ix2 r k) * w (ix3 0 k d) := by
  pointwise [k0_pay4, k0_pay3]

/-- One tile of columns of the sample. -/
theorem pay5_at (w : FVec Ideal S1x2048x512 .bf16) (h : FVec Ideal S8x2048 .bf16) (r : Fin 8) (d : Fin 512) :
    k0_pay5 (F := Ideal) w h (ix3 0 r d) = ∑ k : Fin 2048, h (ix2 r k) * w (ix3 0 k d) := by
  pointwise [k0_pay5, k0_pay3]

/-- The projection of one row `x`: its normalisation, by layer 0's gain, times a column of the weights. -/
def proj (x : Fin 2048 → EReal) (a2 : FVec Ideal S4x1x2048 .f32) (a3 : FVec Ideal S2x2048x9216 .f32) (d : Fin 9216) : EReal :=
  ∑ k : Fin 2048, Rows.rms x (fun l => a2 (ix3 0 0 l)) k * a3 (ix3 0 k d)

end Cert.ProjIdeal.Hand

namespace Cert.ProjRefIdeal.Hand

open Cert.ProjRefIdeal Cert.ProjRefIdeal.Gen
open Idealize.ShloMosaic Idealize.ShloMosaic.TcCoe Idealize.SL.Sem

/-- The reference's first result, as its run states it. -/
def prompt (a0 : FVec Ideal S8192x2048 .f32) (a2 : FVec Ideal S4x1x2048 .f32) (a3 : FVec Ideal S2x2048x9216 .f32) : FVec Ideal S8192x9216 .f32 :=
  Host.dotGeneral dot_S8192x2048_S2048x9216_S8192x9216_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![0, 0, 0] a2 slices_S4x1x2048_S1x1x2048_0_0_0) shapeCasts_S1x1x2048_S1x2048))) (shapeCast _ (extractStridedSlice S1x2048x9216 ![0, 0, 0] a3 slices_S2x2048x9216_S1x2048x9216_0_0_0) shapeCasts_S1x2048x9216_S2048x9216)

/-- The reference's second result, as its run states it. -/
def sample (a1 : FVec Ideal S8x2048 .f32) (a2 : FVec Ideal S4x1x2048 .f32) (a3 : FVec Ideal S2x2048x9216 .f32) : FVec Ideal S18x8x512 .f32 :=
  transpose S18x8x512 [1, 0, 2] (shapeCast _ (Host.dotGeneral dot_S8x2048_S2048x9216_S8x9216_1_0_0_1_n_n none (mulf (mulf a1 (broadcastInDim S8x2048 ![0, 1] bcast_S8x1_S8x2048_0_1 (Host.rsqrt (addf (Host.divf (broadcastInDim S8x1 ![0] bcast_S8_S8x1_0 (Host.reduceAdd (mulf a1 a1) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (shapeCast _ (extractStridedSlice S1x1x2048 ![0, 0, 0] a2 slices_S4x1x2048_S1x1x2048_0_0_0) shapeCasts_S1x1x2048_S1x2048))) (shapeCast _ (extractStridedSlice S1x2048x9216 ![0, 0, 0] a3 slices_S2x2048x9216_S1x2048x9216_0_0_0) shapeCasts_S1x2048x9216_S2048x9216)) shapeCasts_S8x9216_S8x18x512) transposes_S8x18x512_S18x8x512_1_0_2

theorem prompt_at (a0 : FVec Ideal S8192x2048 .f32) (a2 : FVec Ideal S4x1x2048 .f32) (a3 : FVec Ideal S2x2048x9216 .f32) (r : Fin 8192) (d : Fin 9216) :
    prompt a0 a2 a3 (ix2 r d) = ProjIdeal.Hand.proj (fun l => a0 (ix2 r l)) a2 a3 d := by
  pointwise [prompt]
  rfl

theorem sample_at (a1 : FVec Ideal S8x2048 .f32) (a2 : FVec Ideal S4x1x2048 .f32) (a3 : FVec Ideal S2x2048x9216 .f32) (j : Fin 18) (r : Fin 8) (d : Fin 512) :
    sample a1 a2 a3 (ix3 j r d) = ProjIdeal.Hand.proj (fun l => a1 (ix2 r l)) a2 a3 ⟨j.val * 512 + d.val, by omega⟩ := by
  pointwise [sample]
  rfl

end Cert.ProjRefIdeal.Hand

end
-- ==== Proof.ProjValue.lean ====
module

public import proofs.«01_k».proof.Proof.ProjRun
public import proofs.«01_k».proof.Proof.ProjPure
public import Idealize.ShloMosaic.Lib.Pipeline.ArrRel

@[expose] public section

set_option maxRecDepth 16384

noncomputable section

/-! THE VALUE OF MIXER A'S INPUT PROJECTION: every tile of the prompt's result is its rows' projection onto its columns,
    and the sample's block ends with every tile; so both arrays end at the projection. -/

namespace Cert.ProjIdeal.Hand

open Cert.ProjIdeal Cert.ProjIdeal.Gen
open Idealize.ShloMosaic Idealize.ShloMosaic.TcCoe Idealize.ShloMosaic.Tactic Idealize.SL.Sem
open Idealize.ShloMosaic.Pipeline (Dat RDat)

variable (m : (ℓ : Loc nD τ sig) → Buf (Elt Ideal) ℓ) (ρ : Dev nD → PrngReg)

/-! ## The arguments, and the windows' blocks of them -/

abbrev arg0 (c : Dev nD) : FVec Ideal S8192x2048 .f32 := m ((c.tc : Thread nD τ).loc main_arg0)
abbrev arg1 (c : Dev nD) : FVec Ideal S8x2048 .f32 := m ((c.tc : Thread nD τ).loc main_arg1)
abbrev arg2 (c : Dev nD) : FVec Ideal S4x1x2048 .f32 := m ((c.tc : Thread nD τ).loc main_arg2)
abbrev arg3 (c : Dev nD) : FVec Ideal S2x2048x9216 .f32 := m ((c.tc : Thread nD τ).loc main_arg3)

/-- The weights the region finds are the argument's: over the extended reals the cast is the identity. -/
theorem weights (c : Dev nD) (i : (S2x2048x9216).Idx) : (V m c main_v0 : FVec Ideal S2x2048x9216 .bf16) i = arg3 m c i := by
  have e : V m c main_v0 = (truncf .bf16 (arg3 m c) (by decide) : FVec Ideal S2x2048x9216 .bf16) := by
    unfold V
    after_results_simp <;> rfl
  exact (congrFun e i).trans rfl

theorem index_facts : ∀ t : Fin cfg0.N,
    (win0_0.index t (0 : Fin 2) = t.val / 18 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = t.val % 18)
    ∧ (win0_4.index t (0 : Fin 2) = t.val / 18 ∧ win0_4.index t (1 : Fin 2) = t.val % 18)
    ∧ (win0_5.index t (0 : Fin 3) = 0 ∧ win0_5.index t (1 : Fin 3) = 0 ∧ win0_5.index t (2 : Fin 3) = 0) :=
  (by decide +kernel : ∀ t : Fin grid0.N, _)

theorem blk0_at (c : Dev nD) (t : Fin cfg0.N) (r : Fin 1024) (k : Fin 2048) (R : Fin 8192) (hR : R.val = t.val / 18 * 1024 + r.val) :
    (iblk m c 0 t : FVec Ideal S1024x2048 .f32) (ix2 r k) = arg0 m c (ix2 R k) := by
  obtain ⟨⟨e0, e1⟩, -⟩ := index_facts t
  refine (congrArg (V m c main_arg0) ?_ : _ = V m c main_arg0 (ix2 R k)).trans (congrFun (V_main_arg0 m c) _)
  funext a; apply Fin.ext
  match a with
  | ⟨0, _⟩ => show win0_0.index t (0 : Fin 2) * 1024 + 1 * r.val = R.val; omega
  | ⟨1, _⟩ => show win0_0.index t (1 : Fin 2) * 2048 + 1 * k.val = k.val; omega

theorem blk1_at (c : Dev nD) (t : Fin cfg0.N) (r : Fin 8) (k : Fin 2048) :
    (iblk m c 1 t : FVec Ideal S8x2048 .f32) (ix2 r k) = arg1 m c (ix2 r k) := by
  obtain ⟨-, ⟨e0, e1⟩, -⟩ := index_facts t
  refine (congrArg (V m c main_arg1) ?_ : _ = V m c main_arg1 (ix2 r k)).trans (congrFun (V_main_arg1 m c) _)
  funext a; apply Fin.ext
  match a with
  | ⟨0, _⟩ => show win0_1.index t (0 : Fin 2) * 8 + 1 * r.val = r.val; omega
  | ⟨1, _⟩ => show win0_1.index t (1 : Fin 2) * 2048 + 1 * k.val = k.val; omega

theorem blk2_at (c : Dev nD) (t : Fin cfg0.N) (k : Fin 2048) :
    (iblk m c 2 t : FVec Ideal S1x1x2048 .f32) (ix3 0 0 k) = arg2 m c (ix3 0 0 k) := by
  obtain ⟨-, -, ⟨e0, e1, e2⟩, -⟩ := index_facts t
  refine (congrArg (V m c main_arg2) ?_ : _ = V m c main_arg2 (ix3 0 0 k)).trans (congrFun (V_main_arg2 m c) _)
  funext a; apply Fin.ext
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 2048 + 1 * k.val = k.val; omega

theorem blk3_at (c : Dev nD) (t : Fin cfg0.N) (k : Fin 2048) (f : Fin 512) (G : Fin 9216) (hG : G.val = t.val % 18 * 512 + f.val) :
    (iblk m c 3 t : FVec Ideal S1x2048x512 .bf16) (ix3 0 k f) = arg3 m c (ix3 0 k G) := by
  obtain ⟨-, -, -, ⟨e0, e1, e2⟩, -⟩ := index_facts t
  refine (congrArg (V m c main_v0) ?_ : _ = V m c main_v0 (ix3 0 k G)).trans (weights m c _)
  funext a; apply Fin.ext
  match a with
  | ⟨0, _⟩ => show win0_3.index t (0 : Fin 3) * 1 + 1 * 0 = 0; omega
  | ⟨1, _⟩ => show win0_3.index t (1 : Fin 3) * 2048 + 1 * k.val = k.val; omega
  | ⟨2, _⟩ => show win0_3.index t (2 : Fin 3) * 512 + 1 * f.val = G.val; omega

/-! ## The normalised rows -/

/-- The row of the prompt that row `r` of the block at point `n` is. -/
abbrev rowOf (n : ℕ) (hn : n < cfg0.N) (r : Fin 1024) : Fin 8192 :=
  ⟨n / 18 * 1024 + r.val, by have : n < 144 := lt_of_lt_of_eq hn (show cfg0.N = 144 from N_0); have := r.isLt; omega⟩

/-- The gain of layer 0. -/
abbrev gain (c : Dev nD) : Fin 2048 → EReal := fun l => arg2 m c (ix3 0 0 l)

theorem norm_prompt (c : Dev nD) (t : Fin cfg0.N) (r : Fin 1024) (k : Fin 2048) :
    k0_pay1 (F := Ideal) (iblk m c 0 t) (iblk m c 2 t) (ix2 r k) = Rows.rms (fun l => arg0 m c (ix2 (rowOf t.val t.isLt r) l)) (gain m c) k := by
  refine (pay1_at _ _ r k).trans ?_
  rw [show (fun l => (iblk m c 0 t : FVec Ideal S1024x2048 .f32) (ix2 r l)) = fun l => arg0 m c (ix2 (rowOf t.val t.isLt r) l) from
      funext fun l => blk0_at m c t r l _ rfl,
    show (fun l => (iblk m c 2 t : FVec Ideal S1x1x2048 .f32) (ix3 0 0 l)) = gain m c from funext fun l => blk2_at m c t l]

theorem hsOf_at (c : Dev nD) (r : Fin 8) (k : Fin 2048) : hsOf m c (ix2 r k) = Rows.rms (fun l => arg1 m c (ix2 r l)) (gain m c) k := by
  unfold hsOf
  refine (pay2_at _ _ r k).trans ?_
  rw [show (fun l => (iblk m c 1 pt0 : FVec Ideal S8x2048 .f32) (ix2 r l)) = fun l => arg1 m c (ix2 r l) from
      funext fun l => blk1_at m c pt0 r l,
    show (fun l => (iblk m c 2 pt0 : FVec Ideal S1x1x2048 .f32) (ix3 0 0 l)) = gain m c from funext fun l => blk2_at m c pt0 l]

/-- The carried rows of the prompt are the block's, normalised. -/
theorem hAt_at (c : Dev nD) (r : Fin 1024) (k : Fin 2048) : ∀ (n : ℕ) (hn : n < cfg0.N),
    hAt m c n hn (ix2 r k) = Rows.rms (fun l => arg0 m c (ix2 (rowOf n hn r) l)) (gain m c) k := by
  intro n
  induction n with
  | zero => intro hn; exact norm_prompt m c ⟨0, hn⟩ r k
  | succ n ih =>
    intro hn
    by_cases h0 : (n + 1) % 18 = 0
    · rw [hAt_start m c ⟨n + 1, hn⟩ h0]
      exact norm_prompt m c ⟨n + 1, hn⟩ r k
    · have e := hAt_step m c ⟨n + 1, hn⟩ h0
      refine (congrFun e _).trans ((ih (Nat.lt_of_succ_lt hn)).trans ?_)
      have hrow : rowOf n (Nat.lt_of_succ_lt hn) r = rowOf (n + 1) hn r := Fin.ext (by dsimp only; omega)
      rw [hrow]

/-! ## The arrays -/

/-- The prompt's result. -/
def outPrompt (c : Dev nD) : Buf (Elt Ideal) ((c.tc : Thread nD τ).loc main_v1_0) := fun i =>
  proj (fun l => arg0 m c (ix2 (i 0) l)) (arg2 m c) (arg3 m c) (i 1)

/-- The sample's result, in tiles of columns. -/
def outSample (c : Dev nD) : Buf (Elt Ideal) ((c.tc : Thread nD τ).loc main_v1_1) := fun i =>
  proj (fun l => arg1 m c (ix2 (i 1) l)) (arg2 m c) (arg3 m c)
    ⟨(i 0).val * 512 + (i 2).val, by have h0 : (i 0).val < 18 := (i 0).isLt; have h2 : (i 2).val < 512 := (i 2).isLt; omega⟩

theorem tile_prompt (c : Dev nD) (t : Fin cfg0.N) (r : Fin 1024) (f : Fin 512) (G : Fin 9216) (hG : G.val = t.val % 18 * 512 + f.val) :
    k0_pay4 (F := Ideal) (iblk m c 3 t) (hAt m c t.val t.isLt) (ix2 r f)
      = proj (fun l => arg0 m c (ix2 (rowOf t.val t.isLt r) l)) (arg2 m c) (arg3 m c) G := by
  refine (pay4_at _ _ r f).trans (Finset.sum_congr rfl fun k _ => ?_)
  rw [hAt_at m c r k t.val t.isLt, blk3_at m c t k f ⟨G.val, by omega⟩ hG]

theorem tile_sample (c : Dev nD) (r : Fin 8) (t : Fin cfg0.N) (f : Fin 512) (G : Fin 9216) (hG : G.val = t.val % 18 * 512 + f.val) :
    k0_pay5 (F := Ideal) (iblk m c 3 t) (hsOf m c) (ix3 0 r f) = proj (fun l => arg1 m c (ix2 r l)) (arg2 m c) (arg3 m c) G := by
  refine (pay5_at _ _ r f).trans (Finset.sum_congr rfl fun k _ => ?_)
  rw [hsOf_at m c r k, blk3_at m c t k f ⟨G.val, by omega⟩ hG]

theorem flushed_prompt (c : Dev nD) (t : Fin cfg0.N) :
    (cfg0.win 4).cut (grid0.coords t) ((dats m 0 c).after 4 t) = ((cfg0.win 4).blk t).view.read (Elt Ideal) (outPrompt m c) := by
  rw [after4]
  obtain ⟨-, -, -, -, ⟨e0, e1⟩, -⟩ := index_facts t
  have hN : t.val < 144 := lt_of_lt_of_eq t.isLt (show cfg0.N = 144 from N_0)
  funext y
  obtain ⟨r, d, rfl⟩ : ∃ (r : Fin 1024) (d : Fin 512), y = ix2 r d := ⟨y 0, y 1, eq_ix2 y⟩
  have hG : t.val % 18 * 512 + d.val < 9216 := by have := d.isLt; omega
  have hb : ((cfg0.win 4).blk t).view.emb (ix2 r d) = ix2 (rowOf t.val t.isLt r) (⟨_, hG⟩ : Fin 9216) := by
    funext a; apply Fin.ext
    match a with
    | ⟨0, _⟩ => show win0_4.index t (0 : Fin 2) * 1024 + 1 * r.val = _; rw [e0]; show _ = t.val / 18 * 1024 + r.val; omega
    | ⟨1, _⟩ => show win0_4.index t (1 : Fin 2) * 512 + 1 * d.val = _; rw [e1]; show _ = t.val % 18 * 512 + d.val; omega
  exact (tile_prompt m c t r d ⟨_, hG⟩ rfl).trans (congrArg (outPrompt m c) hb).symm

theorem osOf_eq (c : Dev nD) (z : (S18x8x512).Idx) : osOf m c z = outSample m c z := by
  obtain ⟨j, r, d, rfl⟩ : ∃ (j : Fin 18) (r : Fin 8) (d : Fin 512), z = ix3 j r d := ⟨z 0, z 1, z 2, eq_ix3 z⟩
  exact tile_sample m c r (ptOf j) d _ (show j.val * 512 + d.val = j.val % 18 * 512 + d.val by rw [Nat.mod_eq_of_lt j.isLt])

theorem flushed_sample (c : Dev nD) (t : Fin cfg0.N) (hm : t.val % 144 = 143) (X : Vec Ideal S18x8x512 .f32) (hX : upTo m c t.val X) :
    (cfg0.win 5).cut (grid0.coords t) X = ((cfg0.win 5).blk t).view.read (Elt Ideal) (outSample m c) := by
  obtain ⟨-, -, -, -, -, ⟨e0, e1, e2⟩⟩ := index_facts t
  funext z
  obtain ⟨j, r, d, rfl⟩ : ∃ (j : Fin 18) (r : Fin 8) (d : Fin 512), z = ix3 j r d := ⟨z 0, z 1, z 2, eq_ix3 z⟩
  have hb : ((cfg0.win 5).blk t).view.emb (ix3 j r d) = ix3 j r d := by
    funext a; apply Fin.ext
    match a with
    | ⟨0, _⟩ => show win0_5.index t (0 : Fin 3) * 18 + 1 * j.val = j.val; omega
    | ⟨1, _⟩ => show win0_5.index t (1 : Fin 3) * 8 + 1 * r.val = r.val; omega
    | ⟨2, _⟩ => show win0_5.index t (2 : Fin 3) * 512 + 1 * d.val = d.val; omega
  refine (hX (ix3 j r d) (show j.val ≤ t.val by have := j.isLt; omega)).trans ((osOf_eq m c _).trans ?_)
  exact (congrArg (outSample m c) hb).symm

theorem mem_prompt (t : Fin cfg0.N) (i : S8192x9216.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1_0).slice (win0_4.rect t)).set ↔ _
  rw [View.set_slice_whole, Rect.mem_set_unit]
  exact Iff.rfl

theorem mem_sample (t : Fin cfg0.N) (i : (S18x8x512).Idx) :
    i ∈ ((cfg0.win 5).blk t).view.set ↔ ∀ a : Fin 3, win0_5.index t a * (S18x8x512).size a ≤ (i a).val ∧ (i a).val < win0_5.index t a * (S18x8x512).size a + (S18x8x512).size a := by
  show i ∈ ((View.whole main_v1_1).slice (win0_5.rect t)).set ↔ _
  rw [View.set_slice_whole, Rect.mem_set_unit]
  exact Iff.rfl

theorem cover_prompt (i : S8192x9216.Idx) : ∃ t : Fin cfg0.N, (cfg0.win 4).flush t = true ∧ i ∈ ((cfg0.win 4).blk t).view.set := by
  have h0 : (i 0).val < 8192 := (i 0).isLt
  have h1 : (i 1).val < 9216 := (i 1).isLt
  have hlt : 18 * ((i 0).val / 1024) + (i 1).val / 512 < cfg0.N := lt_of_lt_of_eq (by omega : _ < 144) (show cfg0.N = 144 from N_0).symm
  obtain ⟨-, -, -, -, ⟨e0, e1⟩, -⟩ := index_facts ⟨_, hlt⟩
  refine ⟨⟨_, hlt⟩, flush0_4 _, ?_⟩
  rw [mem_prompt]
  dsimp only at e0 e1
  intro a
  match a with
  | ⟨0, _⟩ => show win0_4.index ⟨_, hlt⟩ (0 : Fin 2) * 1024 ≤ (i 0).val ∧ (i 0).val < win0_4.index ⟨_, hlt⟩ (0 : Fin 2) * 1024 + 1024; omega
  | ⟨1, _⟩ => show win0_4.index ⟨_, hlt⟩ (1 : Fin 2) * 512 ≤ (i 1).val ∧ (i 1).val < win0_4.index ⟨_, hlt⟩ (1 : Fin 2) * 512 + 512; omega

theorem cover_sample (i : (S18x8x512).Idx) : ∃ t : Fin cfg0.N, (cfg0.win 5).flush t = true ∧ i ∈ ((cfg0.win 5).blk t).view.set := by
  have h0 : (i 0).val < 18 := (i 0).isLt
  have h1 : (i 1).val < 8 := (i 1).isLt
  have h2 : (i 2).val < 512 := (i 2).isLt
  have hlt : 143 < cfg0.N := lt_of_lt_of_eq (by omega : _ < 144) (show cfg0.N = 144 from N_0).symm
  obtain ⟨-, -, -, -, -, ⟨e0, e1, e2⟩⟩ := index_facts ⟨_, hlt⟩
  refine ⟨⟨_, hlt⟩, (flush0_5 _).mpr (by dsimp only), ?_⟩
  rw [mem_sample]
  intro a
  match a with
  | ⟨0, _⟩ => show win0_5.index ⟨_, hlt⟩ (0 : Fin 3) * 18 ≤ (i 0).val ∧ (i 0).val < win0_5.index ⟨_, hlt⟩ (0 : Fin 3) * 18 + 18; omega
  | ⟨1, _⟩ => show win0_5.index ⟨_, hlt⟩ (1 : Fin 3) * 8 ≤ (i 1).val ∧ (i 1).val < win0_5.index ⟨_, hlt⟩ (1 : Fin 3) * 8 + 8; omega
  | ⟨2, _⟩ => show win0_5.index ⟨_, hlt⟩ (2 : Fin 3) * 512 ≤ (i 2).val ∧ (i 2).val < win0_5.index ⟨_, hlt⟩ (2 : Fin 3) * 512 + 512; omega

/-- What a point leaves in the prompt's buffer. -/
theorem leaves_prompt (c : Dev nD) (t : Fin cfg0.N) (X : Vec Ideal S1024x512 .f32) (h : (rdat m c).Leaves 4 t X) :
    X = (dats m 0 c).after 4 t := by
  obtain ⟨Y, -, h⟩ := h
  have h' : (dats m 0 c).toR.after 4 t Y X := by
    rw [← (dats m 0 c).toRRel_after_of_eq_false (fgt := marked) (Rl := Rl m c) (w := 4) rfl]
    exact h
  exact h'

/-- The run: both results at the projection. -/
theorem run : θ_run defs (onTc (τ := τ) (main (F := Ideal))) ⟨m, fun _ => 0, ρ⟩ fun r => ∀ c : Dev nD,
      r.2.mem ((c.tc : Thread nD τ).loc main_v1_0) = outPrompt m c
      ∧ r.2.mem ((c.tc : Thread nD τ).loc main_v1_1) = outSample m c :=
  (θ_run defs _ _).mono (fun r h c => by
    obtain ⟨after, hl, ha⟩ := h.exists_exact c
    refine ⟨(ha 4).trans (((rdat m c).withAfter after).arrAt_eq_of_cover 4 _ (fun t hf => ?_) fun i => cover_prompt i),
      (ha 5).trans (((rdat m c).withAfter after).arrAt_eq_of_cover 5 _ (fun t hf => ?_) fun i => cover_sample i)⟩
    · show (cfg0.win 4).cut (grid0.coords t) (after 4 t) = _
      rw [leaves_prompt m c t _ (hl 4 t hf)]
      exact flushed_prompt m c t
    · show (cfg0.win 5).cut (grid0.coords t) (after 5 t) = _
      exact flushed_sample m c t ((flush0_5 t).mp hf) _ ((dats m 0 c).toRRel_leaves (fgt := marked) (Rl := Rl m c) (w := 5) rfl (hl 5 t hf))) (run_main m ρ)

end Cert.ProjIdeal.Hand

end
-- ==== Proof.ProjClaims.lean ====
module

public import proofs.«01_k».proof.Defs
public import proofs.«01_k».proof.Proof.ProjValue
public import proofs.«01_k».proof.Proof.Gen.Proj
public import proofs.«01_k».proof.Proof.Gen.ProjRefIdeal.Run
public import Idealize.ShloMosaic.Lib.Claim

@[expose] public section

set_option maxRecDepth 16384

noncomputable section

/-! THE CLAIMS OF MIXER A'S INPUT PROJECTION: the three frames, and the kernel's two results equal to the reference's. -/

namespace Cert.ProjProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.Proj.defs₀ (F := F) = Cert.ProjIdeal.defs₀ (F := F) := by
  funext p l a
  cases p with
  | tc =>
    match l, a with
    | 0, (t, s) => rfl
  | scScalar => rfl
  | scVector => rfl

theorem defs_same {F : FTy → Type} [FloatOps F] : Cert.Proj.defs (F := F) = Cert.ProjIdeal.defs (F := F) :=
  congrArg (Idealize.ShloMosaic.Pipeline.defs Cert.Proj.pcfgs) body_same

theorem frame_kernel : Cert.quiescent_Proj (hProj := Cert.Proj.Gen.facts) := fun m ρ _ =>
  (congrArg (fun d => θ_run d (onTc (τ := Cert.Proj.τ) (Cert.Proj.main (F := Bits))) ⟨m, fun _ => 0, ρ⟩ _) defs_same).mpr
    (Cert.ProjIdeal.Hand.frame (F := Bits) m ρ)

theorem frame_ideal : Cert.quiescent_ProjIdeal (hProjIdeal := Cert.ProjIdeal.Gen.facts) := fun m ρ _ => Cert.ProjIdeal.Hand.frame m ρ

theorem frame_reference : Cert.quiescent_ProjRefIdeal (hProjRefIdeal := Cert.ProjRefIdeal.Gen.facts) := fun m ρ _ =>
  (θ_run _ _ _).mono (fun r h => ⟨fun c => (h c).2.2, Idealize.ShloMosaic.sem_eq_zero_of_no_sems (by decide) r.2⟩)
    (Cert.ProjRefIdeal.Value.run (F := Ideal) m ρ)

/-- The reference's first result is the kernel's. -/
theorem prompt_eq (m : (ℓ : Loc Cert.ProjIdeal.nD Cert.ProjIdeal.τ Cert.ProjIdeal.sig) → Buf (Elt Ideal) ℓ) (c : Dev Cert.ProjIdeal.nD) :
    Cert.ProjRefIdeal.Hand.prompt (Cert.ProjIdeal.Hand.arg0 m c) (Cert.ProjIdeal.Hand.arg2 m c) (Cert.ProjIdeal.Hand.arg3 m c)
      = Cert.ProjIdeal.Hand.outPrompt m c := by
  funext i
  obtain ⟨r, d, rfl⟩ : ∃ (r : Fin 8192) (d : Fin 9216), i = ix2 r d := ⟨i 0, i 1, eq_ix2 i⟩
  exact Cert.ProjRefIdeal.Hand.prompt_at _ _ _ r d

/-- The reference's second result is the kernel's. -/
theorem sample_eq (m : (ℓ : Loc Cert.ProjIdeal.nD Cert.ProjIdeal.τ Cert.ProjIdeal.sig) → Buf (Elt Ideal) ℓ) (c : Dev Cert.ProjIdeal.nD) :
    Cert.ProjRefIdeal.Hand.sample (Cert.ProjIdeal.Hand.arg1 m c) (Cert.ProjIdeal.Hand.arg2 m c) (Cert.ProjIdeal.Hand.arg3 m c)
      = Cert.ProjIdeal.Hand.outSample m c := by
  funext i
  obtain ⟨j, r, d, rfl⟩ : ∃ (j : Fin 18) (r : Fin 8) (d : Fin 512), i = ix3 j r d := ⟨i 0, i 1, i 2, eq_ix3 i⟩
  exact Cert.ProjRefIdeal.Hand.sample_at _ _ _ j r d

theorem algebraic : Cert.algebraic_ProjIdeal_ProjRefIdeal (hProjIdeal := Cert.ProjIdeal.Gen.facts) (hProjRefIdeal := Cert.ProjRefIdeal.Gen.facts) := by
  intro m g m' g' _ hargs
  refine ⟨fun c => Cert.ProjIdeal.Hand.outPrompt m c, fun c => Cert.ProjIdeal.Hand.outSample m c, ?_, ?_⟩
  · refine (θ_run _ _ _).mono (fun r h c => ?_) (θ_run_and (Cert.ProjIdeal.Hand.run m g) (Cert.ProjIdeal.Hand.frame m g))
    obtain ⟨h1, h2, -⟩ := h
    exact ⟨(h1 c).1, (h1 c).2, h2 c⟩
  · refine (θ_run _ _ _).mono (fun r h c => ?_) (Cert.ProjRefIdeal.Value.run (F := Ideal) m' g')
    obtain ⟨e0, e1, e2, e3⟩ := hargs c
    obtain ⟨hv, hw, h⟩ := h c
    refine ⟨hv.trans ?_, hw.trans ?_, h⟩
    · rw [e0, e2, e3]
      exact prompt_eq m c
    · rw [e1, e2, e3]
      exact sample_eq m c

end Cert.ProjProof

end
-- ==== Proof.ProjBBody.lean ====
module

public import proofs.«01_k».proof.Proof.Gen.ProjBIdeal.Frame
public import proofs.«01_k».proof.Proof.Gen.ProjBIdeal.Skeleton
public import Idealize.ShloMosaic.Lib.Pipeline.Value
public import Idealize.ShloMosaic.Lib.Pipeline.DatRel
public import Idealize.ShloMosaic.Lib.Pointwise.Index
public import Idealize.ShloMosaic.Lib.WritesUnit

@[expose] public section

set_option maxRecDepth 16384

noncomputable section

/-! ONE RUN OF THE BODY OF MIXER B'S INPUT PROJECTION, in each of the four cases of its three conditions: what the two
    results' staging buffers and the two normalised-rows scratch buffers hold afterwards. The sample's result is written
    one tile of columns at a time, so of its buffer the body changes the point's tile only (`put`). -/

namespace Cert.ProjBIdeal.Hand

open Cert.ProjBIdeal Cert.ProjBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The first branch's condition: the first tile of columns of a block of rows. -/
abbrev firstTile (i : grid0.Coords) : Prop := (Scalar.cmpi .ne (Scalar.extui (Scalar.cmpi .eq (BitVec.ofNat 32 (i 1).val) 0#32)) 0#32) = 1#1
/-- The second's: the first point of the grid. -/
abbrev firstPoint (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The third's: the first block of rows. -/
abbrev firstBlock (i : grid0.Coords) : Prop := k0_cond3 i = 1#1

/-- The sample's result with the point's tile of columns put in its place. -/
abbrev put (i : grid0.Coords) (p : Vec F S6x8x512 .f32) (v : Vec F S1x8x512 .f32) : Vec F S6x8x512 .f32 :=
  fun z => if (z 0).val = (i 1).val then v (ix3 0 (z 1) (z 2)) else p z

theorem off1_eq (i : grid0.Coords) : k0_off1 i = ![(i 1).val, 0, 0] := by
  have h : ∀ j : Fin 6, (Scalar.indexCast (BitVec.ofNat 32 j.val)).toNat = j.val := by decide
  show ![(Scalar.indexCast (BitVec.ofNat 32 (i 1).val)).toNat, 0, 0] = _
  rw [h (i 1)]

/-- The first point: both groups of rows are normalised, both results take the tile of columns. -/
theorem body_A (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S6x8x512 .f32) (harg7 : arg7.IsWhole) (arg8 : Memref sig .tc .vmem S1024x2048 .bf16) (harg8 : arg8.IsWhole) (arg9 : Memref sig .tc .vmem S8x2048 .bf16) (harg9 : arg9.IsWhole)
    (hc0 : firstTile i) (hc1 : firstPoint i) (hc2 : firstBlock i)
    (x : Vec F S1024x2048 .f32) (y : Vec F S8x2048 .f32) (g : Vec F S1x1x2048 .f32) (w : Vec F S1x2048x512 .bf16) (p : Vec F S6x8x512 .f32)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ (∃ d, owns (c : Thread nD τ) arg8 fullShare d) ∗ (∃ d, owns (c : Thread nD τ) arg9 fullShare d)
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w (k0_pay1 x g)) ∗ owns (c : Thread nD τ) arg7 fullShare (put i p (k0_pay5 w (k0_pay2 y g))) ∗ owns (c : Thread nD τ) arg8 fullShare (k0_pay1 x g) ∗ owns (c : Thread nD τ) arg9 fullShare (k0_pay2 y g)) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5; obtain rfl := harg7.eq_unread hf7
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; swap; · iexact H7
    ipureintro
    sl_unfold_words
    funext z
    by_cases h : (z 0).val = (i 1).val
    · refine (View.read_writes_cons_unit_of_mem _ _ _ _ _ z (ix3 0 (z 1) (z 2)) (off1_eq i) fun a => ?_).trans ?_
      · match a with
        | ⟨0, _⟩ => show (z 0).val = (i 1).val + 0; omega
        | ⟨1, _⟩ => show (z 1).val = 0 + (z 1).val; omega
        | ⟨2, _⟩ => show (z 2).val = 0 + (z 2).val; omega
      · simp only [View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
        exact (if_pos h).symm
    · refine (View.read_writes_cons_unit_of_not_mem _ _ _ _ _ z (off1_eq i) 0 ?_).trans ?_
      · show (z 0).val < (i 1).val ∨ (i 1).val + 1 ≤ (z 0).val; omega
      · rw [View.writes_nil, harg7.read_unread]
        exact (if_neg h).symm
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  iexists _; isplitr; swap; · iexact H9
  ipureintro
  sl_unfold_words
  rw [View.read_writes_eq_canon _ _ _ (fun z => View.cover_of_tiledL _ S8x2048.size (by sl_kernel_rfl) z)]
  simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]

/-- The other points of the first block of rows: both results take the tile. -/
theorem body_B (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S6x8x512 .f32) (harg7 : arg7.IsWhole) (arg8 : Memref sig .tc .vmem S1024x2048 .bf16) (harg8 : arg8.IsWhole) (arg9 : Memref sig .tc .vmem S8x2048 .bf16) (harg9 : arg9.IsWhole)
    (hc0 : ¬firstTile i) (hc1 : ¬firstPoint i) (hc2 : firstBlock i)
    (x : Vec F S1024x2048 .f32) (y : Vec F S8x2048 .f32) (g : Vec F S1x1x2048 .f32) (w : Vec F S1x2048x512 .bf16) (p : Vec F S6x8x512 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ owns (c : Thread nD τ) arg8 fullShare h ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w h) ∗ owns (c : Thread nD τ) arg7 fullShare (put i p (k0_pay5 w k)) ∗ owns (c : Thread nD τ) arg8 fullShare h ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; swap; · iexact H7
    ipureintro
    sl_unfold_words
    funext z
    by_cases h : (z 0).val = (i 1).val
    · refine (View.read_writes_cons_unit_of_mem _ _ _ _ _ z (ix3 0 (z 1) (z 2)) (off1_eq i) fun a => ?_).trans ?_
      · match a with
        | ⟨0, _⟩ => show (z 0).val = (i 1).val + 0; omega
        | ⟨1, _⟩ => show (z 1).val = 0 + (z 1).val; omega
        | ⟨2, _⟩ => show (z 2).val = 0 + (z 2).val; omega
      · simp only [View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
        exact (if_pos h).symm
    · refine (View.read_writes_cons_unit_of_not_mem _ _ _ _ _ z (off1_eq i) 0 ?_).trans ?_
      · show (z 0).val < (i 1).val ∨ (i 1).val + 1 ≤ (z 0).val; omega
      · rw [View.writes_nil, harg7.read_unread]
        exact (if_neg h).symm
  isplitl [H8]
  · iexists _; isplitr; · ipureintro; exact harg8.read_unread _
    iexact H8
  iexists _; isplitr; · ipureintro; exact harg9.read_unread _
  iexact H9

/-- The first tile of a later block of rows: its rows are normalised. -/
theorem body_C (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S6x8x512 .f32) (harg7 : arg7.IsWhole) (arg8 : Memref sig .tc .vmem S1024x2048 .bf16) (harg8 : arg8.IsWhole) (arg9 : Memref sig .tc .vmem S8x2048 .bf16) (harg9 : arg9.IsWhole)
    (hc0 : firstTile i) (hc1 : ¬firstPoint i) (hc2 : ¬firstBlock i)
    (x : Vec F S1024x2048 .f32) (y : Vec F S8x2048 .f32) (g : Vec F S1x1x2048 .f32) (w : Vec F S1x2048x512 .bf16) (p : Vec F S6x8x512 .f32) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ (∃ d, owns (c : Thread nD τ) arg8 fullShare d) ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w (k0_pay1 x g)) ∗ owns (c : Thread nD τ) arg7 fullShare p ∗ owns (c : Thread nD τ) arg8 fullShare (k0_pay1 x g) ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  iexists _; isplitr; · ipureintro; exact harg9.read_unread _
  iexact H9

/-- The other points of a later block of rows. -/
theorem body_D (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S6x8x512 .f32) (harg7 : arg7.IsWhole) (arg8 : Memref sig .tc .vmem S1024x2048 .bf16) (harg8 : arg8.IsWhole) (arg9 : Memref sig .tc .vmem S8x2048 .bf16) (harg9 : arg9.IsWhole)
    (hc0 : ¬firstTile i) (hc1 : ¬firstPoint i) (hc2 : ¬firstBlock i)
    (x : Vec F S1024x2048 .f32) (y : Vec F S8x2048 .f32) (g : Vec F S1x1x2048 .f32) (w : Vec F S1x2048x512 .bf16) (p : Vec F S6x8x512 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ owns (c : Thread nD τ) arg8 fullShare h ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w h) ∗ owns (c : Thread nD τ) arg7 fullShare p ∗ owns (c : Thread nD τ) arg8 fullShare h ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

end Cert.ProjBIdeal.Hand

end
-- ==== Proof.ProjBRun.lean ====
module

public import proofs.«01_k».proof.Proof.ProjBBody
public import Idealize.ShloMosaic.Lib.Claim
public import Idealize.ShloMosaic.Lib.Pipeline.Value
public import Idealize.ShloMosaic.Lib.Pipeline.DatRel

@[expose] public section

set_option maxRecDepth 16384

noncomputable section

/-! THE RUN OF MIXER B'S INPUT PROJECTION: the prompt's result is one tile per point; the sample's is one resident
    block whose tiles are written during the first block of rows, so its contents are held to a relation (`upTo`: the
    tiles written so far), which at the last point names the whole block. -/

namespace Cert.ProjBIdeal.Hand

open Cert.ProjBIdeal Cert.ProjBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, by arithmetic of the point -/

theorem coords0 (t : Fin cfg0.N) : (grid0.coords t 0).val = t.val / 6 % 8 := Pipeline.Grid.coords_val t 0 (by decide) rfl
theorem coords1 (t : Fin cfg0.N) : (grid0.coords t 1).val = t.val % 6 :=
  (Pipeline.Grid.coords_val t 1 (by decide) rfl).trans (by rw [Nat.div_one] : t.val / 1 % 6 = t.val % 6)

theorem firstTile_iff : ∀ t : Fin cfg0.N, firstTile (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [firstTile, e0, e1]
    word_cmp
   : ∀ t : Fin grid0.N, firstTile (grid0.coords t) ↔ t.val % 6 = 0)

theorem firstPoint_iff : ∀ t : Fin cfg0.N, firstPoint (grid0.coords t) ↔ t.val % 48 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [firstPoint, e0, e1]
    word_cmp
   : ∀ t : Fin grid0.N, firstPoint (grid0.coords t) ↔ t.val % 48 = 0)

theorem firstBlock_iff : ∀ t : Fin cfg0.N, firstBlock (grid0.coords t) ↔ t.val < 6 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [firstBlock, k0_cond3, e0, e1]
    word_cmp
   : ∀ t : Fin grid0.N, firstBlock (grid0.coords t) ↔ t.val < 6)

/-! ## The staging and scratch memrefs -/

abbrev mr0 (t : Fin cfg0.N) : Memref sig .tc .vmem S1024x2048 .f32 := win0_0.stage (cfg0.slots t 0)
abbrev mr1 (t : Fin cfg0.N) : Memref sig .tc .vmem S8x2048 .f32 := win0_1.stage (cfg0.slots t 1)
abbrev mr2 (t : Fin cfg0.N) : Memref sig .tc .vmem S1x1x2048 .f32 := win0_2.stage (cfg0.slots t 2)
abbrev mr3 (t : Fin cfg0.N) : Memref sig .tc .vmem S1x2048x512 .bf16 := win0_3.stage (cfg0.slots t 3)
abbrev mr4 (t : Fin cfg0.N) : Memref sig .tc .vmem S1024x512 .f32 := win0_4.stage (cfg0.slots t 4)
abbrev mr5 (t : Fin cfg0.N) : Memref sig .tc .vmem S6x8x512 .f32 := win0_5.stage (cfg0.slots t 5)
abbrev sc0 : Memref sig .tc .vmem S1024x2048 .bf16 := Memref.whole cc0_scratch0
abbrev sc1 : Memref sig .tc .vmem S8x2048 .bf16 := Memref.whole cc0_scratch1

/-- The launch's invariant, with the two scratch buffers as memrefs held at some contents. -/
theorem launch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the carried buffers hold after each point -/

/-- The first point. -/
abbrev pt0 : Fin cfg0.N := ⟨0, lt_of_lt_of_eq (by decide : 0 < 48) (show cfg0.N = 48 from N_0).symm⟩

/-- The prompt's normalised rows after the body at position `n`: made at the first tile of the block of rows, kept after. -/
def hAt (c : Dev nD) : (n : ℕ) → n < cfg0.N → Vec F S1024x2048 .bf16
  | 0, hn => k0_pay1 (iblk m c 0 ⟨0, hn⟩) (iblk m c 2 ⟨0, hn⟩)
  | n + 1, hn => if (n + 1) % 6 = 0 then k0_pay1 (iblk m c 0 ⟨n + 1, hn⟩) (iblk m c 2 ⟨n + 1, hn⟩) else hAt c n (Nat.lt_of_succ_lt hn)

/-- The sample's normalised rows, made at the first point. -/
def hsOf (c : Dev nD) : Vec F S8x2048 .bf16 := k0_pay2 (iblk m c 1 pt0) (iblk m c 2 pt0)

/-- The point before. -/
abbrev prev (t : Fin cfg0.N) : t.val - 1 < cfg0.N := Nat.lt_of_le_of_lt (Nat.sub_le _ _) t.isLt

theorem hAt_start (c : Dev nD) (t : Fin cfg0.N) (h : t.val % 6 = 0) :
    hAt m c t.val t.isLt = k0_pay1 (iblk m c 0 t) (iblk m c 2 t) := by
  obtain ⟨n, hn⟩ := t
  cases n with
  | zero => rfl
  | succ n => exact (if_pos h).trans rfl

theorem hAt_step (c : Dev nD) (t : Fin cfg0.N) (h : ¬t.val % 6 = 0) :
    hAt m c t.val t.isLt = hAt m c (t.val - 1) (prev t) := by
  obtain ⟨n, hn⟩ := t
  cases n with
  | zero => exact absurd (Nat.zero_mod _) h
  | succ n => exact (if_neg h).trans rfl

/-- The point whose tile of columns is `j`, in the first block of rows. -/
abbrev ptOf (j : Fin 6) : Fin cfg0.N := ⟨j.val, lt_of_lt_of_eq (by omega : j.val < 48) (show cfg0.N = 48 from N_0).symm⟩

/-- The sample's whole result. -/
def osOf (c : Dev nD) : Vec F S6x8x512 .f32 := fun z => k0_pay5 (iblk m c 3 (ptOf (z 0))) (hsOf m c) (ix3 0 (z 1) (z 2))

/-- The sample's result has its tiles `0 … n`. -/
def upTo (c : Dev nD) (n : ℕ) (X : Vec F S6x8x512 .f32) : Prop := ∀ z : (S6x8x512).Idx, (z 0).val ≤ n → X z = osOf m c z

theorem upTo_mono (c : Dev nD) {n n' : ℕ} {X : Vec F S6x8x512 .f32} (h : upTo m c n X) (hn : 6 ≤ n + 1) : upTo m c n' X :=
  fun z _ => h z (by have := (z 0).isLt; have h' : (z 0).val < 6 := this; omega)

theorem upTo_put (c : Dev nD) (t : Fin cfg0.N) (ht : t.val < 6) {X : Vec F S6x8x512 .f32} (h : t.val ≠ 0 → upTo m c (t.val - 1) X) :
    upTo m c t.val (put (grid0.coords t) X (k0_pay5 (iblk m c 3 t) (hsOf m c))) := by
  intro z hz
  have e : (grid0.coords t 1).val = t.val := (coords1 t).trans (Nat.mod_eq_of_lt ht)
  show (if (z 0).val = (grid0.coords t 1).val then _ else _) = _
  rw [e]
  by_cases hc : (z 0).val = t.val
  · rw [if_pos hc]
    have ep : ptOf (z 0) = t := Fin.ext hc
    unfold osOf
    rw [ep]
  · rw [if_neg hc]
    exact h (by omega) z (by omega)

/-- The invariant before position `n`: at the start the launch's; afterwards the scratch buffers at what the point
    before left in them. -/
def Inv (c : Dev nD) : (n : ℕ) → n ≤ cfg0.N → sProp 𝕄
  | 0, _ => Pipeline.ΦA spec0 c
  | n + 1, hn => iprop(iprop(owns (c : Thread nD τ) sc0 fullShare (hAt m c n hn)
      ∗ owns (c : Thread nD τ) sc1 fullShare (hsOf m c)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) sc0 fullShare (hAt m c n hn)
      ∗ owns (c : Thread nD τ) sc1 fullShare (hsOf m c)) ∗ (∃ r, prngReg c r)) := rfl

theorem Inv_pos (c : Dev nD) (n : ℕ) (h : n ≤ cfg0.N) (hz : n ≠ 0) :
    Inv m c n h = iprop(iprop(owns (c : Thread nD τ) sc0 fullShare (hAt m c (n - 1) (by omega))
      ∗ owns (c : Thread nD τ) sc1 fullShare (hsOf m c)) ∗ (∃ r, prngReg c r)) := by
  cases n with
  | zero => exact absurd rfl hz
  | succ n => rfl

/-! ## The proof data -/

/-- The arrays as the region finds them; each input's buffer at its block, the prompt's result at its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (iblk m c 3 t) (hAt m c t.val t.isLt)
    | ⟨5, _⟩ => osOf m c
  Φ t := Inv m c t.val (Nat.le_of_lt_succ t.isLt)
  q _ := fullShare
  owed _ := 0

/-- The sample's result is held to a relation: its tiles written so far. -/
abbrev marked : Fin cfg0.W → Bool := fun w => match w with
  | ⟨0, _⟩ => false | ⟨1, _⟩ => false | ⟨2, _⟩ => false | ⟨3, _⟩ => false | ⟨4, _⟩ => false | ⟨5, _⟩ => true

abbrev Rl (c : Dev nD) : (w : Fin cfg0.W) → Fin cfg0.N → ((cfg0.win w).block.Idx → Elt F (cfg0.win w).elt) → Prop :=
  fun w t => match w with
    | ⟨0, _⟩ => fun _ => True | ⟨1, _⟩ => fun _ => True | ⟨2, _⟩ => fun _ => True | ⟨3, _⟩ => fun _ => True | ⟨4, _⟩ => fun _ => True
    | ⟨5, _⟩ => fun X => upTo m c t.val X

/-- The relational proof data. -/
abbrev rdat (c : Dev nD) : RDat τ (Elt F) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (iblk m c 3 t) (hAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- After the first point the sample's buffer is found with the tiles of the points before. -/
theorem finds5 (c : Dev nD) (t : Fin cfg0.N) (Y : Vec F S6x8x512 .f32) (h : (rdat m c).Finds 5 t Y) (hz : t.val ≠ 0) : upTo m c (t.val - 1) Y := by
  have hN : t.val < 48 := lt_of_lt_of_eq t.isLt (show cfg0.N = 48 from N_0)
  rw [RDat.finds_of_pos (rdat m c) ((cfg0.win 5).fetch_out rfl t) hz] at h
  have hfl : ¬(cfg0.win 5).flush ⟨t.val - 1, prev t⟩ = true := fun h => by have := (flush0_5 _).mp h; dsimp only at this; omega
  rcases h with h | h
  · exact absurd h hfl
  · exact (dats m 0 c).toRRel_leaves (fgt := marked) (Rl := Rl m c) (w := 5) rfl h

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ Y, ⌜(rdat m c).Finds 5 t Y⌝ ∗ owns (c : Thread nD τ) (mr5 t) fullShare Y))

def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ (∃ X, ⌜upTo m c t.val X⌝ ∗ owns (c : Thread nD τ) (mr5 t) fullShare X))

set_option maxHeartbeats 3200000 in
/-- The body's triple at any point, by the case its conditions select. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.succ = Inv m c (t.val + 1) t.isLt from rfl, Inv_succ]
  have hN : t.val < 48 := lt_of_lt_of_eq t.isLt (show cfg0.N = 48 from N_0)
  by_cases h0 : t.val % 6 = 0
  · by_cases hz : t.val = 0
    · obtain rfl : t = pt0 := Fin.ext hz
      rw [Inv_castSucc m c pt0, Inv_zero m c _ _ hz, launch_eq, hAt_start m c pt0 h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_A c (grid0.coords pt0) _ _ _ _ _ _ _ _ _ _ _ _ _ _ _ _ ((firstTile_iff _).mpr h0) ((firstPoint_iff _).mpr (by omega)) ((firstBlock_iff _).mpr (by omega)) (iblk m c 0 pt0) (iblk m c 1 pt0) (iblk m c 2 pt0) (iblk m c 3 pt0) Y Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_put m c pt0 (by omega) fun h => absurd hz h
    · rw [Inv_castSucc m c t, Inv_pos m c _ _ hz, hAt_start m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_C c (grid0.coords t) _ _ _ _ _ _ _ _ _ _ _ _ _ _ _ _ ((firstTile_iff t).mpr h0) (fun h => by have := (firstPoint_iff t).mp h; omega) (fun h => by have := (firstBlock_iff t).mp h; omega) (iblk m c 0 t) (iblk m c 1 t) (iblk m c 2 t) (iblk m c 3 t) Y _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_mono m c (finds5 m c t Y hY hz) (by omega)
  · have hz : t.val ≠ 0 := fun h => h0 (by rw [h])
    by_cases h2 : t.val < 6
    · rw [Inv_castSucc m c t, Inv_pos m c _ _ hz, hAt_step m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_B c (grid0.coords t) _ _ _ _ _ _ _ _ _ _ _ _ _ _ _ _ (fun h => h0 ((firstTile_iff t).mp h)) (fun h => by have := (firstPoint_iff t).mp h; omega) ((firstBlock_iff t).mpr h2) (iblk m c 0 t) (iblk m c 1 t) (iblk m c 2 t) (iblk m c 3 t) Y _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_put m c t h2 fun hz => finds5 m c t Y hY hz
    · rw [Inv_castSucc m c t, Inv_pos m c _ _ hz, hAt_step m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_D c (grid0.coords t) _ _ _ _ _ _ _ _ _ _ _ _ _ _ _ _ (fun h => h0 ((firstTile_iff t).mp h)) (fun h => by have := (firstPoint_iff t).mp h; omega) (fun h => by have := (firstBlock_iff t).mp h; omega) (iblk m c 0 t) (iblk m c 1 t) (iblk m c 2 t) (iblk m c 3 t) Y _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_mono m c (finds5 m c t Y hY hz) (by omega)

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (Rl m c) := fun t => by
  rw [bigSep_W0, bigSep_W0, body_row]
  exact triple_restated (sound_body m c t) rfl .rfl fun _ => .rfl

theorem inv_in (c : Dev nD) : Pipeline.ΦA spec0 c ⊢ (rdat m c).Φ 0 := by
  rw [show (rdat m c).Φ 0 = Inv m c 0 (Nat.zero_le _) from rfl, Inv_zero m c 0 _ rfl]

theorem inv_out (c : Dev nD) : (rdat m c).Φ (Fin.last cfg0.N) ⊢ Pipeline.ΦA spec0 c := by
  rw [show (rdat m c).Φ (Fin.last cfg0.N) = Inv m c cfg0.N (Nat.le_refl _) from rfl,
    Inv_pos m c _ _ (by have : cfg0.N = 48 := N_0; omega), launch_eq]
  iintro ⟨⟨HS0, HS1⟩, Hg⟩
  isplitl [HS0 HS1]
  · isplitl [HS0]; · iexists _; iexact HS0
    iexists _; iexact HS1
  iexact Hg

/-! ## The run -/

set_option backward.isDefEq.respectTransparency.types false in
/-- The launch: every execution ends with the arrays at what the proof data allows and every semaphore at zero. -/
theorem run_main_quiescent : θ_run defs (onTc (τ := τ) (main (F := F))) (s₀ m ρ) (fun r => (RDat.FramePost cfg0 (rdat m) (V m)) r ∧ r.2.sem = fun _ => 0) :=
  RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (RDat.FramePost cfg0 (rdat m) (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1.arr_in c 0 rfl).trans (V_main_arg0 m c), (h.1.arr_in c 1 rfl).trans (V_main_arg1 m c),
    (h.1.arr_in c 2 rfl).trans (V_main_arg2 m c),
    ((h.1 c).2 main_arg3 (Pipeline.mem_restRefs_of main_arg3 (by decide) (by decide))).trans (V_main_arg3 m c)⟩, h.2⟩) (run_main_quiescent m ρ)

end Cert.ProjBIdeal.Hand

end
-- ==== Proof.ProjBPure.lean ====
module

public import proofs.«01_k».proof.Proof.Rows
public import proofs.«01_k».proof.Proof.Gen.ProjBIdeal.Skeleton
public import proofs.«01_k».proof.Proof.Gen.ProjBRefIdeal.Run

@[expose] public section

set_option maxRecDepth 16384

noncomputable section

/-! MIXER B'S INPUT PROJECTION, READ AT AN INDEX: what the body stores over the values it loads, and the reference's two
    results: a row's normalisation times a column of the layer's weights. -/

namespace Cert.ProjBIdeal.Hand

open Cert.ProjBIdeal Cert.ProjBIdeal.Gen
open Idealize.ShloMosaic Idealize.ShloMosaic.TcCoe Idealize.SL.Sem

/-- The normalised rows of the prompt's block. -/
theorem pay1_at (x : FVec Ideal S1024x2048 .f32) (g : FVec Ideal S1x1x2048 .f32) (r : Fin 1024) (k : Fin 2048) :
    k0_pay1 (F := Ideal) x g (ix2 r k) = Rows.rms (fun l => x (ix2 r l)) (fun l => g (ix3 0 0 l)) k := by
  pointwise [k0_pay1]
  rfl

/-- The normalised rows of the sample. -/
theorem pay2_at (x : FVec Ideal S8x2048 .f32) (g : FVec Ideal S1x1x2048 .f32) (r : Fin 8) (k : Fin 2048) :
    k0_pay2 (F := Ideal) x g (ix2 r k) = Rows.rms (fun l => x (ix2 r l)) (fun l => g (ix3 0 0 l)) k := by
  pointwise [k0_pay2]
  rfl

/-- One tile of columns of the prompt's block. -/
theorem pay4_at (w : FVec Ideal S1x2048x512 .bf16) (h : FVec Ideal S1024x2048 .bf16) (r : Fin 1024) (d : Fin 512) :
    k0_pay4 (F := Ideal) w h (ix2 r d) = ∑ k : Fin 2048, h (ix2 r k) * w (ix3 0 k d) := by
  pointwise [k0_pay4, k0_pay3]

/-- One tile of columns of the sample. -/
theorem pay5_at (w : FVec Ideal S1x2048x512 .bf16) (h : FVec Ideal S8x2048 .bf16) (r : Fin 8) (d : Fin 512) :
    k0_pay5 (F := Ideal) w h (ix3 0 r d) = ∑ k : Fin 2048, h (ix2 r k) * w (ix3 0 k d) := by
  pointwise [k0_pay5, k0_pay3]

/-- The projection of one row `x`: its normalisation, by layer 1's gain, times a column of the weights. -/
def proj (x : Fin 2048 → EReal) (a2 : FVec Ideal S4x1x2048 .f32) (a3 : FVec Ideal S1x2048x3072 .f32) (d : Fin 3072) : EReal :=
  ∑ k : Fin 2048, Rows.rms x (fun l => a2 (ix3 1 0 l)) k * a3 (ix3 0 k d)

end Cert.ProjBIdeal.Hand

namespace Cert.ProjBRefIdeal.Hand

open Cert.ProjBRefIdeal Cert.ProjBRefIdeal.Gen
open Idealize.ShloMosaic Idealize.ShloMosaic.TcCoe Idealize.SL.Sem

/-- The reference's first result, as its run states it. -/
def prompt (a0 : FVec Ideal S8192x2048 .f32) (a2 : FVec Ideal S4x1x2048 .f32) (a3 : FVec Ideal S1x2048x3072 .f32) : FVec Ideal S8192x3072 .f32 :=
  Host.dotGeneral dot_S8192x2048_S2048x3072_S8192x3072_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![1, 0, 0] a2 slices_S4x1x2048_S1x1x2048_1_0_0) shapeCasts_S1x1x2048_S1x2048))) (shapeCast _ a3 shapeCasts_S1x2048x3072_S2048x3072)

/-- The reference's second result, as its run states it. -/
def sample (a1 : FVec Ideal S8x2048 .f32) (a2 : FVec Ideal S4x1x2048 .f32) (a3 : FVec Ideal S1x2048x3072 .f32) : FVec Ideal S6x8x512 .f32 :=
  transpose S6x8x512 [1, 0, 2] (shapeCast _ (Host.dotGeneral dot_S8x2048_S2048x3072_S8x3072_1_0_0_1_n_n none (mulf (mulf a1 (broadcastInDim S8x2048 ![0, 1] bcast_S8x1_S8x2048_0_1 (Host.rsqrt (addf (Host.divf (broadcastInDim S8x1 ![0] bcast_S8_S8x1_0 (Host.reduceAdd (mulf a1 a1) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (shapeCast _ (extractStridedSlice S1x1x2048 ![1, 0, 0] a2 slices_S4x1x2048_S1x1x2048_1_0_0) shapeCasts_S1x1x2048_S1x2048))) (shapeCast _ a3 shapeCasts_S1x2048x3072_S2048x3072)) shapeCasts_S8x3072_S8x6x512) transposes_S8x6x512_S6x8x512_1_0_2

theorem prompt_at (a0 : FVec Ideal S8192x2048 .f32) (a2 : FVec Ideal S4x1x2048 .f32) (a3 : FVec Ideal S1x2048x3072 .f32) (r : Fin 8192) (d : Fin 3072) :
    prompt a0 a2 a3 (ix2 r d) = ProjBIdeal.Hand.proj (fun l => a0 (ix2 r l)) a2 a3 d := by
  pointwise [prompt]
  rfl

theorem sample_at (a1 : FVec Ideal S8x2048 .f32) (a2 : FVec Ideal S4x1x2048 .f32) (a3 : FVec Ideal S1x2048x3072 .f32) (j : Fin 6) (r : Fin 8) (d : Fin 512) :
    sample a1 a2 a3 (ix3 j r d) = ProjBIdeal.Hand.proj (fun l => a1 (ix2 r l)) a2 a3 ⟨j.val * 512 + d.val, by omega⟩ := by
  pointwise [sample]
  rfl

end Cert.ProjBRefIdeal.Hand

end
-- ==== Proof.ProjBValue.lean ====
module

public import proofs.«01_k».proof.Proof.ProjBRun
public import proofs.«01_k».proof.Proof.ProjBPure
public import Idealize.ShloMosaic.Lib.Pipeline.ArrRel

@[expose] public section

set_option maxRecDepth 16384

noncomputable section

/-! THE VALUE OF MIXER B'S INPUT PROJECTION: every tile of the prompt's result is its rows' projection onto its columns,
    and the sample's block ends with every tile; so both arrays end at the projection. -/

namespace Cert.ProjBIdeal.Hand

open Cert.ProjBIdeal Cert.ProjBIdeal.Gen
open Idealize.ShloMosaic Idealize.ShloMosaic.TcCoe Idealize.ShloMosaic.Tactic Idealize.SL.Sem
open Idealize.ShloMosaic.Pipeline (Dat RDat)

variable (m : (ℓ : Loc nD τ sig) → Buf (Elt Ideal) ℓ) (ρ : Dev nD → PrngReg)

/-! ## The arguments, and the windows' blocks of them -/

abbrev arg0 (c : Dev nD) : FVec Ideal S8192x2048 .f32 := m ((c.tc : Thread nD τ).loc main_arg0)
abbrev arg1 (c : Dev nD) : FVec Ideal S8x2048 .f32 := m ((c.tc : Thread nD τ).loc main_arg1)
abbrev arg2 (c : Dev nD) : FVec Ideal S4x1x2048 .f32 := m ((c.tc : Thread nD τ).loc main_arg2)
abbrev arg3 (c : Dev nD) : FVec Ideal S1x2048x3072 .f32 := m ((c.tc : Thread nD τ).loc main_arg3)

/-- The weights the region finds are the argument's: over the extended reals the cast is the identity. -/
theorem weights (c : Dev nD) (i : (S1x2048x3072).Idx) : (V m c main_v0 : FVec Ideal S1x2048x3072 .bf16) i = arg3 m c i := by
  have e : V m c main_v0 = (truncf .bf16 (arg3 m c) (by decide) : FVec Ideal S1x2048x3072 .bf16) := by
    unfold V
    after_results_simp <;> rfl
  exact (congrFun e i).trans rfl

theorem index_facts : ∀ t : Fin cfg0.N,
    (win0_0.index t (0 : Fin 2) = t.val / 6 ∧ win0_0.index t (1 : Fin 2) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = t.val % 6)
    ∧ (win0_4.index t (0 : Fin 2) = t.val / 6 ∧ win0_4.index t (1 : Fin 2) = t.val % 6)
    ∧ (win0_5.index t (0 : Fin 3) = 0 ∧ win0_5.index t (1 : Fin 3) = 0 ∧ win0_5.index t (2 : Fin 3) = 0) :=
  (by decide +kernel : ∀ t : Fin grid0.N, _)

theorem blk0_at (c : Dev nD) (t : Fin cfg0.N) (r : Fin 1024) (k : Fin 2048) (R : Fin 8192) (hR : R.val = t.val / 6 * 1024 + r.val) :
    (iblk m c 0 t : FVec Ideal S1024x2048 .f32) (ix2 r k) = arg0 m c (ix2 R k) := by
  obtain ⟨⟨e0, e1⟩, -⟩ := index_facts t
  refine (congrArg (V m c main_arg0) ?_ : _ = V m c main_arg0 (ix2 R k)).trans (congrFun (V_main_arg0 m c) _)
  funext a; apply Fin.ext
  match a with
  | ⟨0, _⟩ => show win0_0.index t (0 : Fin 2) * 1024 + 1 * r.val = R.val; omega
  | ⟨1, _⟩ => show win0_0.index t (1 : Fin 2) * 2048 + 1 * k.val = k.val; omega

theorem blk1_at (c : Dev nD) (t : Fin cfg0.N) (r : Fin 8) (k : Fin 2048) :
    (iblk m c 1 t : FVec Ideal S8x2048 .f32) (ix2 r k) = arg1 m c (ix2 r k) := by
  obtain ⟨-, ⟨e0, e1⟩, -⟩ := index_facts t
  refine (congrArg (V m c main_arg1) ?_ : _ = V m c main_arg1 (ix2 r k)).trans (congrFun (V_main_arg1 m c) _)
  funext a; apply Fin.ext
  match a with
  | ⟨0, _⟩ => show win0_1.index t (0 : Fin 2) * 8 + 1 * r.val = r.val; omega
  | ⟨1, _⟩ => show win0_1.index t (1 : Fin 2) * 2048 + 1 * k.val = k.val; omega

theorem blk2_at (c : Dev nD) (t : Fin cfg0.N) (k : Fin 2048) :
    (iblk m c 2 t : FVec Ideal S1x1x2048 .f32) (ix3 0 0 k) = arg2 m c (ix3 1 0 k) := by
  obtain ⟨-, -, ⟨e0, e1, e2⟩, -⟩ := index_facts t
  refine (congrArg (V m c main_arg2) ?_ : _ = V m c main_arg2 (ix3 1 0 k)).trans (congrFun (V_main_arg2 m c) _)
  funext a; apply Fin.ext
  match a with
  | ⟨0, _⟩ => show win0_2.index t (0 : Fin 3) * 1 + 1 * 0 = 1; omega
  | ⟨1, _⟩ => show win0_2.index t (1 : Fin 3) * 1 + 1 * 0 = 0; omega
  | ⟨2, _⟩ => show win0_2.index t (2 : Fin 3) * 2048 + 1 * k.val = k.val; omega

theorem blk3_at (c : Dev nD) (t : Fin cfg0.N) (k : Fin 2048) (f : Fin 512) (G : Fin 3072) (hG : G.val = t.val % 6 * 512 + f.val) :
    (iblk m c 3 t : FVec Ideal S1x2048x512 .bf16) (ix3 0 k f) = arg3 m c (ix3 0 k G) := by
  obtain ⟨-, -, -, ⟨e0, e1, e2⟩, -⟩ := index_facts t
  refine (congrArg (V m c main_v0) ?_ : _ = V m c main_v0 (ix3 0 k G)).trans (weights m c _)
  funext a; apply Fin.ext
  match a with
  | ⟨0, _⟩ => show win0_3.index t (0 : Fin 3) * 1 + 1 * 0 = 0; omega
  | ⟨1, _⟩ => show win0_3.index t (1 : Fin 3) * 2048 + 1 * k.val = k.val; omega
  | ⟨2, _⟩ => show win0_3.index t (2 : Fin 3) * 512 + 1 * f.val = G.val; omega

/-! ## The normalised rows -/

/-- The row of the prompt that row `r` of the block at point `n` is. -/
abbrev rowOf (n : ℕ) (hn : n < cfg0.N) (r : Fin 1024) : Fin 8192 :=
  ⟨n / 6 * 1024 + r.val, by have : n < 48 := lt_of_lt_of_eq hn (show cfg0.N = 48 from N_0); have := r.isLt; omega⟩

/-- The gain of layer 1. -/
abbrev gain (c : Dev nD) : Fin 2048 → EReal := fun l => arg2 m c (ix3 1 0 l)

theorem norm_prompt (c : Dev nD) (t : Fin cfg0.N) (r : Fin 1024) (k : Fin 2048) :
    k0_pay1 (F := Ideal) (iblk m c 0 t) (iblk m c 2 t) (ix2 r k) = Rows.rms (fun l => arg0 m c (ix2 (rowOf t.val t.isLt r) l)) (gain m c) k := by
  refine (pay1_at _ _ r k).trans ?_
  rw [show (fun l => (iblk m c 0 t : FVec Ideal S1024x2048 .f32) (ix2 r l)) = fun l => arg0 m c (ix2 (rowOf t.val t.isLt r) l) from
      funext fun l => blk0_at m c t r l _ rfl,
    show (fun l => (iblk m c 2 t : FVec Ideal S1x1x2048 .f32) (ix3 0 0 l)) = gain m c from funext fun l => blk2_at m c t l]

theorem hsOf_at (c : Dev nD) (r : Fin 8) (k : Fin 2048) : hsOf m c (ix2 r k) = Rows.rms (fun l => arg1 m c (ix2 r l)) (gain m c) k := by
  unfold hsOf
  refine (pay2_at _ _ r k).trans ?_
  rw [show (fun l => (iblk m c 1 pt0 : FVec Ideal S8x2048 .f32) (ix2 r l)) = fun l => arg1 m c (ix2 r l) from
      funext fun l => blk1_at m c pt0 r l,
    show (fun l => (iblk m c 2 pt0 : FVec Ideal S1x1x2048 .f32) (ix3 0 0 l)) = gain m c from funext fun l => blk2_at m c pt0 l]

/-- The carried rows of the prompt are the block's, normalised. -/
theorem hAt_at (c : Dev nD) (r : Fin 1024) (k : Fin 2048) : ∀ (n : ℕ) (hn : n < cfg0.N),
    hAt m c n hn (ix2 r k) = Rows.rms (fun l => arg0 m c (ix2 (rowOf n hn r) l)) (gain m c) k := by
  intro n
  induction n with
  | zero => intro hn; exact norm_prompt m c ⟨0, hn⟩ r k
  | succ n ih =>
    intro hn
    by_cases h0 : (n + 1) % 6 = 0
    · rw [hAt_start m c ⟨n + 1, hn⟩ h0]
      exact norm_prompt m c ⟨n + 1, hn⟩ r k
    · have e := hAt_step m c ⟨n + 1, hn⟩ h0
      refine (congrFun e _).trans ((ih (Nat.lt_of_succ_lt hn)).trans ?_)
      have hrow : rowOf n (Nat.lt_of_succ_lt hn) r = rowOf (n + 1) hn r := Fin.ext (by dsimp only; omega)
      rw [hrow]

/-! ## The arrays -/

/-- The prompt's result. -/
def outPrompt (c : Dev nD) : Buf (Elt Ideal) ((c.tc : Thread nD τ).loc main_v1_0) := fun i =>
  proj (fun l => arg0 m c (ix2 (i 0) l)) (arg2 m c) (arg3 m c) (i 1)

/-- The sample's result, in tiles of columns. -/
def outSample (c : Dev nD) : Buf (Elt Ideal) ((c.tc : Thread nD τ).loc main_v1_1) := fun i =>
  proj (fun l => arg1 m c (ix2 (i 1) l)) (arg2 m c) (arg3 m c)
    ⟨(i 0).val * 512 + (i 2).val, by have h0 : (i 0).val < 6 := (i 0).isLt; have h2 : (i 2).val < 512 := (i 2).isLt; omega⟩

theorem tile_prompt (c : Dev nD) (t : Fin cfg0.N) (r : Fin 1024) (f : Fin 512) (G : Fin 3072) (hG : G.val = t.val % 6 * 512 + f.val) :
    k0_pay4 (F := Ideal) (iblk m c 3 t) (hAt m c t.val t.isLt) (ix2 r f)
      = proj (fun l => arg0 m c (ix2 (rowOf t.val t.isLt r) l)) (arg2 m c) (arg3 m c) G := by
  refine (pay4_at _ _ r f).trans (Finset.sum_congr rfl fun k _ => ?_)
  rw [hAt_at m c r k t.val t.isLt, blk3_at m c t k f ⟨G.val, by omega⟩ hG]

theorem tile_sample (c : Dev nD) (r : Fin 8) (t : Fin cfg0.N) (f : Fin 512) (G : Fin 3072) (hG : G.val = t.val % 6 * 512 + f.val) :
    k0_pay5 (F := Ideal) (iblk m c 3 t) (hsOf m c) (ix3 0 r f) = proj (fun l => arg1 m c (ix2 r l)) (arg2 m c) (arg3 m c) G := by
  refine (pay5_at _ _ r f).trans (Finset.sum_congr rfl fun k _ => ?_)
  rw [hsOf_at m c r k, blk3_at m c t k f ⟨G.val, by omega⟩ hG]

theorem flushed_prompt (c : Dev nD) (t : Fin cfg0.N) :
    (cfg0.win 4).cut (grid0.coords t) ((dats m 0 c).after 4 t) = ((cfg0.win 4).blk t).view.read (Elt Ideal) (outPrompt m c) := by
  rw [after4]
  obtain ⟨-, -, -, -, ⟨e0, e1⟩, -⟩ := index_facts t
  have hN : t.val < 48 := lt_of_lt_of_eq t.isLt (show cfg0.N = 48 from N_0)
  funext y
  obtain ⟨r, d, rfl⟩ : ∃ (r : Fin 1024) (d : Fin 512), y = ix2 r d := ⟨y 0, y 1, eq_ix2 y⟩
  have hG : t.val % 6 * 512 + d.val < 3072 := by have := d.isLt; omega
  have hb : ((cfg0.win 4).blk t).view.emb (ix2 r d) = ix2 (rowOf t.val t.isLt r) (⟨_, hG⟩ : Fin 3072) := by
    funext a; apply Fin.ext
    match a with
    | ⟨0, _⟩ => show win0_4.index t (0 : Fin 2) * 1024 + 1 * r.val = _; rw [e0]; show _ = t.val / 6 * 1024 + r.val; omega
    | ⟨1, _⟩ => show win0_4.index t (1 : Fin 2) * 512 + 1 * d.val = _; rw [e1]; show _ = t.val % 6 * 512 + d.val; omega
  exact (tile_prompt m c t r d ⟨_, hG⟩ rfl).trans (congrArg (outPrompt m c) hb).symm

theorem osOf_eq (c : Dev nD) (z : (S6x8x512).Idx) : osOf m c z = outSample m c z := by
  obtain ⟨j, r, d, rfl⟩ : ∃ (j : Fin 6) (r : Fin 8) (d : Fin 512), z = ix3 j r d := ⟨z 0, z 1, z 2, eq_ix3 z⟩
  exact tile_sample m c r (ptOf j) d _ (show j.val * 512 + d.val = j.val % 6 * 512 + d.val by rw [Nat.mod_eq_of_lt j.isLt])

theorem flushed_sample (c : Dev nD) (t : Fin cfg0.N) (hm : t.val % 48 = 47) (X : Vec Ideal S6x8x512 .f32) (hX : upTo m c t.val X) :
    (cfg0.win 5).cut (grid0.coords t) X = ((cfg0.win 5).blk t).view.read (Elt Ideal) (outSample m c) := by
  obtain ⟨-, -, -, -, -, ⟨e0, e1, e2⟩⟩ := index_facts t
  funext z
  obtain ⟨j, r, d, rfl⟩ : ∃ (j : Fin 6) (r : Fin 8) (d : Fin 512), z = ix3 j r d := ⟨z 0, z 1, z 2, eq_ix3 z⟩
  have hb : ((cfg0.win 5).blk t).view.emb (ix3 j r d) = ix3 j r d := by
    funext a; apply Fin.ext
    match a with
    | ⟨0, _⟩ => show win0_5.index t (0 : Fin 3) * 6 + 1 * j.val = j.val; omega
    | ⟨1, _⟩ => show win0_5.index t (1 : Fin 3) * 8 + 1 * r.val = r.val; omega
    | ⟨2, _⟩ => show win0_5.index t (2 : Fin 3) * 512 + 1 * d.val = d.val; omega
  refine (hX (ix3 j r d) (show j.val ≤ t.val by have := j.isLt; omega)).trans ((osOf_eq m c _).trans ?_)
  exact (congrArg (outSample m c) hb).symm

theorem mem_prompt (t : Fin cfg0.N) (i : S8192x3072.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1_0).slice (win0_4.rect t)).set ↔ _
  rw [View.set_slice_whole, Rect.mem_set_unit]
  exact Iff.rfl

theorem mem_sample (t : Fin cfg0.N) (i : (S6x8x512).Idx) :
    i ∈ ((cfg0.win 5).blk t).view.set ↔ ∀ a : Fin 3, win0_5.index t a * (S6x8x512).size a ≤ (i a).val ∧ (i a).val < win0_5.index t a * (S6x8x512).size a + (S6x8x512).size a := by
  show i ∈ ((View.whole main_v1_1).slice (win0_5.rect t)).set ↔ _
  rw [View.set_slice_whole, Rect.mem_set_unit]
  exact Iff.rfl

theorem cover_prompt (i : S8192x3072.Idx) : ∃ t : Fin cfg0.N, (cfg0.win 4).flush t = true ∧ i ∈ ((cfg0.win 4).blk t).view.set := by
  have h0 : (i 0).val < 8192 := (i 0).isLt
  have h1 : (i 1).val < 3072 := (i 1).isLt
  have hlt : 6 * ((i 0).val / 1024) + (i 1).val / 512 < cfg0.N := lt_of_lt_of_eq (by omega : _ < 48) (show cfg0.N = 48 from N_0).symm
  obtain ⟨-, -, -, -, ⟨e0, e1⟩, -⟩ := index_facts ⟨_, hlt⟩
  refine ⟨⟨_, hlt⟩, flush0_4 _, ?_⟩
  rw [mem_prompt]
  dsimp only at e0 e1
  intro a
  match a with
  | ⟨0, _⟩ => show win0_4.index ⟨_, hlt⟩ (0 : Fin 2) * 1024 ≤ (i 0).val ∧ (i 0).val < win0_4.index ⟨_, hlt⟩ (0 : Fin 2) * 1024 + 1024; omega
  | ⟨1, _⟩ => show win0_4.index ⟨_, hlt⟩ (1 : Fin 2) * 512 ≤ (i 1).val ∧ (i 1).val < win0_4.index ⟨_, hlt⟩ (1 : Fin 2) * 512 + 512; omega

theorem cover_sample (i : (S6x8x512).Idx) : ∃ t : Fin cfg0.N, (cfg0.win 5).flush t = true ∧ i ∈ ((cfg0.win 5).blk t).view.set := by
  have h0 : (i 0).val < 6 := (i 0).isLt
  have h1 : (i 1).val < 8 := (i 1).isLt
  have h2 : (i 2).val < 512 := (i 2).isLt
  have hlt : 47 < cfg0.N := lt_of_lt_of_eq (by omega : _ < 48) (show cfg0.N = 48 from N_0).symm
  obtain ⟨-, -, -, -, -, ⟨e0, e1, e2⟩⟩ := index_facts ⟨_, hlt⟩
  refine ⟨⟨_, hlt⟩, (flush0_5 _).mpr (by dsimp only), ?_⟩
  rw [mem_sample]
  intro a
  match a with
  | ⟨0, _⟩ => show win0_5.index ⟨_, hlt⟩ (0 : Fin 3) * 6 ≤ (i 0).val ∧ (i 0).val < win0_5.index ⟨_, hlt⟩ (0 : Fin 3) * 6 + 6; omega
  | ⟨1, _⟩ => show win0_5.index ⟨_, hlt⟩ (1 : Fin 3) * 8 ≤ (i 1).val ∧ (i 1).val < win0_5.index ⟨_, hlt⟩ (1 : Fin 3) * 8 + 8; omega
  | ⟨2, _⟩ => show win0_5.index ⟨_, hlt⟩ (2 : Fin 3) * 512 ≤ (i 2).val ∧ (i 2).val < win0_5.index ⟨_, hlt⟩ (2 : Fin 3) * 512 + 512; omega

/-- What a point leaves in the prompt's buffer. -/
theorem leaves_prompt (c : Dev nD) (t : Fin cfg0.N) (X : Vec Ideal S1024x512 .f32) (h : (rdat m c).Leaves 4 t X) :
    X = (dats m 0 c).after 4 t := by
  obtain ⟨Y, -, h⟩ := h
  have h' : (dats m 0 c).toR.after 4 t Y X := by
    rw [← (dats m 0 c).toRRel_after_of_eq_false (fgt := marked) (Rl := Rl m c) (w := 4) rfl]
    exact h
  exact h'

/-- The run: both results at the projection. -/
theorem run : θ_run defs (onTc (τ := τ) (main (F := Ideal))) ⟨m, fun _ => 0, ρ⟩ fun r => ∀ c : Dev nD,
      r.2.mem ((c.tc : Thread nD τ).loc main_v1_0) = outPrompt m c
      ∧ r.2.mem ((c.tc : Thread nD τ).loc main_v1_1) = outSample m c :=
  (θ_run defs _ _).mono (fun r h c => by
    obtain ⟨after, hl, ha⟩ := h.exists_exact c
    refine ⟨(ha 4).trans (((rdat m c).withAfter after).arrAt_eq_of_cover 4 _ (fun t hf => ?_) fun i => cover_prompt i),
      (ha 5).trans (((rdat m c).withAfter after).arrAt_eq_of_cover 5 _ (fun t hf => ?_) fun i => cover_sample i)⟩
    · show (cfg0.win 4).cut (grid0.coords t) (after 4 t) = _
      rw [leaves_prompt m c t _ (hl 4 t hf)]
      exact flushed_prompt m c t
    · show (cfg0.win 5).cut (grid0.coords t) (after 5 t) = _
      exact flushed_sample m c t ((flush0_5 t).mp hf) _ ((dats m 0 c).toRRel_leaves (fgt := marked) (Rl := Rl m c) (w := 5) rfl (hl 5 t hf))) (run_main m ρ)

end Cert.ProjBIdeal.Hand

end
-- ==== Proof.ProjBClaims.lean ====
module

public import proofs.«01_k».proof.Defs
public import proofs.«01_k».proof.Proof.ProjBValue
public import proofs.«01_k».proof.Proof.Gen.ProjB
public import proofs.«01_k».proof.Proof.Gen.ProjBRefIdeal.Run
public import Idealize.ShloMosaic.Lib.Claim

@[expose] public section

set_option maxRecDepth 16384

noncomputable section

/-! THE CLAIMS OF MIXER B'S INPUT PROJECTION: the three frames, and the kernel's two results equal to the reference's. -/

namespace Cert.ProjBProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.ProjB.defs₀ (F := F) = Cert.ProjBIdeal.defs₀ (F := F) := by
  funext p l a
  cases p with
  | tc =>
    match l, a with
    | 0, (t, s) => rfl
  | scScalar => rfl
  | scVector => rfl

theorem defs_same {F : FTy → Type} [FloatOps F] : Cert.ProjB.defs (F := F) = Cert.ProjBIdeal.defs (F := F) :=
  congrArg (Idealize.ShloMosaic.Pipeline.defs Cert.ProjB.pcfgs) body_same

theorem frame_kernel : Cert.quiescent_ProjB (hProjB := Cert.ProjB.Gen.facts) := fun m ρ _ =>
  (congrArg (fun d => θ_run d (onTc (τ := Cert.ProjB.τ) (Cert.ProjB.main (F := Bits))) ⟨m, fun _ => 0, ρ⟩ _) defs_same).mpr
    (Cert.ProjBIdeal.Hand.frame (F := Bits) m ρ)

theorem frame_ideal : Cert.quiescent_ProjBIdeal (hProjBIdeal := Cert.ProjBIdeal.Gen.facts) := fun m ρ _ => Cert.ProjBIdeal.Hand.frame m ρ

theorem frame_reference : Cert.quiescent_ProjBRefIdeal (hProjBRefIdeal := Cert.ProjBRefIdeal.Gen.facts) := fun m ρ _ =>
  (θ_run _ _ _).mono (fun r h => ⟨fun c => (h c).2.2, Idealize.ShloMosaic.sem_eq_zero_of_no_sems (by decide) r.2⟩)
    (Cert.ProjBRefIdeal.Value.run (F := Ideal) m ρ)

/-- The reference's first result is the kernel's. -/
theorem prompt_eq (m : (ℓ : Loc Cert.ProjBIdeal.nD Cert.ProjBIdeal.τ Cert.ProjBIdeal.sig) → Buf (Elt Ideal) ℓ) (c : Dev Cert.ProjBIdeal.nD) :
    Cert.ProjBRefIdeal.Hand.prompt (Cert.ProjBIdeal.Hand.arg0 m c) (Cert.ProjBIdeal.Hand.arg2 m c) (Cert.ProjBIdeal.Hand.arg3 m c)
      = Cert.ProjBIdeal.Hand.outPrompt m c := by
  funext i
  obtain ⟨r, d, rfl⟩ : ∃ (r : Fin 8192) (d : Fin 3072), i = ix2 r d := ⟨i 0, i 1, eq_ix2 i⟩
  exact Cert.ProjBRefIdeal.Hand.prompt_at _ _ _ r d

/-- The reference's second result is the kernel's. -/
theorem sample_eq (m : (ℓ : Loc Cert.ProjBIdeal.nD Cert.ProjBIdeal.τ Cert.ProjBIdeal.sig) → Buf (Elt Ideal) ℓ) (c : Dev Cert.ProjBIdeal.nD) :
    Cert.ProjBRefIdeal.Hand.sample (Cert.ProjBIdeal.Hand.arg1 m c) (Cert.ProjBIdeal.Hand.arg2 m c) (Cert.ProjBIdeal.Hand.arg3 m c)
      = Cert.ProjBIdeal.Hand.outSample m c := by
  funext i
  obtain ⟨j, r, d, rfl⟩ : ∃ (j : Fin 6) (r : Fin 8) (d : Fin 512), i = ix3 j r d := ⟨i 0, i 1, i 2, eq_ix3 i⟩
  exact Cert.ProjBRefIdeal.Hand.sample_at _ _ _ j r d

theorem algebraic : Cert.algebraic_ProjBIdeal_ProjBRefIdeal (hProjBIdeal := Cert.ProjBIdeal.Gen.facts) (hProjBRefIdeal := Cert.ProjBRefIdeal.Gen.facts) := by
  intro m g m' g' _ hargs
  refine ⟨fun c => Cert.ProjBIdeal.Hand.outPrompt m c, fun c => Cert.ProjBIdeal.Hand.outSample m c, ?_, ?_⟩
  · refine (θ_run _ _ _).mono (fun r h c => ?_) (θ_run_and (Cert.ProjBIdeal.Hand.run m g) (Cert.ProjBIdeal.Hand.frame m g))
    obtain ⟨h1, h2, -⟩ := h
    exact ⟨(h1 c).1, (h1 c).2, h2 c⟩
  · refine (θ_run _ _ _).mono (fun r h c => ?_) (Cert.ProjBRefIdeal.Value.run (F := Ideal) m' g')
    obtain ⟨e0, e1, e2, e3⟩ := hargs c
    obtain ⟨hv, hw, h⟩ := h c
    refine ⟨hv.trans ?_, hw.trans ?_, h⟩
    · rw [e0, e2, e3]
      exact prompt_eq m c
    · rw [e1, e2, e3]
      exact sample_eq m c

end Cert.ProjBProof

end
-- ==== Proof.ProjCBody.lean ====
module

public import proofs.«01_k».proof.Proof.Gen.ProjCIdeal.Frame
public import proofs.«01_k».proof.Proof.Gen.ProjCIdeal.Skeleton
public import Idealize.ShloMosaic.Lib.Pipeline.Value
public import Idealize.ShloMosaic.Lib.Pipeline.DatRel
public import Idealize.ShloMosaic.Lib.Pointwise.Index
public import Idealize.ShloMosaic.Lib.WritesUnit

@[expose] public section

set_option maxRecDepth 16384

noncomputable section

/-! ONE RUN OF THE BODY OF MIXER C'S INPUT PROJECTION, in each of the four cases of its three conditions: what the two
    results' staging buffers and the two normalised-rows scratch buffers hold afterwards. The sample's result is written
    one tile of columns at a time, so of its buffer the body changes the point's tile only (`put`). -/

namespace Cert.ProjCIdeal.Hand

open Cert.ProjCIdeal Cert.ProjCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The first branch's condition: the first tile of columns of a block of rows. -/
abbrev firstTile (i : grid0.Coords) : Prop := (Scalar.cmpi .ne (Scalar.extui (Scalar.cmpi .eq (BitVec.ofNat 32 (i 1).val) 0#32)) 0#32) = 1#1
/-- The second's: the first point of the grid. -/
abbrev firstPoint (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The third's: the first block of rows. -/
abbrev firstBlock (i : grid0.Coords) : Prop := k0_cond3 i = 1#1

/-- The sample's result with the point's tile of columns put in its place. -/
abbrev put (i : grid0.Coords) (p : Vec F S10x8x512 .f32) (v : Vec F S1x8x512 .f32) : Vec F S10x8x512 .f32 :=
  fun z => if (z 0).val = (i 1).val then v (ix3 0 (z 1) (z 2)) else p z

theorem off1_eq (i : grid0.Coords) : k0_off1 i = ![(i 1).val, 0, 0] := by
  have h : ∀ j : Fin 10, (Scalar.indexCast (BitVec.ofNat 32 j.val)).toNat = j.val := by decide
  show ![(Scalar.indexCast (BitVec.ofNat 32 (i 1).val)).toNat, 0, 0] = _
  rw [h (i 1)]

/-- The first point: both groups of rows are normalised, both results take the tile of columns. -/
theorem body_A (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S10x8x512 .f32) (harg7 : arg7.IsWhole) (arg8 : Memref sig .tc .vmem S1024x2048 .bf16) (harg8 : arg8.IsWhole) (arg9 : Memref sig .tc .vmem S8x2048 .bf16) (harg9 : arg9.IsWhole)
    (hc0 : firstTile i) (hc1 : firstPoint i) (hc2 : firstBlock i)
    (x : Vec F S1024x2048 .f32) (y : Vec F S8x2048 .f32) (g : Vec F S1x1x2048 .f32) (w : Vec F S1x2048x512 .bf16) (p : Vec F S10x8x512 .f32)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ (∃ d, owns (c : Thread nD τ) arg8 fullShare d) ∗ (∃ d, owns (c : Thread nD τ) arg9 fullShare d)
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w (k0_pay1 x g)) ∗ owns (c : Thread nD τ) arg7 fullShare (put i p (k0_pay5 w (k0_pay2 y g))) ∗ owns (c : Thread nD τ) arg8 fullShare (k0_pay1 x g) ∗ owns (c : Thread nD τ) arg9 fullShare (k0_pay2 y g)) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5; obtain rfl := harg7.eq_unread hf7
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; swap; · iexact H7
    ipureintro
    sl_unfold_words
    funext z
    by_cases h : (z 0).val = (i 1).val
    · refine (View.read_writes_cons_unit_of_mem _ _ _ _ _ z (ix3 0 (z 1) (z 2)) (off1_eq i) fun a => ?_).trans ?_
      · match a with
        | ⟨0, _⟩ => show (z 0).val = (i 1).val + 0; omega
        | ⟨1, _⟩ => show (z 1).val = 0 + (z 1).val; omega
        | ⟨2, _⟩ => show (z 2).val = 0 + (z 2).val; omega
      · simp only [View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
        exact (if_pos h).symm
    · refine (View.read_writes_cons_unit_of_not_mem _ _ _ _ _ z (off1_eq i) 0 ?_).trans ?_
      · show (z 0).val < (i 1).val ∨ (i 1).val + 1 ≤ (z 0).val; omega
      · rw [View.writes_nil, harg7.read_unread]
        exact (if_neg h).symm
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  iexists _; isplitr; swap; · iexact H9
  ipureintro
  sl_unfold_words
  rw [View.read_writes_eq_canon _ _ _ (fun z => View.cover_of_tiledL _ S8x2048.size (by sl_kernel_rfl) z)]
  simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]

/-- The other points of the first block of rows: both results take the tile. -/
theorem body_B (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S10x8x512 .f32) (harg7 : arg7.IsWhole) (arg8 : Memref sig .tc .vmem S1024x2048 .bf16) (harg8 : arg8.IsWhole) (arg9 : Memref sig .tc .vmem S8x2048 .bf16) (harg9 : arg9.IsWhole)
    (hc0 : ¬firstTile i) (hc1 : ¬firstPoint i) (hc2 : firstBlock i)
    (x : Vec F S1024x2048 .f32) (y : Vec F S8x2048 .f32) (g : Vec F S1x1x2048 .f32) (w : Vec F S1x2048x512 .bf16) (p : Vec F S10x8x512 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ owns (c : Thread nD τ) arg8 fullShare h ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w h) ∗ owns (c : Thread nD τ) arg7 fullShare (put i p (k0_pay5 w k)) ∗ owns (c : Thread nD τ) arg8 fullShare h ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; swap; · iexact H7
    ipureintro
    sl_unfold_words
    funext z
    by_cases h : (z 0).val = (i 1).val
    · refine (View.read_writes_cons_unit_of_mem _ _ _ _ _ z (ix3 0 (z 1) (z 2)) (off1_eq i) fun a => ?_).trans ?_
      · match a with
        | ⟨0, _⟩ => show (z 0).val = (i 1).val + 0; omega
        | ⟨1, _⟩ => show (z 1).val = 0 + (z 1).val; omega
        | ⟨2, _⟩ => show (z 2).val = 0 + (z 2).val; omega
      · simp only [View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
        exact (if_pos h).symm
    · refine (View.read_writes_cons_unit_of_not_mem _ _ _ _ _ z (off1_eq i) 0 ?_).trans ?_
      · show (z 0).val < (i 1).val ∨ (i 1).val + 1 ≤ (z 0).val; omega
      · rw [View.writes_nil, harg7.read_unread]
        exact (if_neg h).symm
  isplitl [H8]
  · iexists _; isplitr; · ipureintro; exact harg8.read_unread _
    iexact H8
  iexists _; isplitr; · ipureintro; exact harg9.read_unread _
  iexact H9

/-- The first tile of a later block of rows: its rows are normalised. -/
theorem body_C (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S10x8x512 .f32) (harg7 : arg7.IsWhole) (arg8 : Memref sig .tc .vmem S1024x2048 .bf16) (harg8 : arg8.IsWhole) (arg9 : Memref sig .tc .vmem S8x2048 .bf16) (harg9 : arg9.IsWhole)
    (hc0 : firstTile i) (hc1 : ¬firstPoint i) (hc2 : ¬firstBlock i)
    (x : Vec F S1024x2048 .f32) (y : Vec F S8x2048 .f32) (g : Vec F S1x1x2048 .f32) (w : Vec F S1x2048x512 .bf16) (p : Vec F S10x8x512 .f32) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ (∃ d, owns (c : Thread nD τ) arg8 fullShare d) ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w (k0_pay1 x g)) ∗ owns (c : Thread nD τ) arg7 fullShare p ∗ owns (c : Thread nD τ) arg8 fullShare (k0_pay1 x g) ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  iexists _; isplitr; · ipureintro; exact harg9.read_unread _
  iexact H9

/-- The other points of a later block of rows. -/
theorem body_D (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1024x512 .f32) (harg6 : arg6.IsWhole) (arg7 : Memref sig .tc .vmem S10x8x512 .f32) (harg7 : arg7.IsWhole) (arg8 : Memref sig .tc .vmem S1024x2048 .bf16) (harg8 : arg8.IsWhole) (arg9 : Memref sig .tc .vmem S8x2048 .bf16) (harg9 : arg9.IsWhole)
    (hc0 : ¬firstTile i) (hc1 : ¬firstPoint i) (hc2 : ¬firstBlock i)
    (x : Vec F S1024x2048 .f32) (y : Vec F S8x2048 .f32) (g : Vec F S1x1x2048 .f32) (w : Vec F S1x2048x512 .bf16) (p : Vec F S10x8x512 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare w ∗ (∃ d, owns (c : Thread nD τ) arg6 fullShare d) ∗ owns (c : Thread nD τ) arg7 fullShare p ∗ owns (c : Thread nD τ) arg8 fullShare h ∗ owns (c : Thread nD τ) arg9 fullShare k
        ∗ (iprop(owns (c : Thread nD τ) arg2 fullShare x ∗ owns (c : Thread nD τ) arg3 fullShare y ∗ owns (c : Thread nD τ) arg4 fullShare g ∗ owns (c : Thread nD τ) arg5 fullShare w ∗ owns (c : Thread nD τ) arg6 fullShare (k0_pay4 w h) ∗ owns (c : Thread nD τ) arg7 fullShare p ∗ owns (c : Thread nD τ) arg8 fullShare h ∗ owns (c : Thread nD τ) arg9 fullShare k) -∗ K ⟨⟩))
      ⊢ wp frame (wpE (defs₀ (F := F)) Variants.none c none) E (cc0_norm_matmul2 i arg2 harg2 arg3 harg3 arg4 harg4 arg5 harg5 arg6 harg6 arg7 harg7 arg8 harg8 arg9 harg9) K := by
  simp only [cc0_norm_matmul2_eq_skeleton]; unfold cc0_norm_matmul2_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun z => View.cover_of_tiledL _ S1024x512.size (by sl_kernel_rfl) z)]
    simp only [View.canon_cons_unit_zero (S := S1024x512) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, View.ld_unit_zero (S := S1024x2048) zero2, View.ld_unit_zero (S := S8x2048) zero2, View.ld_unit_zero (S := S1x1x2048) zero3, View.ld_unit_zero (S := S1x2048x512) zero3]
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

end Cert.ProjCIdeal.Hand

end
-- ==== Proof.ProjCRun.lean ====
module

public import proofs.«01_k».proof.Proof.ProjCBody
public import Idealize.ShloMosaic.Lib.Claim
public import Idealize.ShloMosaic.Lib.Pipeline.Value
public import Idealize.ShloMosaic.Lib.Pipeline.DatRel

@[expose] public section

set_option maxRecDepth 16384

noncomputable section

/-! THE RUN OF MIXER C'S INPUT PROJECTION: the prompt's result is one tile per point; the sample's is one resident
    block whose tiles are written during the first block of rows, so its contents are held to a relation (`upTo`: the
    tiles written so far), which at the last point names the whole block. -/

namespace Cert.ProjCIdeal.Hand

open Cert.ProjCIdeal Cert.ProjCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, by arithmetic of the point -/

theorem coords0 (t : Fin cfg0.N) : (grid0.coords t 0).val = t.val / 10 % 8 := Pipeline.Grid.coords_val t 0 (by decide) rfl
theorem coords1 (t : Fin cfg0.N) : (grid0.coords t 1).val = t.val % 10 :=
  (Pipeline.Grid.coords_val t 1 (by decide) rfl).trans (by rw [Nat.div_one] : t.val / 1 % 10 = t.val % 10)

theorem firstTile_iff : ∀ t : Fin cfg0.N, firstTile (grid0.coords t) ↔ t.val % 10 = 0 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [firstTile, e0, e1]
    word_cmp
   : ∀ t : Fin grid0.N, firstTile (grid0.coords t) ↔ t.val % 10 = 0)

theorem firstPoint_iff : ∀ t : Fin cfg0.N, firstPoint (grid0.coords t) ↔ t.val % 80 = 0 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [firstPoint, e0, e1]
    word_cmp
   : ∀ t : Fin grid0.N, firstPoint (grid0.coords t) ↔ t.val % 80 = 0)

theorem firstBlock_iff : ∀ t : Fin cfg0.N, firstBlock (grid0.coords t) ↔ t.val < 10 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [firstBlock, k0_cond3, e0, e1]
    word_cmp
   : ∀ t : Fin grid0.N, firstBlock (grid0.coords t) ↔ t.val < 10)

/-! ## The staging and scratch memrefs -/

abbrev mr0 (t : Fin cfg0.N) : Memref sig .tc .vmem S1024x2048 .f32 := win0_0.stage (cfg0.slots t 0)
abbrev mr1 (t : Fin cfg0.N) : Memref sig .tc .vmem S8x2048 .f32 := win0_1.stage (cfg0.slots t 1)
abbrev mr2 (t : Fin cfg0.N) : Memref sig .tc .vmem S1x1x2048 .f32 := win0_2.stage (cfg0.slots t 2)
abbrev mr3 (t : Fin cfg0.N) : Memref sig .tc .vmem S1x2048x512 .bf16 := win0_3.stage (cfg0.slots t 3)
abbrev mr4 (t : Fin cfg0.N) : Memref sig .tc .vmem S1024x512 .f32 := win0_4.stage (cfg0.slots t 4)
abbrev mr5 (t : Fin cfg0.N) : Memref sig .tc .vmem S10x8x512 .f32 := win0_5.stage (cfg0.slots t 5)
abbrev sc0 : Memref sig .tc .vmem S1024x2048 .bf16 := Memref.whole cc0_scratch0
abbrev sc1 : Memref sig .tc .vmem S8x2048 .bf16 := Memref.whole cc0_scratch1

/-- The launch's invariant, with the two scratch buffers as memrefs held at some contents. -/
theorem launch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the carried buffers hold after each point -/

/-- The first point. -/
abbrev pt0 : Fin cfg0.N := ⟨0, lt_of_lt_of_eq (by decide : 0 < 80) (show cfg0.N = 80 from N_0).symm⟩

/-- The prompt's normalised rows after the body at position `n`: made at the first tile of the block of rows, kept after. -/
def hAt (c : Dev nD) : (n : ℕ) → n < cfg0.N → Vec F S1024x2048 .bf16
  | 0, hn => k0_pay1 (iblk m c 0 ⟨0, hn⟩) (iblk m c 2 ⟨0, hn⟩)
  | n + 1, hn => if (n + 1) % 10 = 0 then k0_pay1 (iblk m c 0 ⟨n + 1, hn⟩) (iblk m c 2 ⟨n + 1, hn⟩) else hAt c n (Nat.lt_of_succ_lt hn)

/-- The sample's normalised rows, made at the first point. -/
def hsOf (c : Dev nD) : Vec F S8x2048 .bf16 := k0_pay2 (iblk m c 1 pt0) (iblk m c 2 pt0)

/-- The point before. -/
abbrev prev (t : Fin cfg0.N) : t.val - 1 < cfg0.N := Nat.lt_of_le_of_lt (Nat.sub_le _ _) t.isLt

theorem hAt_start (c : Dev nD) (t : Fin cfg0.N) (h : t.val % 10 = 0) :
    hAt m c t.val t.isLt = k0_pay1 (iblk m c 0 t) (iblk m c 2 t) := by
  obtain ⟨n, hn⟩ := t
  cases n with
  | zero => rfl
  | succ n => exact (if_pos h).trans rfl

theorem hAt_step (c : Dev nD) (t : Fin cfg0.N) (h : ¬t.val % 10 = 0) :
    hAt m c t.val t.isLt = hAt m c (t.val - 1) (prev t) := by
  obtain ⟨n, hn⟩ := t
  cases n with
  | zero => exact absurd (Nat.zero_mod _) h
  | succ n => exact (if_neg h).trans rfl

/-- The point whose tile of columns is `j`, in the first block of rows. -/
abbrev ptOf (j : Fin 10) : Fin cfg0.N := ⟨j.val, lt_of_lt_of_eq (by omega : j.val < 80) (show cfg0.N = 80 from N_0).symm⟩

/-- The sample's whole result. -/
def osOf (c : Dev nD) : Vec F S10x8x512 .f32 := fun z => k0_pay5 (X0_3 m c (ptOf (z 0))) (hsOf m c) (ix3 0 (z 1) (z 2))

/-- The sample's result has its tiles `0 … n`. -/
def upTo (c : Dev nD) (n : ℕ) (X : Vec F S10x8x512 .f32) : Prop := ∀ z : (S10x8x512).Idx, (z 0).val ≤ n → X z = osOf m c z

theorem upTo_mono (c : Dev nD) {n n' : ℕ} {X : Vec F S10x8x512 .f32} (h : upTo m c n X) (hn : 10 ≤ n + 1) : upTo m c n' X :=
  fun z _ => h z (by have := (z 0).isLt; have h' : (z 0).val < 10 := this; omega)

theorem upTo_put (c : Dev nD) (t : Fin cfg0.N) (ht : t.val < 10) {X : Vec F S10x8x512 .f32} (h : t.val ≠ 0 → upTo m c (t.val - 1) X) :
    upTo m c t.val (put (grid0.coords t) X (k0_pay5 (X0_3 m c t) (hsOf m c))) := by
  intro z hz
  have e : (grid0.coords t 1).val = t.val := (coords1 t).trans (Nat.mod_eq_of_lt ht)
  show (if (z 0).val = (grid0.coords t 1).val then _ else _) = _
  rw [e]
  by_cases hc : (z 0).val = t.val
  · rw [if_pos hc]
    have ep : ptOf (z 0) = t := Fin.ext hc
    unfold osOf
    rw [ep]
  · rw [if_neg hc]
    exact h (by omega) z (by omega)

/-- The invariant before position `n`: at the start the launch's; afterwards the scratch buffers at what the point
    before left in them. -/
def Inv (c : Dev nD) : (n : ℕ) → n ≤ cfg0.N → sProp 𝕄
  | 0, _ => Pipeline.ΦA spec0 c
  | n + 1, hn => iprop(iprop(owns (c : Thread nD τ) sc0 fullShare (hAt m c n hn)
      ∗ owns (c : Thread nD τ) sc1 fullShare (hsOf m c)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) sc0 fullShare (hAt m c n hn)
      ∗ owns (c : Thread nD τ) sc1 fullShare (hsOf m c)) ∗ (∃ r, prngReg c r)) := rfl

theorem Inv_pos (c : Dev nD) (n : ℕ) (h : n ≤ cfg0.N) (hz : n ≠ 0) :
    Inv m c n h = iprop(iprop(owns (c : Thread nD τ) sc0 fullShare (hAt m c (n - 1) (by omega))
      ∗ owns (c : Thread nD τ) sc1 fullShare (hsOf m c)) ∗ (∃ r, prngReg c r)) := by
  cases n with
  | zero => exact absurd rfl hz
  | succ n => rfl

/-! ## The proof data -/

/-- The arrays as the region finds them; each input's buffer at its block, the prompt's result at its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => k0_pay4 (X0_3 m c t) (hAt m c t.val t.isLt)
    | ⟨5, _⟩ => osOf m c
  Φ t := Inv m c t.val (Nat.le_of_lt_succ t.isLt)
  q _ := fullShare
  owed _ := 0

/-- The sample's result is held to a relation: its tiles written so far. -/
abbrev marked : Fin cfg0.W → Bool := fun w => match w with
  | ⟨0, _⟩ => false | ⟨1, _⟩ => false | ⟨2, _⟩ => false | ⟨3, _⟩ => false | ⟨4, _⟩ => false | ⟨5, _⟩ => true

abbrev Rl (c : Dev nD) : (w : Fin cfg0.W) → Fin cfg0.N → ((cfg0.win w).block.Idx → Elt F (cfg0.win w).elt) → Prop :=
  fun w t => match w with
    | ⟨0, _⟩ => fun _ => True | ⟨1, _⟩ => fun _ => True | ⟨2, _⟩ => fun _ => True | ⟨3, _⟩ => fun _ => True | ⟨4, _⟩ => fun _ => True
    | ⟨5, _⟩ => fun X => upTo m c t.val X

/-- The relational proof data. -/
abbrev rdat (c : Dev nD) : RDat τ (Elt F) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = X0_3 m c t := by dsimp only [dats]
theorem after4 (c : Dev nD) (t : Fin cfg0.N) : (dats m 0 c).after 4 t = k0_pay4 (X0_3 m c t) (hAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d

/-- After the first point the sample's buffer is found with the tiles of the points before. -/
theorem finds5 (c : Dev nD) (t : Fin cfg0.N) (Y : Vec F S10x8x512 .f32) (h : (rdat m c).Finds 5 t Y) (hz : t.val ≠ 0) : upTo m c (t.val - 1) Y := by
  have hN : t.val < 80 := lt_of_lt_of_eq t.isLt (show cfg0.N = 80 from N_0)
  rw [RDat.finds_of_pos (rdat m c) ((cfg0.win 5).fetch_out rfl t) hz] at h
  have hfl : ¬(cfg0.win 5).flush ⟨t.val - 1, prev t⟩ = true := fun h => by have := (flush0_5 _).mp h; dsimp only at this; omega
  rcases h with h | h
  · exact absurd h hfl
  · exact (dats m 0 c).toRRel_leaves (fgt := marked) (Rl := Rl m c) (w := 5) rfl h

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ Y, ⌜(rdat m c).Finds 5 t Y⌝ ∗ owns (c : Thread nD τ) (mr5 t) fullShare Y))

def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ (∃ X, ⌜upTo m c t.val X⌝ ∗ owns (c : Thread nD τ) (mr5 t) fullShare X))

set_option maxHeartbeats 3200000 in
/-- The body's triple at any point, by the case its conditions select. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.succ = Inv m c (t.val + 1) t.isLt from rfl, Inv_succ]
  have hN : t.val < 80 := lt_of_lt_of_eq t.isLt (show cfg0.N = 80 from N_0)
  by_cases h0 : t.val % 10 = 0
  · by_cases hz : t.val = 0
    · obtain rfl : t = pt0 := Fin.ext hz
      rw [Inv_castSucc m c pt0, Inv_zero m c _ _ hz, launch_eq, hAt_start m c pt0 h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_A c (grid0.coords pt0) _ _ _ _ _ _ _ _ _ _ _ _ _ _ _ _ ((firstTile_iff _).mpr h0) ((firstPoint_iff _).mpr (by omega)) ((firstBlock_iff _).mpr (by omega)) (iblk m c 0 pt0) (iblk m c 1 pt0) (iblk m c 2 pt0) (X0_3 m c pt0) Y Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_put m c pt0 (by omega) fun h => absurd hz h
    · rw [Inv_castSucc m c t, Inv_pos m c _ _ hz, hAt_start m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_C c (grid0.coords t) _ _ _ _ _ _ _ _ _ _ _ _ _ _ _ _ ((firstTile_iff t).mpr h0) (fun h => by have := (firstPoint_iff t).mp h; omega) (fun h => by have := (firstBlock_iff t).mp h; omega) (iblk m c 0 t) (iblk m c 1 t) (iblk m c 2 t) (X0_3 m c t) Y _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_mono m c (finds5 m c t Y hY hz) (by omega)
  · have hz : t.val ≠ 0 := fun h => h0 (by rw [h])
    by_cases h2 : t.val < 10
    · rw [Inv_castSucc m c t, Inv_pos m c _ _ hz, hAt_step m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_B c (grid0.coords t) _ _ _ _ _ _ _ _ _ _ _ _ _ _ _ _ (fun h => h0 ((firstTile_iff t).mp h)) (fun h => by have := (firstPoint_iff t).mp h; omega) ((firstBlock_iff t).mpr h2) (iblk m c 0 t) (iblk m c 1 t) (iblk m c 2 t) (X0_3 m c t) Y _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_put m c t h2 fun hz => finds5 m c t Y hY hz
    · rw [Inv_castSucc m c t, Inv_pos m c _ _ hz, hAt_step m c t h0]
      iintro ⟨⟨⟨HS0, HS1⟩, Hg⟩, Ho, ⟨%d0, H0⟩, ⟨%d1, H1⟩, ⟨%d2, H2⟩, ⟨%d3, H3⟩, ⟨%d4, H4⟩, ⟨%Y, %hY, H5⟩⟩
      iapply (body_D c (grid0.coords t) _ _ _ _ _ _ _ _ _ _ _ _ _ _ _ _ (fun h => h0 ((firstTile_iff t).mp h)) (fun h => by have := (firstPoint_iff t).mp h; omega) (fun h => by have := (firstBlock_iff t).mp h; omega) (iblk m c 0 t) (iblk m c 1 t) (iblk m c 2 t) (X0_3 m c t) Y _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro
      exact upTo_mono m c (finds5 m c t Y hY hz) (by omega)

theorem body_row (t : Fin cfg0.N) :
    defs₀ (F := F) .tc cfg0.body (cfg0.bodyArgs t (cfg0.slots t)) = bodyAt0 t := by
  unfold defs₀; rw [Defs.onTc_tc]

/-- The weights' array is wider than its blocks reach, so of their buffer the obligation asks for the moved part only. -/
theorem post_moved (c : Dev nD) (t : Fin cfg0.N) : bodyPost m c t ⊢
    iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ (∃ d, owns (c : Thread nD τ) (mr3 t) fullShare ((cfg0.win 3).fill (grid0.coords t) d ((cfg0.win 3).cut (grid0.coords t) ((dats m 0 c).after 3 t))))
    ∗ owns (c : Thread nD τ) (mr4 t) fullShare ((dats m 0 c).after 4 t)
    ∗ (∃ X, ⌜upTo m c t.val X⌝ ∗ owns (c : Thread nD τ) (mr5 t) fullShare X)) := by
  unfold bodyPost
  iintro ⟨HP, Ho, H0, H1, H2, H3, H⟩
  isplitl [HP]; · iexact HP
  isplitl [Ho]; · iexact Ho
  isplitl [H0]; · iexact H0
  isplitl [H1]; · iexact H1
  isplitl [H2]; · iexact H2
  isplitl [H3]
  · iexists (dats m 0 c).after 3 t
    rw [Window.fill_cut]
    iexact H3
  iexact H

theorem body_obligation (c : Dev nD) :
    BodyObligationRel (dats (F := F) m 0 c) (defs₀ (F := F)) Variants.none () Set.univ marked (Rl m c) := fun t => by
  rw [bigSep_W0, bigSep_W0, body_row]
  exact triple_restated (sound_body m c t) rfl .rfl fun _ => (post_moved m c t).trans .rfl

theorem inv_in (c : Dev nD) : Pipeline.ΦA spec0 c ⊢ (rdat m c).Φ 0 := by
  rw [show (rdat m c).Φ 0 = Inv m c 0 (Nat.zero_le _) from rfl, Inv_zero m c 0 _ rfl]

theorem inv_out (c : Dev nD) : (rdat m c).Φ (Fin.last cfg0.N) ⊢ Pipeline.ΦA spec0 c := by
  rw [show (rdat m c).Φ (Fin.last cfg0.N) = Inv m c cfg0.N (Nat.le_refl _) from rfl,
    Inv_pos m c _ _ (by have : cfg0.N = 80 := N_0; omega), launch_eq]
  iintro ⟨⟨HS0, HS1⟩, Hg⟩
  isplitl [HS0 HS1]
  · isplitl [HS0]; · iexists _; iexact HS0
    iexists _; iexact HS1
  iexact Hg

/-! ## The run -/

set_option backward.isDefEq.respectTransparency.types false in
/-- The launch: every execution ends with the arrays at what the proof data allows and every semaphore at zero. -/
theorem run_main_quiescent : θ_run defs (onTc (τ := τ) (main (F := F))) (s₀ m ρ) (fun r => (RDat.FramePost cfg0 (rdat m) (V m)) r ∧ r.2.sem = fun _ => 0) :=
  RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (RDat.FramePost cfg0 (rdat m) (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1.arr_in c 0 rfl).trans (V_main_arg0 m c), (h.1.arr_in c 1 rfl).trans (V_main_arg1 m c),
    (h.1.arr_in c 2 rfl).trans (V_main_arg2 m c),
    ((h.1 c).2 main_arg3 (Pipeline.mem_restRefs_of main_arg3 (by decide) (by decide))).trans (V_main_arg3 m c)⟩, h.2⟩) (run_main_quiescent m ρ)

end Cert.ProjCIdeal.Hand

end
-- ==== Proof.ProjCPure.lean ====
module

public import proofs.«01_k».proof.Proof.Rows
public import proofs.«01_k».proof.Proof.Gen.ProjCIdeal.Skeleton
public import proofs.«01_k».proof.Proof.Gen.ProjCRefIdeal.Run

@[expose] public section

set_option maxRecDepth 16384

noncomputable section

/-! MIXER C'S INPUT PROJECTION, READ AT AN INDEX: what the body stores over the values it loads, and the reference's two
    results: a row's normalisation times a column of the layer's weights. -/

namespace Cert.ProjCIdeal.Hand

open Cert.ProjCIdeal Cert.ProjCIdeal.Gen
open Idealize.ShloMosaic Idealize.ShloMosaic.TcCoe Idealize.SL.Sem

/-- The normalised rows of the prompt's block. -/
theorem pay1_at (x : FVec Ideal S1024x2048 .f32) (g : FVec Ideal S1x1x2048 .f32) (r : Fin 1024) (k : Fin 2048) :
    k0_pay1 (F := Ideal) x g (ix2 r k) = Rows.rms (fun l => x (ix2 r l)) (fun l => g (ix3 0 0 l)) k := by
  pointwise [k0_pay1]
  rfl

/-- The normalised rows of the sample. -/
theorem pay2_at (x : FVec Ideal S8x2048 .f32) (g : FVec Ideal S1x1x2048 .f32) (r : Fin 8) (k : Fin 2048) :
    k0_pay2 (F := Ideal) x g (ix2 r k) = Rows.rms (fun l => x (ix2 r l)) (fun l => g (ix3 0 0 l)) k := by
  pointwise [k0_pay2]
  rfl

/-- One tile of columns of the prompt's block. -/
theorem pay4_at (w : FVec Ideal S1x2048x512 .bf16) (h : FVec Ideal S1024x2048 .bf16) (r : Fin 1024) (d : Fin 512) :
    k0_pay4 (F := Ideal) w h (ix2 r d) = ∑ k : Fin 2048, h (ix2 r k) * w (ix3 0 k d) := by
  pointwise [k0_pay4, k0_pay3]

/-- One tile of columns of the sample. -/
theorem pay5_at (w : FVec Ideal S1x2048x512 .bf16) (h : FVec Ideal S8x2048 .bf16) (r : Fin 8) (d : Fin 512) :
    k0_pay5 (F := Ideal) w h (ix3 0 r d) = ∑ k : Fin 2048, h (ix2 r k) * w (ix3 0 k d) := by
  pointwise [k0_pay5, k0_pay3]

/-- The projection of one row `x`: its normalisation, by layer 2's gain, times a column of the weights. -/
def proj (x : Fin 2048 → EReal) (a2 : FVec Ideal S4x1x2048 .f32) (a3 : FVec Ideal S1x2048x5168 .f32) (d : Fin 5120) : EReal :=
  ∑ k : Fin 2048, Rows.rms x (fun l => a2 (ix3 2 0 l)) k * a3 (ix3 0 k (⟨d.val, by omega⟩ : Fin 5168))

end Cert.ProjCIdeal.Hand

namespace Cert.ProjCRefIdeal.Hand

open Cert.ProjCRefIdeal Cert.ProjCRefIdeal.Gen
open Idealize.ShloMosaic Idealize.ShloMosaic.TcCoe Idealize.SL.Sem

/-- The reference's first result, as its run states it. -/
def prompt (a0 : FVec Ideal S8192x2048 .f32) (a2 : FVec Ideal S4x1x2048 .f32) (a3 : FVec Ideal S1x2048x5168 .f32) : FVec Ideal S8192x5120 .f32 :=
  extractStridedSlice S8192x5120 ![0, 0] (Host.dotGeneral dot_S8192x2048_S2048x5168_S8192x5168_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![2, 0, 0] a2 slices_S4x1x2048_S1x1x2048_2_0_0) shapeCasts_S1x1x2048_S1x2048))) (shapeCast _ a3 shapeCasts_S1x2048x5168_S2048x5168)) slices_S8192x5168_S8192x5120_0_0

/-- The reference's second result, as its run states it. -/
def sample (a1 : FVec Ideal S8x2048 .f32) (a2 : FVec Ideal S4x1x2048 .f32) (a3 : FVec Ideal S1x2048x5168 .f32) : FVec Ideal S10x8x512 .f32 :=
  transpose S10x8x512 [1, 0, 2] (shapeCast _ (extractStridedSlice S8x5120 ![0, 0] (Host.dotGeneral dot_S8x2048_S2048x5168_S8x5168_1_0_0_1_n_n none (mulf (mulf a1 (broadcastInDim S8x2048 ![0, 1] bcast_S8x1_S8x2048_0_1 (Host.rsqrt (addf (Host.divf (broadcastInDim S8x1 ![0] bcast_S8_S8x1_0 (Host.reduceAdd (mulf a1 a1) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (shapeCast _ (extractStridedSlice S1x1x2048 ![2, 0, 0] a2 slices_S4x1x2048_S1x1x2048_2_0_0) shapeCasts_S1x1x2048_S1x2048))) (shapeCast _ a3 shapeCasts_S1x2048x5168_S2048x5168)) slices_S8x5168_S8x5120_0_0) shapeCasts_S8x5120_S8x10x512) transposes_S8x10x512_S10x8x512_1_0_2

theorem prompt_at (a0 : FVec Ideal S8192x2048 .f32) (a2 : FVec Ideal S4x1x2048 .f32) (a3 : FVec Ideal S1x2048x5168 .f32) (r : Fin 8192) (d : Fin 5120) :
    prompt a0 a2 a3 (ix2 r d) = ProjCIdeal.Hand.proj (fun l => a0 (ix2 r l)) a2 a3 d := by
  pointwise [prompt]
  rfl

theorem sample_at (a1 : FVec Ideal S8x2048 .f32) (a2 : FVec Ideal S4x1x2048 .f32) (a3 : FVec Ideal S1x2048x5168 .f32) (j : Fin 10) (r : Fin 8) (d : Fin 512) :
    sample a1 a2 a3 (ix3 j r d) = ProjCIdeal.Hand.proj (fun l => a1 (ix2 r l)) a2 a3 ⟨j.val * 512 + d.val, by omega⟩ := by
  pointwise [sample]
  rfl

end Cert.ProjCRefIdeal.Hand

end
-- ==== Proof.ProjCValue.lean ====
module

public import proofs.«01_k».proof.Proof.ProjCRun
public import proofs.«01_k».proof.Proof.ProjCPure
public import Idealize.ShloMosaic.Lib.Pipeline.ArrRel

@[expose] public section

set_option maxRecDepth 16384

noncomputable section

/-! THE VALUE OF MIXER C'S INPUT PROJECTION: every tile of the prompt's result is its rows' projection onto its columns,
    and the sample's block ends with every tile; so both arrays end at the projection. -/

namespace Cert.ProjCIdeal.Hand

open Cert.ProjCIdeal Cert.ProjCIdeal.Gen
open Idealize.ShloMosaic Idealize.ShloMosaic.TcCoe Idealize.ShloMosaic.Tactic Idealize.SL.Sem
open Idealize.ShloMosaic.Pipeline (Dat RDat)

variable (m : (ℓ : Loc nD τ sig) → Buf (Elt Ideal) ℓ) (ρ : Dev nD → PrngReg)

/-! ## The arguments, and the windows' blocks of them -/

abbrev arg0 (c : Dev nD) : FVec Ideal S8192x2048 .f32 := m ((c.tc : Thread nD τ).loc main_arg0)
abbrev arg1 (c : Dev nD) : FVec Ideal S8x2048 .f32 := m ((c.tc : Thread nD τ).loc main_arg1)
abbrev arg2 (c : Dev nD) : FVec Ideal S4x1x2048 .f32 := m ((c.tc : Thread nD τ).loc main_arg2)
abbrev arg3 (c : Dev nD) : FVec Ideal S1x2048x5168 .f32 := m ((c.tc : Thread nD τ).loc main_arg3)

/-- The weights the region finds are the argument's: over the extended reals the cast is the identity. -/
theorem weights (c : Dev nD) (i : (S1x2048x5168).Idx) : (V m c main_v0 : FVec Ideal S1x2048x5168 .bf16) i = arg3 m c i := by
  have e : V m c main_v0 = (truncf .bf16 (arg3 m c) (by decide) : FVec Ideal S1x2048x5168 .bf16) := by
    unfold V
    after_results_simp <;> rfl
  exact (congrFun e i).trans rfl

theorem index_facts : ∀ t : Fin cfg0.N,
    (win0_0.index t (0 : Fin 2) = t.val / 10 ∧ win0_0.index t (1 : Fin 2) = 0)
    ∧ (win0_1.index t (0 : Fin 2) = 0 ∧ win0_1.index t (1 : Fin 2) = 0)
    ∧ (win0_2.index t (0 : Fin 3) = 2 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = t.val % 10)
    ∧ (win0_4.index t (0 : Fin 2) = t.val / 10 ∧ win0_4.index t (1 : Fin 2) = t.val % 10)
    ∧ (win0_5.index t (0 : Fin 3) = 0 ∧ win0_5.index t (1 : Fin 3) = 0 ∧ win0_5.index t (2 : Fin 3) = 0) :=
  (by decide +kernel : ∀ t : Fin grid0.N, _)

theorem blk0_at (c : Dev nD) (t : Fin cfg0.N) (r : Fin 1024) (k : Fin 2048) (R : Fin 8192) (hR : R.val = t.val / 10 * 1024 + r.val) :
    (iblk m c 0 t : FVec Ideal S1024x2048 .f32) (ix2 r k) = arg0 m c (ix2 R k) := by
  obtain ⟨⟨e0, e1⟩, -⟩ := index_facts t
  refine (congrArg (V m c main_arg0) ?_ : _ = V m c main_arg0 (ix2 R k)).trans (congrFun (V_main_arg0 m c) _)
  funext a; apply Fin.ext
  match a with
  | ⟨0, _⟩ => show win0_0.index t (0 : Fin 2) * 1024 + 1 * r.val = R.val; omega
  | ⟨1, _⟩ => show win0_0.index t (1 : Fin 2) * 2048 + 1 * k.val = k.val; omega

theorem blk1_at (c : Dev nD) (t : Fin cfg0.N) (r : Fin 8) (k : Fin 2048) :
    (iblk m c 1 t : FVec Ideal S8x2048 .f32) (ix2 r k) = arg1 m c (ix2 r k) := by
  obtain ⟨-, ⟨e0, e1⟩, -⟩ := index_facts t
  refine (congrArg (V m c main_arg1) ?_ : _ = V m c main_arg1 (ix2 r k)).trans (congrFun (V_main_arg1 m c) _)
  funext a; apply Fin.ext
  match a with
  | ⟨0, _⟩ => show win0_1.index t (0 : Fin 2) * 8 + 1 * r.val = r.val; omega
  | ⟨1, _⟩ => show win0_1.index t (1 : Fin 2) * 2048 + 1 * k.val = k.val; omega

theorem blk2_at (c : Dev nD) (t : Fin cfg0.N) (k : Fin 2048) :
    (iblk m c 2 t : FVec Ideal S1x1x2048 .f32) (ix3 0 0 k) = arg2 m c (ix3 2 0 k) := by
  obtain ⟨-, -, ⟨e0, e1, e2⟩, -⟩ := index_facts t
  refine (congrArg (V m c main_arg2) ?_ : _ = V m c main_arg2 (ix3 2 0 k)).trans (congrFun (V_main_arg2 m c) _)
  funext a; apply Fin.ext
  match a with
  | ⟨0, _⟩ => show win0_2.index t (0 : Fin 3) * 1 + 1 * 0 = 2; omega
  | ⟨1, _⟩ => show win0_2.index t (1 : Fin 3) * 1 + 1 * 0 = 0; omega
  | ⟨2, _⟩ => show win0_2.index t (2 : Fin 3) * 2048 + 1 * k.val = k.val; omega

theorem blk3_at (c : Dev nD) (t : Fin cfg0.N) (k : Fin 2048) (f : Fin 512) (G : Fin 5168) (hG : G.val = t.val % 10 * 512 + f.val) :
    (X0_3 m c t : FVec Ideal S1x2048x512 .bf16) (ix3 0 k f) = arg3 m c (ix3 0 k G) := by
  obtain ⟨-, -, -, ⟨e0, e1, e2⟩, -⟩ := index_facts t
  unfold X0_3 Pipeline.Window.fill
  rw [dif_pos (moved0_3 t _)]
  refine (congrArg (V m c main_v0) ?_ : _ = V m c main_v0 (ix3 0 k G)).trans (weights m c _)
  funext a; apply Fin.ext
  match a with
  | ⟨0, _⟩ => show win0_3.index t (0 : Fin 3) * 1 + 1 * 0 = 0; omega
  | ⟨1, _⟩ => show win0_3.index t (1 : Fin 3) * 2048 + 1 * k.val = k.val; omega
  | ⟨2, _⟩ => show win0_3.index t (2 : Fin 3) * 512 + 1 * f.val = G.val; omega

/-! ## The normalised rows -/

/-- The row of the prompt that row `r` of the block at point `n` is. -/
abbrev rowOf (n : ℕ) (hn : n < cfg0.N) (r : Fin 1024) : Fin 8192 :=
  ⟨n / 10 * 1024 + r.val, by have : n < 80 := lt_of_lt_of_eq hn (show cfg0.N = 80 from N_0); have := r.isLt; omega⟩

/-- The gain of layer 2. -/
abbrev gain (c : Dev nD) : Fin 2048 → EReal := fun l => arg2 m c (ix3 2 0 l)

theorem norm_prompt (c : Dev nD) (t : Fin cfg0.N) (r : Fin 1024) (k : Fin 2048) :
    k0_pay1 (F := Ideal) (iblk m c 0 t) (iblk m c 2 t) (ix2 r k) = Rows.rms (fun l => arg0 m c (ix2 (rowOf t.val t.isLt r) l)) (gain m c) k := by
  refine (pay1_at _ _ r k).trans ?_
  rw [show (fun l => (iblk m c 0 t : FVec Ideal S1024x2048 .f32) (ix2 r l)) = fun l => arg0 m c (ix2 (rowOf t.val t.isLt r) l) from
      funext fun l => blk0_at m c t r l _ rfl,
    show (fun l => (iblk m c 2 t : FVec Ideal S1x1x2048 .f32) (ix3 0 0 l)) = gain m c from funext fun l => blk2_at m c t l]

theorem hsOf_at (c : Dev nD) (r : Fin 8) (k : Fin 2048) : hsOf m c (ix2 r k) = Rows.rms (fun l => arg1 m c (ix2 r l)) (gain m c) k := by
  unfold hsOf
  refine (pay2_at _ _ r k).trans ?_
  rw [show (fun l => (iblk m c 1 pt0 : FVec Ideal S8x2048 .f32) (ix2 r l)) = fun l => arg1 m c (ix2 r l) from
      funext fun l => blk1_at m c pt0 r l,
    show (fun l => (iblk m c 2 pt0 : FVec Ideal S1x1x2048 .f32) (ix3 0 0 l)) = gain m c from funext fun l => blk2_at m c pt0 l]

/-- The carried rows of the prompt are the block's, normalised. -/
theorem hAt_at (c : Dev nD) (r : Fin 1024) (k : Fin 2048) : ∀ (n : ℕ) (hn : n < cfg0.N),
    hAt m c n hn (ix2 r k) = Rows.rms (fun l => arg0 m c (ix2 (rowOf n hn r) l)) (gain m c) k := by
  intro n
  induction n with
  | zero => intro hn; exact norm_prompt m c ⟨0, hn⟩ r k
  | succ n ih =>
    intro hn
    by_cases h0 : (n + 1) % 10 = 0
    · rw [hAt_start m c ⟨n + 1, hn⟩ h0]
      exact norm_prompt m c ⟨n + 1, hn⟩ r k
    · have e := hAt_step m c ⟨n + 1, hn⟩ h0
      refine (congrFun e _).trans ((ih (Nat.lt_of_succ_lt hn)).trans ?_)
      have hrow : rowOf n (Nat.lt_of_succ_lt hn) r = rowOf (n + 1) hn r := Fin.ext (by dsimp only; omega)
      rw [hrow]

/-! ## The arrays -/

/-- The prompt's result. -/
def outPrompt (c : Dev nD) : Buf (Elt Ideal) ((c.tc : Thread nD τ).loc main_v1_0) := fun i =>
  proj (fun l => arg0 m c (ix2 (i 0) l)) (arg2 m c) (arg3 m c) (i 1)

/-- The sample's result, in tiles of columns. -/
def outSample (c : Dev nD) : Buf (Elt Ideal) ((c.tc : Thread nD τ).loc main_v1_1) := fun i =>
  proj (fun l => arg1 m c (ix2 (i 1) l)) (arg2 m c) (arg3 m c)
    ⟨(i 0).val * 512 + (i 2).val, by have h0 : (i 0).val < 10 := (i 0).isLt; have h2 : (i 2).val < 512 := (i 2).isLt; omega⟩

theorem tile_prompt (c : Dev nD) (t : Fin cfg0.N) (r : Fin 1024) (f : Fin 512) (G : Fin 5120) (hG : G.val = t.val % 10 * 512 + f.val) :
    k0_pay4 (F := Ideal) (X0_3 m c t) (hAt m c t.val t.isLt) (ix2 r f)
      = proj (fun l => arg0 m c (ix2 (rowOf t.val t.isLt r) l)) (arg2 m c) (arg3 m c) G := by
  refine (pay4_at _ _ r f).trans (Finset.sum_congr rfl fun k _ => ?_)
  rw [hAt_at m c r k t.val t.isLt, blk3_at m c t k f ⟨G.val, by omega⟩ hG]

theorem tile_sample (c : Dev nD) (r : Fin 8) (t : Fin cfg0.N) (f : Fin 512) (G : Fin 5120) (hG : G.val = t.val % 10 * 512 + f.val) :
    k0_pay5 (F := Ideal) (X0_3 m c t) (hsOf m c) (ix3 0 r f) = proj (fun l => arg1 m c (ix2 r l)) (arg2 m c) (arg3 m c) G := by
  refine (pay5_at _ _ r f).trans (Finset.sum_congr rfl fun k _ => ?_)
  rw [hsOf_at m c r k, blk3_at m c t k f ⟨G.val, by omega⟩ hG]

theorem flushed_prompt (c : Dev nD) (t : Fin cfg0.N) :
    (cfg0.win 4).cut (grid0.coords t) ((dats m 0 c).after 4 t) = ((cfg0.win 4).blk t).view.read (Elt Ideal) (outPrompt m c) := by
  rw [after4]
  obtain ⟨-, -, -, -, ⟨e0, e1⟩, -⟩ := index_facts t
  have hN : t.val < 80 := lt_of_lt_of_eq t.isLt (show cfg0.N = 80 from N_0)
  funext y
  obtain ⟨r, d, rfl⟩ : ∃ (r : Fin 1024) (d : Fin 512), y = ix2 r d := ⟨y 0, y 1, eq_ix2 y⟩
  have hG : t.val % 10 * 512 + d.val < 5120 := by have := d.isLt; omega
  have hb : ((cfg0.win 4).blk t).view.emb (ix2 r d) = ix2 (rowOf t.val t.isLt r) (⟨_, hG⟩ : Fin 5120) := by
    funext a; apply Fin.ext
    match a with
    | ⟨0, _⟩ => show win0_4.index t (0 : Fin 2) * 1024 + 1 * r.val = _; rw [e0]; show _ = t.val / 10 * 1024 + r.val; omega
    | ⟨1, _⟩ => show win0_4.index t (1 : Fin 2) * 512 + 1 * d.val = _; rw [e1]; show _ = t.val % 10 * 512 + d.val; omega
  exact (tile_prompt m c t r d ⟨_, hG⟩ rfl).trans (congrArg (outPrompt m c) hb).symm

theorem osOf_eq (c : Dev nD) (z : (S10x8x512).Idx) : osOf m c z = outSample m c z := by
  obtain ⟨j, r, d, rfl⟩ : ∃ (j : Fin 10) (r : Fin 8) (d : Fin 512), z = ix3 j r d := ⟨z 0, z 1, z 2, eq_ix3 z⟩
  exact tile_sample m c r (ptOf j) d _ (show j.val * 512 + d.val = j.val % 10 * 512 + d.val by rw [Nat.mod_eq_of_lt j.isLt])

theorem flushed_sample (c : Dev nD) (t : Fin cfg0.N) (hm : t.val % 80 = 79) (X : Vec Ideal S10x8x512 .f32) (hX : upTo m c t.val X) :
    (cfg0.win 5).cut (grid0.coords t) X = ((cfg0.win 5).blk t).view.read (Elt Ideal) (outSample m c) := by
  obtain ⟨-, -, -, -, -, ⟨e0, e1, e2⟩⟩ := index_facts t
  funext z
  obtain ⟨j, r, d, rfl⟩ : ∃ (j : Fin 10) (r : Fin 8) (d : Fin 512), z = ix3 j r d := ⟨z 0, z 1, z 2, eq_ix3 z⟩
  have hb : ((cfg0.win 5).blk t).view.emb (ix3 j r d) = ix3 j r d := by
    funext a; apply Fin.ext
    match a with
    | ⟨0, _⟩ => show win0_5.index t (0 : Fin 3) * 10 + 1 * j.val = j.val; omega
    | ⟨1, _⟩ => show win0_5.index t (1 : Fin 3) * 8 + 1 * r.val = r.val; omega
    | ⟨2, _⟩ => show win0_5.index t (2 : Fin 3) * 512 + 1 * d.val = d.val; omega
  refine (hX (ix3 j r d) (show j.val ≤ t.val by have := j.isLt; omega)).trans ((osOf_eq m c _).trans ?_)
  exact (congrArg (outSample m c) hb).symm

theorem mem_prompt (t : Fin cfg0.N) (i : S8192x5120.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1_0).slice (win0_4.rect t)).set ↔ _
  rw [View.set_slice_whole, Rect.mem_set_unit]
  exact Iff.rfl

theorem mem_sample (t : Fin cfg0.N) (i : (S10x8x512).Idx) :
    i ∈ ((cfg0.win 5).blk t).view.set ↔ ∀ a : Fin 3, win0_5.index t a * (S10x8x512).size a ≤ (i a).val ∧ (i a).val < win0_5.index t a * (S10x8x512).size a + (S10x8x512).size a := by
  show i ∈ ((View.whole main_v1_1).slice (win0_5.rect t)).set ↔ _
  rw [View.set_slice_whole, Rect.mem_set_unit]
  exact Iff.rfl

theorem cover_prompt (i : S8192x5120.Idx) : ∃ t : Fin cfg0.N, (cfg0.win 4).flush t = true ∧ i ∈ ((cfg0.win 4).blk t).view.set := by
  have h0 : (i 0).val < 8192 := (i 0).isLt
  have h1 : (i 1).val < 5120 := (i 1).isLt
  have hlt : 10 * ((i 0).val / 1024) + (i 1).val / 512 < cfg0.N := lt_of_lt_of_eq (by omega : _ < 80) (show cfg0.N = 80 from N_0).symm
  obtain ⟨-, -, -, -, ⟨e0, e1⟩, -⟩ := index_facts ⟨_, hlt⟩
  refine ⟨⟨_, hlt⟩, flush0_4 _, ?_⟩
  rw [mem_prompt]
  dsimp only at e0 e1
  intro a
  match a with
  | ⟨0, _⟩ => show win0_4.index ⟨_, hlt⟩ (0 : Fin 2) * 1024 ≤ (i 0).val ∧ (i 0).val < win0_4.index ⟨_, hlt⟩ (0 : Fin 2) * 1024 + 1024; omega
  | ⟨1, _⟩ => show win0_4.index ⟨_, hlt⟩ (1 : Fin 2) * 512 ≤ (i 1).val ∧ (i 1).val < win0_4.index ⟨_, hlt⟩ (1 : Fin 2) * 512 + 512; omega

theorem cover_sample (i : (S10x8x512).Idx) : ∃ t : Fin cfg0.N, (cfg0.win 5).flush t = true ∧ i ∈ ((cfg0.win 5).blk t).view.set := by
  have h0 : (i 0).val < 10 := (i 0).isLt
  have h1 : (i 1).val < 8 := (i 1).isLt
  have h2 : (i 2).val < 512 := (i 2).isLt
  have hlt : 79 < cfg0.N := lt_of_lt_of_eq (by omega : _ < 80) (show cfg0.N = 80 from N_0).symm
  obtain ⟨-, -, -, -, -, ⟨e0, e1, e2⟩⟩ := index_facts ⟨_, hlt⟩
  refine ⟨⟨_, hlt⟩, (flush0_5 _).mpr (by dsimp only), ?_⟩
  rw [mem_sample]
  intro a
  match a with
  | ⟨0, _⟩ => show win0_5.index ⟨_, hlt⟩ (0 : Fin 3) * 10 ≤ (i 0).val ∧ (i 0).val < win0_5.index ⟨_, hlt⟩ (0 : Fin 3) * 10 + 10; omega
  | ⟨1, _⟩ => show win0_5.index ⟨_, hlt⟩ (1 : Fin 3) * 8 ≤ (i 1).val ∧ (i 1).val < win0_5.index ⟨_, hlt⟩ (1 : Fin 3) * 8 + 8; omega
  | ⟨2, _⟩ => show win0_5.index ⟨_, hlt⟩ (2 : Fin 3) * 512 ≤ (i 2).val ∧ (i 2).val < win0_5.index ⟨_, hlt⟩ (2 : Fin 3) * 512 + 512; omega

/-- What a point leaves in the prompt's buffer. -/
theorem leaves_prompt (c : Dev nD) (t : Fin cfg0.N) (X : Vec Ideal S1024x512 .f32) (h : (rdat m c).Leaves 4 t X) :
    X = (dats m 0 c).after 4 t := by
  obtain ⟨Y, -, h⟩ := h
  have h' : (dats m 0 c).toR.after 4 t Y X := by
    rw [← (dats m 0 c).toRRel_after_of_eq_false (fgt := marked) (Rl := Rl m c) (w := 4) rfl]
    exact h
  exact h'

/-- The run: both results at the projection. -/
theorem run : θ_run defs (onTc (τ := τ) (main (F := Ideal))) ⟨m, fun _ => 0, ρ⟩ fun r => ∀ c : Dev nD,
      r.2.mem ((c.tc : Thread nD τ).loc main_v1_0) = outPrompt m c
      ∧ r.2.mem ((c.tc : Thread nD τ).loc main_v1_1) = outSample m c :=
  (θ_run defs _ _).mono (fun r h c => by
    obtain ⟨after, hl, ha⟩ := h.exists_exact c
    refine ⟨(ha 4).trans (((rdat m c).withAfter after).arrAt_eq_of_cover 4 _ (fun t hf => ?_) fun i => cover_prompt i),
      (ha 5).trans (((rdat m c).withAfter after).arrAt_eq_of_cover 5 _ (fun t hf => ?_) fun i => cover_sample i)⟩
    · show (cfg0.win 4).cut (grid0.coords t) (after 4 t) = _
      rw [leaves_prompt m c t _ (hl 4 t hf)]
      exact flushed_prompt m c t
    · show (cfg0.win 5).cut (grid0.coords t) (after 5 t) = _
      exact flushed_sample m c t ((flush0_5 t).mp hf) _ ((dats m 0 c).toRRel_leaves (fgt := marked) (Rl := Rl m c) (w := 5) rfl (hl 5 t hf))) (run_main m ρ)

end Cert.ProjCIdeal.Hand

end
-- ==== Proof.ProjCClaims.lean ====
module

public import proofs.«01_k».proof.Defs
public import proofs.«01_k».proof.Proof.ProjCValue
public import proofs.«01_k».proof.Proof.Gen.ProjC
public import proofs.«01_k».proof.Proof.Gen.ProjCRefIdeal.Run
public import Idealize.ShloMosaic.Lib.Claim

@[expose] public section

set_option maxRecDepth 16384

noncomputable section

/-! THE CLAIMS OF MIXER C'S INPUT PROJECTION: the three frames, and the kernel's two results equal to the reference's. -/

namespace Cert.ProjCProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.ProjC.defs₀ (F := F) = Cert.ProjCIdeal.defs₀ (F := F) := by
  funext p l a
  cases p with
  | tc =>
    match l, a with
    | 0, (t, s) => rfl
  | scScalar => rfl
  | scVector => rfl

theorem defs_same {F : FTy → Type} [FloatOps F] : Cert.ProjC.defs (F := F) = Cert.ProjCIdeal.defs (F := F) :=
  congrArg (Idealize.ShloMosaic.Pipeline.defs Cert.ProjC.pcfgs) body_same

theorem frame_kernel : Cert.quiescent_ProjC (hProjC := Cert.ProjC.Gen.facts) := fun m ρ _ =>
  (congrArg (fun d => θ_run d (onTc (τ := Cert.ProjC.τ) (Cert.ProjC.main (F := Bits))) ⟨m, fun _ => 0, ρ⟩ _) defs_same).mpr
    (Cert.ProjCIdeal.Hand.frame (F := Bits) m ρ)

theorem frame_ideal : Cert.quiescent_ProjCIdeal (hProjCIdeal := Cert.ProjCIdeal.Gen.facts) := fun m ρ _ => Cert.ProjCIdeal.Hand.frame m ρ

theorem frame_reference : Cert.quiescent_ProjCRefIdeal (hProjCRefIdeal := Cert.ProjCRefIdeal.Gen.facts) := fun m ρ _ =>
  (θ_run _ _ _).mono (fun r h => ⟨fun c => (h c).2.2, Idealize.ShloMosaic.sem_eq_zero_of_no_sems (by decide) r.2⟩)
    (Cert.ProjCRefIdeal.Value.run (F := Ideal) m ρ)

/-- The reference's first result is the kernel's. -/
theorem prompt_eq (m : (ℓ : Loc Cert.ProjCIdeal.nD Cert.ProjCIdeal.τ Cert.ProjCIdeal.sig) → Buf (Elt Ideal) ℓ) (c : Dev Cert.ProjCIdeal.nD) :
    Cert.ProjCRefIdeal.Hand.prompt (Cert.ProjCIdeal.Hand.arg0 m c) (Cert.ProjCIdeal.Hand.arg2 m c) (Cert.ProjCIdeal.Hand.arg3 m c)
      = Cert.ProjCIdeal.Hand.outPrompt m c := by
  funext i
  obtain ⟨r, d, rfl⟩ : ∃ (r : Fin 8192) (d : Fin 5120), i = ix2 r d := ⟨i 0, i 1, eq_ix2 i⟩
  exact Cert.ProjCRefIdeal.Hand.prompt_at _ _ _ r d

/-- The reference's second result is the kernel's. -/
theorem sample_eq (m : (ℓ : Loc Cert.ProjCIdeal.nD Cert.ProjCIdeal.τ Cert.ProjCIdeal.sig) → Buf (Elt Ideal) ℓ) (c : Dev Cert.ProjCIdeal.nD) :
    Cert.ProjCRefIdeal.Hand.sample (Cert.ProjCIdeal.Hand.arg1 m c) (Cert.ProjCIdeal.Hand.arg2 m c) (Cert.ProjCIdeal.Hand.arg3 m c)
      = Cert.ProjCIdeal.Hand.outSample m c := by
  funext i
  obtain ⟨j, r, d, rfl⟩ : ∃ (j : Fin 10) (r : Fin 8) (d : Fin 512), i = ix3 j r d := ⟨i 0, i 1, i 2, eq_ix3 i⟩
  exact Cert.ProjCRefIdeal.Hand.sample_at _ _ _ j r d

theorem algebraic : Cert.algebraic_ProjCIdeal_ProjCRefIdeal (hProjCIdeal := Cert.ProjCIdeal.Gen.facts) (hProjCRefIdeal := Cert.ProjCRefIdeal.Gen.facts) := by
  intro m g m' g' _ hargs
  refine ⟨fun c => Cert.ProjCIdeal.Hand.outPrompt m c, fun c => Cert.ProjCIdeal.Hand.outSample m c, ?_, ?_⟩
  · refine (θ_run _ _ _).mono (fun r h c => ?_) (θ_run_and (Cert.ProjCIdeal.Hand.run m g) (Cert.ProjCIdeal.Hand.frame m g))
    obtain ⟨h1, h2, -⟩ := h
    exact ⟨(h1 c).1, (h1 c).2, h2 c⟩
  · refine (θ_run _ _ _).mono (fun r h c => ?_) (Cert.ProjCRefIdeal.Value.run (F := Ideal) m' g')
    obtain ⟨e0, e1, e2, e3⟩ := hargs c
    obtain ⟨hv, hw, h⟩ := h c
    refine ⟨hv.trans ?_, hw.trans ?_, h⟩
    · rw [e0, e2, e3]
      exact prompt_eq m c
    · rw [e1, e2, e3]
      exact sample_eq m c

end Cert.ProjCProof

end
-- ==== Proof.MlpFinalBody.lean ====
module

public import proofs.«01_k».proof.Proof.Gen.MlpFinalIdeal.Frame
public import proofs.«01_k».proof.Proof.Gen.MlpFinalIdeal.Skeleton
public import Idealize.ShloMosaic.Lib.Pipeline.Value

@[expose] public section

set_option maxRecDepth 16384

noncomputable section

/-! ONE RUN OF THE LAST LAYER'S FEED-FORWARD BODY, in each of the six cases of its five conditions: what the two results'
    staging buffers and the two normalised-rows scratch buffers hold afterwards, as the body's own expressions
    (`k0_pay3`, `k0_pay4` the normalised rows, `k0_pay7`, `k0_pay8` a running sum with one tile's product added,
    `k0_pay1`, `k0_pay2` the final norm). -/

namespace Cert.MlpFinalIdeal.Hand

open Cert.MlpFinalIdeal Cert.MlpFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The first branch's condition: the first tile of a block of rows. -/
abbrev firstTile (i : grid0.Coords) : Prop := (Scalar.cmpi .ne (Scalar.extui (Scalar.cmpi .eq (BitVec.ofNat 32 (i 1).val) 0#32)) 0#32) = 1#1
/-- The second's: the first point of the grid. -/
abbrev firstPoint (i : grid0.Coords) : Prop := k0_cond2 i = 1#1
/-- The third's: the first block of rows. -/
abbrev firstBlock (i : grid0.Coords) : Prop := k0_cond3 i = 1#1
/-- The fourth's: the last tile of a block of rows. -/
abbrev lastTile (i : grid0.Coords) : Prop := (Scalar.cmpi .ne (Scalar.extui (Scalar.cmpi .eq (BitVec.ofNat 32 (i 1).val) 15#32)) 0#32) = 1#1
/-- The fifth's: the last tile of the first block of rows. -/
abbrev lastFirst (i : grid0.Coords) : Prop := k0_cond5 i = 1#1

/-- The first point: both groups of rows are normalised, both results start at their rows and take the first tile. -/
theorem body_A (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S8x2048 .f32) (harg9 : arg9.IsWhole) (arg10 : Memref sig .tc .vmem S1024x2048 .bf16) (harg10 : arg10.IsWhole) (arg11 : Memref sig .tc .vmem S8x2048 .bf16) (harg11 : arg11.IsWhole)
    (hc0 : firstTile i) (hc1 : firstPoint i) (hc2 : firstBlock i) (hc3 : ¬lastTile i) (hc4 : ¬lastFirst i)
    (x : Vec F S1024x2048 .f32) (y : Vec F S8x2048 .f32) (g : Vec F S1x1x2048 .f32) (u : Vec F S1x2048x512 .f32) (w : Vec F S1x512x2048 .f32) (e : Vec F S1x2048 .f32)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare (k0_pay7 u w x (k0_pay3 x g)) ∗ owns (c : Thread nD τ) arg9 fullShare (k0_pay8 u w y (k0_pay4 y g)) ∗ owns (c : Thread nD τ) arg10 fullShare (k0_pay3 x g) ∗ owns (c : Thread nD τ) arg11 fullShare (k0_pay4 y g)) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11) K := by
  simp only [cc0_mlp_eq_skeleton]; unfold cc0_mlp_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H9]
  · iexists _; isplitr; swap; · iexact H9
    ipureintro
    sl_unfold_words
    rw [View.read_writes_eq_canon _ _ _ (fun z => View.cover_of_tiledL _ S8x2048.size (by sl_kernel_rfl) z)]
    simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H10]
  · iexists _; isplitr; swap; · iexact H10
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  iexists _; isplitr; swap; · iexact H11
  ipureintro
  sl_unfold_words
  rw [View.read_writes_eq_canon _ _ _ (fun z => View.cover_of_tiledL _ S8x2048.size (by sl_kernel_rfl) z)]
  simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]

/-- Inside the first block of rows: both results take their tile. -/
theorem body_B (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S8x2048 .f32) (harg9 : arg9.IsWhole) (arg10 : Memref sig .tc .vmem S1024x2048 .bf16) (harg10 : arg10.IsWhole) (arg11 : Memref sig .tc .vmem S8x2048 .bf16) (harg11 : arg11.IsWhole)
    (hc0 : ¬firstTile i) (hc1 : ¬firstPoint i) (hc2 : firstBlock i) (hc3 : ¬lastTile i) (hc4 : ¬lastFirst i)
    (x : Vec F S1024x2048 .f32) (y : Vec F S8x2048 .f32) (g : Vec F S1x1x2048 .f32) (u : Vec F S1x2048x512 .f32) (w : Vec F S1x512x2048 .f32) (e : Vec F S1x2048 .f32) (o : Vec F S1024x2048 .f32) (p : Vec F S8x2048 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare o ∗ owns (c : Thread nD τ) arg9 fullShare p ∗ owns (c : Thread nD τ) arg10 fullShare h ∗ owns (c : Thread nD τ) arg11 fullShare k
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare (k0_pay7 u w o h) ∗ owns (c : Thread nD τ) arg9 fullShare (k0_pay8 u w p k) ∗ owns (c : Thread nD τ) arg10 fullShare h ∗ owns (c : Thread nD τ) arg11 fullShare k) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11) K := by
  simp only [cc0_mlp_eq_skeleton]; unfold cc0_mlp_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H9]
  · iexists _; isplitr; swap; · iexact H9
    ipureintro
    sl_unfold_words
    rw [View.read_writes_eq_canon _ _ _ (fun z => View.cover_of_tiledL _ S8x2048.size (by sl_kernel_rfl) z)]
    simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H10]
  · iexists _; isplitr; · ipureintro; exact harg10.read_unread _
    iexact H10
  iexists _; isplitr; · ipureintro; exact harg11.read_unread _
  iexact H11

/-- The last point of the first block of rows: both results take their tile and are normalised. -/
theorem body_E (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S8x2048 .f32) (harg9 : arg9.IsWhole) (arg10 : Memref sig .tc .vmem S1024x2048 .bf16) (harg10 : arg10.IsWhole) (arg11 : Memref sig .tc .vmem S8x2048 .bf16) (harg11 : arg11.IsWhole)
    (hc0 : ¬firstTile i) (hc1 : ¬firstPoint i) (hc2 : firstBlock i) (hc3 : lastTile i) (hc4 : lastFirst i)
    (x : Vec F S1024x2048 .f32) (y : Vec F S8x2048 .f32) (g : Vec F S1x1x2048 .f32) (u : Vec F S1x2048x512 .f32) (w : Vec F S1x512x2048 .f32) (e : Vec F S1x2048 .f32) (o : Vec F S1024x2048 .f32) (p : Vec F S8x2048 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare o ∗ owns (c : Thread nD τ) arg9 fullShare p ∗ owns (c : Thread nD τ) arg10 fullShare h ∗ owns (c : Thread nD τ) arg11 fullShare k
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare (k0_pay1 (k0_pay7 u w o h) e) ∗ owns (c : Thread nD τ) arg9 fullShare (k0_pay2 (k0_pay8 u w p k) e) ∗ owns (c : Thread nD τ) arg10 fullShare h ∗ owns (c : Thread nD τ) arg11 fullShare k) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11) K := by
  simp only [cc0_mlp_eq_skeleton]; unfold cc0_mlp_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H9]
  · iexists _; isplitr; swap; · iexact H9
    ipureintro
    sl_unfold_words
    rw [View.read_writes_eq_canon _ _ _ (fun z => View.cover_of_tiledL _ S8x2048.size (by sl_kernel_rfl) z)]
    simp only [View.canon_cons_unit_zero (S := S8x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H10]
  · iexists _; isplitr; · ipureintro; exact harg10.read_unread _
    iexact H10
  iexists _; isplitr; · ipureintro; exact harg11.read_unread _
  iexact H11

/-- The first tile of a later block of rows: its rows are normalised, its result starts. -/
theorem body_C (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S8x2048 .f32) (harg9 : arg9.IsWhole) (arg10 : Memref sig .tc .vmem S1024x2048 .bf16) (harg10 : arg10.IsWhole) (arg11 : Memref sig .tc .vmem S8x2048 .bf16) (harg11 : arg11.IsWhole)
    (hc0 : firstTile i) (hc1 : ¬firstPoint i) (hc2 : ¬firstBlock i) (hc3 : ¬lastTile i) (hc4 : ¬lastFirst i)
    (x : Vec F S1024x2048 .f32) (y : Vec F S8x2048 .f32) (g : Vec F S1x1x2048 .f32) (u : Vec F S1x2048x512 .f32) (w : Vec F S1x512x2048 .f32) (e : Vec F S1x2048 .f32) (p : Vec F S8x2048 .f32) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ (∃ d, owns (c : Thread nD τ) arg8 fullShare d) ∗ owns (c : Thread nD τ) arg9 fullShare p ∗ (∃ d, owns (c : Thread nD τ) arg10 fullShare d) ∗ owns (c : Thread nD τ) arg11 fullShare k
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare (k0_pay7 u w x (k0_pay3 x g)) ∗ owns (c : Thread nD τ) arg9 fullShare p ∗ owns (c : Thread nD τ) arg10 fullShare (k0_pay3 x g) ∗ owns (c : Thread nD τ) arg11 fullShare k) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11) K := by
  simp only [cc0_mlp_eq_skeleton]; unfold cc0_mlp_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg11.eq_unread hf11
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H9]
  · iexists _; isplitr; · ipureintro; exact harg9.read_unread _
    iexact H9
  isplitl [H10]
  · iexists _; isplitr; swap; · iexact H10
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  iexists _; isplitr; · ipureintro; exact harg11.read_unread _
  iexact H11

/-- Inside a later block of rows: its result takes its tile. -/
theorem body_D (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S8x2048 .f32) (harg9 : arg9.IsWhole) (arg10 : Memref sig .tc .vmem S1024x2048 .bf16) (harg10 : arg10.IsWhole) (arg11 : Memref sig .tc .vmem S8x2048 .bf16) (harg11 : arg11.IsWhole)
    (hc0 : ¬firstTile i) (hc1 : ¬firstPoint i) (hc2 : ¬firstBlock i) (hc3 : ¬lastTile i) (hc4 : ¬lastFirst i)
    (x : Vec F S1024x2048 .f32) (y : Vec F S8x2048 .f32) (g : Vec F S1x1x2048 .f32) (u : Vec F S1x2048x512 .f32) (w : Vec F S1x512x2048 .f32) (e : Vec F S1x2048 .f32) (o : Vec F S1024x2048 .f32) (p : Vec F S8x2048 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare o ∗ owns (c : Thread nD τ) arg9 fullShare p ∗ owns (c : Thread nD τ) arg10 fullShare h ∗ owns (c : Thread nD τ) arg11 fullShare k
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare (k0_pay7 u w o h) ∗ owns (c : Thread nD τ) arg9 fullShare p ∗ owns (c : Thread nD τ) arg10 fullShare h ∗ owns (c : Thread nD τ) arg11 fullShare k) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11) K := by
  simp only [cc0_mlp_eq_skeleton]; unfold cc0_mlp_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H9]
  · iexists _; isplitr; · ipureintro; exact harg9.read_unread _
    iexact H9
  isplitl [H10]
  · iexists _; isplitr; · ipureintro; exact harg10.read_unread _
    iexact H10
  iexists _; isplitr; · ipureintro; exact harg11.read_unread _
  iexact H11

/-- The last point of a later block of rows: its result takes its tile and is normalised. -/
theorem body_G (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S1x1x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S8x2048 .f32) (harg9 : arg9.IsWhole) (arg10 : Memref sig .tc .vmem S1024x2048 .bf16) (harg10 : arg10.IsWhole) (arg11 : Memref sig .tc .vmem S8x2048 .bf16) (harg11 : arg11.IsWhole)
    (hc0 : ¬firstTile i) (hc1 : ¬firstPoint i) (hc2 : ¬firstBlock i) (hc3 : lastTile i) (hc4 : ¬lastFirst i)
    (x : Vec F S1024x2048 .f32) (y : Vec F S8x2048 .f32) (g : Vec F S1x1x2048 .f32) (u : Vec F S1x2048x512 .f32) (w : Vec F S1x512x2048 .f32) (e : Vec F S1x2048 .f32) (o : Vec F S1024x2048 .f32) (p : Vec F S8x2048 .f32) (h : Vec F S1024x2048 .bf16) (k : Vec F S8x2048 .bf16)
    (E : Set ℕ) (K : PUnit → sProp 𝕄) :
    iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare o ∗ owns (c : Thread nD τ) arg9 fullShare p ∗ owns (c : Thread nD τ) arg10 fullShare h ∗ owns (c : Thread nD τ) arg11 fullShare k
        ∗ (iprop(owns (c : Thread nD τ) arg2 fullShare x ∗ owns (c : Thread nD τ) arg3 fullShare y ∗ owns (c : Thread nD τ) arg4 fullShare g ∗ owns (c : Thread nD τ) arg5 fullShare u ∗ owns (c : Thread nD τ) arg6 fullShare w ∗ owns (c : Thread nD τ) arg7 fullShare e ∗ owns (c : Thread nD τ) arg8 fullShare (k0_pay1 (k0_pay7 u w o h) e) ∗ owns (c : Thread nD τ) arg9 fullShare p ∗ owns (c : Thread nD τ) arg10 fullShare h ∗ owns (c : Thread nD τ) arg11 fullShare k) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11) K := by
  simp only [cc0_mlp_eq_skeleton]; unfold cc0_mlp_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [View.read_writes_eq_canon _ _ _ (fun z => View.cover_of_tiledL _ S1024x2048.size (by sl_kernel_rfl) z)]
    simp only [View.canon_cons_unit_zero (S := S1024x2048) zero2, View.readCov_unit_zero (S := S1024x2048) _ zero2, View.readCov_unit_zero (S := S8x2048) _ zero2, View.readAt_eq_ld, harg2.read_unread, harg3.read_unread, harg4.read_unread, harg5.read_unread, harg6.read_unread, harg7.read_unread, harg8.read_unread, harg9.read_unread, harg10.read_unread, harg11.read_unread, View.ld_unit_zero (S := S1024x2048) zero2, View.ld_unit_zero (S := S8x2048) zero2, View.ld_unit_zero (S := S1x1x2048) zero3, View.ld_unit_zero (S := S1x2048) zero2, View.ld_unit_zero (S := S1x2048x512) zero3, View.ld_unit_zero (S := S1x512x2048) zero3]
  isplitl [H9]
  · iexists _; isplitr; · ipureintro; exact harg9.read_unread _
    iexact H9
  isplitl [H10]
  · iexists _; isplitr; · ipureintro; exact harg10.read_unread _
    iexact H10
  iexists _; isplitr; · ipureintro; exact harg11.read_unread _
  iexact H11

end Cert.MlpFinalIdeal.Hand

end
-- ==== Proof.MlpFinalRun.lean ====
module

public import proofs.«01_k».proof.Proof.MlpFinalBody
public import Idealize.ShloMosaic.Lib.Claim
public import Idealize.ShloMosaic.Lib.Pipeline.Value

@[expose] public section

set_option maxRecDepth 16384

noncomputable section

/-! THE LAST LAYER'S FEED-FORWARD RUN: what its four carried buffers hold after each point of the grid (`stAt`, by recursion
    on the point), the pipeline's obligations at those contents, and the run with both result arrays named. The second
    result's block never moves: after the first block of rows the body leaves it alone, and it keeps what point 15 left. -/

namespace Cert.MlpFinalIdeal.Hand

open Cert.MlpFinalIdeal Cert.MlpFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, by arithmetic of the point -/

theorem firstTile_iff : ∀ t : Fin cfg0.N, firstTile (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [firstTile, e0, e1]
    word_cmp
   : ∀ t : Fin grid0.N, firstTile (grid0.coords t) ↔ t.val % 16 = 0)

theorem firstPoint_iff : ∀ t : Fin cfg0.N, firstPoint (grid0.coords t) ↔ t.val % 128 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [firstPoint, k0_cond2, e0, e1]
    word_cmp
   : ∀ t : Fin grid0.N, firstPoint (grid0.coords t) ↔ t.val % 128 = 0)

theorem firstBlock_iff : ∀ t : Fin cfg0.N, firstBlock (grid0.coords t) ↔ t.val < 16 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [firstBlock, k0_cond3, e0, e1]
    word_cmp
   : ∀ t : Fin grid0.N, firstBlock (grid0.coords t) ↔ t.val < 16)

theorem lastTile_iff : ∀ t : Fin cfg0.N, lastTile (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [lastTile, e0, e1]
    word_cmp
   : ∀ t : Fin grid0.N, lastTile (grid0.coords t) ↔ t.val % 16 = 15)

theorem lastFirst_iff : ∀ t : Fin cfg0.N, lastFirst (grid0.coords t) ↔ t.val = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [lastFirst, k0_cond5, e0, e1]
    word_cmp
   : ∀ t : Fin grid0.N, lastFirst (grid0.coords t) ↔ t.val = 15)

/-- The second result's window is idle exactly past the first block of rows. -/
theorem idle7_iff : ∀ t : Fin cfg0.N, cfg0.idle 7 (grid0.coords t) = true ↔ 16 ≤ t.val := fun t => by
  have h1 := firstPoint_iff t; have h2 := firstBlock_iff t; have h3 := lastFirst_iff t
  show (!(k0_cond2 (grid0.coords t) == 1#1) && !(k0_cond3 (grid0.coords t) == 1#1) && !(k0_cond5 (grid0.coords t) == 1#1)) = true ↔ _
  rw [Bool.and_eq_true, Bool.and_eq_true, Bool.not_eq_true', Bool.not_eq_true', Bool.not_eq_true', beq_eq_false_iff_ne, beq_eq_false_iff_ne, beq_eq_false_iff_ne]
  have hN : t.val < 128 := lt_of_lt_of_eq t.isLt (show cfg0.N = 128 from N_0)
  unfold firstPoint at h1; unfold firstBlock at h2; unfold lastFirst at h3
  constructor
  · rintro ⟨⟨-, b⟩, -⟩; by_contra hc; exact b (h2.mpr (by omega))
  · intro h; exact ⟨⟨fun a => by have := h1.mp a; omega, fun b => by have := h2.mp b; omega⟩, fun b => by have := h3.mp b; omega⟩

/-! ## The staging and scratch memrefs -/

abbrev mr0 (t : Fin cfg0.N) : Memref sig .tc .vmem S1024x2048 .f32 := win0_0.stage (cfg0.slots t 0)
abbrev mr1 (t : Fin cfg0.N) : Memref sig .tc .vmem S8x2048 .f32 := win0_1.stage (cfg0.slots t 1)
abbrev mr2 (t : Fin cfg0.N) : Memref sig .tc .vmem S1x1x2048 .f32 := win0_2.stage (cfg0.slots t 2)
abbrev mr3 (t : Fin cfg0.N) : Memref sig .tc .vmem S1x2048x512 .f32 := win0_3.stage (cfg0.slots t 3)
abbrev mr4 (t : Fin cfg0.N) : Memref sig .tc .vmem S1x512x2048 .f32 := win0_4.stage (cfg0.slots t 4)
abbrev mr5 (t : Fin cfg0.N) : Memref sig .tc .vmem S1x2048 .f32 := win0_5.stage (cfg0.slots t 5)
abbrev mr6 (t : Fin cfg0.N) : Memref sig .tc .vmem S1024x2048 .f32 := win0_6.stage (cfg0.slots t 6)
abbrev mr7 (t : Fin cfg0.N) : Memref sig .tc .vmem S8x2048 .f32 := win0_7.stage (cfg0.slots t 7)
abbrev sc0 : Memref sig .tc .vmem S1024x2048 .bf16 := Memref.whole cc0_scratch0
abbrev sc1 : Memref sig .tc .vmem S8x2048 .bf16 := Memref.whole cc0_scratch1

/-- The launch's invariant, with the two scratch buffers as memrefs held at some contents. -/
theorem launch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the carried buffers hold after each point -/

/-- The four carried buffers: the two running results and the two groups of normalised rows. -/
abbrev St (F : FTy → Type) : Type :=
  Vec F S1024x2048 .f32 × Vec F S8x2048 .f32 × Vec F S1024x2048 .bf16 × Vec F S8x2048 .bf16

/-- After the body at position `n`. -/
def stAt (c : Dev nD) : (n : ℕ) → n < cfg0.N → St F
  | 0, hn => (k0_pay7 (iblk m c 3 ⟨0, hn⟩) (iblk m c 4 ⟨0, hn⟩) (iblk m c 0 ⟨0, hn⟩) (k0_pay3 (iblk m c 0 ⟨0, hn⟩) (iblk m c 2 ⟨0, hn⟩)),
      k0_pay8 (iblk m c 3 ⟨0, hn⟩) (iblk m c 4 ⟨0, hn⟩) (iblk m c 1 ⟨0, hn⟩) (k0_pay4 (iblk m c 1 ⟨0, hn⟩) (iblk m c 2 ⟨0, hn⟩)),
      k0_pay3 (iblk m c 0 ⟨0, hn⟩) (iblk m c 2 ⟨0, hn⟩), k0_pay4 (iblk m c 1 ⟨0, hn⟩) (iblk m c 2 ⟨0, hn⟩))
  | n + 1, hn =>
    if (n + 1) % 16 = 0 then
      (k0_pay7 (iblk m c 3 ⟨n + 1, hn⟩) (iblk m c 4 ⟨n + 1, hn⟩) (iblk m c 0 ⟨n + 1, hn⟩) (k0_pay3 (iblk m c 0 ⟨n + 1, hn⟩) (iblk m c 2 ⟨n + 1, hn⟩)),
        (stAt c n (Nat.lt_of_succ_lt hn)).2.1,
        k0_pay3 (iblk m c 0 ⟨n + 1, hn⟩) (iblk m c 2 ⟨n + 1, hn⟩), (stAt c n (Nat.lt_of_succ_lt hn)).2.2.2)
    else
      ((if (n + 1) % 16 = 15 then k0_pay1 (k0_pay7 (iblk m c 3 ⟨n + 1, hn⟩) (iblk m c 4 ⟨n + 1, hn⟩) (stAt c n (Nat.lt_of_succ_lt hn)).1 (stAt c n (Nat.lt_of_succ_lt hn)).2.2.1) (iblk m c 5 ⟨n + 1, hn⟩)
          else k0_pay7 (iblk m c 3 ⟨n + 1, hn⟩) (iblk m c 4 ⟨n + 1, hn⟩) (stAt c n (Nat.lt_of_succ_lt hn)).1 (stAt c n (Nat.lt_of_succ_lt hn)).2.2.1),
        (if (n + 1) < 16 then (if (n + 1) % 16 = 15 then k0_pay2 (k0_pay8 (iblk m c 3 ⟨n + 1, hn⟩) (iblk m c 4 ⟨n + 1, hn⟩) (stAt c n (Nat.lt_of_succ_lt hn)).2.1 (stAt c n (Nat.lt_of_succ_lt hn)).2.2.2) (iblk m c 5 ⟨n + 1, hn⟩)
            else k0_pay8 (iblk m c 3 ⟨n + 1, hn⟩) (iblk m c 4 ⟨n + 1, hn⟩) (stAt c n (Nat.lt_of_succ_lt hn)).2.1 (stAt c n (Nat.lt_of_succ_lt hn)).2.2.2)
          else (stAt c n (Nat.lt_of_succ_lt hn)).2.1),
        (stAt c n (Nat.lt_of_succ_lt hn)).2.2.1, (stAt c n (Nat.lt_of_succ_lt hn)).2.2.2)

/-- The point before. -/
abbrev prev (t : Fin cfg0.N) : t.val - 1 < cfg0.N := Nat.lt_of_le_of_lt (Nat.sub_le _ _) t.isLt

theorem stAt_first (c : Dev nD) (t : Fin cfg0.N) (hz : t.val = 0) :
    stAt m c t.val t.isLt = (k0_pay7 (iblk m c 3 t) (iblk m c 4 t) (iblk m c 0 t) (k0_pay3 (iblk m c 0 t) (iblk m c 2 t)),
      k0_pay8 (iblk m c 3 t) (iblk m c 4 t) (iblk m c 1 t) (k0_pay4 (iblk m c 1 t) (iblk m c 2 t)),
      k0_pay3 (iblk m c 0 t) (iblk m c 2 t), k0_pay4 (iblk m c 1 t) (iblk m c 2 t)) := by
  obtain ⟨n, hn⟩ := t
  obtain rfl : n = 0 := hz
  rfl

theorem stAt_start (c : Dev nD) (t : Fin cfg0.N) (hz : t.val ≠ 0) (h : t.val % 16 = 0) :
    stAt m c t.val t.isLt = (k0_pay7 (iblk m c 3 t) (iblk m c 4 t) (iblk m c 0 t) (k0_pay3 (iblk m c 0 t) (iblk m c 2 t)),
      (stAt m c (t.val - 1) (prev t)).2.1, k0_pay3 (iblk m c 0 t) (iblk m c 2 t), (stAt m c (t.val - 1) (prev t)).2.2.2) := by
  obtain ⟨n, hn⟩ := t
  cases n with
  | zero => exact absurd rfl hz
  | succ n => exact (if_pos h).trans rfl

theorem stAt_step (c : Dev nD) (t : Fin cfg0.N) (h : ¬t.val % 16 = 0) :
    stAt m c t.val t.isLt = ((if t.val % 16 = 15 then k0_pay1 (k0_pay7 (iblk m c 3 t) (iblk m c 4 t) (stAt m c (t.val - 1) (prev t)).1 (stAt m c (t.val - 1) (prev t)).2.2.1) (iblk m c 5 t)
        else k0_pay7 (iblk m c 3 t) (iblk m c 4 t) (stAt m c (t.val - 1) (prev t)).1 (stAt m c (t.val - 1) (prev t)).2.2.1),
      (if t.val < 16 then (if t.val % 16 = 15 then k0_pay2 (k0_pay8 (iblk m c 3 t) (iblk m c 4 t) (stAt m c (t.val - 1) (prev t)).2.1 (stAt m c (t.val - 1) (prev t)).2.2.2) (iblk m c 5 t)
          else k0_pay8 (iblk m c 3 t) (iblk m c 4 t) (stAt m c (t.val - 1) (prev t)).2.1 (stAt m c (t.val - 1) (prev t)).2.2.2)
        else (stAt m c (t.val - 1) (prev t)).2.1),
      (stAt m c (t.val - 1) (prev t)).2.2.1, (stAt m c (t.val - 1) (prev t)).2.2.2) := by
  obtain ⟨n, hn⟩ := t
  cases n with
  | zero => exact absurd (Nat.zero_mod _) h
  | succ n => exact (if_neg h).trans rfl

/-- Past the first block of rows the second result stays. -/
theorem stAt_keep (c : Dev nD) (t : Fin cfg0.N) (h : 16 ≤ t.val) :
    (stAt m c t.val t.isLt).2.1 = (stAt m c (t.val - 1) (prev t)).2.1 := by
  by_cases h0 : t.val % 16 = 0
  · rw [stAt_start m c t (by omega) h0]
  · rw [stAt_step m c t h0]
    exact if_neg (by omega)

/-- The invariant before position `n`: at the start the launch's; afterwards the scratch buffers at what the point
    before left in them. -/
def Inv (c : Dev nD) : (n : ℕ) → n ≤ cfg0.N → sProp 𝕄
  | 0, _ => Pipeline.ΦA spec0 c
  | n + 1, hn => iprop(iprop(owns (c : Thread nD τ) sc0 fullShare (stAt m c n hn).2.2.1
      ∗ owns (c : Thread nD τ) sc1 fullShare (stAt m c n hn).2.2.2) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) sc0 fullShare (stAt m c n hn).2.2.1
      ∗ owns (c : Thread nD τ) sc1 fullShare (stAt m c n hn).2.2.2) ∗ (∃ r, prngReg c r)) := rfl

theorem Inv_pos (c : Dev nD) (n : ℕ) (h : n ≤ cfg0.N) (hz : n ≠ 0) :
    Inv m c n h = iprop(iprop(owns (c : Thread nD τ) sc0 fullShare (stAt m c (n - 1) (by omega)).2.2.1
      ∗ owns (c : Thread nD τ) sc1 fullShare (stAt m c (n - 1) (by omega)).2.2.2) ∗ (∃ r, prngReg c r)) := by
  cases n with
  | zero => exact absurd rfl hz
  | succ n => rfl

/-! ## The proof data -/

/-- The arrays as the region finds them; each input's buffer at its block, each result's at the carried state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).1
    | ⟨7, _⟩ => (stAt m c t.val t.isLt).2.1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (stAt m c t.val t.isLt).1 := by dsimp only [dats]
theorem after7 (c : Dev nD) (t : Fin cfg0.N) : (dats m 0 c).after 7 t = (stAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Within a block of rows the first result's buffer holds what the point before left. -/
theorem before6 (c : Dev nD) (t : Fin cfg0.N) (h : ¬t.val % 16 = 0) (d) :
    (dats m 0 c).before 6 t d = (stAt m c (t.val - 1) (prev t)).1 := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-- The second result's buffer holds, after the first point, what the point before left: the body's own contents within
    the first block of rows, and past it the same contents, left alone. -/
theorem before7 (c : Dev nD) : ∀ (n : ℕ) (hn : n < cfg0.N) (hz : n ≠ 0) (d),
    (dats m 0 c).before 7 ⟨n, hn⟩ d = (stAt m c (n - 1) (Nat.lt_of_le_of_lt (Nat.sub_le _ _) hn)).2.1
  | 0, hn, hz, d => absurd rfl hz
  | n + 1, hn, hz, d => by
    have hN : n + 1 < 128 := lt_of_lt_of_eq hn (show cfg0.N = 128 from N_0)
    have hfl : (cfg0.win 7).flush ⟨n, Nat.lt_of_succ_lt hn⟩ = false :=
      Bool.eq_false_iff.mpr fun h => by have := (flush0_7 _).mp h; dsimp only at this; omega
    rw [(dats m 0 c).before_of_pos 7 ⟨n + 1, hn⟩ hz ((cfg0.win 7).fetch_out rfl _)]
    show (if (cfg0.win 7).flush ⟨n, Nat.lt_of_succ_lt hn⟩ = true then d else (dats m 0 c).left 7 ⟨n, Nat.lt_of_succ_lt hn⟩ d) = (stAt m c n (Nat.lt_of_succ_lt hn)).2.1
    rw [hfl, if_neg Bool.false_ne_true]
    unfold Dat.left
    by_cases hi : 16 ≤ n
    · rw [(idle7_iff ⟨n, Nat.lt_of_succ_lt hn⟩).mpr hi]
      show (dats m 0 c).before 7 ⟨n, Nat.lt_of_succ_lt hn⟩ d = _
      rw [before7 c n (Nat.lt_of_succ_lt hn) (by omega) d]
      exact (stAt_keep m c ⟨n, Nat.lt_of_succ_lt hn⟩ hi).symm
    · rw [show cfg0.idle 7 (cfg0.grid.coords ⟨n, Nat.lt_of_succ_lt hn⟩) = false from
        Bool.eq_false_iff.mpr fun h => hi ((idle7_iff ⟨n, Nat.lt_of_succ_lt hn⟩).mp h)]
      show (dats m 0 c).kept 7 ⟨n, Nat.lt_of_succ_lt hn⟩ d = _
      unfold Dat.kept
      rw [Pipeline.fill_of_clip_none 7 _ (fun _ => rfl) d ((dats m 0 c).after 7 _), Window.fill_cut, after7]

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t)
    ∗ owns (c : Thread nD τ) (mr6 t) fullShare ((dats m 0 c).after 6 t)
    ∗ (dats m 0 c).leavesExact 7 t)

/-- Handing the second result's buffer back at its state is what the obligation asks, at every point. -/
theorem leaves7 (c : Dev nD) (t : Fin cfg0.N) :
    (owns (c : Thread nD τ) (mr7 t) fullShare (stAt m c t.val t.isLt).2.1 : sProp 𝕄) ⊢ (dats m 0 c).leavesExact 7 t := by
  have hN : t.val < 128 := lt_of_lt_of_eq t.isLt (show cfg0.N = 128 from N_0)
  by_cases hi : 16 ≤ t.val
  · by_cases hf : (cfg0.win 7).flush t = true
    · unfold Dat.leavesExact
      rw [(idle7_iff t).mpr hi, hf, after7]
    · rw [(dats m 0 c).leavesExact_idle 7 t ((idle7_iff t).mpr hi) (Bool.eq_false_iff.mpr hf)]
      iintro H
      iexists (stAt m c t.val t.isLt).2.1
      rw [show (dats m 0 c).before 7 t (stAt m c t.val t.isLt).2.1 = (stAt m c t.val t.isLt).2.1 from by
        rw [before7 m c t.val t.isLt (by omega), stAt_keep m c t hi]]
      iexact H
  · unfold Dat.leavesExact
    rw [show cfg0.idle 7 (cfg0.grid.coords t) = false from Bool.eq_false_iff.mpr fun h => hi ((idle7_iff t).mp h), after7]

set_option maxHeartbeats 3200000 in
/-- The body's triple at any point, by the case its conditions select. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.succ = Inv m c (t.val + 1) t.isLt from rfl, Inv_succ]
  have hN : t.val < 128 := lt_of_lt_of_eq t.isLt (show cfg0.N = 128 from N_0)
  by_cases h0 : t.val % 16 = 0
  · by_cases hz : t.val = 0
    · rw [Inv_castSucc m c t, Inv_zero m c _ _ hz, launch_eq]
      have e := stAt_first m c t hz
      rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
      have e7 : (stAt m c t.val t.isLt).2.1 = _ := congrArg (fun s => s.2.1) e
      dsimp only at e7 ⊢
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_A c (grid0.coords t) _ _ _ _ _ _ _ _ _ _ _ _ _ _ _ _ _ _ _ _ ((firstTile_iff t).mpr (by omega)) ((firstPoint_iff t).mpr (by omega)) ((firstBlock_iff t).mpr (by omega)) (fun h => by have := (lastTile_iff t).mp h; omega) (fun h => by have := (lastFirst_iff t).mp h; omega) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves7 m c t)
      rw [e7]
      iexact H7
    · rw [Inv_castSucc m c t, Inv_pos m c _ _ hz]
      have e := stAt_start m c t hz h0
      simp only [show ∀ d, (dats m 0 c).before 7 t d = (stAt m c (t.val - 1) (prev t)).2.1 from fun d => before7 m c t.val t.isLt hz d]
      rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
      have e7 : (stAt m c t.val t.isLt).2.1 = _ := congrArg (fun s => s.2.1) e
      dsimp only at e7 ⊢
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_C c (grid0.coords t) _ _ _ _ _ _ _ _ _ _ _ _ _ _ _ _ _ _ _ _ ((firstTile_iff t).mpr (by omega)) (fun h => by have := (firstPoint_iff t).mp h; omega) (fun h => by have := (firstBlock_iff t).mp h; omega) (fun h => by have := (lastTile_iff t).mp h; omega) (fun h => by have := (lastFirst_iff t).mp h; omega) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves7 m c t)
      rw [e7]
      iexact H7
  · have hz : t.val ≠ 0 := fun h => h0 (by rw [h])
    by_cases h2 : t.val < 16
    · by_cases h3 : t.val % 16 = 15
      · rw [Inv_castSucc m c t, Inv_pos m c _ _ hz]
        have e := stAt_step m c t h0
        rw [if_pos h2, if_pos h3, if_pos h3] at e
        simp only [before6 m c t h0]
        simp only [show ∀ d, (dats m 0 c).before 7 t d = (stAt m c (t.val - 1) (prev t)).2.1 from fun d => before7 m c t.val t.isLt hz d]
        rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
        have e7 : (stAt m c t.val t.isLt).2.1 = _ := congrArg (fun s => s.2.1) e
        dsimp only at e7 ⊢
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (body_E c (grid0.coords t) _ _ _ _ _ _ _ _ _ _ _ _ _ _ _ _ _ _ _ _ (fun h => by have := (firstTile_iff t).mp h; omega) (fun h => by have := (firstPoint_iff t).mp h; omega) ((firstBlock_iff t).mpr (by omega)) ((lastTile_iff t).mpr (by omega)) ((lastFirst_iff t).mpr (by omega)) (iblk m c 0 t) (iblk m c 1 t) (iblk m c 2 t) (iblk m c 3 t) (iblk m c 4 t) (iblk m c 5 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (leaves7 m c t)
        rw [e7]
        iexact H7
      · rw [Inv_castSucc m c t, Inv_pos m c _ _ hz]
        have e := stAt_step m c t h0
        rw [if_pos h2, if_neg h3, if_neg h3] at e
        simp only [before6 m c t h0]
        simp only [show ∀ d, (dats m 0 c).before 7 t d = (stAt m c (t.val - 1) (prev t)).2.1 from fun d => before7 m c t.val t.isLt hz d]
        rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
        have e7 : (stAt m c t.val t.isLt).2.1 = _ := congrArg (fun s => s.2.1) e
        dsimp only at e7 ⊢
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (body_B c (grid0.coords t) _ _ _ _ _ _ _ _ _ _ _ _ _ _ _ _ _ _ _ _ (fun h => by have := (firstTile_iff t).mp h; omega) (fun h => by have := (firstPoint_iff t).mp h; omega) ((firstBlock_iff t).mpr (by omega)) (fun h => by have := (lastTile_iff t).mp h; omega) (fun h => by have := (lastFirst_iff t).mp h; omega) (iblk m c 0 t) (iblk m c 1 t) (iblk m c 2 t) (iblk m c 3 t) (iblk m c 4 t) (iblk m c 5 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (leaves7 m c t)
        rw [e7]
        iexact H7
    · by_cases h3 : t.val % 16 = 15
      · rw [Inv_castSucc m c t, Inv_pos m c _ _ hz]
        have e := stAt_step m c t h0
        rw [if_neg h2, if_pos h3] at e
        simp only [before6 m c t h0]
        simp only [show ∀ d, (dats m 0 c).before 7 t d = (stAt m c (t.val - 1) (prev t)).2.1 from fun d => before7 m c t.val t.isLt hz d]
        rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
        have e7 : (stAt m c t.val t.isLt).2.1 = _ := congrArg (fun s => s.2.1) e
        dsimp only at e7 ⊢
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (body_G c (grid0.coords t) _ _ _ _ _ _ _ _ _ _ _ _ _ _ _ _ _ _ _ _ (fun h => by have := (firstTile_iff t).mp h; omega) (fun h => by have := (firstPoint_iff t).mp h; omega) (fun h => by have := (firstBlock_iff t).mp h; omega) ((lastTile_iff t).mpr (by omega)) (fun h => by have := (lastFirst_iff t).mp h; omega) (iblk m c 0 t) (iblk m c 1 t) (iblk m c 2 t) (iblk m c 3 t) (iblk m c 4 t) (iblk m c 5 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (leaves7 m c t)
        rw [e7]
        iexact H7
      · rw [Inv_castSucc m c t, Inv_pos m c _ _ hz]
        have e := stAt_step m c t h0
        rw [if_neg h2, if_neg h3] at e
        simp only [before6 m c t h0]
        simp only [show ∀ d, (dats m 0 c).before 7 t d = (stAt m c (t.val - 1) (prev t)).2.1 from fun d => before7 m c t.val t.isLt hz d]
        rw [show (stAt m c t.val t.isLt).1 = _ from congrArg (fun s => s.1) e, show (stAt m c t.val t.isLt).2.2.1 = _ from congrArg (fun s => s.2.2.1) e, show (stAt m c t.val t.isLt).2.2.2 = _ from congrArg (fun s => s.2.2.2) e]
        have e7 : (stAt m c t.val t.isLt).2.1 = _ := congrArg (fun s => s.2.1) e
        dsimp only at e7 ⊢
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (body_D c (grid0.coords t) _ _ _ _ _ _ _ _ _ _ _ _ _ _ _ _ _ _ _ _ (fun h => by have := (firstTile_iff t).mp h; omega) (fun h => by have := (firstPoint_iff t).mp h; omega) (fun h => by have := (firstBlock_iff t).mp h; omega) (fun h => by have := (lastTile_iff t).mp h; omega) (fun h => by have := (lastFirst_iff t).mp h; omega) (iblk m c 0 t) (iblk m c 1 t) (iblk m c 2 t) (iblk m c 3 t) (iblk m c 4 t) (iblk m c 5 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (leaves7 m c t)
        rw [e7]
        iexact H7

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦA spec0 c ⊢ (dats m 0 c).Φ 0 := by
  rw [show (dats m 0 c).Φ 0 = Inv m c 0 (Nat.zero_le _) from rfl, Inv_zero m c 0 _ rfl]

theorem inv_out (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by have : cfg0.N = 128 := N_0; omega), launch_eq]
  iintro ⟨⟨HS0, HS1⟩, Hg⟩
  isplitl [HS0 HS1]
  · isplitl [HS0]; · iexists _; iexact HS0
    iexists _; iexact HS1
  iexact Hg

/-! ## The run -/

set_option backward.isDefEq.respectTransparency.types false in
/-- The launch: every execution ends with the arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.MlpFinalIdeal.Hand

end
-- ==== Proof.MlpFinalPure.lean ====
module

public import proofs.«01_k».proof.Proof.Rows
public import proofs.«01_k».proof.Proof.Gen.MlpFinalIdeal.Skeleton
public import proofs.«01_k».proof.Proof.Gen.MlpFinalRefIdeal.Run

@[expose] public section

set_option maxRecDepth 16384

noncomputable section

/-! THE LAST LAYER'S FEED-FORWARD CALL, READ AT AN INDEX: what the body stores over the values it loads, and the reference's two
    results, each as the row mathematics of `Rows`. -/

namespace Cert.MlpFinalIdeal.Hand

open Cert.MlpFinalIdeal Cert.MlpFinalIdeal.Gen
open Idealize.ShloMosaic Idealize.ShloMosaic.TcCoe Idealize.SL.Sem

/-- The final norm of the prompt's block. -/
theorem pay1_at (o : FVec Ideal S1024x2048 .f32) (g : FVec Ideal S1x2048 .f32) (r : Fin 1024) (k : Fin 2048) :
    k0_pay1 (F := Ideal) o g (ix2 r k) = Rows.rms (fun l => o (ix2 r l)) (fun l => g (ix2 0 l)) k := by
  pointwise [k0_pay1]
  rfl

/-- The final norm of the sample. -/
theorem pay2_at (o : FVec Ideal S8x2048 .f32) (g : FVec Ideal S1x2048 .f32) (r : Fin 8) (k : Fin 2048) :
    k0_pay2 (F := Ideal) o g (ix2 r k) = Rows.rms (fun l => o (ix2 r l)) (fun l => g (ix2 0 l)) k := by
  pointwise [k0_pay2]
  rfl

/-- The normalised rows of the prompt's block. -/
theorem pay3_at (x : FVec Ideal S1024x2048 .f32) (g : FVec Ideal S1x1x2048 .f32) (r : Fin 1024) (k : Fin 2048) :
    k0_pay3 (F := Ideal) x g (ix2 r k) = Rows.rms (fun l => x (ix2 r l)) (fun l => g (ix3 0 0 l)) k := by
  pointwise [k0_pay3]
  rfl

/-- The normalised rows of the sample. -/
theorem pay4_at (x : FVec Ideal S8x2048 .f32) (g : FVec Ideal S1x1x2048 .f32) (r : Fin 8) (k : Fin 2048) :
    k0_pay4 (F := Ideal) x g (ix2 r k) = Rows.rms (fun l => x (ix2 r l)) (fun l => g (ix3 0 0 l)) k := by
  pointwise [k0_pay4]
  rfl

/-- One tile of hidden units added to the prompt's block. -/
theorem pay7_at (u : FVec Ideal S1x2048x512 .f32) (w : FVec Ideal S1x512x2048 .f32) (o : FVec Ideal S1024x2048 .f32)
    (h : FVec Ideal S1024x2048 .bf16) (r : Fin 1024) (d : Fin 2048) :
    k0_pay7 (F := Ideal) u w o h (ix2 r d)
      = o (ix2 r d) + ∑ f : Fin 512, Rows.unit (fun k => h (ix2 r k)) (fun k => u (ix3 0 k f)) (w (ix3 0 f d)) := by
  pointwise [k0_pay7, k0_pay5, k0_pay6]
  rfl

/-- One tile of hidden units added to the sample. -/
theorem pay8_at (u : FVec Ideal S1x2048x512 .f32) (w : FVec Ideal S1x512x2048 .f32) (o : FVec Ideal S8x2048 .f32)
    (h : FVec Ideal S8x2048 .bf16) (r : Fin 8) (d : Fin 2048) :
    k0_pay8 (F := Ideal) u w o h (ix2 r d)
      = o (ix2 r d) + ∑ f : Fin 512, Rows.unit (fun k => h (ix2 r k)) (fun k => u (ix3 0 k f)) (w (ix3 0 f d)) := by
  pointwise [k0_pay8, k0_pay5, k0_pay6]
  rfl

/-- The layer on one row `x`: the row plus its feed-forward sum over all 8192 hidden units of layer 3. -/
def terms (x : Fin 2048 → EReal) (a2 : FVec Ideal S4x1x2048 .f32) (a3 : FVec Ideal S4x2048x8192 .f32) (a4 : FVec Ideal S4x8192x2048 .f32)
    (d : Fin 2048) (f : Fin 8192) : EReal :=
  Rows.unit (Rows.rms x fun l => a2 (ix3 3 0 l)) (fun k => a3 (ix3 3 k f)) (a4 (ix3 3 f d))

end Cert.MlpFinalIdeal.Hand

namespace Cert.MlpFinalRefIdeal.Hand

open Cert.MlpFinalRefIdeal Cert.MlpFinalRefIdeal.Gen
open Idealize.ShloMosaic Idealize.ShloMosaic.TcCoe Idealize.SL.Sem

/-- The layer before its final norm, as the reference writes it for its first result. -/
def promptLayer (a0 : FVec Ideal S8192x2048 .f32) (a2 : FVec Ideal S4x1x2048 .f32) (a3 : FVec Ideal S4x2048x8192 .f32) (a4 : FVec Ideal S4x8192x2048 .f32) : FVec Ideal S8192x2048 .f32 :=
  addf a0 (Host.dotGeneral dot_S8192x8192_S8192x2048_S8192x2048_1_0_0_1_n_n none (mulf (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![3, 0, 0] a2 slices_S4x1x2048_S1x1x2048_3_0_0) shapeCasts_S1x1x2048_S1x2048))) (shapeCast _ (extractStridedSlice S1x2048x8192 ![3, 0, 0] a3 slices_S4x2048x8192_S1x2048x8192_3_0_0) shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![3, 0, 0] a2 slices_S4x1x2048_S1x1x2048_3_0_0) shapeCasts_S1x1x2048_S1x2048))) (shapeCast _ (extractStridedSlice S1x2048x8192 ![3, 0, 0] a3 slices_S4x2048x8192_S1x2048x8192_3_0_0) shapeCasts_S1x2048x8192_S2048x8192)) (broadcastInDim S8192x8192 ![] bcast_S_S8192x8192 (constant S_ .f32 0x00000000#32)))) (shapeCast _ (extractStridedSlice S1x8192x2048 ![3, 0, 0] a4 slices_S4x8192x2048_S1x8192x2048_3_0_0) shapeCasts_S1x8192x2048_S8192x2048))

/-- The final norm, as the reference writes it for its first result. -/
def promptNorm (y : FVec Ideal S8192x2048 .f32) (a5 : FVec Ideal S1x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a5 shapeCasts_S1x2048_S2048)))

/-- The reference's first result, as its run states it. -/
def prompt (a0 : FVec Ideal S8192x2048 .f32) (a2 : FVec Ideal S4x1x2048 .f32) (a3 : FVec Ideal S4x2048x8192 .f32) (a4 : FVec Ideal S4x8192x2048 .f32) (a5 : FVec Ideal S1x2048 .f32) : FVec Ideal S8192x2048 .f32 :=
  promptNorm (promptLayer a0 a2 a3 a4) a5

theorem promptLayer_at (a0 : FVec Ideal S8192x2048 .f32) (a2 : FVec Ideal S4x1x2048 .f32) (a3 : FVec Ideal S4x2048x8192 .f32) (a4 : FVec Ideal S4x8192x2048 .f32) (r : Fin 8192) (d : Fin 2048) :
    promptLayer a0 a2 a3 a4 (ix2 r d) = a0 (ix2 r d) + ∑ f, MlpFinalIdeal.Hand.terms (fun l => a0 (ix2 r l)) a2 a3 a4 d f := by
  pointwise [promptLayer]
  rfl

theorem promptNorm_at (y : FVec Ideal S8192x2048 .f32) (a5 : FVec Ideal S1x2048 .f32) (r : Fin 8192) (d : Fin 2048) :
    promptNorm y a5 (ix2 r d) = Rows.rms (fun l => y (ix2 r l)) (fun l => a5 (ix2 0 l)) d := by
  pointwise [promptNorm]
  rfl

theorem prompt_at (a0 : FVec Ideal S8192x2048 .f32) (a2 : FVec Ideal S4x1x2048 .f32) (a3 : FVec Ideal S4x2048x8192 .f32) (a4 : FVec Ideal S4x8192x2048 .f32) (a5 : FVec Ideal S1x2048 .f32) (r : Fin 8192) (d : Fin 2048) :
    prompt a0 a2 a3 a4 a5 (ix2 r d) = Rows.rms (fun e => a0 (ix2 r e) + ∑ f, MlpFinalIdeal.Hand.terms (fun l => a0 (ix2 r l)) a2 a3 a4 e f) (fun l => a5 (ix2 0 l)) d := by
  unfold prompt
  rw [promptNorm_at, show (fun l => promptLayer a0 a2 a3 a4 (ix2 r l)) = _ from funext fun l => promptLayer_at a0 a2 a3 a4 r l]

/-- The layer before its final norm, as the reference writes it for its second result. -/
def sampleLayer (a1 : FVec Ideal S8x2048 .f32) (a2 : FVec Ideal S4x1x2048 .f32) (a3 : FVec Ideal S4x2048x8192 .f32) (a4 : FVec Ideal S4x8192x2048 .f32) : FVec Ideal S8x2048 .f32 :=
  addf a1 (Host.dotGeneral dot_S8x8192_S8192x2048_S8x2048_1_0_0_1_n_n none (mulf (maximumf (Host.dotGeneral dot_S8x2048_S2048x8192_S8x8192_1_0_0_1_n_n none (mulf (mulf a1 (broadcastInDim S8x2048 ![0, 1] bcast_S8x1_S8x2048_0_1 (Host.rsqrt (addf (Host.divf (broadcastInDim S8x1 ![0] bcast_S8_S8x1_0 (Host.reduceAdd (mulf a1 a1) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (shapeCast _ (extractStridedSlice S1x1x2048 ![3, 0, 0] a2 slices_S4x1x2048_S1x1x2048_3_0_0) shapeCasts_S1x1x2048_S1x2048))) (shapeCast _ (extractStridedSlice S1x2048x8192 ![3, 0, 0] a3 slices_S4x2048x8192_S1x2048x8192_3_0_0) shapeCasts_S1x2048x8192_S2048x8192)) (broadcastInDim S8x8192 ![] bcast_S_S8x8192 (constant S_ .f32 0x00000000#32))) (maximumf (Host.dotGeneral dot_S8x2048_S2048x8192_S8x8192_1_0_0_1_n_n none (mulf (mulf a1 (broadcastInDim S8x2048 ![0, 1] bcast_S8x1_S8x2048_0_1 (Host.rsqrt (addf (Host.divf (broadcastInDim S8x1 ![0] bcast_S8_S8x1_0 (Host.reduceAdd (mulf a1 a1) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (shapeCast _ (extractStridedSlice S1x1x2048 ![3, 0, 0] a2 slices_S4x1x2048_S1x1x2048_3_0_0) shapeCasts_S1x1x2048_S1x2048))) (shapeCast _ (extractStridedSlice S1x2048x8192 ![3, 0, 0] a3 slices_S4x2048x8192_S1x2048x8192_3_0_0) shapeCasts_S1x2048x8192_S2048x8192)) (broadcastInDim S8x8192 ![] bcast_S_S8x8192 (constant S_ .f32 0x00000000#32)))) (shapeCast _ (extractStridedSlice S1x8192x2048 ![3, 0, 0] a4 slices_S4x8192x2048_S1x8192x2048_3_0_0) shapeCasts_S1x8192x2048_S8192x2048))

/-- The final norm, as the reference writes it for its second result. -/
def sampleNorm (y : FVec Ideal S8x2048 .f32) (a5 : FVec Ideal S1x2048 .f32) : FVec Ideal S8x2048 .f32 :=
  mulf (mulf y (broadcastInDim S8x2048 ![0, 1] bcast_S8x1_S8x2048_0_1 (Host.rsqrt (addf (Host.divf (broadcastInDim S8x1 ![0] bcast_S8_S8x1_0 (Host.reduceAdd (mulf y y) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (broadcastInDim S1x2048 ![1] bcast_S2048_S1x2048_1 (shapeCast _ a5 shapeCasts_S1x2048_S2048)))

/-- The reference's second result, as its run states it. -/
def sample (a1 : FVec Ideal S8x2048 .f32) (a2 : FVec Ideal S4x1x2048 .f32) (a3 : FVec Ideal S4x2048x8192 .f32) (a4 : FVec Ideal S4x8192x2048 .f32) (a5 : FVec Ideal S1x2048 .f32) : FVec Ideal S8x2048 .f32 :=
  sampleNorm (sampleLayer a1 a2 a3 a4) a5

theorem sampleLayer_at (a1 : FVec Ideal S8x2048 .f32) (a2 : FVec Ideal S4x1x2048 .f32) (a3 : FVec Ideal S4x2048x8192 .f32) (a4 : FVec Ideal S4x8192x2048 .f32) (r : Fin 8) (d : Fin 2048) :
    sampleLayer a1 a2 a3 a4 (ix2 r d) = a1 (ix2 r d) + ∑ f, MlpFinalIdeal.Hand.terms (fun l => a1 (ix2 r l)) a2 a3 a4 d f := by
  pointwise [sampleLayer]
  rfl

theorem sampleNorm_at (y : FVec Ideal S8x2048 .f32) (a5 : FVec Ideal S1x2048 .f32) (r : Fin 8) (d : Fin 2048) :
    sampleNorm y a5 (ix2 r d) = Rows.rms (fun l => y (ix2 r l)) (fun l => a5 (ix2 0 l)) d := by
  pointwise [sampleNorm]
  rfl

theorem sample_at (a1 : FVec Ideal S8x2048 .f32) (a2 : FVec Ideal S4x1x2048 .f32) (a3 : FVec Ideal S4x2048x8192 .f32) (a4 : FVec Ideal S4x8192x2048 .f32) (a5 : FVec Ideal S1x2048 .f32) (r : Fin 8) (d : Fin 2048) :
    sample a1 a2 a3 a4 a5 (ix2 r d) = Rows.rms (fun e => a1 (ix2 r e) + ∑ f, MlpFinalIdeal.Hand.terms (fun l => a1 (ix2 r l)) a2 a3 a4 e f) (fun l => a5 (ix2 0 l)) d := by
  unfold sample
  rw [sampleNorm_at, show (fun l => sampleLayer a1 a2 a3 a4 (ix2 r l)) = _ from funext fun l => sampleLayer_at a1 a2 a3 a4 r l]

end Cert.MlpFinalRefIdeal.Hand

end
-- ==== Proof.MlpFinalValue.lean ====
module

public import proofs.«01_k».proof.Proof.MlpFinalRun
public import proofs.«01_k».proof.Proof.MlpFinalPure

@[expose] public section

set_option maxRecDepth 16384

noncomputable section

/-! THE LAST LAYER'S FEED-FORWARD CALL'S VALUE: by induction over the points, the prompt's block holds its rows plus the tiles of
    hidden units seen so far, the sample's likewise during the first block of rows; so both arrays end at the layer. -/

namespace Cert.MlpFinalIdeal.Hand

open Cert.MlpFinalIdeal Cert.MlpFinalIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments, and the windows' blocks of them -/

abbrev arg0 (c : Dev nD) : FVec Ideal S8192x2048 .f32 := m ((c.tc : Thread nD τ).loc main_arg0)
abbrev arg1 (c : Dev nD) : FVec Ideal S8x2048 .f32 := m ((c.tc : Thread nD τ).loc main_arg1)
abbrev arg2 (c : Dev nD) : FVec Ideal S4x1x2048 .f32 := m ((c.tc : Thread nD τ).loc main_arg2)
abbrev arg3 (c : Dev nD) : FVec Ideal S4x2048x8192 .f32 := m ((c.tc : Thread nD τ).loc main_arg3)
abbrev arg4 (c : Dev nD) : FVec Ideal S4x8192x2048 .f32 := m ((c.tc : Thread nD τ).loc main_arg4)
abbrev arg5 (c : Dev nD) : FVec Ideal S1x2048 .f32 := m ((c.tc : Thread nD τ).loc main_arg5)

theorem index_facts : ∀ t : Fin cfg0.N,
    (win0_0.index t (0 : Fin 2) = t.val / 16 ∧ win0_0.index t (1 : Fin 2) = 0)
    ∧ (win0_1.index t (0 : Fin 2) = 0 ∧ win0_1.index t (1 : Fin 2) = 0)
    ∧ (win0_2.index t (0 : Fin 3) = 3 ∧ win0_2.index t (1 : Fin 3) = 0 ∧ win0_2.index t (2 : Fin 3) = 0)
    ∧ (win0_3.index t (0 : Fin 3) = 3 ∧ win0_3.index t (1 : Fin 3) = 0 ∧ win0_3.index t (2 : Fin 3) = t.val % 16)
    ∧ (win0_4.index t (0 : Fin 3) = 3 ∧ win0_4.index t (1 : Fin 3) = t.val % 16 ∧ win0_4.index t (2 : Fin 3) = 0)
    ∧ (win0_5.index t (0 : Fin 2) = 0 ∧ win0_5.index t (1 : Fin 2) = 0)
    ∧ (win0_6.index t (0 : Fin 2) = t.val / 16 ∧ win0_6.index t (1 : Fin 2) = 0)
    ∧ (win0_7.index t (0 : Fin 2) = 0 ∧ win0_7.index t (1 : Fin 2) = 0) :=
  (by decide +kernel : ∀ t : Fin grid0.N, _)

theorem blk0_at (c : Dev nD) (t : Fin cfg0.N) (r : Fin 1024) (k : Fin 2048) (R : Fin 8192) (hR : R.val = t.val / 16 * 1024 + r.val) :
    (iblk m c 0 t : FVec Ideal S1024x2048 .f32) (ix2 r k) = arg0 m c (ix2 R k) := by
  obtain ⟨⟨e0, e1⟩, -⟩ := index_facts t
  refine congrArg (m ((c.tc : Thread nD τ).loc main_arg0)) ?_
  funext a; apply Fin.ext
  match a with
  | ⟨0, _⟩ => show win0_0.index t (0 : Fin 2) * 1024 + 1 * r.val = R.val; omega
  | ⟨1, _⟩ => show win0_0.index t (1 : Fin 2) * 2048 + 1 * k.val = k.val; omega

theorem blk1_at (c : Dev nD) (t : Fin cfg0.N) (r : Fin 8) (k : Fin 2048) :
    (iblk m c 1 t : FVec Ideal S8x2048 .f32) (ix2 r k) = arg1 m c (ix2 r k) := by
  obtain ⟨-, ⟨e0, e1⟩, -⟩ := index_facts t
  refine congrArg (m ((c.tc : Thread nD τ).loc main_arg1)) ?_
  funext a; apply Fin.ext
  match a with
  | ⟨0, _⟩ => show win0_1.index t (0 : Fin 2) * 8 + 1 * r.val = r.val; omega
  | ⟨1, _⟩ => show win0_1.index t (1 : Fin 2) * 2048 + 1 * k.val = k.val; omega

theorem blk2_at (c : Dev nD) (t : Fin cfg0.N) (k : Fin 2048) :
    (iblk m c 2 t : FVec Ideal S1x1x2048 .f32) (ix3 0 0 k) = arg2 m c (ix3 3 0 k) := by
  obtain ⟨-, -, ⟨e0, e1, e2⟩, -⟩ := index_facts t
  refine congrArg (m ((c.tc : Thread nD τ).loc main_arg2)) ?_
  funext a; apply Fin.ext
  match a with
  | ⟨0, _⟩ => show win0_2.index t (0 : Fin 3) * 1 + 1 * 0 = 3; omega
  | ⟨1, _⟩ => show win0_2.index t (1 : Fin 3) * 1 + 1 * 0 = 0; omega
  | ⟨2, _⟩ => show win0_2.index t (2 : Fin 3) * 2048 + 1 * k.val = k.val; omega

theorem blk3_at (c : Dev nD) (t : Fin cfg0.N) (k : Fin 2048) (f : Fin 512) (G : Fin 8192) (hG : G.val = t.val % 16 * 512 + f.val) :
    (iblk m c 3 t : FVec Ideal S1x2048x512 .f32) (ix3 0 k f) = arg3 m c (ix3 3 k G) := by
  obtain ⟨-, -, -, ⟨e0, e1, e2⟩, -⟩ := index_facts t
  refine congrArg (m ((c.tc : Thread nD τ).loc main_arg3)) ?_
  funext a; apply Fin.ext
  match a with
  | ⟨0, _⟩ => show win0_3.index t (0 : Fin 3) * 1 + 1 * 0 = 3; omega
  | ⟨1, _⟩ => show win0_3.index t (1 : Fin 3) * 2048 + 1 * k.val = k.val; omega
  | ⟨2, _⟩ => show win0_3.index t (2 : Fin 3) * 512 + 1 * f.val = G.val; omega

theorem blk4_at (c : Dev nD) (t : Fin cfg0.N) (f : Fin 512) (d : Fin 2048) (G : Fin 8192) (hG : G.val = t.val % 16 * 512 + f.val) :
    (iblk m c 4 t : FVec Ideal S1x512x2048 .f32) (ix3 0 f d) = arg4 m c (ix3 3 G d) := by
  obtain ⟨-, -, -, -, ⟨e0, e1, e2⟩, -⟩ := index_facts t
  refine congrArg (m ((c.tc : Thread nD τ).loc main_arg4)) ?_
  funext a; apply Fin.ext
  match a with
  | ⟨0, _⟩ => show win0_4.index t (0 : Fin 3) * 1 + 1 * 0 = 3; omega
  | ⟨1, _⟩ => show win0_4.index t (1 : Fin 3) * 512 + 1 * f.val = G.val; omega
  | ⟨2, _⟩ => show win0_4.index t (2 : Fin 3) * 2048 + 1 * d.val = d.val; omega

theorem blk5_at (c : Dev nD) (t : Fin cfg0.N) (k : Fin 2048) :
    (iblk m c 5 t : FVec Ideal S1x2048 .f32) (ix2 0 k) = arg5 m c (ix2 0 k) := by
  obtain ⟨-, -, -, -, -, ⟨e0, e1⟩, -⟩ := index_facts t
  refine congrArg (m ((c.tc : Thread nD τ).loc main_arg5)) ?_
  funext a; apply Fin.ext
  match a with
  | ⟨0, _⟩ => show win0_5.index t (0 : Fin 2) * 1 + 1 * 0 = 0; omega
  | ⟨1, _⟩ => show win0_5.index t (1 : Fin 2) * 2048 + 1 * k.val = k.val; omega

/-! ## The carried state, row by row -/

/-- The row of the prompt that row `r` of the block at point `n` is. -/
abbrev rowOf (n : ℕ) (hn : n < cfg0.N) (r : Fin 1024) : Fin 8192 :=
  ⟨n / 16 * 1024 + r.val, by have : n < 128 := lt_of_lt_of_eq hn (show cfg0.N = 128 from N_0); have := r.isLt; omega⟩

/-- The gain of layer 3. -/
abbrev gain (c : Dev nD) : Fin 2048 → EReal := fun l => arg2 m c (ix3 3 0 l)

/-- The feed-forward terms of a row, at layer 3's weights. -/
abbrev T (c : Dev nD) (x : Fin 2048 → EReal) (d : Fin 2048) : Fin 8192 → EReal := terms x (arg2 m c) (arg3 m c) (arg4 m c) d

theorem norm_prompt (c : Dev nD) (t : Fin cfg0.N) (r : Fin 1024) (k : Fin 2048) :
    k0_pay3 (F := Ideal) (iblk m c 0 t) (iblk m c 2 t) (ix2 r k) = Rows.rms (fun l => arg0 m c (ix2 (rowOf t.val t.isLt r) l)) (gain m c) k := by
  refine (pay3_at _ _ r k).trans ?_
  rw [show (fun l => (iblk m c 0 t : FVec Ideal S1024x2048 .f32) (ix2 r l)) = fun l => arg0 m c (ix2 (rowOf t.val t.isLt r) l) from
      funext fun l => blk0_at m c t r l _ rfl,
    show (fun l => (iblk m c 2 t : FVec Ideal S1x1x2048 .f32) (ix3 0 0 l)) = gain m c from funext fun l => blk2_at m c t l]

theorem norm_sample (c : Dev nD) (t : Fin cfg0.N) (r : Fin 8) (k : Fin 2048) :
    k0_pay4 (F := Ideal) (iblk m c 1 t) (iblk m c 2 t) (ix2 r k) = Rows.rms (fun l => arg1 m c (ix2 r l)) (gain m c) k := by
  refine (pay4_at _ _ r k).trans ?_
  rw [show (fun l => (iblk m c 1 t : FVec Ideal S8x2048 .f32) (ix2 r l)) = fun l => arg1 m c (ix2 r l) from
      funext fun l => blk1_at m c t r l,
    show (fun l => (iblk m c 2 t : FVec Ideal S1x1x2048 .f32) (ix3 0 0 l)) = gain m c from funext fun l => blk2_at m c t l]

/-- The tile of hidden units the point works on, over a normalised row. -/
theorem tile_at (c : Dev nD) (t : Fin cfg0.N) (x h : Fin 2048 → EReal) (hh : ∀ k, h k = Rows.rms x (gain m c) k) (d : Fin 2048) :
    (∑ f : Fin 512, Rows.unit h (fun k => (iblk m c 3 t : FVec Ideal S1x2048x512 .f32) (ix3 0 k f)) ((iblk m c 4 t : FVec Ideal S1x512x2048 .f32) (ix3 0 f d)))
      = Rows.tile (T m c x d) (t.val % 16) := by
  refine Rows.tile_eq _ _ _ (fun f hf => ?_) (by omega)
  rw [show h = Rows.rms x (gain m c) from funext hh, blk4_at m c t f d ⟨_, hf⟩ rfl,
    show (fun k => (iblk m c 3 t : FVec Ideal S1x2048x512 .f32) (ix3 0 k f)) = fun k => arg3 m c (ix3 3 k ⟨_, hf⟩) from
      funext fun k => blk3_at m c t k f _ rfl]
  rfl

/-- The final norm's gain. -/
abbrev gainF (c : Dev nD) : Fin 2048 → EReal := fun l => arg5 m c (ix2 0 l)

/-- A row plus its first `s` tiles of hidden units. -/
def partialSum (c : Dev nD) (x : Fin 2048 → EReal) (s : ℕ) (d : Fin 2048) : EReal :=
  x d + ∑ j ∈ Finset.range s, Rows.tile (T m c x d) j

/-- What a result's buffer holds after `s` tiles: the partial sum, and after the last tile its final norm. -/
def held (c : Dev nD) (x : Fin 2048 → EReal) (s : ℕ) (d : Fin 2048) : EReal :=
  if s = 16 then Rows.rms (partialSum m c x 16) (gainF m c) d else partialSum m c x s d

theorem final_at_prompt (c : Dev nD) (t : Fin cfg0.N) (o : FVec Ideal S1024x2048 .f32) (r : Fin 1024) (x : Fin 2048 → EReal)
    (h : ∀ d, o (ix2 r d) = x d) (d : Fin 2048) : k0_pay1 (F := Ideal) o (iblk m c 5 t) (ix2 r d) = Rows.rms x (gainF m c) d := by
  refine (pay1_at _ _ r d).trans ?_
  rw [show (fun l => o (ix2 r l)) = x from funext h,
    show (fun l => (iblk m c 5 t : FVec Ideal S1x2048 .f32) (ix2 0 l)) = gainF m c from funext fun l => blk5_at m c t l]

theorem final_at_sample (c : Dev nD) (t : Fin cfg0.N) (o : FVec Ideal S8x2048 .f32) (r : Fin 8) (x : Fin 2048 → EReal)
    (h : ∀ d, o (ix2 r d) = x d) (d : Fin 2048) : k0_pay2 (F := Ideal) o (iblk m c 5 t) (ix2 r d) = Rows.rms x (gainF m c) d := by
  refine (pay2_at _ _ r d).trans ?_
  rw [show (fun l => o (ix2 r l)) = x from funext h,
    show (fun l => (iblk m c 5 t : FVec Ideal S1x2048 .f32) (ix2 0 l)) = gainF m c from funext fun l => blk5_at m c t l]

/-- One more tile. -/
theorem step_prompt (c : Dev nD) (t : Fin cfg0.N) (x : Fin 2048 → EReal) (o : FVec Ideal S1024x2048 .f32) (h : FVec Ideal S1024x2048 .bf16) (r : Fin 1024)
    (ho : ∀ d, o (ix2 r d) = partialSum m c x (t.val % 16) d) (hh : ∀ k, h (ix2 r k) = Rows.rms x (gain m c) k) (d : Fin 2048) :
    k0_pay7 (F := Ideal) (iblk m c 3 t) (iblk m c 4 t) o h (ix2 r d) = partialSum m c x (t.val % 16 + 1) d := by
  refine (pay7_at _ _ _ _ r d).trans ?_
  rw [tile_at m c t x _ hh d, ho d]
  exact Rows.add_tile _ _ _

theorem step_sample (c : Dev nD) (t : Fin cfg0.N) (x : Fin 2048 → EReal) (o : FVec Ideal S8x2048 .f32) (h : FVec Ideal S8x2048 .bf16) (r : Fin 8)
    (ho : ∀ d, o (ix2 r d) = partialSum m c x (t.val % 16) d) (hh : ∀ k, h (ix2 r k) = Rows.rms x (gain m c) k) (d : Fin 2048) :
    k0_pay8 (F := Ideal) (iblk m c 3 t) (iblk m c 4 t) o h (ix2 r d) = partialSum m c x (t.val % 16 + 1) d := by
  refine (pay8_at _ _ _ _ r d).trans ?_
  rw [tile_at m c t x _ hh d, ho d]
  exact Rows.add_tile _ _ _

/-- Before the first tile a row is itself. -/
theorem partial_zero (c : Dev nD) (x : Fin 2048 → EReal) (d : Fin 2048) : x d = partialSum m c x 0 d := by
  unfold partialSum
  rw [Finset.sum_range_zero, add_zero]

/-- After point `n`: the prompt's block is what it holds after the tiles `0 … n % 16`, beside its normalised rows. -/
theorem state_prompt (c : Dev nD) : ∀ (n : ℕ) (hn : n < cfg0.N) (r : Fin 1024),
    (∀ d : Fin 2048, (stAt m c n hn).1 (ix2 r d) = held m c (fun l => arg0 m c (ix2 (rowOf n hn r) l)) (n % 16 + 1) d)
    ∧ ∀ k : Fin 2048, (stAt m c n hn).2.2.1 (ix2 r k) = Rows.rms (fun l => arg0 m c (ix2 (rowOf n hn r) l)) (gain m c) k := by
  have start : ∀ (t : Fin cfg0.N) (r : Fin 1024), t.val % 16 = 0 →
      (∀ d : Fin 2048, k0_pay7 (F := Ideal) (iblk m c 3 t) (iblk m c 4 t) (iblk m c 0 t) (k0_pay3 (iblk m c 0 t) (iblk m c 2 t)) (ix2 r d)
        = held m c (fun l => arg0 m c (ix2 (rowOf t.val t.isLt r) l)) (t.val % 16 + 1) d) := by
    intro t r h d
    unfold held
    rw [if_neg (by omega)]
    refine step_prompt m c t (fun l => arg0 m c (ix2 (rowOf t.val t.isLt r) l)) _ _ r (fun d => ?_) (fun k => norm_prompt m c t r k) d
    rw [h, blk0_at m c t r d (rowOf t.val t.isLt r) rfl]
    exact partial_zero m c (fun l => arg0 m c (ix2 (rowOf t.val t.isLt r) l)) d
  intro n
  induction n with
  | zero =>
    intro hn r
    have e := stAt_first m c ⟨0, hn⟩ rfl
    dsimp only at e
    rw [e]
    exact ⟨start ⟨0, hn⟩ r rfl, norm_prompt m c ⟨0, hn⟩ r⟩
  | succ n ih =>
    intro hn r
    by_cases h0 : (n + 1) % 16 = 0
    · have e := stAt_start m c ⟨n + 1, hn⟩ (Nat.succ_ne_zero n) h0
      dsimp only at e
      rw [e]
      exact ⟨start ⟨n + 1, hn⟩ r h0, norm_prompt m c ⟨n + 1, hn⟩ r⟩
    · have e := stAt_step m c ⟨n + 1, hn⟩ h0
      obtain ⟨p1, p2⟩ := ih (Nat.lt_of_succ_lt hn) r
      have hrow : rowOf n (Nat.lt_of_succ_lt hn) r = rowOf (n + 1) hn r := Fin.ext (by dsimp only; omega)
      rw [hrow] at p1 p2
      simp only [Nat.add_sub_cancel] at e
      rw [e]
      refine ⟨fun d => ?_, p2⟩
      have q1 : ∀ d, (stAt m c n (Nat.lt_of_succ_lt hn)).1 (ix2 r d)
          = partialSum m c (fun l => arg0 m c (ix2 (rowOf (n + 1) hn r) l)) ((n + 1) % 16) d := fun d => by
        rw [p1 d]; unfold held
        rw [if_neg (by omega), show (n + 1) % 16 = n % 16 + 1 from by omega]
      have step := step_prompt m c ⟨n + 1, hn⟩ (fun l => arg0 m c (ix2 (rowOf (n + 1) hn r) l)) _ _ r q1 p2
      unfold held
      dsimp only
      by_cases h3 : (n + 1) % 16 = 15
      · rw [if_pos h3, if_pos (show (n + 1) % 16 + 1 = 16 from by omega)]
        refine final_at_prompt m c ⟨n + 1, hn⟩ _ r _ (fun d => (step d).trans ?_) d
        rw [show (⟨n + 1, hn⟩ : Fin cfg0.N).val % 16 + 1 = 16 from by dsimp only; omega]
      · rw [if_neg h3, if_neg (show ¬(n + 1) % 16 + 1 = 16 from by omega)]
        exact step d

/-- After point `n`: what the sample's buffer holds after the tiles seen during the first block of rows, beside its normalised rows. -/
theorem state_sample (c : Dev nD) (r : Fin 8) : ∀ (n : ℕ) (hn : n < cfg0.N),
    (∀ d : Fin 2048, (stAt m c n hn).2.1 (ix2 r d) = held m c (fun l => arg1 m c (ix2 r l)) (min (n + 1) 16) d)
    ∧ ∀ k : Fin 2048, (stAt m c n hn).2.2.2 (ix2 r k) = Rows.rms (fun l => arg1 m c (ix2 r l)) (gain m c) k := by
  intro n
  induction n with
  | zero =>
    intro hn
    have e := stAt_first m c ⟨0, hn⟩ rfl
    dsimp only at e
    rw [e]
    refine ⟨fun d => ?_, norm_sample m c ⟨0, hn⟩ r⟩
    unfold held
    rw [if_neg (by omega)]
    refine step_sample m c ⟨0, hn⟩ (fun l => arg1 m c (ix2 r l)) _ _ r (fun d => ?_) (fun k => norm_sample m c ⟨0, hn⟩ r k) d
    rw [blk1_at m c ⟨0, hn⟩ r d]
    exact partial_zero m c (fun l => arg1 m c (ix2 r l)) d
  | succ n ih =>
    intro hn
    obtain ⟨p1, p2⟩ := ih (Nat.lt_of_succ_lt hn)
    by_cases h0 : (n + 1) % 16 = 0
    · have e := stAt_start m c ⟨n + 1, hn⟩ (Nat.succ_ne_zero n) h0
      simp only [Nat.add_sub_cancel] at e
      rw [e]
      refine ⟨fun d => ?_, p2⟩
      rw [show min (n + 1 + 1) 16 = min (n + 1) 16 from by omega]
      exact p1 d
    · have e := stAt_step m c ⟨n + 1, hn⟩ h0
      simp only [Nat.add_sub_cancel] at e
      rw [e]
      refine ⟨fun d => ?_, p2⟩
      dsimp only
      by_cases h2 : n + 1 < 16
      · have q1 : ∀ d, (stAt m c n (Nat.lt_of_succ_lt hn)).2.1 (ix2 r d)
            = partialSum m c (fun l => arg1 m c (ix2 r l)) ((n + 1) % 16) d := fun d => by
          rw [p1 d]; unfold held
          rw [if_neg (by omega), show (n + 1) % 16 = min (n + 1) 16 from by omega]
        have step := step_sample m c ⟨n + 1, hn⟩ (fun l => arg1 m c (ix2 r l)) _ _ r q1 p2
        unfold held
        rw [if_pos h2]
        by_cases h3 : (n + 1) % 16 = 15
        · rw [if_pos h3, if_pos (show min (n + 1 + 1) 16 = 16 from by omega)]
          refine final_at_sample m c ⟨n + 1, hn⟩ _ r _ (fun d => (step d).trans ?_) d
          rw [show (⟨n + 1, hn⟩ : Fin cfg0.N).val % 16 + 1 = 16 from by dsimp only; omega]
        · rw [if_neg h3, if_neg (show ¬min (n + 1 + 1) 16 = 16 from by omega)]
          refine (step d).trans ?_
          rw [show (⟨n + 1, hn⟩ : Fin cfg0.N).val % 16 + 1 = min (n + 1 + 1) 16 from by dsimp only; omega]
      · rw [if_neg h2, show min (n + 1 + 1) 16 = min (n + 1) 16 from by omega]
        exact p1 d

/-- The last tile makes the layer, normalised. -/
theorem held_all (c : Dev nD) (x : Fin 2048 → EReal) (d : Fin 2048) :
    held m c x 16 d = Rows.rms (fun e => x e + ∑ f, T m c x e f) (gainF m c) d := by
  unfold held
  rw [if_pos rfl]
  refine congrArg (fun y => Rows.rms y (gainF m c) d) (funext fun e => ?_)
  unfold partialSum
  rw [Rows.sum_tiles]

/-! ## The arrays -/

/-- The prompt's result. -/
def outPrompt (c : Dev nD) : Buf (Elt Ideal) ((c.tc : Thread nD τ).loc main_v0_0) := fun i =>
  Rows.rms (fun e => arg0 m c (ix2 (i 0) e) + ∑ f, T m c (fun l => arg0 m c (ix2 (i 0) l)) e f) (gainF m c) (i 1)

/-- The sample's result. -/
def outSample (c : Dev nD) : Buf (Elt Ideal) ((c.tc : Thread nD τ).loc main_v0_1) := fun i =>
  Rows.rms (fun e => arg1 m c (ix2 (i 0) e) + ∑ f, T m c (fun l => arg1 m c (ix2 (i 0) l)) e f) (gainF m c) (i 1)

theorem flushed_prompt (c : Dev nD) (t : Fin cfg0.N) (hf : (cfg0.win 6).flush t = true) :
    (dats m 0 c).flushed 6 t = ((cfg0.win 6).blk t).view.read (Elt Ideal) (outPrompt m c) := by
  show (cfg0.win 6).cut (grid0.coords t) ((dats m 0 c).after 6 t) = _
  rw [after6]
  have hm : t.val % 16 = 15 := (flush0_6 t).mp hf
  obtain ⟨-, -, -, -, -, -, ⟨e0, e1⟩, -⟩ := index_facts t
  funext y
  obtain ⟨r, d, rfl⟩ : ∃ (r : Fin 1024) (d : Fin 2048), y = ix2 r d := ⟨y 0, y 1, eq_ix2 y⟩
  have hb : ((cfg0.win 6).blk t).view.emb (ix2 r d) = ix2 (rowOf t.val t.isLt r) d := by
    funext a; apply Fin.ext
    match a with
    | ⟨0, _⟩ => show win0_6.index t (0 : Fin 2) * 1024 + 1 * r.val = _; rw [e0]; show _ = t.val / 16 * 1024 + r.val; omega
    | ⟨1, _⟩ => show win0_6.index t (1 : Fin 2) * 2048 + 1 * d.val = d.val; omega
  refine ((state_prompt m c t.val t.isLt r).1 d).trans ?_
  rw [hm, held_all]
  exact (congrArg (outPrompt m c) hb).symm

theorem flushed_sample (c : Dev nD) (t : Fin cfg0.N) (hf : (cfg0.win 7).flush t = true) :
    (dats m 0 c).flushed 7 t = ((cfg0.win 7).blk t).view.read (Elt Ideal) (outSample m c) := by
  show (cfg0.win 7).cut (grid0.coords t) ((dats m 0 c).after 7 t) = _
  rw [after7]
  have hm : t.val % 128 = 127 := (flush0_7 t).mp hf
  obtain ⟨-, -, -, -, -, -, -, ⟨e0, e1⟩⟩ := index_facts t
  funext y
  obtain ⟨r, d, rfl⟩ : ∃ (r : Fin 8) (d : Fin 2048), y = ix2 r d := ⟨y 0, y 1, eq_ix2 y⟩
  have hb : ((cfg0.win 7).blk t).view.emb (ix2 r d) = ix2 r d := by
    funext a; apply Fin.ext
    match a with
    | ⟨0, _⟩ => show win0_7.index t (0 : Fin 2) * 8 + 1 * r.val = r.val; omega
    | ⟨1, _⟩ => show win0_7.index t (1 : Fin 2) * 2048 + 1 * d.val = d.val; omega
  refine ((state_sample m c r t.val t.isLt).1 d).trans ?_
  rw [show min (t.val + 1) 16 = 16 from by omega, held_all]
  exact (congrArg (outSample m c) hb).symm

theorem mem_prompt (t : Fin cfg0.N) (i : S8192x2048.Idx) :
    i ∈ ((cfg0.win 6).blk t).view.set ↔ ∀ a : Fin 2, win0_6.index t a * S1024x2048.size a ≤ (i a).val ∧ (i a).val < win0_6.index t a * S1024x2048.size a + S1024x2048.size a := by
  show i ∈ ((View.whole main_v0_0).slice (win0_6.rect t)).set ↔ _
  rw [View.set_slice_whole, Rect.mem_set_unit]
  exact Iff.rfl

theorem mem_sample (t : Fin cfg0.N) (i : S8x2048.Idx) :
    i ∈ ((cfg0.win 7).blk t).view.set ↔ ∀ a : Fin 2, win0_7.index t a * S8x2048.size a ≤ (i a).val ∧ (i a).val < win0_7.index t a * S8x2048.size a + S8x2048.size a := by
  show i ∈ ((View.whole main_v0_1).slice (win0_7.rect t)).set ↔ _
  rw [View.set_slice_whole, Rect.mem_set_unit]
  exact Iff.rfl

theorem final_prompt (c : Dev nD) : (dats m 0 c).arrAt 6 cfg0.N = outPrompt m c :=
  (dats m 0 c).arrAt_eq_of_cover 6 _ (fun t hf => flushed_prompt m c t hf) fun i => by
    have h0 : (i 0).val < 8192 := (i 0).isLt
    have h1 : (i 1).val < 2048 := (i 1).isLt
    have hlt : 16 * ((i 0).val / 1024) + 15 < cfg0.N := lt_of_lt_of_eq (by omega : _ < 128) (show cfg0.N = 128 from N_0).symm
    obtain ⟨-, -, -, -, -, -, ⟨e0, e1⟩, -⟩ := index_facts ⟨_, hlt⟩
    refine ⟨⟨_, hlt⟩, (flush0_6 _).mpr (by dsimp only; omega), ?_⟩
    rw [mem_prompt]
    dsimp only at e0
    intro a
    match a with
    | ⟨0, _⟩ => show win0_6.index ⟨_, hlt⟩ (0 : Fin 2) * 1024 ≤ (i 0).val ∧ (i 0).val < win0_6.index ⟨_, hlt⟩ (0 : Fin 2) * 1024 + 1024; omega
    | ⟨1, _⟩ => show win0_6.index ⟨_, hlt⟩ (1 : Fin 2) * 2048 ≤ (i 1).val ∧ (i 1).val < win0_6.index ⟨_, hlt⟩ (1 : Fin 2) * 2048 + 2048; omega

theorem final_sample (c : Dev nD) : (dats m 0 c).arrAt 7 cfg0.N = outSample m c :=
  (dats m 0 c).arrAt_eq_of_cover 7 _ (fun t hf => flushed_sample m c t hf) fun i => by
    have h0 : (i 0).val < 8 := (i 0).isLt
    have h1 : (i 1).val < 2048 := (i 1).isLt
    have hlt : 127 < cfg0.N := lt_of_lt_of_eq (by omega : _ < 128) (show cfg0.N = 128 from N_0).symm
    obtain ⟨-, -, -, -, -, -, -, ⟨e0, e1⟩⟩ := index_facts ⟨_, hlt⟩
    refine ⟨⟨_, hlt⟩, (flush0_7 _).mpr (by dsimp only), ?_⟩
    rw [mem_sample]
    intro a
    match a with
    | ⟨0, _⟩ => show win0_7.index ⟨_, hlt⟩ (0 : Fin 2) * 8 ≤ (i 0).val ∧ (i 0).val < win0_7.index ⟨_, hlt⟩ (0 : Fin 2) * 8 + 8; omega
    | ⟨1, _⟩ => show win0_7.index ⟨_, hlt⟩ (1 : Fin 2) * 2048 ≤ (i 1).val ∧ (i 1).val < win0_7.index ⟨_, hlt⟩ (1 : Fin 2) * 2048 + 2048; omega

/-- The run: both results at the layer, the arguments unchanged. -/
theorem run : θ_run defs (onTc (τ := τ) (main (F := Ideal))) ⟨m, fun _ => 0, ρ⟩ fun r => ∀ c : Dev nD,
      r.2.mem ((c.tc : Thread nD τ).loc main_v0_0) = outPrompt m c
      ∧ r.2.mem ((c.tc : Thread nD τ).loc main_v0_1) = outSample m c :=
  (θ_run defs _ _).mono (fun r h c => ⟨((h c).1 6).trans (final_prompt m c), ((h c).1 7).trans (final_sample m c)⟩) (run_main m ρ)

end Cert.MlpFinalIdeal.Hand

end
-- ==== Proof.MlpFinalClaims.lean ====
module

public import proofs.«01_k».proof.Defs
public import proofs.«01_k».proof.Proof.MlpFinalValue
public import proofs.«01_k».proof.Proof.Gen.MlpFinal
public import proofs.«01_k».proof.Proof.Gen.MlpFinalRefIdeal.Run
public import Idealize.ShloMosaic.Lib.Claim

@[expose] public section

set_option maxRecDepth 16384

noncomputable section

/-! THE LAST LAYER'S FEED-FORWARD CLAIMS: the three frames, and the kernel's two results equal to the reference's. -/

namespace Cert.MlpFinalProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.MlpFinal.defs₀ (F := F) = Cert.MlpFinalIdeal.defs₀ (F := F) := by
  funext p l a
  cases p with
  | tc =>
    match l, a with
    | 0, (t, s) => rfl
  | scScalar => rfl
  | scVector => rfl

theorem defs_same {F : FTy → Type} [FloatOps F] : Cert.MlpFinal.defs (F := F) = Cert.MlpFinalIdeal.defs (F := F) :=
  congrArg (Idealize.ShloMosaic.Pipeline.defs Cert.MlpFinal.pcfgs) body_same

theorem frame_kernel : Cert.quiescent_MlpFinal (hMlpFinal := Cert.MlpFinal.Gen.facts) := fun m ρ _ =>
  (congrArg (fun d => θ_run d (onTc (τ := Cert.MlpFinal.τ) (Cert.MlpFinal.main (F := Bits))) ⟨m, fun _ => 0, ρ⟩ _) defs_same).mpr
    (Cert.MlpFinalIdeal.Hand.frame (F := Bits) m ρ)

theorem frame_ideal : Cert.quiescent_MlpFinalIdeal (hMlpFinalIdeal := Cert.MlpFinalIdeal.Gen.facts) := fun m ρ _ => Cert.MlpFinalIdeal.Hand.frame m ρ

theorem frame_reference : Cert.quiescent_MlpFinalRefIdeal (hMlpFinalRefIdeal := Cert.MlpFinalRefIdeal.Gen.facts) := fun m ρ _ =>
  (θ_run _ _ _).mono (fun r h => ⟨fun c => (h c).2.2, Idealize.ShloMosaic.sem_eq_zero_of_no_sems (by decide) r.2⟩)
    (Cert.MlpFinalRefIdeal.Value.run (F := Ideal) m ρ)

/-- The reference's first result is the kernel's. -/
theorem prompt_eq (m : (ℓ : Loc Cert.MlpFinalIdeal.nD Cert.MlpFinalIdeal.τ Cert.MlpFinalIdeal.sig) → Buf (Elt Ideal) ℓ) (c : Dev Cert.MlpFinalIdeal.nD) :
    Cert.MlpFinalRefIdeal.Hand.prompt (Cert.MlpFinalIdeal.Hand.arg0 m c) (Cert.MlpFinalIdeal.Hand.arg2 m c) (Cert.MlpFinalIdeal.Hand.arg3 m c) (Cert.MlpFinalIdeal.Hand.arg4 m c) (Cert.MlpFinalIdeal.Hand.arg5 m c)
      = Cert.MlpFinalIdeal.Hand.outPrompt m c := by
  funext i
  obtain ⟨r, d, rfl⟩ : ∃ (r : Fin 8192) (d : Fin 2048), i = ix2 r d := ⟨i 0, i 1, eq_ix2 i⟩
  exact Cert.MlpFinalRefIdeal.Hand.prompt_at _ _ _ _ _ r d

/-- The reference's second result is the kernel's. -/
theorem sample_eq (m : (ℓ : Loc Cert.MlpFinalIdeal.nD Cert.MlpFinalIdeal.τ Cert.MlpFinalIdeal.sig) → Buf (Elt Ideal) ℓ) (c : Dev Cert.MlpFinalIdeal.nD) :
    Cert.MlpFinalRefIdeal.Hand.sample (Cert.MlpFinalIdeal.Hand.arg1 m c) (Cert.MlpFinalIdeal.Hand.arg2 m c) (Cert.MlpFinalIdeal.Hand.arg3 m c) (Cert.MlpFinalIdeal.Hand.arg4 m c) (Cert.MlpFinalIdeal.Hand.arg5 m c)
      = Cert.MlpFinalIdeal.Hand.outSample m c := by
  funext i
  obtain ⟨r, d, rfl⟩ : ∃ (r : Fin 8) (d : Fin 2048), i = ix2 r d := ⟨i 0, i 1, eq_ix2 i⟩
  exact Cert.MlpFinalRefIdeal.Hand.sample_at _ _ _ _ _ r d

theorem algebraic : Cert.algebraic_MlpFinalIdeal_MlpFinalRefIdeal (hMlpFinalIdeal := Cert.MlpFinalIdeal.Gen.facts) (hMlpFinalRefIdeal := Cert.MlpFinalRefIdeal.Gen.facts) := by
  intro m g m' g' _ hargs
  refine ⟨fun c => Cert.MlpFinalIdeal.Hand.outPrompt m c, fun c => Cert.MlpFinalIdeal.Hand.outSample m c, ?_, ?_⟩
  · refine (θ_run _ _ _).mono (fun r h c => ?_) (θ_run_and (Cert.MlpFinalIdeal.Hand.run m g) (Cert.MlpFinalIdeal.Hand.frame m g))
    obtain ⟨h1, h2, -⟩ := h
    exact ⟨(h1 c).1, (h1 c).2, h2 c⟩
  · refine (θ_run _ _ _).mono (fun r h c => ?_) (Cert.MlpFinalRefIdeal.Value.run (F := Ideal) m' g')
    obtain ⟨e0, e1, e2, e3, e4, e5⟩ := hargs c
    obtain ⟨hv, hw, h⟩ := h c
    refine ⟨hv.trans ?_, hw.trans ?_, h⟩
    · unfold Cert.MlpFinalRefIdeal.Value.res_main_v36
      rw [e0, e2, e3, e4, e5]
      exact prompt_eq m c
    · unfold Cert.MlpFinalRefIdeal.Value.res_main_v73
      rw [e1, e2, e3, e4, e5]
      exact sample_eq m c

end Cert.MlpFinalProof

end
-- ==== Proof.OutABody.lean ====
module

public import proofs.«01_k».proof.Proof.Gen.OutAIdeal.Frame
public import proofs.«01_k».proof.Proof.Gen.OutARefIdeal.Run
public import Idealize.ShloMosaic.Lib.Claim
public import Idealize.ShloMosaic.Lib.Pipeline.Value
public import Idealize.ShloMosaic.Lib.Pointwise

@[expose] public section

set_option maxRecDepth 16384

noncomputable section

/-! MIXER A'S MIXTURE AND OUTPUT PROJECTION: what the body stores at a point, as its own expressions. The first point of a block of rows prepares the
    left factor of the product in the scratch buffer; every point writes one tile, the residual's tile plus the product. -/

namespace Cert.OutAIdeal.Hand

open Cert.OutAIdeal Cert.OutAIdeal.Gen
open Idealize.ShloMosaic Idealize.ShloMosaic.TcCoe Idealize.ShloMosaic.Tactic Idealize.SL Idealize.SL.Sem
open Idealize.ShloMosaic.Pipeline (Dat)

section Stores

variable {F : FTy → Type} [FloatOps F]

theorem zero2 : ![0, 0] = (0 : Fin 2 → ℕ) := by decide
theorem zero3 : ![0, 0, 0] = (0 : Fin 3 → ℕ) := by decide

/-- The first point of a block of rows: the tile over the factor just prepared. -/
theorem outA_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x1024 .bf16) (harg11 : arg11.IsWhole) (hc0 : cond0_0 i) (o0 : Vec F S512x1024 .f32) (o1 : Vec F S512x1024 .f32) (o2 : Vec F S512x1024 .f32) (l0 : Vec F S512x1024 .f32) (l1 : Vec F S512x1024 .f32) (l2 : Vec F S512x1024 .f32) (w : Vec F S1x1024x512 .f32) (x : Vec F S512x512 .f32) :
    out0_A_8 c i arg2 harg2 arg3 harg3 arg4 harg4 arg5 harg5 arg6 harg6 arg7 harg7 arg8 harg8 arg9 harg9 arg10 harg10 arg11 harg11 hc0 o0 o1 o2 l0 l1 l2 w x = k0_pay2 x (k0_pay1 l0 l1 l2 o0 o1 o2) w := by
  unfold out0_A_8
  rw [View.read_writes_eq_canon _ _ _ (fun z => cover0_A_8 c i arg2 harg2 arg3 harg3 arg4 harg4 arg5 harg5 arg6 harg6 arg7 harg7 arg8 harg8 arg9 harg9 arg10 harg10 arg11 harg11 hc0 o0 o1 o2 l0 l1 l2 w x z)]
  unfold kernelRun0_A
  dsimp only
  sl_unfold_words
  simp only [View.canon_cons_unit_zero (S := S512x512) zero2, harg2.read_unread, harg3.read_unread, harg4.read_unread, harg5.read_unread, harg6.read_unread, harg7.read_unread, harg8.read_unread, harg9.read_unread, harg10.read_unread, harg11.read_unread, View.readAt_eq_ld, View.readCov_unit_zero (S := S512x1024) _ zero2, View.ld_unit_zero (S := S512x1024) zero2, View.ld_unit_zero (S := S512x512) zero2, View.ld_unit_zero (S := S1x1024x512) zero3]

/-- The factor prepared at the first point of a block of rows. -/
theorem scrA_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x1024 .bf16) (harg11 : arg11.IsWhole) (hc0 : cond0_0 i) (o0 : Vec F S512x1024 .f32) (o1 : Vec F S512x1024 .f32) (o2 : Vec F S512x1024 .f32) (l0 : Vec F S512x1024 .f32) (l1 : Vec F S512x1024 .f32) (l2 : Vec F S512x1024 .f32) (w : Vec F S1x1024x512 .f32) (x : Vec F S512x512 .f32) :
    sout0_A_0 c i arg2 harg2 arg3 harg3 arg4 harg4 arg5 harg5 arg6 harg6 arg7 harg7 arg8 harg8 arg9 harg9 arg10 harg10 arg11 harg11 hc0 o0 o1 o2 l0 l1 l2 w x = k0_pay1 l0 l1 l2 o0 o1 o2 := by
  unfold sout0_A_0
  rw [View.read_writes_eq_canon _ _ _ (fun z => scover0_A_0 c i arg2 harg2 arg3 harg3 arg4 harg4 arg5 harg5 arg6 harg6 arg7 harg7 arg8 harg8 arg9 harg9 arg10 harg10 arg11 harg11 hc0 o0 o1 o2 l0 l1 l2 w x z)]
  unfold kernelRun0_A
  dsimp only
  sl_unfold_words
  simp only [View.canon_cons_unit_zero (S := S512x1024) zero2, harg2.read_unread, harg3.read_unread, harg4.read_unread, harg5.read_unread, harg6.read_unread, harg7.read_unread, harg8.read_unread, harg9.read_unread, harg10.read_unread, harg11.read_unread, View.readAt_eq_ld, View.readCov_unit_zero (S := S512x1024) _ zero2, View.ld_unit_zero (S := S512x1024) zero2, View.ld_unit_zero (S := S512x512) zero2, View.ld_unit_zero (S := S1x1024x512) zero3]

/-- A later point: the tile over the factor carried. -/
theorem outB_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x1024 .bf16) (harg11 : arg11.IsWhole) (hc0 : ¬cond0_0 i) (o0 : Vec F S512x1024 .f32) (o1 : Vec F S512x1024 .f32) (o2 : Vec F S512x1024 .f32) (l0 : Vec F S512x1024 .f32) (l1 : Vec F S512x1024 .f32) (l2 : Vec F S512x1024 .f32) (w : Vec F S1x1024x512 .f32) (x : Vec F S512x512 .f32) (a : Vec F S512x1024 .bf16) :
    out0_B_8 c i arg2 harg2 arg3 harg3 arg4 harg4 arg5 harg5 arg6 harg6 arg7 harg7 arg8 harg8 arg9 harg9 arg10 harg10 arg11 harg11 hc0 o0 o1 o2 l0 l1 l2 w x a = k0_pay2 x a w := by
  unfold out0_B_8
  rw [View.read_writes_eq_canon _ _ _ (fun z => cover0_B_8 c i arg2 harg2 arg3 harg3 arg4 harg4 arg5 harg5 arg6 harg6 arg7 harg7 arg8 harg8 arg9 harg9 arg10 harg10 arg11 harg11 hc0 o0 o1 o2 l0 l1 l2 w x a z)]
  unfold kernelRun0_B
  dsimp only
  sl_unfold_words
  simp only [View.canon_cons_unit_zero (S := S512x512) zero2, harg2.read_unread, harg3.read_unread, harg4.read_unread, harg5.read_unread, harg6.read_unread, harg7.read_unread, harg8.read_unread, harg9.read_unread, harg10.read_unread, harg11.read_unread, View.readAt_eq_ld, View.readCov_unit_zero (S := S512x1024) _ zero2, View.ld_unit_zero (S := S512x1024) zero2, View.ld_unit_zero (S := S512x512) zero2, View.ld_unit_zero (S := S1x1024x512) zero3]

end Stores

end Cert.OutAIdeal.Hand

end
-- ==== Proof.OutAPure.lean ====
module

public import proofs.«01_k».proof.Proof.Gen.OutAIdeal.Skeleton
public import proofs.«01_k».proof.Proof.Gen.OutARefIdeal.Run
public import Idealize.ShloMosaic.Lib.Pointwise

@[expose] public section

set_option maxRecDepth 16384

noncomputable section

/-! MIXER A'S MIXTURE AND OUTPUT PROJECTION, READ AT AN INDEX: what the body stores over the values it loads, and the reference's result. -/

namespace Cert.OutAIdeal.Hand

open Cert.OutAIdeal Cert.OutAIdeal.Gen
open Idealize.ShloMosaic Idealize.ShloMosaic.TcCoe Idealize.SL.Sem

/-- Three outputs mixed by the softmax of their logarithms, at one entry. -/
def mix (l0 l1 l2 o0 o1 o2 : EReal) : EReal :=
  Ideal.div (Ideal.exp (l0 - max (max l0 l1) l2)) (Ideal.exp (l0 - max (max l0 l1) l2) + Ideal.exp (l1 - max (max l0 l1) l2) + Ideal.exp (l2 - max (max l0 l1) l2)) * o0
  + Ideal.div (Ideal.exp (l1 - max (max l0 l1) l2)) (Ideal.exp (l0 - max (max l0 l1) l2) + Ideal.exp (l1 - max (max l0 l1) l2) + Ideal.exp (l2 - max (max l0 l1) l2)) * o1
  + Ideal.div (Ideal.exp (l2 - max (max l0 l1) l2)) (Ideal.exp (l0 - max (max l0 l1) l2) + Ideal.exp (l1 - max (max l0 l1) l2) + Ideal.exp (l2 - max (max l0 l1) l2)) * o2

/-- The left factor prepared at the first point of a block of rows. -/
theorem pay1_at (o0 : FVec Ideal S512x1024 .f32) (o1 : FVec Ideal S512x1024 .f32) (o2 : FVec Ideal S512x1024 .f32) (l0 : FVec Ideal S512x1024 .f32) (l1 : FVec Ideal S512x1024 .f32) (l2 : FVec Ideal S512x1024 .f32) (r : Fin 512) (k : Fin 1024) :
    k0_pay1 (F := Ideal) l0 l1 l2 o0 o1 o2 (ix2 r k)
      = mix (l0 (ix2 r k)) (l1 (ix2 r k)) (l2 (ix2 r k)) (o0 (ix2 r k)) (o1 (ix2 r k)) (o2 (ix2 r k)) := by
  pointwise [k0_pay1, mix]

/-- One tile: the residual's tile plus the product. -/
theorem tile_at (x : FVec Ideal S512x512 .f32) (a : FVec Ideal S512x1024 .bf16) (w : FVec Ideal S1x1024x512 .f32) (r : Fin 512) (d : Fin 512) :
    k0_pay2 (F := Ideal) x a w (ix2 r d) = x (ix2 r d) + ∑ k : Fin 1024, a (ix2 r k) * w (ix3 0 k d) := by
  pointwise [k0_pay2]

end Cert.OutAIdeal.Hand

namespace Cert.OutARefIdeal.Hand

open Cert.OutARefIdeal Cert.OutARefIdeal.Gen
open Idealize.ShloMosaic Idealize.ShloMosaic.TcCoe Idealize.SL.Sem

/-- Three arrays, one above the other. -/
def stack (a b c : FVec Ideal S8192x1024 .f32) : FVec Ideal S3x8192x1024 .f32 :=
  concatenate S3x8192x1024 0 [⟨S1x8192x1024, broadcastInDim S1x8192x1024 ![1, 2] bcast_S8192x1024_S1x8192x1024_1_2 a⟩, ⟨S1x8192x1024, broadcastInDim S1x8192x1024 ![1, 2] bcast_S8192x1024_S1x8192x1024_1_2 b⟩, ⟨S1x8192x1024, broadcastInDim S1x8192x1024 ![1, 2] bcast_S8192x1024_S1x8192x1024_1_2 c⟩] concatenates_S1x8192x1024_S1x8192x1024_S1x8192x1024_S3x8192x1024_d0

/-- The greatest of the three, entry by entry. -/
def top (s : FVec Ideal S3x8192x1024 .f32) : FVec Ideal S8192x1024 .f32 :=
  maximumf (broadcastInDim S8192x1024 ![] bcast_S_S8192x1024 (constant S_ .f32 0xFF800000#32)) (Host.reduce FloatOps.maximumf s (constant S_ .f32 0xFF800000#32) reducesTo_S3x8192x1024_S8192x1024_d0 h_S_)

/-- The exponentials of what is left of the three. -/
def expo (s : FVec Ideal S3x8192x1024 .f32) (t : FVec Ideal S8192x1024 .f32) : FVec Ideal S3x8192x1024 .f32 :=
  Host.exp (subf s (broadcastInDim S3x8192x1024 ![0, 1, 2] bcast_S1x8192x1024_S3x8192x1024_0_1_2 (broadcastInDim S1x8192x1024 ![1, 2] bcast_S8192x1024_S1x8192x1024_1_2 (t))))

/-- The sum of the three. -/
def total (e : FVec Ideal S3x8192x1024 .f32) : FVec Ideal S8192x1024 .f32 :=
  Host.reduceAdd e (constant S_ .f32 0x00000000#32) reducesTo_S3x8192x1024_S8192x1024_d0 h_S_

/-- The three weights times the three outputs, added up. -/
def mixed (e : FVec Ideal S3x8192x1024 .f32) (n : FVec Ideal S8192x1024 .f32) (u : FVec Ideal S3x8192x1024 .f32) : FVec Ideal S8192x1024 .f32 :=
  Host.reduceAdd (mulf (Host.divf e (broadcastInDim S3x8192x1024 ![0, 1, 2] bcast_S1x8192x1024_S3x8192x1024_0_1_2 (broadcastInDim S1x8192x1024 ![1, 2] bcast_S8192x1024_S1x8192x1024_1_2 (n)))) u) (constant S_ .f32 0x00000000#32) reducesTo_S3x8192x1024_S8192x1024_d0 h_S_

/-- The product with the layer's weights, added to the residual. -/
def project (a : FVec Ideal S8192x1024 .f32) (w : FVec Ideal S2x1024x2048 .f32) (x : FVec Ideal S8192x2048 .f32) : FVec Ideal S8192x2048 .f32 :=
  addf x (Host.dotGeneral dot_S8192x1024_S1024x2048_S8192x2048_1_0_0_1_n_n none a (shapeCast _ (extractStridedSlice S1x1024x2048 ![0, 0, 0] w slices_S2x1024x2048_S1x1024x2048_0_0_0) shapeCasts_S1x1024x2048_S1024x2048))

/-- The reference's result, as its run states it. -/
def result (o0 : FVec Ideal S8192x1024 .f32) (o1 : FVec Ideal S8192x1024 .f32) (o2 : FVec Ideal S8192x1024 .f32) (l0 : FVec Ideal S8192x1024 .f32) (l1 : FVec Ideal S8192x1024 .f32) (l2 : FVec Ideal S8192x1024 .f32) (w : FVec Ideal S2x1024x2048 .f32) (x : FVec Ideal S8192x2048 .f32) : FVec Ideal S8192x2048 .f32 :=
  project (mixed (expo (stack l0 l1 l2) (top (stack l0 l1 l2))) (total (expo (stack l0 l1 l2) (top (stack l0 l1 l2)))) (stack o0 o1 o2)) w x

theorem stack_0 (a b c : FVec Ideal S8192x1024 .f32) (r : Fin 8192) (k : Fin 1024) : stack a b c (ix3 0 r k) = a (ix2 r k) := by
  pointwise [stack]
theorem stack_1 (a b c : FVec Ideal S8192x1024 .f32) (r : Fin 8192) (k : Fin 1024) : stack a b c (ix3 1 r k) = b (ix2 r k) := by
  pointwise [stack]
theorem stack_2 (a b c : FVec Ideal S8192x1024 .f32) (r : Fin 8192) (k : Fin 1024) : stack a b c (ix3 2 r k) = c (ix2 r k) := by
  pointwise [stack]

theorem bot_bits : Ideal.ofBits FTy.f32 4286578688#32 = (⊥ : EReal) := by
  simp [Ideal.ofBits, Ideal.ieee]

/-- A greatest value over the leading axis, at sizes of any size. -/
theorem reduce_max {n1 n2 : ℕ} (v : FVec Ideal ⟨3, ![3, n1, n2]⟩ .f32) (c : FVec Ideal S_ .f32) (h : (⟨3, ![3, n1, n2]⟩ : Shape).ReducesTo [0] ⟨2, ![n1, n2]⟩)
    (hu : 0 < S_.numel) (r : Fin n1) (k : Fin n2) :
    Host.reduce FloatOps.maximumf v c h hu (ix2 r k) = max (max (max (v (ix3 0 r k)) (v (ix3 1 r k))) (v (ix3 2 r k))) (c (Shape.Idx.first hu)) := by
  have e : Host.reduce FloatOps.maximumf v c h hu (ix2 r k)
      = Finset.univ.fold max (c (Shape.Idx.first hu)) fun j : Fin 3 => v (ix3 j r k) := by
    simp only [pointwise]
  rw [e]
  simp [Fin.univ_succ, max_assoc]

theorem max_gen {s : Shape} (a b : FVec Ideal s .f32) (i : s.Idx) : maximumf a b i = max (a i) (b i) := rfl
theorem const_gen {s : Shape} (b : BitVec 32) (i : s.Idx) : constant (F := Ideal) s .f32 b i = Ideal.ofBits FTy.f32 b := rfl
theorem fill_gen {s t : Shape} (d : Fin s.rank → Fin t.rank) (h) (b : BitVec 32) (i : t.Idx) :
    broadcastInDim t d h (constant (F := Ideal) s .f32 b) i = Ideal.ofBits FTy.f32 b := rfl

theorem top_at (s : FVec Ideal S3x8192x1024 .f32) (r : Fin 8192) (k : Fin 1024) :
    top s (ix2 r k) = max (max (s (ix3 0 r k)) (s (ix3 1 r k))) (s (ix3 2 r k)) := by
  unfold top
  rw [max_gen, fill_gen, reduce_max, const_gen, bot_bits]
  simp

theorem expo_at (s : FVec Ideal S3x8192x1024 .f32) (t : FVec Ideal S8192x1024 .f32) (j : Fin 3) (r : Fin 8192) (k : Fin 1024) :
    expo s t (ix3 j r k) = Ideal.exp (s (ix3 j r k) - t (ix2 r k)) := by
  pointwise [expo]

theorem total_at (e : FVec Ideal S3x8192x1024 .f32) (r : Fin 8192) (k : Fin 1024) :
    total e (ix2 r k) = e (ix3 0 r k) + e (ix3 1 r k) + e (ix3 2 r k) := by
  pointwise [total]
  exact Fin.sum_univ_three _

theorem mixed_at (e : FVec Ideal S3x8192x1024 .f32) (n : FVec Ideal S8192x1024 .f32) (u : FVec Ideal S3x8192x1024 .f32) (r : Fin 8192) (k : Fin 1024) :
    mixed e n u (ix2 r k) = Ideal.div (e (ix3 0 r k)) (n (ix2 r k)) * u (ix3 0 r k) + Ideal.div (e (ix3 1 r k)) (n (ix2 r k)) * u (ix3 1 r k)
      + Ideal.div (e (ix3 2 r k)) (n (ix2 r k)) * u (ix3 2 r k) := by
  pointwise [mixed]
  exact Fin.sum_univ_three _

theorem project_at (a : FVec Ideal S8192x1024 .f32) (w : FVec Ideal S2x1024x2048 .f32) (x : FVec Ideal S8192x2048 .f32) (r : Fin 8192) (d : Fin 2048) :
    project a w x (ix2 r d) = x (ix2 r d) + ∑ k : Fin 1024, a (ix2 r k) * w (ix3 0 k d) := by
  pointwise [project]

theorem result_at (o0 : FVec Ideal S8192x1024 .f32) (o1 : FVec Ideal S8192x1024 .f32) (o2 : FVec Ideal S8192x1024 .f32) (l0 : FVec Ideal S8192x1024 .f32) (l1 : FVec Ideal S8192x1024 .f32) (l2 : FVec Ideal S8192x1024 .f32) (w : FVec Ideal S2x1024x2048 .f32) (x : FVec Ideal S8192x2048 .f32) (r : Fin 8192) (d : Fin 2048) :
    result o0 o1 o2 l0 l1 l2 w x (ix2 r d) = x (ix2 r d) + ∑ k : Fin 1024, OutAIdeal.Hand.mix (l0 (ix2 r k)) (l1 (ix2 r k)) (l2 (ix2 r k)) (o0 (ix2 r k)) (o1 (ix2 r k)) (o2 (ix2 r k)) * w (ix3 0 k d) := by
  unfold result
  rw [project_at]
  refine congrArg (x (ix2 r d) + ·) (Finset.sum_congr rfl fun k _ => congrArg (· * w (ix3 0 k d)) ?_)
  rw [mixed_at, total_at, expo_at, expo_at, expo_at, top_at, stack_0, stack_1, stack_2, stack_0, stack_1, stack_2]
  rfl

end Cert.OutARefIdeal.Hand

end
-- ==== Proof.OutAValue.lean ====
module

public import proofs.«01_k».proof.Proof.OutABody
public import proofs.«01_k».proof.Proof.OutAPure

@[expose] public section

set_option maxRecDepth 16384

noncomputable section

/-! THE VALUE OF MIXER A'S MIXTURE AND OUTPUT PROJECTION: the factor of a block of rows is prepared once and carried over its
    four tiles of columns; every tile is the residual's plus the product; so the array ends at the projection. -/

namespace Cert.OutAIdeal.Hand

open Cert.OutAIdeal Cert.OutAIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## The arguments, and the windows' blocks of them -/

abbrev arg0 (c : Dev nD) : FVec Ideal S8192x1024 .f32 := m ((c.tc : Thread nD τ).loc main_arg0)
abbrev arg1 (c : Dev nD) : FVec Ideal S8192x1024 .f32 := m ((c.tc : Thread nD τ).loc main_arg1)
abbrev arg2 (c : Dev nD) : FVec Ideal S8192x1024 .f32 := m ((c.tc : Thread nD τ).loc main_arg2)
abbrev arg3 (c : Dev nD) : FVec Ideal S8192x1024 .f32 := m ((c.tc : Thread nD τ).loc main_arg3)
abbrev arg4 (c : Dev nD) : FVec Ideal S8192x1024 .f32 := m ((c.tc : Thread nD τ).loc main_arg4)
abbrev arg5 (c : Dev nD) : FVec Ideal S8192x1024 .f32 := m ((c.tc : Thread nD τ).loc main_arg5)
abbrev arg6 (c : Dev nD) : FVec Ideal S2x1024x2048 .f32 := m ((c.tc : Thread nD τ).loc main_arg6)
abbrev arg7 (c : Dev nD) : FVec Ideal S8192x2048 .f32 := m ((c.tc : Thread nD τ).loc main_arg7)

theorem index_facts : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 2) = t.val / 4 ∧ win0_4.index t (1 : Fin 2) = 0)
    ∧ (win0_5.index t (0 : Fin 2) = t.val / 4 ∧ win0_5.index t (1 : Fin 2) = 0)
    ∧ (win0_6.index t (0 : Fin 3) = 0 ∧ win0_6.index t (1 : Fin 3) = 0 ∧ win0_6.index t (2 : Fin 3) = t.val % 4)
    ∧ (win0_7.index t (0 : Fin 2) = t.val / 4 ∧ win0_7.index t (1 : Fin 2) = t.val % 4)
    ∧ (win0_8.index t (0 : Fin 2) = t.val / 4 ∧ win0_8.index t (1 : Fin 2) = t.val % 4) :=
  (by decide +kernel : ∀ t : Fin grid0.N, _)

theorem blk0_at (c : Dev nD) (t : Fin cfg0.N) (r : Fin 512) (k : Fin 1024) (R : Fin 8192) (hR : R.val = t.val / 4 * 512 + r.val) :
    (iblk m c 0 t : FVec Ideal S512x1024 .f32) (ix2 r k) = arg0 m c (ix2 R k) := by
  obtain ⟨⟨e0, e1⟩, -⟩ := index_facts t
  refine congrArg (m ((c.tc : Thread nD τ).loc main_arg0)) ?_
  funext a; apply Fin.ext
  match a with
  | ⟨0, _⟩ => show win0_0.index t (0 : Fin 2) * 512 + 1 * r.val = R.val; omega
  | ⟨1, _⟩ => show win0_0.index t (1 : Fin 2) * 1024 + 1 * k.val = k.val; omega

theorem blk1_at (c : Dev nD) (t : Fin cfg0.N) (r : Fin 512) (k : Fin 1024) (R : Fin 8192) (hR : R.val = t.val / 4 * 512 + r.val) :
    (iblk m c 1 t : FVec Ideal S512x1024 .f32) (ix2 r k) = arg1 m c (ix2 R k) := by
  obtain ⟨-, ⟨e0, e1⟩, -⟩ := index_facts t
  refine congrArg (m ((c.tc : Thread nD τ).loc main_arg1)) ?_
  funext a; apply Fin.ext
  match a with
  | ⟨0, _⟩ => show win0_1.index t (0 : Fin 2) * 512 + 1 * r.val = R.val; omega
  | ⟨1, _⟩ => show win0_1.index t (1 : Fin 2) * 1024 + 1 * k.val = k.val; omega

theorem blk2_at (c : Dev nD) (t : Fin cfg0.N) (r : Fin 512) (k : Fin 1024) (R : Fin 8192) (hR : R.val = t.val / 4 * 512 + r.val) :
    (iblk m c 2 t : FVec Ideal S512x1024 .f32) (ix2 r k) = arg2 m c (ix2 R k) := by
  obtain ⟨-, -, ⟨e0, e1⟩, -⟩ := index_facts t
  refine congrArg (m ((c.tc : Thread nD τ).loc main_arg2)) ?_
  funext a; apply Fin.ext
  match a with
  | ⟨0, _⟩ => show win0_2.index t (0 : Fin 2) * 512 + 1 * r.val = R.val; omega
  | ⟨1, _⟩ => show win0_2.index t (1 : Fin 2) * 1024 + 1 * k.val = k.val; omega

theorem blk3_at (c : Dev nD) (t : Fin cfg0.N) (r : Fin 512) (k : Fin 1024) (R : Fin 8192) (hR : R.val = t.val / 4 * 512 + r.val) :
    (iblk m c 3 t : FVec Ideal S512x1024 .f32) (ix2 r k) = arg3 m c (ix2 R k) := by
  obtain ⟨-, -, -, ⟨e0, e1⟩, -⟩ := index_facts t
  refine congrArg (m ((c.tc : Thread nD τ).loc main_arg3)) ?_
  funext a; apply Fin.ext
  match a with
  | ⟨0, _⟩ => show win0_3.index t (0 : Fin 2) * 512 + 1 * r.val = R.val; omega
  | ⟨1, _⟩ => show win0_3.index t (1 : Fin 2) * 1024 + 1 * k.val = k.val; omega

theorem blk4_at (c : Dev nD) (t : Fin cfg0.N) (r : Fin 512) (k : Fin 1024) (R : Fin 8192) (hR : R.val = t.val / 4 * 512 + r.val) :
    (iblk m c 4 t : FVec Ideal S512x1024 .f32) (ix2 r k) = arg4 m c (ix2 R k) := by
  obtain ⟨-, -, -, -, ⟨e0, e1⟩, -⟩ := index_facts t
  refine congrArg (m ((c.tc : Thread nD τ).loc main_arg4)) ?_
  funext a; apply Fin.ext
  match a with
  | ⟨0, _⟩ => show win0_4.index t (0 : Fin 2) * 512 + 1 * r.val = R.val; omega
  | ⟨1, _⟩ => show win0_4.index t (1 : Fin 2) * 1024 + 1 * k.val = k.val; omega

theorem blk5_at (c : Dev nD) (t : Fin cfg0.N) (r : Fin 512) (k : Fin 1024) (R : Fin 8192) (hR : R.val = t.val / 4 * 512 + r.val) :
    (iblk m c 5 t : FVec Ideal S512x1024 .f32) (ix2 r k) = arg5 m c (ix2 R k) := by
  obtain ⟨-, -, -, -, -, ⟨e0, e1⟩, -⟩ := index_facts t
  refine congrArg (m ((c.tc : Thread nD τ).loc main_arg5)) ?_
  funext a; apply Fin.ext
  match a with
  | ⟨0, _⟩ => show win0_5.index t (0 : Fin 2) * 512 + 1 * r.val = R.val; omega
  | ⟨1, _⟩ => show win0_5.index t (1 : Fin 2) * 1024 + 1 * k.val = k.val; omega

theorem blk6_at (c : Dev nD) (t : Fin cfg0.N) (k : Fin 1024) (d : Fin 512) (D : Fin 2048) (hD : D.val = t.val % 4 * 512 + d.val) :
    (iblk m c 6 t : FVec Ideal S1x1024x512 .f32) (ix3 0 k d) = arg6 m c (ix3 0 k D) := by
  obtain ⟨-, -, -, -, -, -, ⟨e0, e1, e2⟩, -⟩ := index_facts t
  refine congrArg (m ((c.tc : Thread nD τ).loc main_arg6)) ?_
  funext a; apply Fin.ext
  match a with
  | ⟨0, _⟩ => show win0_6.index t (0 : Fin 3) * 1 + 1 * 0 = 0; omega
  | ⟨1, _⟩ => show win0_6.index t (1 : Fin 3) * 1024 + 1 * k.val = k.val; omega
  | ⟨2, _⟩ => show win0_6.index t (2 : Fin 3) * 512 + 1 * d.val = D.val; omega

theorem blk7_at (c : Dev nD) (t : Fin cfg0.N) (r : Fin 512) (d : Fin 512) (R : Fin 8192) (hR : R.val = t.val / 4 * 512 + r.val)
    (D : Fin 2048) (hD : D.val = t.val % 4 * 512 + d.val) :
    (iblk m c 7 t : FVec Ideal S512x512 .f32) (ix2 r d) = arg7 m c (ix2 R D) := by
  obtain ⟨-, -, -, -, -, -, -, ⟨e0, e1⟩, -⟩ := index_facts t
  refine congrArg (m ((c.tc : Thread nD τ).loc main_arg7)) ?_
  funext a; apply Fin.ext
  match a with
  | ⟨0, _⟩ => show win0_7.index t (0 : Fin 2) * 512 + 1 * r.val = R.val; omega
  | ⟨1, _⟩ => show win0_7.index t (1 : Fin 2) * 512 + 1 * d.val = D.val; omega

/-! ## The left factor -/

/-- The row of the array that row `r` of the block at point `n` is. -/
abbrev rowOf (n : ℕ) (hn : n < cfg0.N) (r : Fin 512) : Fin 8192 :=
  ⟨n / 4 * 512 + r.val, by have : n < 64 := lt_of_lt_of_eq hn (show cfg0.N = 64 from N_0); have := r.isLt; omega⟩

/-- The left factor of the product, of the whole array. -/
def left (c : Dev nD) (R : Fin 8192) (k : Fin 1024) : EReal :=
  mix (arg3 m c (ix2 R k)) (arg4 m c (ix2 R k)) (arg5 m c (ix2 R k)) (arg0 m c (ix2 R k)) (arg1 m c (ix2 R k)) (arg2 m c (ix2 R k))

/-- What the first point of a block of rows prepares. -/
theorem prepared (c : Dev nD) (t : Fin cfg0.N) (h0 : t.val % 4 = 0) (r : Fin 512) (k : Fin 1024) :
    (outsAt0 m c t.val t.isLt).2 (ix2 r k) = left m c (rowOf t.val t.isLt r) k := by
  rw [outsAt0_A m c t h0]
  dsimp only
  rw [scrA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)]
  refine (pay1_at (iblk m c 0 t) (iblk m c 1 t) (iblk m c 2 t) (iblk m c 3 t) (iblk m c 4 t) (iblk m c 5 t) r k).trans ?_
  unfold left
  rw [blk3_at m c t r k (rowOf t.val t.isLt r) rfl, blk4_at m c t r k (rowOf t.val t.isLt r) rfl, blk5_at m c t r k (rowOf t.val t.isLt r) rfl, blk0_at m c t r k (rowOf t.val t.isLt r) rfl, blk1_at m c t r k (rowOf t.val t.isLt r) rfl, blk2_at m c t r k (rowOf t.val t.isLt r) rfl]

/-- A later point carries it. -/
theorem kept (c : Dev nD) (t : Fin cfg0.N) (h0 : ¬t.val % 4 = 0) :
    (outsAt0 m c t.val t.isLt).2 = (outsAt0 m c (t.val - 1) (Nat.lt_of_le_of_lt (Nat.sub_le _ _) t.isLt)).2 := by
  refine (congrArg Prod.snd (outsAt0_B m c t h0)).trans ?_
  rfl

theorem state (c : Dev nD) (r : Fin 512) (k : Fin 1024) : ∀ (n : ℕ) (hn : n < cfg0.N),
    (outsAt0 m c n hn).2 (ix2 r k) = left m c (rowOf n hn r) k := by
  intro n
  induction n with
  | zero => intro hn; exact prepared m c ⟨0, hn⟩ rfl r k
  | succ n ih =>
    intro hn
    by_cases h0 : (n + 1) % 4 = 0
    · exact prepared m c ⟨n + 1, hn⟩ h0 r k
    · refine (congrFun (kept m c ⟨n + 1, hn⟩ h0) _).trans ((ih (Nat.lt_of_succ_lt hn)).trans ?_)
      have hrow : rowOf n (Nat.lt_of_succ_lt hn) r = rowOf (n + 1) hn r := Fin.ext (by dsimp only; omega)
      rw [hrow]

/-- Every point's tile is the product over the factor it holds. -/
theorem stored (c : Dev nD) (t : Fin cfg0.N) :
    (outsAt0 m c t.val t.isLt).1 = k0_pay2 (F := Ideal) (iblk m c 7 t) (outsAt0 m c t.val t.isLt).2 (iblk m c 6 t) := by
  by_cases h0 : t.val % 4 = 0
  · rw [outsAt0_A m c t h0]
    dsimp only
    rw [scrA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)]
    exact outA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)
  · rw [kept m c t h0]
    have e := congrArg Prod.fst (outsAt0_B m c t h0)
    dsimp only at e
    rw [e]
    exact outB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2

/-! ## The array -/

/-- The result. -/
def out (c : Dev nD) : Buf (Elt Ideal) ((c.tc : Thread nD τ).loc main_v0) := fun i =>
  arg7 m c (ix2 (i 0) (i 1)) + ∑ k : Fin 1024, left m c (i 0) k * arg6 m c (ix3 0 k (i 1))

theorem flushed (c : Dev nD) (t : Fin cfg0.N) :
    (dats m 0 c).flushed 8 t = ((cfg0.win 8).blk t).view.read (Elt Ideal) (out m c) := by
  show (cfg0.win 8).cut (grid0.coords t) ((dats m 0 c).after 8 t) = _
  rw [after0_8]
  obtain ⟨-, -, -, -, -, -, -, -, ⟨e0, e1⟩⟩ := index_facts t
  funext y
  obtain ⟨r, d, rfl⟩ : ∃ (r : Fin 512) (d : Fin 512), y = ix2 r d := ⟨y 0, y 1, eq_ix2 y⟩
  have hD : t.val % 4 * 512 + d.val < 2048 := by have := d.isLt; omega
  have hb : ((cfg0.win 8).blk t).view.emb (ix2 r d) = ix2 (rowOf t.val t.isLt r) (⟨_, hD⟩ : Fin 2048) := by
    funext a; apply Fin.ext
    match a with
    | ⟨0, _⟩ => show win0_8.index t (0 : Fin 2) * 512 + 1 * r.val = _; rw [e0]; show _ = t.val / 4 * 512 + r.val; omega
    | ⟨1, _⟩ => show win0_8.index t (1 : Fin 2) * 512 + 1 * d.val = _; rw [e1]; show _ = t.val % 4 * 512 + d.val; omega
  refine (congrFun (stored m c t) (ix2 r d)).trans ((tile_at _ _ _ r d).trans ?_)
  rw [blk7_at m c t r d (rowOf t.val t.isLt r) rfl ⟨_, hD⟩ rfl]
  refine (congrArg (arg7 m c (ix2 (rowOf t.val t.isLt r) ⟨_, hD⟩) + ·) (Finset.sum_congr rfl fun k _ => ?_)).trans (congrArg (out m c) hb).symm
  rw [state m c r k t.val t.isLt, blk6_at m c t k d ⟨_, hD⟩ rfl]
  rfl

theorem mem_out (t : Fin cfg0.N) (i : S8192x2048.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v0).slice (win0_8.rect t)).set ↔ _
  rw [View.set_slice_whole, Rect.mem_set_unit]
  exact Iff.rfl

theorem final (c : Dev nD) : (dats m 0 c).arrAt 8 cfg0.N = out m c :=
  (dats m 0 c).arrAt_eq_of_cover 8 _ (fun t _ => flushed m c t) fun i => by
    have h0 : (i 0).val < 8192 := (i 0).isLt
    have h1 : (i 1).val < 2048 := (i 1).isLt
    have hlt : 4 * ((i 0).val / 512) + (i 1).val / 512 < cfg0.N := lt_of_lt_of_eq (by omega : _ < 64) (show cfg0.N = 64 from N_0).symm
    obtain ⟨-, -, -, -, -, -, -, -, ⟨e0, e1⟩⟩ := index_facts ⟨_, hlt⟩
    refine ⟨⟨_, hlt⟩, flush0_8 _, ?_⟩
    rw [mem_out]
    dsimp only at e0 e1
    intro a
    match a with
    | ⟨0, _⟩ => show win0_8.index ⟨_, hlt⟩ (0 : Fin 2) * 512 ≤ (i 0).val ∧ (i 0).val < win0_8.index ⟨_, hlt⟩ (0 : Fin 2) * 512 + 512; omega
    | ⟨1, _⟩ => show win0_8.index ⟨_, hlt⟩ (1 : Fin 2) * 512 ≤ (i 1).val ∧ (i 1).val < win0_8.index ⟨_, hlt⟩ (1 : Fin 2) * 512 + 512; omega

/-- The run: the result at the projection. -/
theorem run : θ_run defs (onTc (τ := τ) (main (F := Ideal))) ⟨m, fun _ => 0, ρ⟩ fun r => ∀ c : Dev nD,
      r.2.mem ((c.tc : Thread nD τ).loc main_v0) = out m c :=
  (θ_run defs _ _).mono (fun r h c => ((h c).1 8).trans (final m c)) (run_main m ρ)

end Cert.OutAIdeal.Hand

end
-- ==== Proof.OutAClaims.lean ====
module

public import proofs.«01_k».proof.Defs
public import proofs.«01_k».proof.Proof.OutAValue
public import proofs.«01_k».proof.Proof.Gen.OutA
public import proofs.«01_k».proof.Proof.Gen.OutARefIdeal.Run
public import Idealize.ShloMosaic.Lib.Claim

@[expose] public section

set_option maxRecDepth 16384

noncomputable section

/-! THE CLAIMS OF MIXER A'S MIXTURE AND OUTPUT PROJECTION: the three frames, and the kernel's result equal to the reference's. -/

namespace Cert.OutAProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.OutA.defs₀ (F := F) = Cert.OutAIdeal.defs₀ (F := F) := by
  funext p l a
  cases p with
  | tc =>
    match l, a with
    | 0, (t, s) => rfl
  | scScalar => rfl
  | scVector => rfl

theorem defs_same {F : FTy → Type} [FloatOps F] : Cert.OutA.defs (F := F) = Cert.OutAIdeal.defs (F := F) :=
  congrArg (Idealize.ShloMosaic.Pipeline.defs Cert.OutA.pcfgs) body_same

theorem frame_kernel : Cert.quiescent_OutA (hOutA := Cert.OutA.Gen.facts) := fun m ρ _ =>
  (congrArg (fun d => θ_run d (onTc (τ := Cert.OutA.τ) (Cert.OutA.main (F := Bits))) ⟨m, fun _ => 0, ρ⟩ _) defs_same).mpr
    (Cert.OutAIdeal.Gen.frame (F := Bits) m ρ)

theorem frame_ideal : Cert.quiescent_OutAIdeal (hOutAIdeal := Cert.OutAIdeal.Gen.facts) := fun m ρ _ => Cert.OutAIdeal.Gen.frame m ρ

theorem frame_reference : Cert.quiescent_OutARefIdeal (hOutARefIdeal := Cert.OutARefIdeal.Gen.facts) := fun m ρ _ =>
  (θ_run _ _ _).mono (fun r h => ⟨fun c => (h c).2, Idealize.ShloMosaic.sem_eq_zero_of_no_sems (by decide) r.2⟩)
    (Cert.OutARefIdeal.Value.run (F := Ideal) m ρ)

/-- The reference's result is the kernel's. -/
theorem result_eq (m : (ℓ : Loc Cert.OutAIdeal.nD Cert.OutAIdeal.τ Cert.OutAIdeal.sig) → Buf (Elt Ideal) ℓ) (c : Dev Cert.OutAIdeal.nD) :
    Cert.OutARefIdeal.Hand.result (Cert.OutAIdeal.Hand.arg0 m c) (Cert.OutAIdeal.Hand.arg1 m c) (Cert.OutAIdeal.Hand.arg2 m c) (Cert.OutAIdeal.Hand.arg3 m c) (Cert.OutAIdeal.Hand.arg4 m c) (Cert.OutAIdeal.Hand.arg5 m c) (Cert.OutAIdeal.Hand.arg6 m c) (Cert.OutAIdeal.Hand.arg7 m c)
      = Cert.OutAIdeal.Hand.out m c := by
  funext i
  obtain ⟨r, d, rfl⟩ : ∃ (r : Fin 8192) (d : Fin 2048), i = ix2 r d := ⟨i 0, i 1, eq_ix2 i⟩
  exact Cert.OutARefIdeal.Hand.result_at _ _ _ _ _ _ _ _ r d

theorem algebraic : Cert.algebraic_OutAIdeal_OutARefIdeal (hOutAIdeal := Cert.OutAIdeal.Gen.facts) (hOutARefIdeal := Cert.OutARefIdeal.Gen.facts) := by
  intro m g m' g' _ hargs
  refine ⟨fun c => Cert.OutAIdeal.Hand.out m c, ?_, ?_⟩
  · refine (θ_run _ _ _).mono (fun r h c => ?_) (θ_run_and (Cert.OutAIdeal.Hand.run m g) (Cert.OutAIdeal.Gen.frame m g))
    obtain ⟨h1, h2, -⟩ := h
    exact ⟨h1 c, h2 c⟩
  · refine (θ_run _ _ _).mono (fun r h c => ?_) (Cert.OutARefIdeal.Value.run (F := Ideal) m' g')
    obtain ⟨e0, e1, e2, e3, e4, e5, e6, e7⟩ := hargs c
    obtain ⟨hv, h⟩ := h c
    refine ⟨hv.trans ?_, h⟩
    unfold Cert.OutARefIdeal.Value.res_main_v24
    rw [e0, e1, e2, e3, e4, e5, e6, e7]
    exact result_eq m c

end Cert.OutAProof

end
-- ==== Proof.OutBBody.lean ====
module

public import proofs.«01_k».proof.Proof.Gen.OutBIdeal.Frame
public import proofs.«01_k».proof.Proof.Gen.OutBRefIdeal.Run
public import Idealize.ShloMosaic.Lib.Claim
public import Idealize.ShloMosaic.Lib.Pipeline.Value
public import Idealize.ShloMosaic.Lib.Pointwise

@[expose] public section

set_option maxRecDepth 16384

noncomputable section

/-! MIXER B'S OUTPUT PROJECTION: what the body stores at a point, as its own expressions. The first point of a block of rows prepares the
    left factor of the product in the scratch buffer; every point writes one tile, the residual's tile plus the product. -/

namespace Cert.OutBIdeal.Hand

open Cert.OutBIdeal Cert.OutBIdeal.Gen
open Idealize.ShloMosaic Idealize.ShloMosaic.TcCoe Idealize.ShloMosaic.Tactic Idealize.SL Idealize.SL.Sem
open Idealize.ShloMosaic.Pipeline (Dat)

section Stores

variable {F : FTy → Type} [FloatOps F]

theorem zero2 : ![0, 0] = (0 : Fin 2 → ℕ) := by decide
theorem zero3 : ![0, 0, 0] = (0 : Fin 3 → ℕ) := by decide

/-- The first point of a block of rows: the tile over the factor just prepared. -/
theorem outA_eq (c : Dev nD) (i : grid0.Coords) (arg2 : Memref sig .tc .vmem S512x2048 .f32) (harg2 : arg2.IsWhole) (arg3 : Memref sig .tc .vmem S1x2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .bf16) (harg6 : arg6.IsWhole) (hc0 : cond0_0 i) (o : Vec F S512x2048 .f32) (w : Vec F S1x2048x512 .f32) (x : Vec F S512x512 .f32) :
    out0_A_3 c i arg2 harg2 arg3 harg3 arg4 harg4 arg5 harg5 arg6 harg6 hc0 o w x = k0_pay2 x (k0_pay1 o) w := by
  unfold out0_A_3
  rw [View.read_writes_eq_canon _ _ _ (fun z => cover0_A_3 c i arg2 harg2 arg3 harg3 arg4 harg4 arg5 harg5 arg6 harg6 hc0 o w x z)]
  unfold kernelRun0_A
  dsimp only
  sl_unfold_words
  simp only [View.canon_cons_unit_zero (S := S512x512) zero2, harg2.read_unread, harg3.read_unread, harg4.read_unread, harg5.read_unread, harg6.read_unread, View.readAt_eq_ld, View.readCov_unit_zero (S := S512x2048) _ zero2, View.ld_unit_zero (S := S512x2048) zero2, View.ld_unit_zero (S := S512x512) zero2, View.ld_unit_zero (S := S1x2048x512) zero3]

/-- The factor prepared at the first point of a block of rows. -/
theorem scrA_eq (c : Dev nD) (i : grid0.Coords) (arg2 : Memref sig .tc .vmem S512x2048 .f32) (harg2 : arg2.IsWhole) (arg3 : Memref sig .tc .vmem S1x2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .bf16) (harg6 : arg6.IsWhole) (hc0 : cond0_0 i) (o : Vec F S512x2048 .f32) (w : Vec F S1x2048x512 .f32) (x : Vec F S512x512 .f32) :
    sout0_A_0 c i arg2 harg2 arg3 harg3 arg4 harg4 arg5 harg5 arg6 harg6 hc0 o w x = k0_pay1 o := by
  unfold sout0_A_0
  rw [View.read_writes_eq_canon _ _ _ (fun z => scover0_A_0 c i arg2 harg2 arg3 harg3 arg4 harg4 arg5 harg5 arg6 harg6 hc0 o w x z)]
  unfold kernelRun0_A
  dsimp only
  sl_unfold_words
  simp only [View.canon_cons_unit_zero (S := S512x2048) zero2, harg2.read_unread, harg3.read_unread, harg4.read_unread, harg5.read_unread, harg6.read_unread, View.readAt_eq_ld, View.readCov_unit_zero (S := S512x2048) _ zero2, View.ld_unit_zero (S := S512x2048) zero2, View.ld_unit_zero (S := S512x512) zero2, View.ld_unit_zero (S := S1x2048x512) zero3]

/-- A later point: the tile over the factor carried. -/
theorem outB_eq (c : Dev nD) (i : grid0.Coords) (arg2 : Memref sig .tc .vmem S512x2048 .f32) (harg2 : arg2.IsWhole) (arg3 : Memref sig .tc .vmem S1x2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .bf16) (harg6 : arg6.IsWhole) (hc0 : ¬cond0_0 i) (o : Vec F S512x2048 .f32) (w : Vec F S1x2048x512 .f32) (x : Vec F S512x512 .f32) (a : Vec F S512x2048 .bf16) :
    out0_B_3 c i arg2 harg2 arg3 harg3 arg4 harg4 arg5 harg5 arg6 harg6 hc0 o w x a = k0_pay2 x a w := by
  unfold out0_B_3
  rw [View.read_writes_eq_canon _ _ _ (fun z => cover0_B_3 c i arg2 harg2 arg3 harg3 arg4 harg4 arg5 harg5 arg6 harg6 hc0 o w x a z)]
  unfold kernelRun0_B
  dsimp only
  sl_unfold_words
  simp only [View.canon_cons_unit_zero (S := S512x512) zero2, harg2.read_unread, harg3.read_unread, harg4.read_unread, harg5.read_unread, harg6.read_unread, View.readAt_eq_ld, View.readCov_unit_zero (S := S512x2048) _ zero2, View.ld_unit_zero (S := S512x2048) zero2, View.ld_unit_zero (S := S512x512) zero2, View.ld_unit_zero (S := S1x2048x512) zero3]

end Stores

end Cert.OutBIdeal.Hand

end
-- ==== Proof.OutBPure.lean ====
module

public import proofs.«01_k».proof.Proof.Gen.OutBIdeal.Skeleton
public import proofs.«01_k».proof.Proof.Gen.OutBRefIdeal.Run
public import Idealize.ShloMosaic.Lib.Pointwise

@[expose] public section

set_option maxRecDepth 16384

noncomputable section

/-! MIXER B'S OUTPUT PROJECTION, READ AT AN INDEX: what the body stores over the values it loads, and the reference's result. -/

namespace Cert.OutBIdeal.Hand

open Cert.OutBIdeal Cert.OutBIdeal.Gen
open Idealize.ShloMosaic Idealize.ShloMosaic.TcCoe Idealize.SL.Sem

/-- The left factor prepared at the first point of a block of rows. -/
theorem pay1_at (o : FVec Ideal S512x2048 .f32) (r : Fin 512) (k : Fin 2048) : k0_pay1 (F := Ideal) o (ix2 r k) = o (ix2 r k) := by
  pointwise [k0_pay1]

/-- One tile: the residual's tile plus the product. -/
theorem tile_at (x : FVec Ideal S512x512 .f32) (a : FVec Ideal S512x2048 .bf16) (w : FVec Ideal S1x2048x512 .f32) (r : Fin 512) (d : Fin 512) :
    k0_pay2 (F := Ideal) x a w (ix2 r d) = x (ix2 r d) + ∑ k : Fin 2048, a (ix2 r k) * w (ix3 0 k d) := by
  pointwise [k0_pay2]

end Cert.OutBIdeal.Hand

namespace Cert.OutBRefIdeal.Hand

open Cert.OutBRefIdeal Cert.OutBRefIdeal.Gen
open Idealize.ShloMosaic Idealize.ShloMosaic.TcCoe Idealize.SL.Sem

/-- The reference's result, as its run states it. -/
def result (o : FVec Ideal S8192x2048 .f32) (w : FVec Ideal S1x2048x2048 .f32) (x : FVec Ideal S8192x2048 .f32) : FVec Ideal S8192x2048 .f32 :=
  addf x (Host.dotGeneral dot_S8192x2048_S2048x2048_S8192x2048_1_0_0_1_n_n none o (shapeCast _ w shapeCasts_S1x2048x2048_S2048x2048))

theorem result_at (o : FVec Ideal S8192x2048 .f32) (w : FVec Ideal S1x2048x2048 .f32) (x : FVec Ideal S8192x2048 .f32) (r : Fin 8192) (d : Fin 2048) :
    result o w x (ix2 r d) = x (ix2 r d) + ∑ k : Fin 2048, o (ix2 r k) * w (ix3 0 k d) := by
  pointwise [result]

end Cert.OutBRefIdeal.Hand

end
-- ==== Proof.OutBValue.lean ====
module

public import proofs.«01_k».proof.Proof.OutBBody
public import proofs.«01_k».proof.Proof.OutBPure

@[expose] public section

set_option maxRecDepth 16384

noncomputable section

/-! THE VALUE OF MIXER B'S OUTPUT PROJECTION: the factor of a block of rows is prepared once and carried over its
    four tiles of columns; every tile is the residual's plus the product; so the array ends at the projection. -/

namespace Cert.OutBIdeal.Hand

open Cert.OutBIdeal Cert.OutBIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## The arguments, and the windows' blocks of them -/

abbrev arg0 (c : Dev nD) : FVec Ideal S8192x2048 .f32 := m ((c.tc : Thread nD τ).loc main_arg0)
abbrev arg1 (c : Dev nD) : FVec Ideal S1x2048x2048 .f32 := m ((c.tc : Thread nD τ).loc main_arg1)
abbrev arg2 (c : Dev nD) : FVec Ideal S8192x2048 .f32 := m ((c.tc : Thread nD τ).loc main_arg2)

theorem index_facts : ∀ t : Fin cfg0.N,
    (win0_0.index t (0 : Fin 2) = t.val / 4 ∧ win0_0.index t (1 : Fin 2) = 0)
    ∧ (win0_1.index t (0 : Fin 3) = 0 ∧ win0_1.index t (1 : Fin 3) = 0 ∧ win0_1.index t (2 : Fin 3) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem blk0_at (c : Dev nD) (t : Fin cfg0.N) (r : Fin 512) (k : Fin 2048) (R : Fin 8192) (hR : R.val = t.val / 4 * 512 + r.val) :
    (iblk m c 0 t : FVec Ideal S512x2048 .f32) (ix2 r k) = arg0 m c (ix2 R k) := by
  obtain ⟨⟨e0, e1⟩, -⟩ := index_facts t
  refine congrArg (m ((c.tc : Thread nD τ).loc main_arg0)) ?_
  funext a; apply Fin.ext
  match a with
  | ⟨0, _⟩ => show win0_0.index t (0 : Fin 2) * 512 + 1 * r.val = R.val; omega
  | ⟨1, _⟩ => show win0_0.index t (1 : Fin 2) * 2048 + 1 * k.val = k.val; omega

theorem blk1_at (c : Dev nD) (t : Fin cfg0.N) (k : Fin 2048) (d : Fin 512) (D : Fin 2048) (hD : D.val = t.val % 4 * 512 + d.val) :
    (iblk m c 1 t : FVec Ideal S1x2048x512 .f32) (ix3 0 k d) = arg1 m c (ix3 0 k D) := by
  obtain ⟨-, ⟨e0, e1, e2⟩, -⟩ := index_facts t
  refine congrArg (m ((c.tc : Thread nD τ).loc main_arg1)) ?_
  funext a; apply Fin.ext
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 512 + 1 * d.val = D.val; omega

theorem blk2_at (c : Dev nD) (t : Fin cfg0.N) (r : Fin 512) (d : Fin 512) (R : Fin 8192) (hR : R.val = t.val / 4 * 512 + r.val)
    (D : Fin 2048) (hD : D.val = t.val % 4 * 512 + d.val) :
    (iblk m c 2 t : FVec Ideal S512x512 .f32) (ix2 r d) = arg2 m c (ix2 R D) := by
  obtain ⟨-, -, ⟨e0, e1⟩, -⟩ := index_facts t
  refine congrArg (m ((c.tc : Thread nD τ).loc main_arg2)) ?_
  funext a; apply Fin.ext
  match a with
  | ⟨0, _⟩ => show win0_2.index t (0 : Fin 2) * 512 + 1 * r.val = R.val; omega
  | ⟨1, _⟩ => show win0_2.index t (1 : Fin 2) * 512 + 1 * d.val = D.val; omega

/-! ## The left factor -/

/-- The row of the array that row `r` of the block at point `n` is. -/
abbrev rowOf (n : ℕ) (hn : n < cfg0.N) (r : Fin 512) : Fin 8192 :=
  ⟨n / 4 * 512 + r.val, by have : n < 64 := lt_of_lt_of_eq hn (show cfg0.N = 64 from N_0); have := r.isLt; omega⟩

/-- The left factor of the product, of the whole array. -/
def left (c : Dev nD) (R : Fin 8192) (k : Fin 2048) : EReal :=
  arg0 m c (ix2 R k)

/-- What the first point of a block of rows prepares. -/
theorem prepared (c : Dev nD) (t : Fin cfg0.N) (h0 : t.val % 4 = 0) (r : Fin 512) (k : Fin 2048) :
    (outsAt0 m c t.val t.isLt).2 (ix2 r k) = left m c (rowOf t.val t.isLt r) k := by
  rw [outsAt0_A m c t h0]
  dsimp only
  rw [scrA_eq c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
  refine (pay1_at (iblk m c 0 t) r k).trans ?_
  unfold left
  rw [blk0_at m c t r k (rowOf t.val t.isLt r) rfl]

/-- A later point carries it. -/
theorem kept (c : Dev nD) (t : Fin cfg0.N) (h0 : ¬t.val % 4 = 0) :
    (outsAt0 m c t.val t.isLt).2 = (outsAt0 m c (t.val - 1) (Nat.lt_of_le_of_lt (Nat.sub_le _ _) t.isLt)).2 := by
  refine (congrArg Prod.snd (outsAt0_B m c t h0)).trans ?_
  rfl

theorem state (c : Dev nD) (r : Fin 512) (k : Fin 2048) : ∀ (n : ℕ) (hn : n < cfg0.N),
    (outsAt0 m c n hn).2 (ix2 r k) = left m c (rowOf n hn r) k := by
  intro n
  induction n with
  | zero => intro hn; exact prepared m c ⟨0, hn⟩ rfl r k
  | succ n ih =>
    intro hn
    by_cases h0 : (n + 1) % 4 = 0
    · exact prepared m c ⟨n + 1, hn⟩ h0 r k
    · refine (congrFun (kept m c ⟨n + 1, hn⟩ h0) _).trans ((ih (Nat.lt_of_succ_lt hn)).trans ?_)
      have hrow : rowOf n (Nat.lt_of_succ_lt hn) r = rowOf (n + 1) hn r := Fin.ext (by dsimp only; omega)
      rw [hrow]

/-- Every point's tile is the product over the factor it holds. -/
theorem stored (c : Dev nD) (t : Fin cfg0.N) :
    (outsAt0 m c t.val t.isLt).1 = k0_pay2 (F := Ideal) (iblk m c 2 t) (outsAt0 m c t.val t.isLt).2 (iblk m c 1 t) := by
  by_cases h0 : t.val % 4 = 0
  · rw [outsAt0_A m c t h0]
    dsimp only
    rw [scrA_eq c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
    exact outA_eq c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [kept m c t h0]
    have e := congrArg Prod.fst (outsAt0_B m c t h0)
    dsimp only at e
    rw [e]
    exact outB_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2

/-! ## The array -/

/-- The result. -/
def out (c : Dev nD) : Buf (Elt Ideal) ((c.tc : Thread nD τ).loc main_v0) := fun i =>
  arg2 m c (ix2 (i 0) (i 1)) + ∑ k : Fin 2048, left m c (i 0) k * arg1 m c (ix3 0 k (i 1))

theorem flushed (c : Dev nD) (t : Fin cfg0.N) :
    (dats m 0 c).flushed 3 t = ((cfg0.win 3).blk t).view.read (Elt Ideal) (out m c) := by
  show (cfg0.win 3).cut (grid0.coords t) ((dats m 0 c).after 3 t) = _
  rw [after0_3]
  obtain ⟨-, -, -, ⟨e0, e1⟩⟩ := index_facts t
  funext y
  obtain ⟨r, d, rfl⟩ : ∃ (r : Fin 512) (d : Fin 512), y = ix2 r d := ⟨y 0, y 1, eq_ix2 y⟩
  have hD : t.val % 4 * 512 + d.val < 2048 := by have := d.isLt; omega
  have hb : ((cfg0.win 3).blk t).view.emb (ix2 r d) = ix2 (rowOf t.val t.isLt r) (⟨_, hD⟩ : Fin 2048) := by
    funext a; apply Fin.ext
    match a with
    | ⟨0, _⟩ => show win0_3.index t (0 : Fin 2) * 512 + 1 * r.val = _; rw [e0]; show _ = t.val / 4 * 512 + r.val; omega
    | ⟨1, _⟩ => show win0_3.index t (1 : Fin 2) * 512 + 1 * d.val = _; rw [e1]; show _ = t.val % 4 * 512 + d.val; omega
  refine (congrFun (stored m c t) (ix2 r d)).trans ((tile_at _ _ _ r d).trans ?_)
  rw [blk2_at m c t r d (rowOf t.val t.isLt r) rfl ⟨_, hD⟩ rfl]
  refine (congrArg (arg2 m c (ix2 (rowOf t.val t.isLt r) ⟨_, hD⟩) + ·) (Finset.sum_congr rfl fun k _ => ?_)).trans (congrArg (out m c) hb).symm
  rw [state m c r k t.val t.isLt, blk1_at m c t k d ⟨_, hD⟩ rfl]
  rfl

theorem mem_out (t : Fin cfg0.N) (i : S8192x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

theorem final (c : Dev nD) : (dats m 0 c).arrAt 3 cfg0.N = out m c :=
  (dats m 0 c).arrAt_eq_of_cover 3 _ (fun t _ => flushed m c t) fun i => by
    have h0 : (i 0).val < 8192 := (i 0).isLt
    have h1 : (i 1).val < 2048 := (i 1).isLt
    have hlt : 4 * ((i 0).val / 512) + (i 1).val / 512 < cfg0.N := lt_of_lt_of_eq (by omega : _ < 64) (show cfg0.N = 64 from N_0).symm
    obtain ⟨-, -, -, ⟨e0, e1⟩⟩ := index_facts ⟨_, hlt⟩
    refine ⟨⟨_, hlt⟩, flush0_3 _, ?_⟩
    rw [mem_out]
    dsimp only at e0 e1
    intro a
    match a with
    | ⟨0, _⟩ => show win0_3.index ⟨_, hlt⟩ (0 : Fin 2) * 512 ≤ (i 0).val ∧ (i 0).val < win0_3.index ⟨_, hlt⟩ (0 : Fin 2) * 512 + 512; omega
    | ⟨1, _⟩ => show win0_3.index ⟨_, hlt⟩ (1 : Fin 2) * 512 ≤ (i 1).val ∧ (i 1).val < win0_3.index ⟨_, hlt⟩ (1 : Fin 2) * 512 + 512; omega

/-- The run: the result at the projection. -/
theorem run : θ_run defs (onTc (τ := τ) (main (F := Ideal))) ⟨m, fun _ => 0, ρ⟩ fun r => ∀ c : Dev nD,
      r.2.mem ((c.tc : Thread nD τ).loc main_v0) = out m c :=
  (θ_run defs _ _).mono (fun r h c => ((h c).1 3).trans (final m c)) (run_main m ρ)

end Cert.OutBIdeal.Hand

end
-- ==== Proof.OutBClaims.lean ====
module

public import proofs.«01_k».proof.Defs
public import proofs.«01_k».proof.Proof.OutBValue
public import proofs.«01_k».proof.Proof.Gen.OutB
public import proofs.«01_k».proof.Proof.Gen.OutBRefIdeal.Run
public import Idealize.ShloMosaic.Lib.Claim

@[expose] public section

set_option maxRecDepth 16384

noncomputable section

/-! THE CLAIMS OF MIXER B'S OUTPUT PROJECTION: the three frames, and the kernel's result equal to the reference's. -/

namespace Cert.OutBProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.OutB.defs₀ (F := F) = Cert.OutBIdeal.defs₀ (F := F) := by
  funext p l a
  cases p with
  | tc =>
    match l, a with
    | 0, (t, s) => rfl
  | scScalar => rfl
  | scVector => rfl

theorem defs_same {F : FTy → Type} [FloatOps F] : Cert.OutB.defs (F := F) = Cert.OutBIdeal.defs (F := F) :=
  congrArg (Idealize.ShloMosaic.Pipeline.defs Cert.OutB.pcfgs) body_same

theorem frame_kernel : Cert.quiescent_OutB (hOutB := Cert.OutB.Gen.facts) := fun m ρ _ =>
  (congrArg (fun d => θ_run d (onTc (τ := Cert.OutB.τ) (Cert.OutB.main (F := Bits))) ⟨m, fun _ => 0, ρ⟩ _) defs_same).mpr
    (Cert.OutBIdeal.Gen.frame (F := Bits) m ρ)

theorem frame_ideal : Cert.quiescent_OutBIdeal (hOutBIdeal := Cert.OutBIdeal.Gen.facts) := fun m ρ _ => Cert.OutBIdeal.Gen.frame m ρ

theorem frame_reference : Cert.quiescent_OutBRefIdeal (hOutBRefIdeal := Cert.OutBRefIdeal.Gen.facts) := fun m ρ _ =>
  (θ_run _ _ _).mono (fun r h => ⟨fun c => (h c).2, Idealize.ShloMosaic.sem_eq_zero_of_no_sems (by decide) r.2⟩)
    (Cert.OutBRefIdeal.Value.run (F := Ideal) m ρ)

/-- The reference's result is the kernel's. -/
theorem result_eq (m : (ℓ : Loc Cert.OutBIdeal.nD Cert.OutBIdeal.τ Cert.OutBIdeal.sig) → Buf (Elt Ideal) ℓ) (c : Dev Cert.OutBIdeal.nD) :
    Cert.OutBRefIdeal.Hand.result (Cert.OutBIdeal.Hand.arg0 m c) (Cert.OutBIdeal.Hand.arg1 m c) (Cert.OutBIdeal.Hand.arg2 m c)
      = Cert.OutBIdeal.Hand.out m c := by
  funext i
  obtain ⟨r, d, rfl⟩ : ∃ (r : Fin 8192) (d : Fin 2048), i = ix2 r d := ⟨i 0, i 1, eq_ix2 i⟩
  exact Cert.OutBRefIdeal.Hand.result_at _ _ _ r d

theorem algebraic : Cert.algebraic_OutBIdeal_OutBRefIdeal (hOutBIdeal := Cert.OutBIdeal.Gen.facts) (hOutBRefIdeal := Cert.OutBRefIdeal.Gen.facts) := by
  intro m g m' g' _ hargs
  refine ⟨fun c => Cert.OutBIdeal.Hand.out m c, ?_, ?_⟩
  · refine (θ_run _ _ _).mono (fun r h c => ?_) (θ_run_and (Cert.OutBIdeal.Hand.run m g) (Cert.OutBIdeal.Gen.frame m g))
    obtain ⟨h1, h2, -⟩ := h
    exact ⟨h1 c, h2 c⟩
  · refine (θ_run _ _ _).mono (fun r h c => ?_) (Cert.OutBRefIdeal.Value.run (F := Ideal) m' g')
    obtain ⟨e0, e1, e2⟩ := hargs c
    obtain ⟨hv, h⟩ := h c
    refine ⟨hv.trans ?_, h⟩
    rw [e0, e1, e2]
    exact result_eq m c

end Cert.OutBProof

end
-- ==== Proof.OutCBody.lean ====
module

public import proofs.«01_k».proof.Proof.Gen.OutCIdeal.Frame
public import proofs.«01_k».proof.Proof.Gen.OutCRefIdeal.Run
public import Idealize.ShloMosaic.Lib.Claim
public import Idealize.ShloMosaic.Lib.Pipeline.Value
public import Idealize.ShloMosaic.Lib.Pointwise

@[expose] public section

set_option maxRecDepth 16384

noncomputable section

/-! MIXER C'S GATES AND OUTPUT PROJECTION: what the body stores at a point, as its own expressions. The first point of a block of rows prepares the
    left factor of the product in the scratch buffer; every point writes one tile, the residual's tile plus the product. -/

namespace Cert.OutCIdeal.Hand

open Cert.OutCIdeal Cert.OutCIdeal.Gen
open Idealize.ShloMosaic Idealize.ShloMosaic.TcCoe Idealize.ShloMosaic.Tactic Idealize.SL Idealize.SL.Sem
open Idealize.ShloMosaic.Pipeline (Dat)

section Stores

variable {F : FTy → Type} [FloatOps F]

theorem zero2 : ![0, 0] = (0 : Fin 2 → ℕ) := by decide
theorem zero3 : ![0, 0, 0] = (0 : Fin 3 → ℕ) := by decide

/-- Head 0 of the left factor, from the blocks. -/
def head0 (oc : Vec F S512x2048 .f32) (os : Vec F S512x2048 .f32) (ow : Vec F S512x2048 .f32) (gt : Vec F S512x128 .f32) : FVec F S512x128 .f32 :=
  k0_pay5 (View.ld gt (Rect.unit ![0, 0] ![512, 128] inb_S512x128_S512x128_0_0)) (View.ld oc (Rect.unit ![0, 0] ![512, 128] inb_S512x2048_S512x128_0_0)) (View.ld os (Rect.unit ![0, 0] ![512, 128] inb_S512x2048_S512x128_0_0)) (View.ld ow (Rect.unit ![0, 0] ![512, 128] inb_S512x2048_S512x128_0_0))

/-- Head 1 of the left factor, from the blocks. -/
def head1 (oc : Vec F S512x2048 .f32) (os : Vec F S512x2048 .f32) (ow : Vec F S512x2048 .f32) (gt : Vec F S512x128 .f32) : FVec F S512x128 .f32 :=
  k0_pay6 (View.ld gt (Rect.unit ![0, 0] ![512, 128] inb_S512x128_S512x128_0_0)) (View.ld oc (Rect.unit ![0, 128] ![512, 128] inb_S512x2048_S512x128_0_128)) (View.ld os (Rect.unit ![0, 128] ![512, 128] inb_S512x2048_S512x128_0_128)) (View.ld ow (Rect.unit ![0, 128] ![512, 128] inb_S512x2048_S512x128_0_128))

/-- Head 2 of the left factor, from the blocks. -/
def head2 (oc : Vec F S512x2048 .f32) (os : Vec F S512x2048 .f32) (ow : Vec F S512x2048 .f32) (gt : Vec F S512x128 .f32) : FVec F S512x128 .f32 :=
  k0_pay9 (k0_pay4 (View.ld gt (Rect.unit ![0, 0] ![512, 128] inb_S512x128_S512x128_0_0))) (k0_pay7 (View.ld gt (Rect.unit ![0, 0] ![512, 128] inb_S512x128_S512x128_0_0)) (View.ld oc (Rect.unit ![0, 256] ![512, 128] inb_S512x2048_S512x128_0_256))) (k0_pay8 (View.ld gt (Rect.unit ![0, 0] ![512, 128] inb_S512x128_S512x128_0_0))) (View.ld os (Rect.unit ![0, 256] ![512, 128] inb_S512x2048_S512x128_0_256)) (View.ld ow (Rect.unit ![0, 256] ![512, 128] inb_S512x2048_S512x128_0_256))

/-- Head 3 of the left factor, from the blocks. -/
def head3 (oc : Vec F S512x2048 .f32) (os : Vec F S512x2048 .f32) (ow : Vec F S512x2048 .f32) (gt : Vec F S512x128 .f32) : FVec F S512x128 .f32 :=
  k0_pay10 (k0_pay4 (View.ld gt (Rect.unit ![0, 0] ![512, 128] inb_S512x128_S512x128_0_0))) (View.ld oc (Rect.unit ![0, 384] ![512, 128] inb_S512x2048_S512x128_0_384)) (View.ld os (Rect.unit ![0, 384] ![512, 128] inb_S512x2048_S512x128_0_384)) (View.ld ow (Rect.unit ![0, 384] ![512, 128] inb_S512x2048_S512x128_0_384))

/-- Head 4 of the left factor, from the blocks. -/
def head4 (oc : Vec F S512x2048 .f32) (os : Vec F S512x2048 .f32) (ow : Vec F S512x2048 .f32) (gt : Vec F S512x128 .f32) : FVec F S512x128 .f32 :=
  k0_pay11 (k0_pay4 (View.ld gt (Rect.unit ![0, 0] ![512, 128] inb_S512x128_S512x128_0_0))) (View.ld oc (Rect.unit ![0, 512] ![512, 128] inb_S512x2048_S512x128_0_512)) (View.ld os (Rect.unit ![0, 512] ![512, 128] inb_S512x2048_S512x128_0_512)) (View.ld ow (Rect.unit ![0, 512] ![512, 128] inb_S512x2048_S512x128_0_512))

/-- Head 5 of the left factor, from the blocks. -/
def head5 (oc : Vec F S512x2048 .f32) (os : Vec F S512x2048 .f32) (ow : Vec F S512x2048 .f32) (gt : Vec F S512x128 .f32) : FVec F S512x128 .f32 :=
  k0_pay12 (k0_pay4 (View.ld gt (Rect.unit ![0, 0] ![512, 128] inb_S512x128_S512x128_0_0))) (FloatOps.ofBits FTy.f32 0#32) (View.ld oc (Rect.unit ![0, 640] ![512, 128] inb_S512x2048_S512x128_0_640)) (View.ld os (Rect.unit ![0, 640] ![512, 128] inb_S512x2048_S512x128_0_640)) (View.ld ow (Rect.unit ![0, 640] ![512, 128] inb_S512x2048_S512x128_0_640))

/-- Head 6 of the left factor, from the blocks. -/
def head6 (oc : Vec F S512x2048 .f32) (os : Vec F S512x2048 .f32) (ow : Vec F S512x2048 .f32) (gt : Vec F S512x128 .f32) : FVec F S512x128 .f32 :=
  k0_pay13 (k0_pay4 (View.ld gt (Rect.unit ![0, 0] ![512, 128] inb_S512x128_S512x128_0_0))) (View.ld oc (Rect.unit ![0, 768] ![512, 128] inb_S512x2048_S512x128_0_768)) (View.ld os (Rect.unit ![0, 768] ![512, 128] inb_S512x2048_S512x128_0_768)) (View.ld ow (Rect.unit ![0, 768] ![512, 128] inb_S512x2048_S512x128_0_768))

/-- Head 7 of the left factor, from the blocks. -/
def head7 (oc : Vec F S512x2048 .f32) (os : Vec F S512x2048 .f32) (ow : Vec F S512x2048 .f32) (gt : Vec F S512x128 .f32) : FVec F S512x128 .f32 :=
  k0_pay16 (k0_pay4 (View.ld gt (Rect.unit ![0, 0] ![512, 128] inb_S512x128_S512x128_0_0))) (k0_pay14 (k0_pay4 (View.ld gt (Rect.unit ![0, 0] ![512, 128] inb_S512x128_S512x128_0_0))) (View.ld oc (Rect.unit ![0, 896] ![512, 128] inb_S512x2048_S512x128_0_896))) (k0_pay15 (k0_pay4 (View.ld gt (Rect.unit ![0, 0] ![512, 128] inb_S512x128_S512x128_0_0))) (View.ld os (Rect.unit ![0, 896] ![512, 128] inb_S512x2048_S512x128_0_896))) (View.ld ow (Rect.unit ![0, 896] ![512, 128] inb_S512x2048_S512x128_0_896))

/-- Head 8 of the left factor, from the blocks. -/
def head8 (oc : Vec F S512x2048 .f32) (os : Vec F S512x2048 .f32) (ow : Vec F S512x2048 .f32) (gt : Vec F S512x128 .f32) : FVec F S512x128 .f32 :=
  k0_pay17 (k0_pay4 (View.ld gt (Rect.unit ![0, 0] ![512, 128] inb_S512x128_S512x128_0_0))) (View.ld oc (Rect.unit ![0, 1024] ![512, 128] inb_S512x2048_S512x128_0_1024)) (View.ld os (Rect.unit ![0, 1024] ![512, 128] inb_S512x2048_S512x128_0_1024)) (View.ld ow (Rect.unit ![0, 1024] ![512, 128] inb_S512x2048_S512x128_0_1024))

/-- Head 9 of the left factor, from the blocks. -/
def head9 (oc : Vec F S512x2048 .f32) (os : Vec F S512x2048 .f32) (ow : Vec F S512x2048 .f32) (gt : Vec F S512x128 .f32) : FVec F S512x128 .f32 :=
  k0_pay18 (k0_pay4 (View.ld gt (Rect.unit ![0, 0] ![512, 128] inb_S512x128_S512x128_0_0))) (View.ld oc (Rect.unit ![0, 1152] ![512, 128] inb_S512x2048_S512x128_0_1152)) (View.ld os (Rect.unit ![0, 1152] ![512, 128] inb_S512x2048_S512x128_0_1152)) (View.ld ow (Rect.unit ![0, 1152] ![512, 128] inb_S512x2048_S512x128_0_1152))

/-- Head 10 of the left factor, from the blocks. -/
def head10 (oc : Vec F S512x2048 .f32) (os : Vec F S512x2048 .f32) (ow : Vec F S512x2048 .f32) (gt : Vec F S512x128 .f32) : FVec F S512x128 .f32 :=
  k0_pay21 (k0_pay4 (View.ld gt (Rect.unit ![0, 0] ![512, 128] inb_S512x128_S512x128_0_0))) k0_pay19 (k0_pay20 (k0_pay4 (View.ld gt (Rect.unit ![0, 0] ![512, 128] inb_S512x128_S512x128_0_0)))) (View.ld oc (Rect.unit ![0, 1280] ![512, 128] inb_S512x2048_S512x128_0_1280)) (View.ld os (Rect.unit ![0, 1280] ![512, 128] inb_S512x2048_S512x128_0_1280)) (View.ld ow (Rect.unit ![0, 1280] ![512, 128] inb_S512x2048_S512x128_0_1280))

/-- Head 11 of the left factor, from the blocks. -/
def head11 (oc : Vec F S512x2048 .f32) (os : Vec F S512x2048 .f32) (ow : Vec F S512x2048 .f32) (gt : Vec F S512x128 .f32) : FVec F S512x128 .f32 :=
  k0_pay22 (k0_pay4 (View.ld gt (Rect.unit ![0, 0] ![512, 128] inb_S512x128_S512x128_0_0))) (View.ld oc (Rect.unit ![0, 1408] ![512, 128] inb_S512x2048_S512x128_0_1408)) (View.ld os (Rect.unit ![0, 1408] ![512, 128] inb_S512x2048_S512x128_0_1408)) (View.ld ow (Rect.unit ![0, 1408] ![512, 128] inb_S512x2048_S512x128_0_1408))

/-- Head 12 of the left factor, from the blocks. -/
def head12 (oc : Vec F S512x2048 .f32) (os : Vec F S512x2048 .f32) (ow : Vec F S512x2048 .f32) (gt : Vec F S512x128 .f32) : FVec F S512x128 .f32 :=
  k0_pay25 (k0_pay23 (k0_pay4 (View.ld gt (Rect.unit ![0, 0] ![512, 128] inb_S512x128_S512x128_0_0))) (View.ld oc (Rect.unit ![0, 1536] ![512, 128] inb_S512x2048_S512x128_0_1536)) (View.ld os (Rect.unit ![0, 1536] ![512, 128] inb_S512x2048_S512x128_0_1536))) (k0_pay24 (k0_pay4 (View.ld gt (Rect.unit ![0, 0] ![512, 128] inb_S512x128_S512x128_0_0)))) (View.ld ow (Rect.unit ![0, 1536] ![512, 128] inb_S512x2048_S512x128_0_1536))

/-- Head 13 of the left factor, from the blocks. -/
def head13 (oc : Vec F S512x2048 .f32) (os : Vec F S512x2048 .f32) (ow : Vec F S512x2048 .f32) (gt : Vec F S512x128 .f32) : FVec F S512x128 .f32 :=
  k0_pay26 (k0_pay4 (View.ld gt (Rect.unit ![0, 0] ![512, 128] inb_S512x128_S512x128_0_0))) (View.ld oc (Rect.unit ![0, 1664] ![512, 128] inb_S512x2048_S512x128_0_1664)) (View.ld os (Rect.unit ![0, 1664] ![512, 128] inb_S512x2048_S512x128_0_1664)) (View.ld ow (Rect.unit ![0, 1664] ![512, 128] inb_S512x2048_S512x128_0_1664))

/-- Head 14 of the left factor, from the blocks. -/
def head14 (oc : Vec F S512x2048 .f32) (os : Vec F S512x2048 .f32) (ow : Vec F S512x2048 .f32) (gt : Vec F S512x128 .f32) : FVec F S512x128 .f32 :=
  k0_pay27 (k0_pay4 (View.ld gt (Rect.unit ![0, 0] ![512, 128] inb_S512x128_S512x128_0_0))) (View.ld oc (Rect.unit ![0, 1792] ![512, 128] inb_S512x2048_S512x128_0_1792)) (View.ld os (Rect.unit ![0, 1792] ![512, 128] inb_S512x2048_S512x128_0_1792)) (View.ld ow (Rect.unit ![0, 1792] ![512, 128] inb_S512x2048_S512x128_0_1792))

/-- Head 15 of the left factor, from the blocks. -/
def head15 (oc : Vec F S512x2048 .f32) (os : Vec F S512x2048 .f32) (ow : Vec F S512x2048 .f32) (gt : Vec F S512x128 .f32) : FVec F S512x128 .f32 :=
  k0_pay1 (k0_pay4 (View.ld gt (Rect.unit ![0, 0] ![512, 128] inb_S512x128_S512x128_0_0))) (k0_pay28 (k0_pay4 (View.ld gt (Rect.unit ![0, 0] ![512, 128] inb_S512x128_S512x128_0_0))) (View.ld oc (Rect.unit ![0, 1920] ![512, 128] inb_S512x2048_S512x128_0_1920))) (k0_pay29 (k0_pay4 (View.ld gt (Rect.unit ![0, 0] ![512, 128] inb_S512x128_S512x128_0_0)))) (View.ld os (Rect.unit ![0, 1920] ![512, 128] inb_S512x2048_S512x128_0_1920)) (View.ld ow (Rect.unit ![0, 1920] ![512, 128] inb_S512x2048_S512x128_0_1920))

/-- The left factor: the heads side by side. -/
def factor (oc : Vec F S512x2048 .f32) (os : Vec F S512x2048 .f32) (ow : Vec F S512x2048 .f32) (gt : Vec F S512x128 .f32) : FVec F S512x2048 .bf16 :=
  k0_pay2 (head0 oc os ow gt) (head1 oc os ow gt) (head2 oc os ow gt) (head3 oc os ow gt) (head4 oc os ow gt) (head5 oc os ow gt) (head6 oc os ow gt) (head7 oc os ow gt) (head8 oc os ow gt) (head9 oc os ow gt) (head10 oc os ow gt) (head11 oc os ow gt) (head12 oc os ow gt) (head13 oc os ow gt) (head14 oc os ow gt) (head15 oc os ow gt)

/-- The factor prepared at the first point of a block of rows. -/
theorem scrA_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x128 .f32) (harg5 : arg5.IsWhole) (arg6 : Memref sig .tc .vmem S1x2048x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (hc0 : cond0_0 i) (oc : Vec F S512x2048 .f32) (os : Vec F S512x2048 .f32) (ow : Vec F S512x2048 .f32) (gt : Vec F S512x128 .f32) (w : Vec F S1x2048x512 .f32) (x : Vec F S512x512 .f32) :
    sout0_A_0 c i arg2 harg2 arg3 harg3 arg4 harg4 arg5 harg5 arg6 harg6 arg7 harg7 arg8 harg8 arg9 harg9 hc0 oc os ow gt w x = factor oc os ow gt := by
  unfold sout0_A_0
  rw [View.read_writes_eq_canon _ _ _ (fun z => scover0_A_0 c i arg2 harg2 arg3 harg3 arg4 harg4 arg5 harg5 arg6 harg6 arg7 harg7 arg8 harg8 arg9 harg9 hc0 oc os ow gt w x z)]
  unfold kernelRun0_A
  dsimp only
  sl_unfold_words
  simp only [View.canon_cons_unit_zero (S := S512x2048) zero2, harg2.read_unread, harg3.read_unread, harg4.read_unread, harg5.read_unread, harg6.read_unread, harg7.read_unread, harg8.read_unread, harg9.read_unread, View.readAt_eq_ld, View.readCov_unit_zero (S := S512x2048) _ zero2, View.ld_unit_zero (S := S512x2048) zero2, View.ld_unit_zero (S := S512x512) zero2, View.ld_unit_zero (S := S1x2048x512) zero3]
  rfl

/-- The first point of a block of rows: the tile over the factor just prepared. -/
theorem outA_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x128 .f32) (harg5 : arg5.IsWhole) (arg6 : Memref sig .tc .vmem S1x2048x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (hc0 : cond0_0 i) (oc : Vec F S512x2048 .f32) (os : Vec F S512x2048 .f32) (ow : Vec F S512x2048 .f32) (gt : Vec F S512x128 .f32) (w : Vec F S1x2048x512 .f32) (x : Vec F S512x512 .f32) :
    out0_A_6 c i arg2 harg2 arg3 harg3 arg4 harg4 arg5 harg5 arg6 harg6 arg7 harg7 arg8 harg8 arg9 harg9 hc0 oc os ow gt w x = k0_pay3 x (factor oc os ow gt) w := by
  unfold out0_A_6
  rw [View.read_writes_eq_canon _ _ _ (fun z => cover0_A_6 c i arg2 harg2 arg3 harg3 arg4 harg4 arg5 harg5 arg6 harg6 arg7 harg7 arg8 harg8 arg9 harg9 hc0 oc os ow gt w x z)]
  unfold kernelRun0_A
  dsimp only
  sl_unfold_words
  simp only [View.canon_cons_unit_zero (S := S512x512) zero2, harg2.read_unread, harg3.read_unread, harg4.read_unread, harg5.read_unread, harg6.read_unread, harg7.read_unread, harg8.read_unread, harg9.read_unread, View.readAt_eq_ld, View.readCov_unit_zero (S := S512x2048) _ zero2, View.ld_unit_zero (S := S512x2048) zero2, View.ld_unit_zero (S := S512x512) zero2, View.ld_unit_zero (S := S1x2048x512) zero3]
  rfl

/-- A later point: the tile over the factor carried. -/
theorem outB_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x128 .f32) (harg5 : arg5.IsWhole) (arg6 : Memref sig .tc .vmem S1x2048x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (hc0 : ¬cond0_0 i) (oc : Vec F S512x2048 .f32) (os : Vec F S512x2048 .f32) (ow : Vec F S512x2048 .f32) (gt : Vec F S512x128 .f32) (w : Vec F S1x2048x512 .f32) (x : Vec F S512x512 .f32) (a : Vec F S512x2048 .bf16) :
    out0_B_6 c i arg2 harg2 arg3 harg3 arg4 harg4 arg5 harg5 arg6 harg6 arg7 harg7 arg8 harg8 arg9 harg9 hc0 oc os ow gt w x a = k0_pay3 x a w := by
  unfold out0_B_6
  rw [View.read_writes_eq_canon _ _ _ (fun z => cover0_B_6 c i arg2 harg2 arg3 harg3 arg4 harg4 arg5 harg5 arg6 harg6 arg7 harg7 arg8 harg8 arg9 harg9 hc0 oc os ow gt w x a z)]
  unfold kernelRun0_B
  dsimp only
  sl_unfold_words
  simp only [View.canon_cons_unit_zero (S := S512x512) zero2, harg2.read_unread, harg3.read_unread, harg4.read_unread, harg5.read_unread, harg6.read_unread, harg7.read_unread, harg8.read_unread, harg9.read_unread, View.readAt_eq_ld, View.readCov_unit_zero (S := S512x2048) _ zero2, View.ld_unit_zero (S := S512x2048) zero2, View.ld_unit_zero (S := S512x512) zero2, View.ld_unit_zero (S := S1x2048x512) zero3]

end Stores

end Cert.OutCIdeal.Hand

end
-- ==== Proof.OutCPure.lean ====
module

public import proofs.«01_k».proof.Proof.Gen.OutCIdeal.Skeleton
public import proofs.«01_k».proof.Proof.Gen.OutCRefIdeal.Run
public import Idealize.ShloMosaic.Lib.Pointwise

@[expose] public section

set_option maxRecDepth 16384

noncomputable section

/-! MIXER C'S GATES AND OUTPUT PROJECTION, READ AT AN INDEX: what the body stores over the values it loads, and the reference's result. -/

namespace Cert.OutCIdeal.Hand

open Cert.OutCIdeal Cert.OutCIdeal.Gen
open Idealize.ShloMosaic Idealize.ShloMosaic.TcCoe Idealize.SL.Sem

/-- The place among the gates of entry `k`'s head and branch `b`. -/
def gateOf (k : Fin 2048) (b : Fin 3) : Fin 128 := ⟨3 * (k.val / 128) + b.val, by have := k.isLt; have := b.isLt; omega⟩

/-- Three outputs mixed by the head's three gates, at one entry. -/
def gated (a b c : EReal) (g : Fin 128 → EReal) (k : Fin 2048) : EReal :=
  Ideal.logistic (g (gateOf k 0)) * a + Ideal.logistic (g (gateOf k 1)) * b + Ideal.logistic (g (gateOf k 2)) * c

/-- One tile: the residual's tile plus the product. -/
theorem tile_at (x : FVec Ideal S512x512 .f32) (a : FVec Ideal S512x2048 .bf16) (w : FVec Ideal S1x2048x512 .f32) (r : Fin 512) (d : Fin 512) :
    k0_pay3 (F := Ideal) x a w (ix2 r d) = x (ix2 r d) + ∑ k : Fin 2048, a (ix2 r k) * w (ix3 0 k d) := by
  pointwise [k0_pay3]

end Cert.OutCIdeal.Hand

namespace Cert.OutCRefIdeal.Hand

open Cert.OutCRefIdeal Cert.OutCRefIdeal.Gen
open Idealize.ShloMosaic Idealize.ShloMosaic.TcCoe Idealize.SL.Sem

/-- The gates: the logistic of the first 48 columns, by head and branch. -/
def gates (g : FVec Ideal S8192x128 .f32) : FVec Ideal S8192x16x3 .f32 :=
  shapeCast _ (Host.divf (broadcastInDim S8192x48 ![] bcast_S_S8192x48 (constant S_ .f32 0x3F800000#32)) (addf (broadcastInDim S8192x48 ![] bcast_S_S8192x48 (constant S_ .f32 0x3F800000#32)) (Host.exp (Host.negf (extractStridedSlice S8192x48 ![0, 0] g slices_S8192x128_S8192x48_0_0))))) shapeCasts_S8192x48_S8192x16x3

/-- Three arrays, entry beside entry. -/
def beside (a b c : FVec Ideal S8192x2048 .f32) : FVec Ideal S8192x2048x3 .f32 :=
  concatenate S8192x2048x3 2 [⟨S8192x2048x1, broadcastInDim S8192x2048x1 ![0, 1] bcast_S8192x2048_S8192x2048x1_0_1 a⟩, ⟨S8192x2048x1, broadcastInDim S8192x2048x1 ![0, 1] bcast_S8192x2048_S8192x2048x1_0_1 b⟩, ⟨S8192x2048x1, broadcastInDim S8192x2048x1 ![0, 1] bcast_S8192x2048_S8192x2048x1_0_1 c⟩] concatenates_S8192x2048x1_S8192x2048x1_S8192x2048x1_S8192x2048x3_d2

/-- By head. -/
def byHead (s : FVec Ideal S8192x2048x3 .f32) : FVec Ideal S8192x16x128x3 .f32 :=
  shapeCast _ s shapeCasts_S8192x2048x3_S8192x16x128x3

/-- The gates times the three outputs, added up. -/
def mixed (q : FVec Ideal S8192x16x3 .f32) (s : FVec Ideal S8192x16x128x3 .f32) : FVec Ideal S8192x16x128 .f32 :=
  Host.reduceAdd (mulf (broadcastInDim S8192x16x128x3 ![0, 1, 2, 3] bcast_S8192x16x1x3_S8192x16x128x3_0_1_2_3 (broadcastInDim S8192x16x1x3 ![0, 1, 3] bcast_S8192x16x3_S8192x16x1x3_0_1_3 q)) s) (constant S_ .f32 0x00000000#32) reducesTo_S8192x16x128x3_S8192x16x128_d3 h_S_

/-- The heads side by side. -/
def flat (s : FVec Ideal S8192x16x128 .f32) : FVec Ideal S8192x2048 .f32 :=
  shapeCast _ s shapeCasts_S8192x16x128_S8192x2048

/-- The product with the layer's weights, added to the residual. -/
def project (a : FVec Ideal S8192x2048 .f32) (w : FVec Ideal S1x2048x2048 .f32) (x : FVec Ideal S8192x2048 .f32) : FVec Ideal S8192x2048 .f32 :=
  addf x (Host.dotGeneral dot_S8192x2048_S2048x2048_S8192x2048_1_0_0_1_n_n none a (shapeCast _ w shapeCasts_S1x2048x2048_S2048x2048))

/-- The reference's result, as its run states it. -/
def result (oc : FVec Ideal S8192x2048 .f32) (os : FVec Ideal S8192x2048 .f32) (ow : FVec Ideal S8192x2048 .f32) (gt : FVec Ideal S8192x128 .f32) (w : FVec Ideal S1x2048x2048 .f32) (x : FVec Ideal S8192x2048 .f32) : FVec Ideal S8192x2048 .f32 :=
  project (flat (mixed (gates gt) (byHead (beside oc os ow)))) w x

/-- The head of an entry, and its place in the head. -/
abbrev headOf (k : Fin 2048) : Fin 16 := ⟨k.val / 128, by have := k.isLt; omega⟩
abbrev inHead (k : Fin 2048) : Fin 128 := ⟨k.val % 128, Nat.mod_lt _ (by decide)⟩

theorem gates_at (g : FVec Ideal S8192x128 .f32) (r : Fin 8192) (k : Fin 2048) (b : Fin 3) :
    gates g (ix3 r (headOf k) b) = Ideal.logistic (g (ix2 r (OutCIdeal.Hand.gateOf k b))) := by
  have e : (⟨k.val / 128 * 3 + b.val, by have := k.isLt; have := b.isLt; omega⟩ : Fin 128) = OutCIdeal.Hand.gateOf k b := Fin.ext (by simp only [OutCIdeal.Hand.gateOf]; omega)
  rw [← e]
  pointwise [gates, Ideal.logistic]

theorem beside_0 (a b c : FVec Ideal S8192x2048 .f32) (r : Fin 8192) (k : Fin 2048) : beside a b c (ix3 r k 0) = a (ix2 r k) := by
  pointwise [beside]
theorem beside_1 (a b c : FVec Ideal S8192x2048 .f32) (r : Fin 8192) (k : Fin 2048) : beside a b c (ix3 r k 1) = b (ix2 r k) := by
  pointwise [beside]
theorem beside_2 (a b c : FVec Ideal S8192x2048 .f32) (r : Fin 8192) (k : Fin 2048) : beside a b c (ix3 r k 2) = c (ix2 r k) := by
  pointwise [beside]

theorem byHead_at (s : FVec Ideal S8192x2048x3 .f32) (r : Fin 8192) (k : Fin 2048) (b : Fin 3) :
    byHead s (ix4 r (headOf k) (inHead k) b) = s (ix3 r k b) := by
  have e : (⟨k.val / 128 * 128 + k.val % 128, by have := k.isLt; omega⟩ : Fin 2048) = k := Fin.ext (by dsimp only; omega)
  conv_rhs => rw [← e]
  pointwise [byHead]

theorem mixed_at (q : FVec Ideal S8192x16x3 .f32) (s : FVec Ideal S8192x16x128x3 .f32) (r : Fin 8192) (h : Fin 16) (e : Fin 128) :
    mixed q s (ix3 r h e) = q (ix3 r h 0) * s (ix4 r h e 0) + q (ix3 r h 1) * s (ix4 r h e 1) + q (ix3 r h 2) * s (ix4 r h e 2) := by
  pointwise [mixed]
  exact Fin.sum_univ_three _

theorem flat_at (s : FVec Ideal S8192x16x128 .f32) (r : Fin 8192) (k : Fin 2048) : flat s (ix2 r k) = s (ix3 r (headOf k) (inHead k)) := by
  pointwise [flat]

theorem project_at (a : FVec Ideal S8192x2048 .f32) (w : FVec Ideal S1x2048x2048 .f32) (x : FVec Ideal S8192x2048 .f32) (r : Fin 8192) (d : Fin 2048) :
    project a w x (ix2 r d) = x (ix2 r d) + ∑ k : Fin 2048, a (ix2 r k) * w (ix3 0 k d) := by
  pointwise [project]

theorem result_at (oc : FVec Ideal S8192x2048 .f32) (os : FVec Ideal S8192x2048 .f32) (ow : FVec Ideal S8192x2048 .f32) (gt : FVec Ideal S8192x128 .f32) (w : FVec Ideal S1x2048x2048 .f32) (x : FVec Ideal S8192x2048 .f32) (r : Fin 8192) (d : Fin 2048) :
    result oc os ow gt w x (ix2 r d) = x (ix2 r d) + ∑ k : Fin 2048, OutCIdeal.Hand.gated (oc (ix2 r k)) (os (ix2 r k)) (ow (ix2 r k)) (fun l => gt (ix2 r l)) k * w (ix3 0 k d) := by
  unfold result
  rw [project_at]
  refine congrArg (x (ix2 r d) + ·) (Finset.sum_congr rfl fun k _ => congrArg (· * w (ix3 0 k d)) ?_)
  rw [flat_at, mixed_at, gates_at, gates_at, gates_at, byHead_at, byHead_at, byHead_at, beside_0, beside_1, beside_2]
  rfl

end Cert.OutCRefIdeal.Hand

end
-- ==== Proof.OutCHeads.lean ====
module

public import proofs.«01_k».proof.Proof.OutCBody
public import proofs.«01_k».proof.Proof.OutCPure
public import Idealize.ShloMosaic.Lib.Pipeline.Value
public import Idealize.ShloMosaic.Lib.Pointwise

@[expose] public section

set_option maxRecDepth 16384

noncomputable section

/-! MIXER C'S GATED MIXTURE, READ AT AN INDEX: the body prepares the sixteen heads one after the other, each from its own
    128 columns of the three outputs and its own three gates, and lays them side by side; every entry is the mixture of the
    three outputs there. -/

namespace Cert.OutCIdeal.Hand

open Cert.OutCIdeal Cert.OutCIdeal.Gen
open Idealize.ShloMosaic Idealize.ShloMosaic.TcCoe Idealize.SL.Sem

/-- A head's columns of a block. -/
theorem ld_at (X : Vec Ideal S512x2048 .f32) (off : ℕ) (h : ∀ a, (![0, off] : Fin 2 → ℕ) a + S512x128.size a ≤ S512x2048.size a) (r : Fin 512) (e : Fin 128)
    (k : Fin 2048) (hk : off + e.val = k.val) :
    (View.ld X (Rect.unit ![0, off] S512x128.size h) : Vec Ideal S512x128 .f32) (ix2 r e) = X (ix2 r k) := by
  refine congrArg X ?_
  funext a; apply Fin.ext
  match a with
  | ⟨0, _⟩ => show 0 + 1 * r.val = r.val; omega
  | ⟨1, _⟩ => show off + 1 * e.val = k.val; omega

/-- The gates' block, read whole. -/
theorem ldg_at (g : Vec Ideal S512x128 .f32) (h : ∀ a, (![0, 0] : Fin 2 → ℕ) a + S512x128.size a ≤ S512x128.size a) (r : Fin 512) (e : Fin 128) :
    (View.ld g (Rect.unit ![0, 0] S512x128.size h) : Vec Ideal S512x128 .f32) (ix2 r e) = g (ix2 r e) := by
  refine congrArg g ?_
  funext a; apply Fin.ext
  match a with
  | ⟨0, _⟩ => show 0 + 1 * r.val = r.val; omega
  | ⟨1, _⟩ => show 0 + 1 * e.val = e.val; omega

/-- Narrowing keeps every entry. -/
theorem narrowed_at (x : FVec Ideal S512x2048 .f32) (hb : FTy.bits .bf16 < FTy.bits .f32) (h : S512x2048.ShapeCasts S512x2048) (i : S512x2048.Idx) :
    (shapeCast S512x2048 (truncf .bf16 x hb : FVec Ideal S512x2048 .bf16) h : FVec Ideal S512x2048 .bf16) i = x i := by
  pointwise

/-- Two mixtures with the same gates' places. -/
theorem gated_of (a b c : EReal) (g : Fin 128 → EReal) (k : Fin 2048) (p0 p1 p2 : Fin 128) (h0 : p0.val = 3 * (k.val / 128)) (h1 : p1.val = 3 * (k.val / 128) + 1)
    (h2 : p2.val = 3 * (k.val / 128) + 2) : Ideal.logistic (g p0) * a + Ideal.logistic (g p1) * b + Ideal.logistic (g p2) * c = gated a b c g k := by
  obtain rfl : p0 = gateOf k 0 := Fin.ext (by simpa [gateOf] using h0)
  obtain rfl : p1 = gateOf k 1 := Fin.ext (by simpa [gateOf] using h1)
  obtain rfl : p2 = gateOf k 2 := Fin.ext (by simpa [gateOf] using h2)
  rfl

/-- Head 0 over its pieces. -/
theorem piece0_at (G A B C : FVec Ideal S512x128 .f32) (r : Fin 512) (e : Fin 128) :
    k0_pay5 (F := Ideal) G A B C (ix2 r e)
      = Ideal.logistic (G (ix2 r (0 : Fin 128))) * A (ix2 r e) + Ideal.logistic (G (ix2 r (1 : Fin 128))) * B (ix2 r e) + Ideal.logistic (G (ix2 r (2 : Fin 128))) * C (ix2 r e) := by
  pointwise [k0_pay5, k0_pay4]

/-- Head 0 of the mixture. -/
theorem head0_at (oc os ow : Vec Ideal S512x2048 .f32) (gt : Vec Ideal S512x128 .f32) (r : Fin 512) (e : Fin 128) (k : Fin 2048) (hk : 128 * 0 + e.val = k.val) :
    head0 (F := Ideal) oc os ow gt (ix2 r e) = gated (oc (ix2 r k)) (os (ix2 r k)) (ow (ix2 r k)) (fun l => gt (ix2 r l)) k := by
  unfold head0
  refine (piece0_at _ _ _ _ r e).trans ?_
  have hd : k.val / 128 = 0 := by have := e.isLt; omega
  rw [ld_at oc 0 _ r e k hk, ld_at os 0 _ r e k hk, ld_at ow 0 _ r e k hk, ldg_at, ldg_at, ldg_at]
  exact gated_of _ _ _ (fun l => gt (ix2 r l)) k _ _ _ (by rw [hd]; rfl) (by rw [hd]; rfl) (by rw [hd]; rfl)

/-- Head 1 over its pieces. -/
theorem piece1_at (G A B C : FVec Ideal S512x128 .f32) (r : Fin 512) (e : Fin 128) :
    k0_pay6 (F := Ideal) G A B C (ix2 r e)
      = Ideal.logistic (G (ix2 r (3 : Fin 128))) * A (ix2 r e) + Ideal.logistic (G (ix2 r (4 : Fin 128))) * B (ix2 r e) + Ideal.logistic (G (ix2 r (5 : Fin 128))) * C (ix2 r e) := by
  pointwise [k0_pay6, k0_pay4]

/-- Head 1 of the mixture. -/
theorem head1_at (oc os ow : Vec Ideal S512x2048 .f32) (gt : Vec Ideal S512x128 .f32) (r : Fin 512) (e : Fin 128) (k : Fin 2048) (hk : 128 * 1 + e.val = k.val) :
    head1 (F := Ideal) oc os ow gt (ix2 r e) = gated (oc (ix2 r k)) (os (ix2 r k)) (ow (ix2 r k)) (fun l => gt (ix2 r l)) k := by
  unfold head1
  refine (piece1_at _ _ _ _ r e).trans ?_
  have hd : k.val / 128 = 1 := by have := e.isLt; omega
  rw [ld_at oc 128 _ r e k hk, ld_at os 128 _ r e k hk, ld_at ow 128 _ r e k hk, ldg_at, ldg_at, ldg_at]
  exact gated_of _ _ _ (fun l => gt (ix2 r l)) k _ _ _ (by rw [hd]; rfl) (by rw [hd]; rfl) (by rw [hd]; rfl)

/-- Head 2 over its pieces. -/
theorem piece2_at (G A B C : FVec Ideal S512x128 .f32) (r : Fin 512) (e : Fin 128) :
    k0_pay9 (F := Ideal) (k0_pay4 G) (k0_pay7 G A) (k0_pay8 G) B C (ix2 r e)
      = Ideal.logistic (G (ix2 r (6 : Fin 128))) * A (ix2 r e) + Ideal.logistic (G (ix2 r (7 : Fin 128))) * B (ix2 r e) + Ideal.logistic (G (ix2 r (8 : Fin 128))) * C (ix2 r e) := by
  pointwise [k0_pay9, k0_pay7, k0_pay8, k0_pay4]

/-- Head 2 of the mixture. -/
theorem head2_at (oc os ow : Vec Ideal S512x2048 .f32) (gt : Vec Ideal S512x128 .f32) (r : Fin 512) (e : Fin 128) (k : Fin 2048) (hk : 128 * 2 + e.val = k.val) :
    head2 (F := Ideal) oc os ow gt (ix2 r e) = gated (oc (ix2 r k)) (os (ix2 r k)) (ow (ix2 r k)) (fun l => gt (ix2 r l)) k := by
  unfold head2
  refine (piece2_at _ _ _ _ r e).trans ?_
  have hd : k.val / 128 = 2 := by have := e.isLt; omega
  rw [ld_at oc 256 _ r e k hk, ld_at os 256 _ r e k hk, ld_at ow 256 _ r e k hk, ldg_at, ldg_at, ldg_at]
  exact gated_of _ _ _ (fun l => gt (ix2 r l)) k _ _ _ (by rw [hd]; rfl) (by rw [hd]; rfl) (by rw [hd]; rfl)

/-- Head 3 over its pieces. -/
theorem piece3_at (G A B C : FVec Ideal S512x128 .f32) (r : Fin 512) (e : Fin 128) :
    k0_pay10 (F := Ideal) (k0_pay4 G) A B C (ix2 r e)
      = Ideal.logistic (G (ix2 r (9 : Fin 128))) * A (ix2 r e) + Ideal.logistic (G (ix2 r (10 : Fin 128))) * B (ix2 r e) + Ideal.logistic (G (ix2 r (11 : Fin 128))) * C (ix2 r e) := by
  pointwise [k0_pay10, k0_pay4]

/-- Head 3 of the mixture. -/
theorem head3_at (oc os ow : Vec Ideal S512x2048 .f32) (gt : Vec Ideal S512x128 .f32) (r : Fin 512) (e : Fin 128) (k : Fin 2048) (hk : 128 * 3 + e.val = k.val) :
    head3 (F := Ideal) oc os ow gt (ix2 r e) = gated (oc (ix2 r k)) (os (ix2 r k)) (ow (ix2 r k)) (fun l => gt (ix2 r l)) k := by
  unfold head3
  refine (piece3_at _ _ _ _ r e).trans ?_
  have hd : k.val / 128 = 3 := by have := e.isLt; omega
  rw [ld_at oc 384 _ r e k hk, ld_at os 384 _ r e k hk, ld_at ow 384 _ r e k hk, ldg_at, ldg_at, ldg_at]
  exact gated_of _ _ _ (fun l => gt (ix2 r l)) k _ _ _ (by rw [hd]; rfl) (by rw [hd]; rfl) (by rw [hd]; rfl)

/-- Head 4 over its pieces. -/
theorem piece4_at (G A B C : FVec Ideal S512x128 .f32) (r : Fin 512) (e : Fin 128) :
    k0_pay11 (F := Ideal) (k0_pay4 G) A B C (ix2 r e)
      = Ideal.logistic (G (ix2 r (12 : Fin 128))) * A (ix2 r e) + Ideal.logistic (G (ix2 r (13 : Fin 128))) * B (ix2 r e) + Ideal.logistic (G (ix2 r (14 : Fin 128))) * C (ix2 r e) := by
  pointwise [k0_pay11, k0_pay4]

/-- Head 4 of the mixture. -/
theorem head4_at (oc os ow : Vec Ideal S512x2048 .f32) (gt : Vec Ideal S512x128 .f32) (r : Fin 512) (e : Fin 128) (k : Fin 2048) (hk : 128 * 4 + e.val = k.val) :
    head4 (F := Ideal) oc os ow gt (ix2 r e) = gated (oc (ix2 r k)) (os (ix2 r k)) (ow (ix2 r k)) (fun l => gt (ix2 r l)) k := by
  unfold head4
  refine (piece4_at _ _ _ _ r e).trans ?_
  have hd : k.val / 128 = 4 := by have := e.isLt; omega
  rw [ld_at oc 512 _ r e k hk, ld_at os 512 _ r e k hk, ld_at ow 512 _ r e k hk, ldg_at, ldg_at, ldg_at]
  exact gated_of _ _ _ (fun l => gt (ix2 r l)) k _ _ _ (by rw [hd]; rfl) (by rw [hd]; rfl) (by rw [hd]; rfl)

/-- Head 5 over its pieces. -/
theorem piece5_at (G A B C : FVec Ideal S512x128 .f32) (r : Fin 512) (e : Fin 128) :
    k0_pay12 (F := Ideal) (k0_pay4 G) (FloatOps.ofBits FTy.f32 0#32) A B C (ix2 r e)
      = Ideal.logistic (G (ix2 r (15 : Fin 128))) * A (ix2 r e) + Ideal.logistic (G (ix2 r (16 : Fin 128))) * B (ix2 r e) + Ideal.logistic (G (ix2 r (17 : Fin 128))) * C (ix2 r e) := by
  pointwise [k0_pay12, k0_pay4]

/-- Head 5 of the mixture. -/
theorem head5_at (oc os ow : Vec Ideal S512x2048 .f32) (gt : Vec Ideal S512x128 .f32) (r : Fin 512) (e : Fin 128) (k : Fin 2048) (hk : 128 * 5 + e.val = k.val) :
    head5 (F := Ideal) oc os ow gt (ix2 r e) = gated (oc (ix2 r k)) (os (ix2 r k)) (ow (ix2 r k)) (fun l => gt (ix2 r l)) k := by
  unfold head5
  refine (piece5_at _ _ _ _ r e).trans ?_
  have hd : k.val / 128 = 5 := by have := e.isLt; omega
  rw [ld_at oc 640 _ r e k hk, ld_at os 640 _ r e k hk, ld_at ow 640 _ r e k hk, ldg_at, ldg_at, ldg_at]
  exact gated_of _ _ _ (fun l => gt (ix2 r l)) k _ _ _ (by rw [hd]; rfl) (by rw [hd]; rfl) (by rw [hd]; rfl)

/-- Head 6 over its pieces. -/
theorem piece6_at (G A B C : FVec Ideal S512x128 .f32) (r : Fin 512) (e : Fin 128) :
    k0_pay13 (F := Ideal) (k0_pay4 G) A B C (ix2 r e)
      = Ideal.logistic (G (ix2 r (18 : Fin 128))) * A (ix2 r e) + Ideal.logistic (G (ix2 r (19 : Fin 128))) * B (ix2 r e) + Ideal.logistic (G (ix2 r (20 : Fin 128))) * C (ix2 r e) := by
  pointwise [k0_pay13, k0_pay4]

/-- Head 6 of the mixture. -/
theorem head6_at (oc os ow : Vec Ideal S512x2048 .f32) (gt : Vec Ideal S512x128 .f32) (r : Fin 512) (e : Fin 128) (k : Fin 2048) (hk : 128 * 6 + e.val = k.val) :
    head6 (F := Ideal) oc os ow gt (ix2 r e) = gated (oc (ix2 r k)) (os (ix2 r k)) (ow (ix2 r k)) (fun l => gt (ix2 r l)) k := by
  unfold head6
  refine (piece6_at _ _ _ _ r e).trans ?_
  have hd : k.val / 128 = 6 := by have := e.isLt; omega
  rw [ld_at oc 768 _ r e k hk, ld_at os 768 _ r e k hk, ld_at ow 768 _ r e k hk, ldg_at, ldg_at, ldg_at]
  exact gated_of _ _ _ (fun l => gt (ix2 r l)) k _ _ _ (by rw [hd]; rfl) (by rw [hd]; rfl) (by rw [hd]; rfl)

/-- Head 7 over its pieces. -/
theorem piece7_at (G A B C : FVec Ideal S512x128 .f32) (r : Fin 512) (e : Fin 128) :
    k0_pay16 (F := Ideal) (k0_pay4 G) (k0_pay14 (k0_pay4 G) A) (k0_pay15 (k0_pay4 G) B) C (ix2 r e)
      = Ideal.logistic (G (ix2 r (21 : Fin 128))) * A (ix2 r e) + Ideal.logistic (G (ix2 r (22 : Fin 128))) * B (ix2 r e) + Ideal.logistic (G (ix2 r (23 : Fin 128))) * C (ix2 r e) := by
  pointwise [k0_pay16, k0_pay14, k0_pay15, k0_pay4]

/-- Head 7 of the mixture. -/
theorem head7_at (oc os ow : Vec Ideal S512x2048 .f32) (gt : Vec Ideal S512x128 .f32) (r : Fin 512) (e : Fin 128) (k : Fin 2048) (hk : 128 * 7 + e.val = k.val) :
    head7 (F := Ideal) oc os ow gt (ix2 r e) = gated (oc (ix2 r k)) (os (ix2 r k)) (ow (ix2 r k)) (fun l => gt (ix2 r l)) k := by
  unfold head7
  refine (piece7_at _ _ _ _ r e).trans ?_
  have hd : k.val / 128 = 7 := by have := e.isLt; omega
  rw [ld_at oc 896 _ r e k hk, ld_at os 896 _ r e k hk, ld_at ow 896 _ r e k hk, ldg_at, ldg_at, ldg_at]
  exact gated_of _ _ _ (fun l => gt (ix2 r l)) k _ _ _ (by rw [hd]; rfl) (by rw [hd]; rfl) (by rw [hd]; rfl)

/-- Head 8 over its pieces. -/
theorem piece8_at (G A B C : FVec Ideal S512x128 .f32) (r : Fin 512) (e : Fin 128) :
    k0_pay17 (F := Ideal) (k0_pay4 G) A B C (ix2 r e)
      = Ideal.logistic (G (ix2 r (24 : Fin 128))) * A (ix2 r e) + Ideal.logistic (G (ix2 r (25 : Fin 128))) * B (ix2 r e) + Ideal.logistic (G (ix2 r (26 : Fin 128))) * C (ix2 r e) := by
  pointwise [k0_pay17, k0_pay4]

/-- Head 8 of the mixture. -/
theorem head8_at (oc os ow : Vec Ideal S512x2048 .f32) (gt : Vec Ideal S512x128 .f32) (r : Fin 512) (e : Fin 128) (k : Fin 2048) (hk : 128 * 8 + e.val = k.val) :
    head8 (F := Ideal) oc os ow gt (ix2 r e) = gated (oc (ix2 r k)) (os (ix2 r k)) (ow (ix2 r k)) (fun l => gt (ix2 r l)) k := by
  unfold head8
  refine (piece8_at _ _ _ _ r e).trans ?_
  have hd : k.val / 128 = 8 := by have := e.isLt; omega
  rw [ld_at oc 1024 _ r e k hk, ld_at os 1024 _ r e k hk, ld_at ow 1024 _ r e k hk, ldg_at, ldg_at, ldg_at]
  exact gated_of _ _ _ (fun l => gt (ix2 r l)) k _ _ _ (by rw [hd]; rfl) (by rw [hd]; rfl) (by rw [hd]; rfl)

/-- Head 9 over its pieces. -/
theorem piece9_at (G A B C : FVec Ideal S512x128 .f32) (r : Fin 512) (e : Fin 128) :
    k0_pay18 (F := Ideal) (k0_pay4 G) A B C (ix2 r e)
      = Ideal.logistic (G (ix2 r (27 : Fin 128))) * A (ix2 r e) + Ideal.logistic (G (ix2 r (28 : Fin 128))) * B (ix2 r e) + Ideal.logistic (G (ix2 r (29 : Fin 128))) * C (ix2 r e) := by
  pointwise [k0_pay18, k0_pay4]

/-- Head 9 of the mixture. -/
theorem head9_at (oc os ow : Vec Ideal S512x2048 .f32) (gt : Vec Ideal S512x128 .f32) (r : Fin 512) (e : Fin 128) (k : Fin 2048) (hk : 128 * 9 + e.val = k.val) :
    head9 (F := Ideal) oc os ow gt (ix2 r e) = gated (oc (ix2 r k)) (os (ix2 r k)) (ow (ix2 r k)) (fun l => gt (ix2 r l)) k := by
  unfold head9
  refine (piece9_at _ _ _ _ r e).trans ?_
  have hd : k.val / 128 = 9 := by have := e.isLt; omega
  rw [ld_at oc 1152 _ r e k hk, ld_at os 1152 _ r e k hk, ld_at ow 1152 _ r e k hk, ldg_at, ldg_at, ldg_at]
  exact gated_of _ _ _ (fun l => gt (ix2 r l)) k _ _ _ (by rw [hd]; rfl) (by rw [hd]; rfl) (by rw [hd]; rfl)

/-- Head 10 over its pieces. -/
theorem piece10_at (G A B C : FVec Ideal S512x128 .f32) (r : Fin 512) (e : Fin 128) :
    k0_pay21 (F := Ideal) (k0_pay4 G) k0_pay19 (k0_pay20 (k0_pay4 G)) A B C (ix2 r e)
      = Ideal.logistic (G (ix2 r (30 : Fin 128))) * A (ix2 r e) + Ideal.logistic (G (ix2 r (31 : Fin 128))) * B (ix2 r e) + Ideal.logistic (G (ix2 r (32 : Fin 128))) * C (ix2 r e) := by
  pointwise [k0_pay21, k0_pay19, k0_pay20, k0_pay4]

/-- Head 10 of the mixture. -/
theorem head10_at (oc os ow : Vec Ideal S512x2048 .f32) (gt : Vec Ideal S512x128 .f32) (r : Fin 512) (e : Fin 128) (k : Fin 2048) (hk : 128 * 10 + e.val = k.val) :
    head10 (F := Ideal) oc os ow gt (ix2 r e) = gated (oc (ix2 r k)) (os (ix2 r k)) (ow (ix2 r k)) (fun l => gt (ix2 r l)) k := by
  unfold head10
  refine (piece10_at _ _ _ _ r e).trans ?_
  have hd : k.val / 128 = 10 := by have := e.isLt; omega
  rw [ld_at oc 1280 _ r e k hk, ld_at os 1280 _ r e k hk, ld_at ow 1280 _ r e k hk, ldg_at, ldg_at, ldg_at]
  exact gated_of _ _ _ (fun l => gt (ix2 r l)) k _ _ _ (by rw [hd]; rfl) (by rw [hd]; rfl) (by rw [hd]; rfl)

/-- Head 11 over its pieces. -/
theorem piece11_at (G A B C : FVec Ideal S512x128 .f32) (r : Fin 512) (e : Fin 128) :
    k0_pay22 (F := Ideal) (k0_pay4 G) A B C (ix2 r e)
      = Ideal.logistic (G (ix2 r (33 : Fin 128))) * A (ix2 r e) + Ideal.logistic (G (ix2 r (34 : Fin 128))) * B (ix2 r e) + Ideal.logistic (G (ix2 r (35 : Fin 128))) * C (ix2 r e) := by
  pointwise [k0_pay22, k0_pay4]

/-- Head 11 of the mixture. -/
theorem head11_at (oc os ow : Vec Ideal S512x2048 .f32) (gt : Vec Ideal S512x128 .f32) (r : Fin 512) (e : Fin 128) (k : Fin 2048) (hk : 128 * 11 + e.val = k.val) :
    head11 (F := Ideal) oc os ow gt (ix2 r e) = gated (oc (ix2 r k)) (os (ix2 r k)) (ow (ix2 r k)) (fun l => gt (ix2 r l)) k := by
  unfold head11
  refine (piece11_at _ _ _ _ r e).trans ?_
  have hd : k.val / 128 = 11 := by have := e.isLt; omega
  rw [ld_at oc 1408 _ r e k hk, ld_at os 1408 _ r e k hk, ld_at ow 1408 _ r e k hk, ldg_at, ldg_at, ldg_at]
  exact gated_of _ _ _ (fun l => gt (ix2 r l)) k _ _ _ (by rw [hd]; rfl) (by rw [hd]; rfl) (by rw [hd]; rfl)

/-- Head 12 over its pieces. -/
theorem piece12_at (G A B C : FVec Ideal S512x128 .f32) (r : Fin 512) (e : Fin 128) :
    k0_pay25 (F := Ideal) (k0_pay23 (k0_pay4 G) A B) (k0_pay24 (k0_pay4 G)) C (ix2 r e)
      = Ideal.logistic (G (ix2 r (36 : Fin 128))) * A (ix2 r e) + Ideal.logistic (G (ix2 r (37 : Fin 128))) * B (ix2 r e) + Ideal.logistic (G (ix2 r (38 : Fin 128))) * C (ix2 r e) := by
  pointwise [k0_pay25, k0_pay23, k0_pay24, k0_pay4]

/-- Head 12 of the mixture. -/
theorem head12_at (oc os ow : Vec Ideal S512x2048 .f32) (gt : Vec Ideal S512x128 .f32) (r : Fin 512) (e : Fin 128) (k : Fin 2048) (hk : 128 * 12 + e.val = k.val) :
    head12 (F := Ideal) oc os ow gt (ix2 r e) = gated (oc (ix2 r k)) (os (ix2 r k)) (ow (ix2 r k)) (fun l => gt (ix2 r l)) k := by
  unfold head12
  refine (piece12_at _ _ _ _ r e).trans ?_
  have hd : k.val / 128 = 12 := by have := e.isLt; omega
  rw [ld_at oc 1536 _ r e k hk, ld_at os 1536 _ r e k hk, ld_at ow 1536 _ r e k hk, ldg_at, ldg_at, ldg_at]
  exact gated_of _ _ _ (fun l => gt (ix2 r l)) k _ _ _ (by rw [hd]; rfl) (by rw [hd]; rfl) (by rw [hd]; rfl)

/-- Head 13 over its pieces. -/
theorem piece13_at (G A B C : FVec Ideal S512x128 .f32) (r : Fin 512) (e : Fin 128) :
    k0_pay26 (F := Ideal) (k0_pay4 G) A B C (ix2 r e)
      = Ideal.logistic (G (ix2 r (39 : Fin 128))) * A (ix2 r e) + Ideal.logistic (G (ix2 r (40 : Fin 128))) * B (ix2 r e) + Ideal.logistic (G (ix2 r (41 : Fin 128))) * C (ix2 r e) := by
  pointwise [k0_pay26, k0_pay4]

/-- Head 13 of the mixture. -/
theorem head13_at (oc os ow : Vec Ideal S512x2048 .f32) (gt : Vec Ideal S512x128 .f32) (r : Fin 512) (e : Fin 128) (k : Fin 2048) (hk : 128 * 13 + e.val = k.val) :
    head13 (F := Ideal) oc os ow gt (ix2 r e) = gated (oc (ix2 r k)) (os (ix2 r k)) (ow (ix2 r k)) (fun l => gt (ix2 r l)) k := by
  unfold head13
  refine (piece13_at _ _ _ _ r e).trans ?_
  have hd : k.val / 128 = 13 := by have := e.isLt; omega
  rw [ld_at oc 1664 _ r e k hk, ld_at os 1664 _ r e k hk, ld_at ow 1664 _ r e k hk, ldg_at, ldg_at, ldg_at]
  exact gated_of _ _ _ (fun l => gt (ix2 r l)) k _ _ _ (by rw [hd]; rfl) (by rw [hd]; rfl) (by rw [hd]; rfl)

/-- Head 14 over its pieces. -/
theorem piece14_at (G A B C : FVec Ideal S512x128 .f32) (r : Fin 512) (e : Fin 128) :
    k0_pay27 (F := Ideal) (k0_pay4 G) A B C (ix2 r e)
      = Ideal.logistic (G (ix2 r (42 : Fin 128))) * A (ix2 r e) + Ideal.logistic (G (ix2 r (43 : Fin 128))) * B (ix2 r e) + Ideal.logistic (G (ix2 r (44 : Fin 128))) * C (ix2 r e) := by
  pointwise [k0_pay27, k0_pay4]

/-- Head 14 of the mixture. -/
theorem head14_at (oc os ow : Vec Ideal S512x2048 .f32) (gt : Vec Ideal S512x128 .f32) (r : Fin 512) (e : Fin 128) (k : Fin 2048) (hk : 128 * 14 + e.val = k.val) :
    head14 (F := Ideal) oc os ow gt (ix2 r e) = gated (oc (ix2 r k)) (os (ix2 r k)) (ow (ix2 r k)) (fun l => gt (ix2 r l)) k := by
  unfold head14
  refine (piece14_at _ _ _ _ r e).trans ?_
  have hd : k.val / 128 = 14 := by have := e.isLt; omega
  rw [ld_at oc 1792 _ r e k hk, ld_at os 1792 _ r e k hk, ld_at ow 1792 _ r e k hk, ldg_at, ldg_at, ldg_at]
  exact gated_of _ _ _ (fun l => gt (ix2 r l)) k _ _ _ (by rw [hd]; rfl) (by rw [hd]; rfl) (by rw [hd]; rfl)

/-- Head 15 over its pieces. -/
theorem piece15_at (G A B C : FVec Ideal S512x128 .f32) (r : Fin 512) (e : Fin 128) :
    k0_pay1 (F := Ideal) (k0_pay4 G) (k0_pay28 (k0_pay4 G) A) (k0_pay29 (k0_pay4 G)) B C (ix2 r e)
      = Ideal.logistic (G (ix2 r (45 : Fin 128))) * A (ix2 r e) + Ideal.logistic (G (ix2 r (46 : Fin 128))) * B (ix2 r e) + Ideal.logistic (G (ix2 r (47 : Fin 128))) * C (ix2 r e) := by
  pointwise [k0_pay1, k0_pay28, k0_pay29, k0_pay4]

/-- Head 15 of the mixture. -/
theorem head15_at (oc os ow : Vec Ideal S512x2048 .f32) (gt : Vec Ideal S512x128 .f32) (r : Fin 512) (e : Fin 128) (k : Fin 2048) (hk : 128 * 15 + e.val = k.val) :
    head15 (F := Ideal) oc os ow gt (ix2 r e) = gated (oc (ix2 r k)) (os (ix2 r k)) (ow (ix2 r k)) (fun l => gt (ix2 r l)) k := by
  unfold head15
  refine (piece15_at _ _ _ _ r e).trans ?_
  have hd : k.val / 128 = 15 := by have := e.isLt; omega
  rw [ld_at oc 1920 _ r e k hk, ld_at os 1920 _ r e k hk, ld_at ow 1920 _ r e k hk, ldg_at, ldg_at, ldg_at]
  exact gated_of _ _ _ (fun l => gt (ix2 r l)) k _ _ _ (by rw [hd]; rfl) (by rw [hd]; rfl) (by rw [hd]; rfl)

theorem pick0 (v0 v1 v2 v3 v4 v5 v6 v7 v8 v9 v10 v11 v12 v13 v14 v15 : FVec Ideal S512x128 .f32) (r : Fin 512) (k : Fin 2048) (e : Fin 128) (hk : 128 * 0 + e.val = k.val) :
    k0_pay2 (F := Ideal) v0 v1 v2 v3 v4 v5 v6 v7 v8 v9 v10 v11 v12 v13 v14 v15 (ix2 r k) = v0 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 0 (show 0 < 16 by decide) S512x128 v0 rfl rfl (128 * 0) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick1 (v0 v1 v2 v3 v4 v5 v6 v7 v8 v9 v10 v11 v12 v13 v14 v15 : FVec Ideal S512x128 .f32) (r : Fin 512) (k : Fin 2048) (e : Fin 128) (hk : 128 * 1 + e.val = k.val) :
    k0_pay2 (F := Ideal) v0 v1 v2 v3 v4 v5 v6 v7 v8 v9 v10 v11 v12 v13 v14 v15 (ix2 r k) = v1 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 1 (show 1 < 16 by decide) S512x128 v1 rfl rfl (128 * 1) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick2 (v0 v1 v2 v3 v4 v5 v6 v7 v8 v9 v10 v11 v12 v13 v14 v15 : FVec Ideal S512x128 .f32) (r : Fin 512) (k : Fin 2048) (e : Fin 128) (hk : 128 * 2 + e.val = k.val) :
    k0_pay2 (F := Ideal) v0 v1 v2 v3 v4 v5 v6 v7 v8 v9 v10 v11 v12 v13 v14 v15 (ix2 r k) = v2 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 2 (show 2 < 16 by decide) S512x128 v2 rfl rfl (128 * 2) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick3 (v0 v1 v2 v3 v4 v5 v6 v7 v8 v9 v10 v11 v12 v13 v14 v15 : FVec Ideal S512x128 .f32) (r : Fin 512) (k : Fin 2048) (e : Fin 128) (hk : 128 * 3 + e.val = k.val) :
    k0_pay2 (F := Ideal) v0 v1 v2 v3 v4 v5 v6 v7 v8 v9 v10 v11 v12 v13 v14 v15 (ix2 r k) = v3 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 3 (show 3 < 16 by decide) S512x128 v3 rfl rfl (128 * 3) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick4 (v0 v1 v2 v3 v4 v5 v6 v7 v8 v9 v10 v11 v12 v13 v14 v15 : FVec Ideal S512x128 .f32) (r : Fin 512) (k : Fin 2048) (e : Fin 128) (hk : 128 * 4 + e.val = k.val) :
    k0_pay2 (F := Ideal) v0 v1 v2 v3 v4 v5 v6 v7 v8 v9 v10 v11 v12 v13 v14 v15 (ix2 r k) = v4 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 4 (show 4 < 16 by decide) S512x128 v4 rfl rfl (128 * 4) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick5 (v0 v1 v2 v3 v4 v5 v6 v7 v8 v9 v10 v11 v12 v13 v14 v15 : FVec Ideal S512x128 .f32) (r : Fin 512) (k : Fin 2048) (e : Fin 128) (hk : 128 * 5 + e.val = k.val) :
    k0_pay2 (F := Ideal) v0 v1 v2 v3 v4 v5 v6 v7 v8 v9 v10 v11 v12 v13 v14 v15 (ix2 r k) = v5 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 5 (show 5 < 16 by decide) S512x128 v5 rfl rfl (128 * 5) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick6 (v0 v1 v2 v3 v4 v5 v6 v7 v8 v9 v10 v11 v12 v13 v14 v15 : FVec Ideal S512x128 .f32) (r : Fin 512) (k : Fin 2048) (e : Fin 128) (hk : 128 * 6 + e.val = k.val) :
    k0_pay2 (F := Ideal) v0 v1 v2 v3 v4 v5 v6 v7 v8 v9 v10 v11 v12 v13 v14 v15 (ix2 r k) = v6 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 6 (show 6 < 16 by decide) S512x128 v6 rfl rfl (128 * 6) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick7 (v0 v1 v2 v3 v4 v5 v6 v7 v8 v9 v10 v11 v12 v13 v14 v15 : FVec Ideal S512x128 .f32) (r : Fin 512) (k : Fin 2048) (e : Fin 128) (hk : 128 * 7 + e.val = k.val) :
    k0_pay2 (F := Ideal) v0 v1 v2 v3 v4 v5 v6 v7 v8 v9 v10 v11 v12 v13 v14 v15 (ix2 r k) = v7 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 7 (show 7 < 16 by decide) S512x128 v7 rfl rfl (128 * 7) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick8 (v0 v1 v2 v3 v4 v5 v6 v7 v8 v9 v10 v11 v12 v13 v14 v15 : FVec Ideal S512x128 .f32) (r : Fin 512) (k : Fin 2048) (e : Fin 128) (hk : 128 * 8 + e.val = k.val) :
    k0_pay2 (F := Ideal) v0 v1 v2 v3 v4 v5 v6 v7 v8 v9 v10 v11 v12 v13 v14 v15 (ix2 r k) = v8 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 8 (show 8 < 16 by decide) S512x128 v8 rfl rfl (128 * 8) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick9 (v0 v1 v2 v3 v4 v5 v6 v7 v8 v9 v10 v11 v12 v13 v14 v15 : FVec Ideal S512x128 .f32) (r : Fin 512) (k : Fin 2048) (e : Fin 128) (hk : 128 * 9 + e.val = k.val) :
    k0_pay2 (F := Ideal) v0 v1 v2 v3 v4 v5 v6 v7 v8 v9 v10 v11 v12 v13 v14 v15 (ix2 r k) = v9 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 9 (show 9 < 16 by decide) S512x128 v9 rfl rfl (128 * 9) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick10 (v0 v1 v2 v3 v4 v5 v6 v7 v8 v9 v10 v11 v12 v13 v14 v15 : FVec Ideal S512x128 .f32) (r : Fin 512) (k : Fin 2048) (e : Fin 128) (hk : 128 * 10 + e.val = k.val) :
    k0_pay2 (F := Ideal) v0 v1 v2 v3 v4 v5 v6 v7 v8 v9 v10 v11 v12 v13 v14 v15 (ix2 r k) = v10 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 10 (show 10 < 16 by decide) S512x128 v10 rfl rfl (128 * 10) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick11 (v0 v1 v2 v3 v4 v5 v6 v7 v8 v9 v10 v11 v12 v13 v14 v15 : FVec Ideal S512x128 .f32) (r : Fin 512) (k : Fin 2048) (e : Fin 128) (hk : 128 * 11 + e.val = k.val) :
    k0_pay2 (F := Ideal) v0 v1 v2 v3 v4 v5 v6 v7 v8 v9 v10 v11 v12 v13 v14 v15 (ix2 r k) = v11 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 11 (show 11 < 16 by decide) S512x128 v11 rfl rfl (128 * 11) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick12 (v0 v1 v2 v3 v4 v5 v6 v7 v8 v9 v10 v11 v12 v13 v14 v15 : FVec Ideal S512x128 .f32) (r : Fin 512) (k : Fin 2048) (e : Fin 128) (hk : 128 * 12 + e.val = k.val) :
    k0_pay2 (F := Ideal) v0 v1 v2 v3 v4 v5 v6 v7 v8 v9 v10 v11 v12 v13 v14 v15 (ix2 r k) = v12 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 12 (show 12 < 16 by decide) S512x128 v12 rfl rfl (128 * 12) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick13 (v0 v1 v2 v3 v4 v5 v6 v7 v8 v9 v10 v11 v12 v13 v14 v15 : FVec Ideal S512x128 .f32) (r : Fin 512) (k : Fin 2048) (e : Fin 128) (hk : 128 * 13 + e.val = k.val) :
    k0_pay2 (F := Ideal) v0 v1 v2 v3 v4 v5 v6 v7 v8 v9 v10 v11 v12 v13 v14 v15 (ix2 r k) = v13 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 13 (show 13 < 16 by decide) S512x128 v13 rfl rfl (128 * 13) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick14 (v0 v1 v2 v3 v4 v5 v6 v7 v8 v9 v10 v11 v12 v13 v14 v15 : FVec Ideal S512x128 .f32) (r : Fin 512) (k : Fin 2048) (e : Fin 128) (hk : 128 * 14 + e.val = k.val) :
    k0_pay2 (F := Ideal) v0 v1 v2 v3 v4 v5 v6 v7 v8 v9 v10 v11 v12 v13 v14 v15 (ix2 r k) = v14 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 14 (show 14 < 16 by decide) S512x128 v14 rfl rfl (128 * 14) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

theorem pick15 (v0 v1 v2 v3 v4 v5 v6 v7 v8 v9 v10 v11 v12 v13 v14 v15 : FVec Ideal S512x128 .f32) (r : Fin 512) (k : Fin 2048) (e : Fin 128) (hk : 128 * 15 + e.val = k.val) :
    k0_pay2 (F := Ideal) v0 v1 v2 v3 v4 v5 v6 v7 v8 v9 v10 v11 v12 v13 v14 v15 (ix2 r k) = v15 (ix2 r e) := by
  unfold k0_pay2
  refine (narrowed_at _ _ _ _).trans ?_
  refine concatenate_apply_piece (t := S512x2048) 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] _ (ix2 r k) 15 (show 15 < 16 by decide) S512x128 v15 rfl rfl (128 * 15) (by simp only [List.take_succ_cons, List.take_zero, List.map_cons, List.map_nil, List.sum_cons, List.sum_nil]; rfl) (ix2 r e) (fun b hb => ?_) hk
  match b with
  | ⟨0, _⟩ => rfl
  | ⟨1, _⟩ => exact absurd rfl hb

/-- The factor prepared, at every entry. -/
theorem factor_at (oc os ow : Vec Ideal S512x2048 .f32) (gt : Vec Ideal S512x128 .f32) (r : Fin 512) (k : Fin 2048) :
    factor (F := Ideal) oc os ow gt (ix2 r k) = gated (oc (ix2 r k)) (os (ix2 r k)) (ow (ix2 r k)) (fun l => gt (ix2 r l)) k := by
  unfold factor
  have hk := k.isLt
  have hd : k.val / 128 < 16 := by omega
  have he : k.val % 128 < 128 := Nat.mod_lt _ (by decide)
  have hs : 128 * (k.val / 128) + k.val % 128 = k.val := Nat.div_add_mod _ _
  generalize k.val / 128 = n at hd hs
  match n, hd with
  | 0, _ => exact (pick0 _ _ _ _ _ _ _ _ _ _ _ _ _ _ _ _ r k ⟨k.val % 128, he⟩ hs).trans (head0_at oc os ow gt r ⟨k.val % 128, he⟩ k hs)
  | 1, _ => exact (pick1 _ _ _ _ _ _ _ _ _ _ _ _ _ _ _ _ r k ⟨k.val % 128, he⟩ hs).trans (head1_at oc os ow gt r ⟨k.val % 128, he⟩ k hs)
  | 2, _ => exact (pick2 _ _ _ _ _ _ _ _ _ _ _ _ _ _ _ _ r k ⟨k.val % 128, he⟩ hs).trans (head2_at oc os ow gt r ⟨k.val % 128, he⟩ k hs)
  | 3, _ => exact (pick3 _ _ _ _ _ _ _ _ _ _ _ _ _ _ _ _ r k ⟨k.val % 128, he⟩ hs).trans (head3_at oc os ow gt r ⟨k.val % 128, he⟩ k hs)
  | 4, _ => exact (pick4 _ _ _ _ _ _ _ _ _ _ _ _ _ _ _ _ r k ⟨k.val % 128, he⟩ hs).trans (head4_at oc os ow gt r ⟨k.val % 128, he⟩ k hs)
  | 5, _ => exact (pick5 _ _ _ _ _ _ _ _ _ _ _ _ _ _ _ _ r k ⟨k.val % 128, he⟩ hs).trans (head5_at oc os ow gt r ⟨k.val % 128, he⟩ k hs)
  | 6, _ => exact (pick6 _ _ _ _ _ _ _ _ _ _ _ _ _ _ _ _ r k ⟨k.val % 128, he⟩ hs).trans (head6_at oc os ow gt r ⟨k.val % 128, he⟩ k hs)
  | 7, _ => exact (pick7 _ _ _ _ _ _ _ _ _ _ _ _ _ _ _ _ r k ⟨k.val % 128, he⟩ hs).trans (head7_at oc os ow gt r ⟨k.val % 128, he⟩ k hs)
  | 8, _ => exact (pick8 _ _ _ _ _ _ _ _ _ _ _ _ _ _ _ _ r k ⟨k.val % 128, he⟩ hs).trans (head8_at oc os ow gt r ⟨k.val % 128, he⟩ k hs)
  | 9, _ => exact (pick9 _ _ _ _ _ _ _ _ _ _ _ _ _ _ _ _ r k ⟨k.val % 128, he⟩ hs).trans (head9_at oc os ow gt r ⟨k.val % 128, he⟩ k hs)
  | 10, _ => exact (pick10 _ _ _ _ _ _ _ _ _ _ _ _ _ _ _ _ r k ⟨k.val % 128, he⟩ hs).trans (head10_at oc os ow gt r ⟨k.val % 128, he⟩ k hs)
  | 11, _ => exact (pick11 _ _ _ _ _ _ _ _ _ _ _ _ _ _ _ _ r k ⟨k.val % 128, he⟩ hs).trans (head11_at oc os ow gt r ⟨k.val % 128, he⟩ k hs)
  | 12, _ => exact (pick12 _ _ _ _ _ _ _ _ _ _ _ _ _ _ _ _ r k ⟨k.val % 128, he⟩ hs).trans (head12_at oc os ow gt r ⟨k.val % 128, he⟩ k hs)
  | 13, _ => exact (pick13 _ _ _ _ _ _ _ _ _ _ _ _ _ _ _ _ r k ⟨k.val % 128, he⟩ hs).trans (head13_at oc os ow gt r ⟨k.val % 128, he⟩ k hs)
  | 14, _ => exact (pick14 _ _ _ _ _ _ _ _ _ _ _ _ _ _ _ _ r k ⟨k.val % 128, he⟩ hs).trans (head14_at oc os ow gt r ⟨k.val % 128, he⟩ k hs)
  | 15, _ => exact (pick15 _ _ _ _ _ _ _ _ _ _ _ _ _ _ _ _ r k ⟨k.val % 128, he⟩ hs).trans (head15_at oc os ow gt r ⟨k.val % 128, he⟩ k hs)
  | n + 16, h => exact absurd h (by omega)

end Cert.OutCIdeal.Hand

end
-- ==== Proof.OutCValue.lean ====
module

public import proofs.«01_k».proof.Proof.OutCBody
public import proofs.«01_k».proof.Proof.OutCPure
public import proofs.«01_k».proof.Proof.OutCHeads

@[expose] public section

set_option maxRecDepth 16384

noncomputable section

/-! THE VALUE OF MIXER C'S GATES AND OUTPUT PROJECTION: the factor of a block of rows is prepared once and carried over its
    four tiles of columns; every tile is the residual's plus the product; so the array ends at the projection. -/

namespace Cert.OutCIdeal.Hand

open Cert.OutCIdeal Cert.OutCIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## The arguments, and the windows' blocks of them -/

abbrev arg0 (c : Dev nD) : FVec Ideal S8192x2048 .f32 := m ((c.tc : Thread nD τ).loc main_arg0)
abbrev arg1 (c : Dev nD) : FVec Ideal S8192x2048 .f32 := m ((c.tc : Thread nD τ).loc main_arg1)
abbrev arg2 (c : Dev nD) : FVec Ideal S8192x2048 .f32 := m ((c.tc : Thread nD τ).loc main_arg2)
abbrev arg3 (c : Dev nD) : FVec Ideal S8192x128 .f32 := m ((c.tc : Thread nD τ).loc main_arg3)
abbrev arg4 (c : Dev nD) : FVec Ideal S1x2048x2048 .f32 := m ((c.tc : Thread nD τ).loc main_arg4)
abbrev arg5 (c : Dev nD) : FVec Ideal S8192x2048 .f32 := m ((c.tc : Thread nD τ).loc main_arg5)

theorem index_facts : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 3) = 0 ∧ win0_4.index t (1 : Fin 3) = 0 ∧ win0_4.index t (2 : Fin 3) = t.val % 4)
    ∧ (win0_5.index t (0 : Fin 2) = t.val / 4 ∧ win0_5.index t (1 : Fin 2) = t.val % 4)
    ∧ (win0_6.index t (0 : Fin 2) = t.val / 4 ∧ win0_6.index t (1 : Fin 2) = t.val % 4) :=
  (by decide +kernel : ∀ t : Fin grid0.N, _)

theorem blk0_at (c : Dev nD) (t : Fin cfg0.N) (r : Fin 512) (k : Fin 2048) (R : Fin 8192) (hR : R.val = t.val / 4 * 512 + r.val) :
    (iblk m c 0 t : FVec Ideal S512x2048 .f32) (ix2 r k) = arg0 m c (ix2 R k) := by
  obtain ⟨⟨e0, e1⟩, -⟩ := index_facts t
  refine congrArg (m ((c.tc : Thread nD τ).loc main_arg0)) ?_
  funext a; apply Fin.ext
  match a with
  | ⟨0, _⟩ => show win0_0.index t (0 : Fin 2) * 512 + 1 * r.val = R.val; omega
  | ⟨1, _⟩ => show win0_0.index t (1 : Fin 2) * 2048 + 1 * k.val = k.val; omega

theorem blk1_at (c : Dev nD) (t : Fin cfg0.N) (r : Fin 512) (k : Fin 2048) (R : Fin 8192) (hR : R.val = t.val / 4 * 512 + r.val) :
    (iblk m c 1 t : FVec Ideal S512x2048 .f32) (ix2 r k) = arg1 m c (ix2 R k) := by
  obtain ⟨-, ⟨e0, e1⟩, -⟩ := index_facts t
  refine congrArg (m ((c.tc : Thread nD τ).loc main_arg1)) ?_
  funext a; apply Fin.ext
  match a with
  | ⟨0, _⟩ => show win0_1.index t (0 : Fin 2) * 512 + 1 * r.val = R.val; omega
  | ⟨1, _⟩ => show win0_1.index t (1 : Fin 2) * 2048 + 1 * k.val = k.val; omega

theorem blk2_at (c : Dev nD) (t : Fin cfg0.N) (r : Fin 512) (k : Fin 2048) (R : Fin 8192) (hR : R.val = t.val / 4 * 512 + r.val) :
    (iblk m c 2 t : FVec Ideal S512x2048 .f32) (ix2 r k) = arg2 m c (ix2 R k) := by
  obtain ⟨-, -, ⟨e0, e1⟩, -⟩ := index_facts t
  refine congrArg (m ((c.tc : Thread nD τ).loc main_arg2)) ?_
  funext a; apply Fin.ext
  match a with
  | ⟨0, _⟩ => show win0_2.index t (0 : Fin 2) * 512 + 1 * r.val = R.val; omega
  | ⟨1, _⟩ => show win0_2.index t (1 : Fin 2) * 2048 + 1 * k.val = k.val; omega

theorem blk3_at (c : Dev nD) (t : Fin cfg0.N) (r : Fin 512) (k : Fin 128) (R : Fin 8192) (hR : R.val = t.val / 4 * 512 + r.val) :
    (iblk m c 3 t : FVec Ideal S512x128 .f32) (ix2 r k) = arg3 m c (ix2 R k) := by
  obtain ⟨-, -, -, ⟨e0, e1⟩, -⟩ := index_facts t
  refine congrArg (m ((c.tc : Thread nD τ).loc main_arg3)) ?_
  funext a; apply Fin.ext
  match a with
  | ⟨0, _⟩ => show win0_3.index t (0 : Fin 2) * 512 + 1 * r.val = R.val; omega
  | ⟨1, _⟩ => show win0_3.index t (1 : Fin 2) * 128 + 1 * k.val = k.val; omega

theorem blk4_at (c : Dev nD) (t : Fin cfg0.N) (k : Fin 2048) (d : Fin 512) (D : Fin 2048) (hD : D.val = t.val % 4 * 512 + d.val) :
    (iblk m c 4 t : FVec Ideal S1x2048x512 .f32) (ix3 0 k d) = arg4 m c (ix3 0 k D) := by
  obtain ⟨-, -, -, -, ⟨e0, e1, e2⟩, -⟩ := index_facts t
  refine congrArg (m ((c.tc : Thread nD τ).loc main_arg4)) ?_
  funext a; apply Fin.ext
  match a with
  | ⟨0, _⟩ => show win0_4.index t (0 : Fin 3) * 1 + 1 * 0 = 0; omega
  | ⟨1, _⟩ => show win0_4.index t (1 : Fin 3) * 2048 + 1 * k.val = k.val; omega
  | ⟨2, _⟩ => show win0_4.index t (2 : Fin 3) * 512 + 1 * d.val = D.val; omega

theorem blk5_at (c : Dev nD) (t : Fin cfg0.N) (r : Fin 512) (d : Fin 512) (R : Fin 8192) (hR : R.val = t.val / 4 * 512 + r.val)
    (D : Fin 2048) (hD : D.val = t.val % 4 * 512 + d.val) :
    (iblk m c 5 t : FVec Ideal S512x512 .f32) (ix2 r d) = arg5 m c (ix2 R D) := by
  obtain ⟨-, -, -, -, -, ⟨e0, e1⟩, -⟩ := index_facts t
  refine congrArg (m ((c.tc : Thread nD τ).loc main_arg5)) ?_
  funext a; apply Fin.ext
  match a with
  | ⟨0, _⟩ => show win0_5.index t (0 : Fin 2) * 512 + 1 * r.val = R.val; omega
  | ⟨1, _⟩ => show win0_5.index t (1 : Fin 2) * 512 + 1 * d.val = D.val; omega

/-! ## The left factor -/

/-- The row of the array that row `r` of the block at point `n` is. -/
abbrev rowOf (n : ℕ) (hn : n < cfg0.N) (r : Fin 512) : Fin 8192 :=
  ⟨n / 4 * 512 + r.val, by have : n < 64 := lt_of_lt_of_eq hn (show cfg0.N = 64 from N_0); have := r.isLt; omega⟩

/-- The left factor of the product, of the whole array. -/
def left (c : Dev nD) (R : Fin 8192) (k : Fin 2048) : EReal :=
  gated (arg0 m c (ix2 R k)) (arg1 m c (ix2 R k)) (arg2 m c (ix2 R k)) (fun l => arg3 m c (ix2 R l)) k

/-- What the first point of a block of rows prepares. -/
theorem prepared (c : Dev nD) (t : Fin cfg0.N) (h0 : t.val % 4 = 0) (r : Fin 512) (k : Fin 2048) :
    (outsAt0 m c t.val t.isLt).2 (ix2 r k) = left m c (rowOf t.val t.isLt r) k := by
  rw [outsAt0_A m c t h0]
  dsimp only
  rw [scrA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)]
  refine (factor_at (iblk m c 0 t) (iblk m c 1 t) (iblk m c 2 t) (iblk m c 3 t) r k).trans ?_
  unfold left
  rw [blk0_at m c t r k (rowOf t.val t.isLt r) rfl, blk1_at m c t r k (rowOf t.val t.isLt r) rfl, blk2_at m c t r k (rowOf t.val t.isLt r) rfl,
    show (fun l => (iblk m c 3 t : FVec Ideal S512x128 .f32) (ix2 r l)) = fun l => arg3 m c (ix2 (rowOf t.val t.isLt r) l) from
      funext fun l => blk3_at m c t r l _ rfl]

/-- A later point carries it. -/
theorem kept (c : Dev nD) (t : Fin cfg0.N) (h0 : ¬t.val % 4 = 0) :
    (outsAt0 m c t.val t.isLt).2 = (outsAt0 m c (t.val - 1) (Nat.lt_of_le_of_lt (Nat.sub_le _ _) t.isLt)).2 := by
  refine (congrArg Prod.snd (outsAt0_B m c t h0)).trans ?_
  rfl

theorem state (c : Dev nD) (r : Fin 512) (k : Fin 2048) : ∀ (n : ℕ) (hn : n < cfg0.N),
    (outsAt0 m c n hn).2 (ix2 r k) = left m c (rowOf n hn r) k := by
  intro n
  induction n with
  | zero => intro hn; exact prepared m c ⟨0, hn⟩ rfl r k
  | succ n ih =>
    intro hn
    by_cases h0 : (n + 1) % 4 = 0
    · exact prepared m c ⟨n + 1, hn⟩ h0 r k
    · refine (congrFun (kept m c ⟨n + 1, hn⟩ h0) _).trans ((ih (Nat.lt_of_succ_lt hn)).trans ?_)
      have hrow : rowOf n (Nat.lt_of_succ_lt hn) r = rowOf (n + 1) hn r := Fin.ext (by dsimp only; omega)
      rw [hrow]

/-- Every point's tile is the product over the factor it holds. -/
theorem stored (c : Dev nD) (t : Fin cfg0.N) :
    (outsAt0 m c t.val t.isLt).1 = k0_pay3 (F := Ideal) (iblk m c 5 t) (outsAt0 m c t.val t.isLt).2 (iblk m c 4 t) := by
  by_cases h0 : t.val % 4 = 0
  · rw [outsAt0_A m c t h0]
    dsimp only
    rw [scrA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)]
    exact outA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)
  · rw [kept m c t h0]
    have e := congrArg Prod.fst (outsAt0_B m c t h0)
    dsimp only at e
    rw [e]
    exact outB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2

/-! ## The array -/

/-- The result. -/
def out (c : Dev nD) : Buf (Elt Ideal) ((c.tc : Thread nD τ).loc main_v0) := fun i =>
  arg5 m c (ix2 (i 0) (i 1)) + ∑ k : Fin 2048, left m c (i 0) k * arg4 m c (ix3 0 k (i 1))

theorem flushed (c : Dev nD) (t : Fin cfg0.N) :
    (dats m 0 c).flushed 6 t = ((cfg0.win 6).blk t).view.read (Elt Ideal) (out m c) := by
  show (cfg0.win 6).cut (grid0.coords t) ((dats m 0 c).after 6 t) = _
  rw [after0_6]
  obtain ⟨-, -, -, -, -, -, ⟨e0, e1⟩⟩ := index_facts t
  funext y
  obtain ⟨r, d, rfl⟩ : ∃ (r : Fin 512) (d : Fin 512), y = ix2 r d := ⟨y 0, y 1, eq_ix2 y⟩
  have hD : t.val % 4 * 512 + d.val < 2048 := by have := d.isLt; omega
  have hb : ((cfg0.win 6).blk t).view.emb (ix2 r d) = ix2 (rowOf t.val t.isLt r) (⟨_, hD⟩ : Fin 2048) := by
    funext a; apply Fin.ext
    match a with
    | ⟨0, _⟩ => show win0_6.index t (0 : Fin 2) * 512 + 1 * r.val = _; rw [e0]; show _ = t.val / 4 * 512 + r.val; omega
    | ⟨1, _⟩ => show win0_6.index t (1 : Fin 2) * 512 + 1 * d.val = _; rw [e1]; show _ = t.val % 4 * 512 + d.val; omega
  refine (congrFun (stored m c t) (ix2 r d)).trans ((tile_at _ _ _ r d).trans ?_)
  rw [blk5_at m c t r d (rowOf t.val t.isLt r) rfl ⟨_, hD⟩ rfl]
  refine (congrArg (arg5 m c (ix2 (rowOf t.val t.isLt r) ⟨_, hD⟩) + ·) (Finset.sum_congr rfl fun k _ => ?_)).trans (congrArg (out m c) hb).symm
  rw [state m c r k t.val t.isLt, blk4_at m c t k d ⟨_, hD⟩ rfl]
  rfl

theorem mem_out (t : Fin cfg0.N) (i : S8192x2048.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0).slice (win0_6.rect t)).set ↔ _
  rw [View.set_slice_whole, Rect.mem_set_unit]
  exact Iff.rfl

theorem final (c : Dev nD) : (dats m 0 c).arrAt 6 cfg0.N = out m c :=
  (dats m 0 c).arrAt_eq_of_cover 6 _ (fun t _ => flushed m c t) fun i => by
    have h0 : (i 0).val < 8192 := (i 0).isLt
    have h1 : (i 1).val < 2048 := (i 1).isLt
    have hlt : 4 * ((i 0).val / 512) + (i 1).val / 512 < cfg0.N := lt_of_lt_of_eq (by omega : _ < 64) (show cfg0.N = 64 from N_0).symm
    obtain ⟨-, -, -, -, -, -, ⟨e0, e1⟩⟩ := index_facts ⟨_, hlt⟩
    refine ⟨⟨_, hlt⟩, flush0_6 _, ?_⟩
    rw [mem_out]
    dsimp only at e0 e1
    intro a
    match a with
    | ⟨0, _⟩ => show win0_6.index ⟨_, hlt⟩ (0 : Fin 2) * 512 ≤ (i 0).val ∧ (i 0).val < win0_6.index ⟨_, hlt⟩ (0 : Fin 2) * 512 + 512; omega
    | ⟨1, _⟩ => show win0_6.index ⟨_, hlt⟩ (1 : Fin 2) * 512 ≤ (i 1).val ∧ (i 1).val < win0_6.index ⟨_, hlt⟩ (1 : Fin 2) * 512 + 512; omega

/-- The run: the result at the projection. -/
theorem run : θ_run defs (onTc (τ := τ) (main (F := Ideal))) ⟨m, fun _ => 0, ρ⟩ fun r => ∀ c : Dev nD,
      r.2.mem ((c.tc : Thread nD τ).loc main_v0) = out m c :=
  (θ_run defs _ _).mono (fun r h c => ((h c).1 6).trans (final m c)) (run_main m ρ)

end Cert.OutCIdeal.Hand

end
-- ==== Proof.OutCClaims.lean ====
module

public import proofs.«01_k».proof.Defs
public import proofs.«01_k».proof.Proof.OutCValue
public import proofs.«01_k».proof.Proof.Gen.OutC
public import proofs.«01_k».proof.Proof.Gen.OutCRefIdeal.Run
public import Idealize.ShloMosaic.Lib.Claim

@[expose] public section

set_option maxRecDepth 16384

noncomputable section

/-! THE CLAIMS OF MIXER C'S GATES AND OUTPUT PROJECTION: the three frames, and the kernel's result equal to the reference's. -/

namespace Cert.OutCProof

open Idealize.ShloMosaic Idealize.ShloMosaic.TcCoe Idealize.ShloMosaic.Tactic Idealize.SL.Sem

/-! The kernel and its idealization are one program over their element types: here the same text, so a frame proved of
    the one over every element type is the other's. -/

theorem body_same {F : FTy → Type} [FloatOps F] : Cert.OutC.defs₀ (F := F) = Cert.OutCIdeal.defs₀ (F := F) := by
  funext p l a
  cases p with
  | tc =>
    match l, a with
    | 0, (t, s) => rfl
  | scScalar => rfl
  | scVector => rfl

theorem defs_same {F : FTy → Type} [FloatOps F] : Cert.OutC.defs (F := F) = Cert.OutCIdeal.defs (F := F) :=
  congrArg (Idealize.ShloMosaic.Pipeline.defs Cert.OutC.pcfgs) body_same

theorem frame_kernel : Cert.quiescent_OutC (hOutC := Cert.OutC.Gen.facts) := fun m ρ _ =>
  (congrArg (fun d => θ_run d (onTc (τ := Cert.OutC.τ) (Cert.OutC.main (F := Bits))) ⟨m, fun _ => 0, ρ⟩ _) defs_same).mpr
    (Cert.OutCIdeal.Gen.frame (F := Bits) m ρ)

theorem frame_ideal : Cert.quiescent_OutCIdeal (hOutCIdeal := Cert.OutCIdeal.Gen.facts) := fun m ρ _ => Cert.OutCIdeal.Gen.frame m ρ

theorem frame_reference : Cert.quiescent_OutCRefIdeal (hOutCRefIdeal := Cert.OutCRefIdeal.Gen.facts) := fun m ρ _ =>
  (θ_run _ _ _).mono (fun r h => ⟨fun c => (h c).2, Idealize.ShloMosaic.sem_eq_zero_of_no_sems (by decide) r.2⟩)
    (Cert.OutCRefIdeal.Value.run (F := Ideal) m ρ)

/-- The reference's result is the kernel's. -/
theorem result_eq (m : (ℓ : Loc Cert.OutCIdeal.nD Cert.OutCIdeal.τ Cert.OutCIdeal.sig) → Buf (Elt Ideal) ℓ) (c : Dev Cert.OutCIdeal.nD) :
    Cert.OutCRefIdeal.Hand.result (Cert.OutCIdeal.Hand.arg0 m c) (Cert.OutCIdeal.Hand.arg1 m c) (Cert.OutCIdeal.Hand.arg2 m c) (Cert.OutCIdeal.Hand.arg3 m c) (Cert.OutCIdeal.Hand.arg4 m c) (Cert.OutCIdeal.Hand.arg5 m c)
      = Cert.OutCIdeal.Hand.out m c := by
  funext i
  obtain ⟨r, d, rfl⟩ : ∃ (r : Fin 8192) (d : Fin 2048), i = ix2 r d := ⟨i 0, i 1, eq_ix2 i⟩
  exact Cert.OutCRefIdeal.Hand.result_at _ _ _ _ _ _ r d

theorem algebraic : Cert.algebraic_OutCIdeal_OutCRefIdeal (hOutCIdeal := Cert.OutCIdeal.Gen.facts) (hOutCRefIdeal := Cert.OutCRefIdeal.Gen.facts) := by
  intro m g m' g' _ hargs
  refine ⟨fun c => Cert.OutCIdeal.Hand.out m c, ?_, ?_⟩
  · refine (θ_run _ _ _).mono (fun r h c => ?_) (θ_run_and (Cert.OutCIdeal.Hand.run m g) (Cert.OutCIdeal.Gen.frame m g))
    obtain ⟨h1, h2, -⟩ := h
    exact ⟨h1 c, h2 c⟩
  · refine (θ_run _ _ _).mono (fun r h c => ?_) (Cert.OutCRefIdeal.Value.run (F := Ideal) m' g')
    obtain ⟨e0, e1, e2, e3, e4, e5⟩ := hargs c
    obtain ⟨hv, h⟩ := h c
    refine ⟨hv.trans ?_, h⟩
    rw [e0, e1, e2, e3, e4, e5]
    exact result_eq m c

end Cert.OutCProof

end
-- ==== Proof.lean ====
module

public import proofs.«01_k».proof.Defs
public import proofs.«01_k».proof.Proof.DecClaims
public import proofs.«01_k».proof.Proof.MlpClaims
public import proofs.«01_k».proof.Proof.ProjClaims
public import proofs.«01_k».proof.Proof.ProjBClaims
public import proofs.«01_k».proof.Proof.ProjCClaims
public import proofs.«01_k».proof.Proof.MlpFinalClaims
public import proofs.«01_k».proof.Proof.OutAClaims
public import proofs.«01_k».proof.Proof.OutBClaims
public import proofs.«01_k».proof.Proof.OutCClaims

@[expose] public section

noncomputable section

namespace Cert.Proof

theorem claim : Cert.Claim := ⟨Cert.Dec.Gen.facts, Cert.DecIdeal.Gen.facts, Cert.DecRefIdeal.Gen.facts, Cert.Mlp.Gen.facts, Cert.MlpIdeal.Gen.facts, Cert.MlpRefIdeal.Gen.facts, Cert.Proj.Gen.facts, Cert.ProjIdeal.Gen.facts, Cert.ProjRefIdeal.Gen.facts, Cert.ProjB.Gen.facts, Cert.ProjBIdeal.Gen.facts, Cert.ProjBRefIdeal.Gen.facts, Cert.ProjC.Gen.facts, Cert.ProjCIdeal.Gen.facts, Cert.ProjCRefIdeal.Gen.facts, Cert.MlpFinal.Gen.facts, Cert.MlpFinalIdeal.Gen.facts, Cert.MlpFinalRefIdeal.Gen.facts, Cert.OutA.Gen.facts, Cert.OutAIdeal.Gen.facts, Cert.OutARefIdeal.Gen.facts, Cert.OutB.Gen.facts, Cert.OutBIdeal.Gen.facts, Cert.OutBRefIdeal.Gen.facts, Cert.OutC.Gen.facts, Cert.OutCIdeal.Gen.facts, Cert.OutCRefIdeal.Gen.facts, Cert.DecProof.facts_finite,
  Cert.DecProof.frame_kernel, Cert.DecProof.frame_ideal, Cert.DecProof.frame_ideal_finite, Cert.DecProof.frame_reference, Cert.DecProof.frame_reference_finite, Cert.MlpProof.frame_kernel, Cert.MlpProof.frame_ideal, Cert.MlpProof.frame_reference, Cert.ProjProof.frame_kernel, Cert.ProjProof.frame_ideal, Cert.ProjProof.frame_reference, Cert.ProjBProof.frame_kernel, Cert.ProjBProof.frame_ideal, Cert.ProjBProof.frame_reference, Cert.ProjCProof.frame_kernel, Cert.ProjCProof.frame_ideal, Cert.ProjCProof.frame_reference, Cert.MlpFinalProof.frame_kernel, Cert.MlpFinalProof.frame_ideal, Cert.MlpFinalProof.frame_reference, Cert.OutAProof.frame_kernel, Cert.OutAProof.frame_ideal, Cert.OutAProof.frame_reference, Cert.OutBProof.frame_kernel, Cert.OutBProof.frame_ideal, Cert.OutBProof.frame_reference, Cert.OutCProof.frame_kernel, Cert.OutCProof.frame_ideal, Cert.OutCProof.frame_reference,
  trivial, Cert.DecProof.algebraic, trivial, Cert.MlpProof.algebraic, trivial, Cert.ProjProof.algebraic, trivial, Cert.ProjBProof.algebraic, trivial, Cert.ProjCProof.algebraic, trivial, Cert.MlpFinalProof.algebraic, trivial, Cert.OutAProof.algebraic, trivial, Cert.OutBProof.algebraic, trivial, Cert.OutCProof.algebraic⟩

end Cert.Proof

end
